-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25_1)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_1) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x8192 : Shape := ⟨3, ![8, 2048, 8192]⟩
abbrev S8x2048 : Shape := ⟨2, ![8, 2048]⟩
abbrev S16384x8192 : Shape := ⟨2, ![16384, 8192]⟩
abbrev S16384 : Shape := ⟨1, ![16384]⟩
abbrev S8192 : Shape := ⟨1, ![8192]⟩
abbrev S8x2048x16384 : Shape := ⟨3, ![8, 2048, 16384]⟩
abbrev S256 : Shape := ⟨1, ![256]⟩
abbrev S256x1 : Shape := ⟨2, ![256, 1]⟩
abbrev S_ : Shape := ⟨0, ![]⟩
abbrev S128 : Shape := ⟨1, ![128]⟩
abbrev S1x128 : Shape := ⟨2, ![1, 128]⟩
abbrev S256x128 : Shape := ⟨2, ![256, 128]⟩
abbrev S32x1x256 : Shape := ⟨3, ![32, 1, 256]⟩
abbrev S32x1x512 : Shape := ⟨3, ![32, 1, 512]⟩
abbrev S32x512 : Shape := ⟨2, ![32, 512]⟩
abbrev S512x32 : Shape := ⟨2, ![512, 32]⟩
abbrev S512x128 : Shape := ⟨2, ![512, 128]⟩
abbrev S16384x16384 : Shape := ⟨2, ![16384, 16384]⟩
abbrev S32x256 : Shape := ⟨2, ![32, 256]⟩
abbrev S16384x4096 : Shape := ⟨2, ![16384, 4096]⟩
abbrev S1x1x512 : Shape := ⟨3, ![1, 1, 512]⟩
abbrev S512x256 : Shape := ⟨2, ![512, 256]⟩
abbrev S1x1x256 : Shape := ⟨3, ![1, 1, 256]⟩
abbrev S512x512 : Shape := ⟨2, ![512, 512]⟩
abbrev S3x512x8192 : Shape := ⟨3, ![3, 512, 8192]⟩
abbrev S2x512x8192 : Shape := ⟨3, ![2, 512, 8192]⟩
abbrev S32x8x512 : Shape := ⟨3, ![32, 8, 512]⟩
abbrev S32x8x256 : Shape := ⟨3, ![32, 8, 256]⟩
abbrev S3 : Shape := ⟨1, ![3]⟩
abbrev S1 : Shape := ⟨1, ![1]⟩
abbrev S1x512x8192 : Shape := ⟨3, ![1, 512, 8192]⟩
abbrev S512x8192 : Shape := ⟨2, ![512, 8192]⟩
abbrev S512x128x1 : Shape := ⟨3, ![512, 128, 1]⟩
abbrev S1x1x128 : Shape := ⟨3, ![1, 1, 128]⟩
abbrev S1x512x256 : Shape := ⟨3, ![1, 512, 256]⟩
abbrev S1x512 : Shape := ⟨2, ![1, 512]⟩
abbrev S1x8x512 : Shape := ⟨3, ![1, 8, 512]⟩
abbrev S8x512 : Shape := ⟨2, ![8, 512]⟩
abbrev S64x8x512 : Shape := ⟨3, ![64, 8, 512]⟩
abbrev S1x8x128 : Shape := ⟨3, ![1, 8, 128]⟩
abbrev S8x128 : Shape := ⟨2, ![8, 128]⟩
abbrev S64x8x128 : Shape := ⟨3, ![64, 8, 128]⟩
abbrev S128x512 : Shape := ⟨2, ![128, 512]⟩
abbrev S512 : Shape := ⟨1, ![512]⟩

abbrev nBuf : Space → Nat
  | .hbm => 89
  | .vmem => 38
  | .smem => 0
  | _ => 0

abbrev bufTy : (tb : Table) → Fin (tcTables nBuf tb) → BufTy
  | .hbm, ⟨0, _⟩ => ⟨S8x2048x8192, .fp8e4m3⟩
  | .hbm, ⟨1, _⟩ => ⟨S8x2048, .f32⟩
  | .hbm, ⟨2, _⟩ => ⟨S16384x8192, .f32⟩
  | .hbm, ⟨3, _⟩ => ⟨S16384, .f32⟩
  | .hbm, ⟨4, _⟩ => ⟨S16384x8192, .f32⟩
  | .hbm, ⟨5, _⟩ => ⟨S16384, .f32⟩
  | .hbm, ⟨6, _⟩ => ⟨S8192, .f32⟩
  | .hbm, ⟨7, _⟩ => ⟨S8x2048x16384, .bf16⟩
  | .hbm, ⟨8, _⟩ => ⟨S256, .i32⟩
  | .hbm, ⟨9, _⟩ => ⟨S256x1, .i32⟩
  | .hbm, ⟨10, _⟩ => ⟨S_, .i32⟩
  | .hbm, ⟨11, _⟩ => ⟨S_, .i32⟩
  | .hbm, ⟨12, _⟩ => ⟨S256x1, .i32⟩
  | .hbm, ⟨13, _⟩ => ⟨S256x1, .i32⟩
  | .hbm, ⟨14, _⟩ => ⟨S256x1, .i32⟩
  | .hbm, ⟨15, _⟩ => ⟨S_, .i32⟩
  | .hbm, ⟨16, _⟩ => ⟨S256x1, .i32⟩
  | .hbm, ⟨17, _⟩ => ⟨S256x1, .i1⟩
  | .hbm, ⟨18, _⟩ => ⟨S256x1, .i32⟩
  | .hbm, ⟨19, _⟩ => ⟨S256x1, .i32⟩
  | .hbm, ⟨20, _⟩ => ⟨S_, .i32⟩
  | .hbm, ⟨21, _⟩ => ⟨S256x1, .i32⟩
  | .hbm, ⟨22, _⟩ => ⟨S256x1, .i1⟩
  | .hbm, ⟨23, _⟩ => ⟨S256x1, .i1⟩
  | .hbm, ⟨24, _⟩ => ⟨S_, .i32⟩
  | .hbm, ⟨25, _⟩ => ⟨S256x1, .i32⟩
  | .hbm, ⟨26, _⟩ => ⟨S256x1, .i32⟩
  | .hbm, ⟨27, _⟩ => ⟨S256x1, .i32⟩
  | .hbm, ⟨28, _⟩ => ⟨S128, .i32⟩
  | .hbm, ⟨29, _⟩ => ⟨S1x128, .i32⟩
  | .hbm, ⟨30, _⟩ => ⟨S256x128, .i32⟩
  | .hbm, ⟨31, _⟩ => ⟨S256x128, .i32⟩
  | .hbm, ⟨32, _⟩ => ⟨S256x128, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S_, .i32⟩
  | .hbm, ⟨48, _⟩ => ⟨S_, .i1⟩
  | .hbm, ⟨49, _⟩ => ⟨S256, .i1⟩
  | .hbm, ⟨50, _⟩ => ⟨S256, .i1⟩
  | .hbm, ⟨51, _⟩ => ⟨S256, .i1⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S_, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256x1, .f32⟩
  | .hbm, ⟨64, _⟩ => ⟨S_, .f32⟩
  | .hbm, ⟨65, _⟩ => ⟨S256x128, .f32⟩
  | .hbm, ⟨66, _⟩ => ⟨S256x128, .f32⟩
  | .hbm, ⟨67, _⟩ => ⟨S256x128, .f32⟩
  | .hbm, ⟨68, _⟩ => ⟨S256x128, .bf16⟩
  | .hbm, ⟨69, _⟩ => ⟨S32x1x256, .f32⟩
  | .hbm, ⟨70, _⟩ => ⟨S16384x8192, .fp8e4m3⟩
  | .hbm, ⟨71, _⟩ => ⟨S32x1x512, .f32⟩
  | .hbm, ⟨72, _⟩ => ⟨S32x512, .f32⟩
  | .hbm, ⟨73, _⟩ => ⟨S512x32, .f32⟩
  | .hbm, ⟨74, _⟩ => ⟨S_, .i32⟩
  | .hbm, ⟨75, _⟩ => ⟨S_, .f32⟩
  | .hbm, ⟨76, _⟩ => ⟨S512x128, .f32⟩
  | .hbm, ⟨77, _⟩ => ⟨S32x512, .f32⟩
  | .hbm, ⟨78, _⟩ => ⟨S512x32, .f32⟩
  | .hbm, ⟨79, _⟩ => ⟨S_, .i32⟩
  | .hbm, ⟨80, _⟩ => ⟨S_, .f32⟩
  | .hbm, ⟨81, _⟩ => ⟨S512x128, .f32⟩
  | .hbm, ⟨82, _⟩ => ⟨S16384x16384, .bf16⟩
  | .hbm, ⟨83, _⟩ => ⟨S32x512, .f32⟩
  | .hbm, ⟨84, _⟩ => ⟨S16384x8192, .f32⟩
  | .hbm, ⟨85, _⟩ => ⟨S32x1x512, .f32⟩
  | .hbm, ⟨86, _⟩ => ⟨S32x256, .f32⟩
  | .hbm, ⟨87, _⟩ => ⟨S32x1x512, .f32⟩
  | .hbm, ⟨88, _⟩ => ⟨S16384x4096, .i8⟩
  | .local _ .vmem, ⟨0, _⟩ => ⟨S1x1x512, .f32⟩
  | .local _ .vmem, ⟨1, _⟩ => ⟨S1x1x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x1x256, .f32⟩
  | .local _ .vmem, ⟨7, _⟩ => ⟨S1x1x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S1x1x256, .f32⟩
  | .local _ .vmem, ⟨13, _⟩ => ⟨S1x1x256, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S256x128, .bf16⟩
  | .local _ .vmem, ⟨19, _⟩ => ⟨S32x512, .f32⟩
  | .local _ .vmem, ⟨20, _⟩ => ⟨S512x256, .f32⟩
  | .local _ .vmem, ⟨21, _⟩ => ⟨S512x256, .f32⟩
  | .local _ .vmem, ⟨22, _⟩ => ⟨S1x1x512, .f32⟩
  | .local _ .vmem, ⟨23, _⟩ => ⟨S1x1x512, .f32⟩
  | .local _ .vmem, ⟨24, _⟩ => ⟨S32x256, .f32⟩
  | .local _ .vmem, ⟨25, _⟩ => ⟨S1x1x512, .f32⟩
  | .local _ .vmem, ⟨26, _⟩ => ⟨S1x1x512, .f32⟩
  | .local _ .vmem, ⟨27, _⟩ => ⟨S512x128, .i8⟩
  | .local _ .vmem, ⟨28, _⟩ => ⟨S512x128, .i8⟩
  | .local _ .vmem, ⟨29, _⟩ => ⟨S3x512x8192, .fp8e4m3⟩
  | .local _ .vmem, ⟨30, _⟩ => ⟨S2x512x8192, .fp8e4m3⟩
  | .local _ .vmem, ⟨31, _⟩ => ⟨S2x512x8192, .f32⟩
  | .local _ .vmem, ⟨32, _⟩ => ⟨S512x512, .bf16⟩
  | .local _ .vmem, ⟨33, _⟩ => ⟨S512x512, .bf16⟩
  | .local _ .vmem, ⟨34, _⟩ => ⟨S32x8x512, .f32⟩
  | .local _ .vmem, ⟨35, _⟩ => ⟨S32x8x256, .f32⟩
  | .local _ .vmem, ⟨36, _⟩ => ⟨S512x128, .f32⟩
  | .local _ .vmem, ⟨37, _⟩ => ⟨S512x128, .f32⟩
  | _, _ => ⟨S8x2048x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v8 : Ref sig .tc := ⟨.hbm, 54, rfl⟩
abbrev main_c_1 : Ref sig .tc := ⟨.hbm, 55, rfl⟩
abbrev main_v9 : Ref sig .tc := ⟨.hbm, 56, rfl⟩
abbrev main_v10 : Ref sig .tc := ⟨.hbm, 57, rfl⟩
abbrev main_cst : Ref sig .tc := ⟨.hbm, 58, rfl⟩
abbrev main_cst_2 : Ref sig .tc := ⟨.hbm, 59, rfl⟩
abbrev main_call2_v0 : Ref sig .tc := ⟨.hbm, 60, rfl⟩
abbrev main_call2_v1 : Ref sig .tc := ⟨.hbm, 61, rfl⟩
abbrev main_v11 : Ref sig .tc := ⟨.hbm, 62, rfl⟩
abbrev main_v12 : Ref sig .tc := ⟨.hbm, 63, rfl⟩
abbrev main_cst_3 : Ref sig .tc := ⟨.hbm, 64, rfl⟩
abbrev main_call3_v0 : Ref sig .tc := ⟨.hbm, 65, rfl⟩
abbrev main_call3_v1 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_c_4 : Ref sig .tc := ⟨.hbm, 74, rfl⟩
abbrev main_call4_v0 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_c_5 : Ref sig .tc := ⟨.hbm, 79, rfl⟩
abbrev main_call5_v0 : Ref sig .tc := ⟨.hbm, 80, rfl⟩
abbrev main_v23 : Ref sig .tc := ⟨.hbm, 81, rfl⟩
abbrev main_v24 : Ref sig .tc := ⟨.hbm, 82, rfl⟩
abbrev main_v25_0 : Ref sig .tc := ⟨.hbm, 83, rfl⟩
abbrev main_v25_1 : Ref sig .tc := ⟨.hbm, 84, rfl⟩
abbrev main_v25_2 : Ref sig .tc := ⟨.hbm, 85, rfl⟩
abbrev main_v25_3 : Ref sig .tc := ⟨.hbm, 86, rfl⟩
abbrev main_v25_4 : Ref sig .tc := ⟨.hbm, 87, rfl⟩
abbrev main_v25_5 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![1089], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 : BitVec 32 :=
  let c0_i32_16 : BitVec 32 := 0#32
  let c32_i32_17 : BitVec 32 := 32#32
  let v31 : BitVec 32 := Scalar.remsi c0_i32_16 c32_i32_17
  let c512_i32 : BitVec 32 := 512#32
  let v32 : BitVec 32 := Scalar.muli v31 c512_i32
  v32
def k0_off1 : Fin 1 → Nat :=
  let c0_i32_15 : BitVec 32 := 0#32
  let c3_i32 : BitVec 32 := 3#32
  let v30 : BitVec 32 := Scalar.remsi c0_i32_15 c3_i32
  ![v30.toNat]
def k0_off2 : Fin 3 → Nat :=
  let c0_i32_15 : BitVec 32 := 0#32
  let c3_i32 : BitVec 32 := 3#32
  let v30 : BitVec 32 := Scalar.remsi c0_i32_15 c3_i32
  let c0_i32_18 : BitVec 32 := 0#32
  let c0_i32_19 : BitVec 32 := 0#32
  ![v30.toNat, 0, 0]
def k0_off3 : Fin 2 → Nat :=
  let c0_i32_16 : BitVec 32 := 0#32
  let c32_i32_17 : BitVec 32 := 32#32
  let v31 : BitVec 32 := Scalar.remsi c0_i32_16 c32_i32_17
  let c512_i32 : BitVec 32 := 512#32
  let v32 : BitVec 32 := Scalar.muli v31 c512_i32
  let v33 : BitVec 32 := v32
  let c0_i32_20 : BitVec 32 := 0#32
  ![v33.toNat, 0]
def k0_cond2 (i : grid0.Coords) : BitVec 1 :=
  let arg0 : BitVec 32 := BitVec.ofNat 32 (i 0).val
  let c32_i32_1 : BitVec 32 := 32#32
  let v4 : BitVec 1 := Scalar.cmpi .slt arg0 c32_i32_1
  let v5 : BitVec 32 := Scalar.extui v4
  let c0_i32_2 : BitVec 32 := 0#32
  let v6 : BitVec 1 := Scalar.cmpi .ne v5 c0_i32_2
  v6

def k0_mult2 (i : grid0.Coords) : BitVec 32 :=
  let arg0 : BitVec 32 := BitVec.ofNat 32 (i 0).val
  let c32_i32 : BitVec 32 := 32#32
  let v0 : BitVec 32 := Scalar.remsi arg0 c32_i32
  let c256_i32 : BitVec 32 := 256#32
  let v124 : BitVec 32 := Scalar.muli v0 c256_i32
  v124
def k0_off4 (i : grid0.Coords) : Fin 3 → Nat :=
  let arg0 : BitVec 32 := BitVec.ofNat 32 (i 0).val
  let c0_i32_23 : BitVec 32 := 0#32
  let v49 : BitVec 1 := Scalar.cmpi .sgt arg0 c0_i32_23
  let v50 : BitVec 32 := Scalar.extui v49
  let c0_i32_24 : BitVec 32 := 0#32
  let v51 : BitVec 1 := Scalar.cmpi .slt arg0 c0_i32_24
  let v52 : BitVec 32 := Scalar.extui v51
  let v53 : BitVec 32 := Scalar.subi v50 v52
  let c32_i32_22 : BitVec 32 := 32#32
  let c0_i32_25 : BitVec 32 := 0#32
  let v54 : BitVec 1 := Scalar.cmpi .sgt c32_i32_22 c0_i32_25
  let v55 : BitVec 32 := Scalar.extui v54
  let c0_i32_26 : BitVec 32 := 0#32
  let v56 : BitVec 1 := Scalar.cmpi .slt c32_i32_22 c0_i32_26
  let v57 : BitVec 32 := Scalar.extui v56
  let v58 : BitVec 32 := Scalar.subi v55 v57
  let v59 : BitVec 1 := Scalar.cmpi .ne v53 v58
  let v60 : BitVec 32 := Scalar.remsi arg0 c32_i32_22
  let c0_i32_27 : BitVec 32 := 0#32
  let v61 : BitVec 1 := Scalar.cmpi .ne v60 c0_i32_27
  let v62 : BitVec 1 := Scalar.andi v59 v61
  let v48 : BitVec 32 := Scalar.divsi arg0 c32_i32_22
  let c1_i32_28 : BitVec 32 := 1#32
  let v63 : BitVec 32 := Scalar.subi v48 c1_i32_28
  let v64 : BitVec 32 := Scalar.select v62 v63 v48
  let c2_i32 : BitVec 32 := 2#32
  let v65 : BitVec 32 := Scalar.remsi v64 c2_i32
  let v126 : Index := Scalar.indexCast v65
  let c0_50 : Index := 0#32
  let c32_i32 : BitVec 32 := 32#32
  let v0 : BitVec 32 := Scalar.remsi arg0 c32_i32
  let c256_i32 : BitVec 32 := 256#32
  let v124 : BitVec 32 := Scalar.muli v0 c256_i32
  let v125 : BitVec 32 := v124
  let v127 : Index := Scalar.indexCast v125
  ![v126.toNat, 0, v127.toNat]
def k0_mult3 (i : grid0.Coords) : BitVec 32 :=
  let arg0 : BitVec 32 := BitVec.ofNat 32 (i 0).val
  let c32_i32 : BitVec 32 := 32#32
  let v0 : BitVec 32 := Scalar.remsi arg0 c32_i32
  let c256_i32_58 : BitVec 32 := 256#32
  let v144 : BitVec 32 := Scalar.muli v0 c256_i32_58
  v144
def k0_off5 (i : grid0.Coords) : Fin 3 → Nat :=
  let c0_59 : Index := 0#32
  let c0_60 : Index := 0#32
  let arg0 : BitVec 32 := BitVec.ofNat 32 (i 0).val
  let c32_i32 : BitVec 32 := 32#32
  let v0 : BitVec 32 := Scalar.remsi arg0 c32_i32
  let c256_i32_58 : BitVec 32 := 256#32
  let v144 : BitVec 32 := Scalar.muli v0 c256_i32_58
  let v145 : BitVec 32 := v144
  let v146 : Index := Scalar.indexCast v145
  ![0, 0, v146.toNat]
def k0_mult4 (i : grid0.Coords) : BitVec 32 :=
  let arg0 : BitVec 32 := BitVec.ofNat 32 (i 0).val
  let c32_i32 : BitVec 32 := 32#32
  let v0 : BitVec 32 := Scalar.remsi arg0 c32_i32
  let c256_i32_62 : BitVec 32 := 256#32
  let v151 : BitVec 32 := Scalar.muli v0 c256_i32_62
  v151
def k0_off6 (i : grid0.Coords) : Fin 3 → Nat :=
  let c1 : Index := 1#32
  let c0_63 : Index := 0#32
  let arg0 : BitVec 32 := BitVec.ofNat 32 (i 0).val
  let c32_i32 : BitVec 32 := 32#32
  let v0 : BitVec 32 := Scalar.remsi arg0 c32_i32
  let c256_i32_62 : BitVec 32 := 256#32
  let v151 : BitVec 32 := Scalar.muli v0 c256_i32_62
  let v152 : BitVec 32 := v151
  let v153 : Index := Scalar.indexCast v152
  ![1, 0, v153.toNat]
def k0_cond3 (i : grid0.Coords) : BitVec 1 :=
  let arg0 : BitVec 32 := BitVec.ofNat 32 (i 0).val
  let c32_i32_4 : BitVec 32 := 32#32
  let v8 : BitVec 1 := Scalar.cmpi .sge arg0 c32_i32_4
  let c1_i32 : BitVec 32 := 1#32
  let v9 : BitVec 32 := Scalar.addi arg0 c1_i32
  let c1056_i32 : BitVec 32 := 1056#32
  let v10 : BitVec 1 := Scalar.cmpi .slt v9 c1056_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult5 (i : grid0.Coords) : BitVec 32 :=
  let arg0 : BitVec 32 := BitVec.ofNat 32 (i 0).val
  let c32_i32_3 : BitVec 32 := 32#32
  let v7 : BitVec 32 := Scalar.subi arg0 c32_i32_3
  let c1_i32_15 : BitVec 32 := 1#32
  let v30 : BitVec 32 := Scalar.addi v7 c1_i32_15
  let c32_i32_16 : BitVec 32 := 32#32
  let v32 : BitVec 32 := Scalar.remsi v30 c32_i32_16
  let c512_i32 : BitVec 32 := 512#32
  let v33 : BitVec 32 := Scalar.muli v32 c512_i32
  v33
def k0_off7 (i : grid0.Coords) : Fin 1 → Nat :=
  let arg0 : BitVec 32 := BitVec.ofNat 32 (i 0).val
  let c32_i32_3 : BitVec 32 := 32#32
  let v7 : BitVec 32 := Scalar.subi arg0 c32_i32_3
  let c1_i32_15 : BitVec 32 := 1#32
  let v30 : BitVec 32 := Scalar.addi v7 c1_i32_15
  let c3_i32 : BitVec 32 := 3#32
  let v31 : BitVec 32 := Scalar.remsi v30 c3_i32
  ![v31.toNat]
def k0_off8 (i : grid0.Coords) : Fin 3 → Nat :=
  let arg0 : BitVec 32 := BitVec.ofNat 32 (i 0).val
  let c32_i32_3 : BitVec 32 := 32#32
  let v7 : BitVec 32 := Scalar.subi arg0 c32_i32_3
  let c1_i32_15 : BitVec 32 := 1#32
  let v30 : BitVec 32 := Scalar.addi v7 c1_i32_15
  let c3_i32 : BitVec 32 := 3#32
  let v31 : BitVec 32 := Scalar.remsi v30 c3_i32
  let c0_i32_17 : BitVec 32 := 0#32
  let c0_i32_18 : BitVec 32 := 0#32
  ![v31.toNat, 0, 0]
def k0_off9 (i : grid0.Coords) : Fin 2 → Nat :=
  let arg0 : BitVec 32 := BitVec.ofNat 32 (i 0).val
  let c32_i32_3 : BitVec 32 := 32#32
  let v7 : BitVec 32 := Scalar.subi arg0 c32_i32_3
  let c1_i32_15 : BitVec 32 := 1#32
  let v30 : BitVec 32 := Scalar.addi v7 c1_i32_15
  let c32_i32_16 : BitVec 32 := 32#32
  let v32 : BitVec 32 := Scalar.remsi v30 c32_i32_16
  let c512_i32 : BitVec 32 := 512#32
  let v33 : BitVec 32 := Scalar.muli v32 c512_i32
  let v34 : BitVec 32 := v33
  let c0_i32_19 : BitVec 32 := 0#32
  ![v34.toNat, 0]
def k0_cond4 (i : grid0.Coords) : BitVec 1 :=
  let arg0 : BitVec 32 := BitVec.ofNat 32 (i 0).val
  let c32_i32_6 : BitVec 32 := 32#32
  let v14 : BitVec 1 := Scalar.cmpi .sge arg0 c32_i32_6
  let c1056_i32_7 : BitVec 32 := 1056#32
  let v15 : BitVec 1 := Scalar.cmpi .slt arg0 c1056_i32_7
  let v16 : BitVec 1 := Scalar.andi v14 v15
  let v17 : BitVec 32 := Scalar.extui v16
  let c0_i32_8 : BitVec 32 := 0#32
  let v18 : BitVec 1 := Scalar.cmpi .ne v17 c0_i32_8
  v18

def k0_mult6 (i : grid0.Coords) : BitVec 32 :=
  let arg0 : BitVec 32 := BitVec.ofNat 32 (i 0).val
  let c32_i32_3 : BitVec 32 := 32#32
  let v7 : BitVec 32 := Scalar.subi arg0 c32_i32_3
  let c32_i32_15 : BitVec 32 := 32#32
  let v31 : BitVec 32 := Scalar.remsi v7 c32_i32_15
  let c512_i32 : BitVec 32 := 512#32
  let v32 : BitVec 32 := Scalar.muli v31 c512_i32
  v32
def k0_off10 (i : grid0.Coords) : Fin 1 → Nat :=
  let arg0 : BitVec 32 := BitVec.ofNat 32 (i 0).val
  let c32_i32_3 : BitVec 32 := 32#32
  let v7 : BitVec 32 := Scalar.subi arg0 c32_i32_3
  let c3_i32 : BitVec 32 := 3#32
  let v30 : BitVec 32 := Scalar.remsi v7 c3_i32
  ![v30.toNat]
def k0_off11 (i : grid0.Coords) : Fin 3 → Nat :=
  let arg0 : BitVec 32 := BitVec.ofNat 32 (i 0).val
  let c32_i32_3 : BitVec 32 := 32#32
  let v7 : BitVec 32 := Scalar.subi arg0 c32_i32_3
  let c3_i32 : BitVec 32 := 3#32
  let v30 : BitVec 32 := Scalar.remsi v7 c3_i32
  let c0_i32_16 : BitVec 32 := 0#32
  let c0_i32_17 : BitVec 32 := 0#32
  ![v30.toNat, 0, 0]
def k0_off12 (i : grid0.Coords) : Fin 2 → Nat :=
  let arg0 : BitVec 32 := BitVec.ofNat 32 (i 0).val
  let c32_i32_3 : BitVec 32 := 32#32
  let v7 : BitVec 32 := Scalar.subi arg0 c32_i32_3
  let c32_i32_15 : BitVec 32 := 32#32
  let v31 : BitVec 32 := Scalar.remsi v7 c32_i32_15
  let c512_i32 : BitVec 32 := 512#32
  let v32 : BitVec 32 := Scalar.muli v31 c512_i32
  let v33 : BitVec 32 := v32
  let c0_i32_18 : BitVec 32 := 0#32
  ![v33.toNat, 0]
def k0_cond5 (i : grid0.Coords) : BitVec 1 :=
  let arg0 : BitVec 32 := BitVec.ofNat 32 (i 0).val
  let c32_i32_9 : BitVec 32 := 32#32
  let v19 : BitVec 1 := Scalar.cmpi .sge arg0 c32_i32_9
  let c1056_i32_10 : BitVec 32 := 1056#32
  let v20 : BitVec 1 := Scalar.cmpi .sle arg0 c1056_i32_10
  let v21 : BitVec 1 := Scalar.andi v19 v20
  let v22 : BitVec 32 := Scalar.extui v21
  let c0_i32_11 : BitVec 32 := 0#32
  let v23 : BitVec 1 := Scalar.cmpi .ne v22 c0_i32_11
  v23

def k0_off13 (i : grid0.Coords) : Fin 3 → Nat :=
  let arg0 : BitVec 32 := BitVec.ofNat 32 (i 0).val
  let c0_i32_25 : BitVec 32 := 0#32
  let v50 : BitVec 1 := Scalar.cmpi .sgt arg0 c0_i32_25
  let v51 : BitVec 32 := Scalar.extui v50
  let c0_i32_26 : BitVec 32 := 0#32
  let v52 : BitVec 1 := Scalar.cmpi .slt arg0 c0_i32_26
  let v53 : BitVec 32 := Scalar.extui v52
  let v54 : BitVec 32 := Scalar.subi v51 v53
  let c32_i32_24 : BitVec 32 := 32#32
  let c0_i32_27 : BitVec 32 := 0#32
  let v55 : BitVec 1 := Scalar.cmpi .sgt c32_i32_24 c0_i32_27
  let v56 : BitVec 32 := Scalar.extui v55
  let c0_i32_28 : BitVec 32 := 0#32
  let v57 : BitVec 1 := Scalar.cmpi .slt c32_i32_24 c0_i32_28
  let v58 : BitVec 32 := Scalar.extui v57
  let v59 : BitVec 32 := Scalar.subi v56 v58
  let v60 : BitVec 1 := Scalar.cmpi .ne v54 v59
  let v61 : BitVec 32 := Scalar.remsi arg0 c32_i32_24
  let c0_i32_29 : BitVec 32 := 0#32
  let v62 : BitVec 1 := Scalar.cmpi .ne v61 c0_i32_29
  let v63 : BitVec 1 := Scalar.andi v60 v62
  let v49 : BitVec 32 := Scalar.divsi arg0 c32_i32_24
  let c1_i32_30 : BitVec 32 := 1#32
  let v64 : BitVec 32 := Scalar.subi v49 c1_i32_30
  let v65 : BitVec 32 := Scalar.select v63 v64 v49
  let c1_i32_31 : BitVec 32 := 1#32
  let v66 : BitVec 32 := Scalar.addi v65 c1_i32_31
  let c2_i32 : BitVec 32 := 2#32
  let v67 : BitVec 32 := Scalar.remsi v66 c2_i32
  let v98 : Index := Scalar.indexCast v67
  let c0_50 : Index := 0#32
  let c0_51 : Index := 0#32
  ![v98.toNat, 0, 0]
def k0_off14 (i : grid0.Coords) : Fin 3 → Nat :=
  let arg0 : BitVec 32 := BitVec.ofNat 32 (i 0).val
  let c32_i32_3 : BitVec 32 := 32#32
  let v7 : BitVec 32 := Scalar.subi arg0 c32_i32_3
  let c3_i32 : BitVec 32 := 3#32
  let v88 : BitVec 32 := Scalar.remsi v7 c3_i32
  let v101 : Index := Scalar.indexCast v88
  let c0_52 : Index := 0#32
  let c0_53 : Index := 0#32
  ![v101.toNat, 0, 0]
def k0_off15 (i : grid0.Coords) : Fin 3 → Nat :=
  let arg0 : BitVec 32 := BitVec.ofNat 32 (i 0).val
  let c32_i32 : BitVec 32 := 32#32
  let v0 : BitVec 32 := Scalar.remsi arg0 c32_i32
  let v127 : Index := Scalar.indexCast v0
  let c0_62 : Index := 0#32
  let c0_63 : Index := 0#32
  ![v127.toNat, 0, 0]
def k0_off16 (i : grid0.Coords) : Fin 3 → Nat :=
  let arg0 : BitVec 32 := BitVec.ofNat 32 (i 0).val
  let c1_i32_32 : BitVec 32 := 1#32
  let v68 : BitVec 32 := Scalar.subi arg0 c1_i32_32
  let c0_i32_34 : BitVec 32 := 0#32
  let v70 : BitVec 1 := Scalar.cmpi .sgt v68 c0_i32_34
  let v71 : BitVec 32 := Scalar.extui v70
  let c0_i32_35 : BitVec 32 := 0#32
  let v72 : BitVec 1 := Scalar.cmpi .slt v68 c0_i32_35
  let v73 : BitVec 32 := Scalar.extui v72
  let v74 : BitVec 32 := Scalar.subi v71 v73
  let c32_i32_33 : BitVec 32 := 32#32
  let c0_i32_36 : BitVec 32 := 0#32
  let v75 : BitVec 1 := Scalar.cmpi .sgt c32_i32_33 c0_i32_36
  let v76 : BitVec 32 := Scalar.extui v75
  let c0_i32_37 : BitVec 32 := 0#32
  let v77 : BitVec 1 := Scalar.cmpi .slt c32_i32_33 c0_i32_37
  let v78 : BitVec 32 := Scalar.extui v77
  let v79 : BitVec 32 := Scalar.subi v76 v78
  let v80 : BitVec 1 := Scalar.cmpi .ne v74 v79
  let v81 : BitVec 32 := Scalar.remsi v68 c32_i32_33
  let c0_i32_38 : BitVec 32 := 0#32
  let v82 : BitVec 1 := Scalar.cmpi .ne v81 c0_i32_38
  let v83 : BitVec 1 := Scalar.andi v80 v82
  let v69 : BitVec 32 := Scalar.divsi v68 c32_i32_33
  let c1_i32_39 : BitVec 32 := 1#32
  let v84 : BitVec 32 := Scalar.subi v69 c1_i32_39
  let v85 : BitVec 32 := Scalar.select v83 v84 v69
  let c1_i32_40 : BitVec 32 := 1#32
  let v86 : BitVec 32 := Scalar.addi v85 c1_i32_40
  let c2_i32_41 : BitVec 32 := 2#32
  let v87 : BitVec 32 := Scalar.remsi v86 c2_i32_41
  let v149 : Index := Scalar.indexCast v87
  let c0_72 : Index := 0#32
  let c0_73 : Index := 0#32
  ![v149.toNat, 0, 0]
def k0_off17 (i : grid0.Coords) : Fin 3 → Nat :=
  let arg0 : BitVec 32 := BitVec.ofNat 32 (i 0).val
  let c32_i32_3 : BitVec 32 := 32#32
  let v7 : BitVec 32 := Scalar.subi arg0 c32_i32_3
  let c0_i32_42 : BitVec 32 := 0#32
  let v89 : BitVec 1 := Scalar.cmpi .eq v7 c0_i32_42
  let c0_i32_46 : BitVec 32 := 0#32
  let c3_i32_43 : BitVec 32 := 3#32
  let v90 : BitVec 32 := Scalar.addi v7 c3_i32_43
  let c1_i32_44 : BitVec 32 := 1#32
  let v91 : BitVec 32 := Scalar.subi v90 c1_i32_44
  let c3_i32_45 : BitVec 32 := 3#32
  let v92 : BitVec 32 := Scalar.remsi v91 c3_i32_45
  let v93 : BitVec 32 := Scalar.select v89 c0_i32_46 v92
  let v153 : Index := Scalar.indexCast v93
  let c0_76 : Index := 0#32
  let c0_77 : Index := 0#32
  ![v153.toNat, 0, 0]
def k0_mult7 (i : grid0.Coords) : BitVec 32 :=
  let arg0 : BitVec 32 := BitVec.ofNat 32 (i 0).val
  let c32_i32 : BitVec 32 := 32#32
  let v0 : BitVec 32 := Scalar.remsi arg0 c32_i32
  let c256_i32 : BitVec 32 := 256#32
  let v256 : BitVec 32 := Scalar.muli v0 c256_i32
  v256
def k0_off18 (i : grid0.Coords) : Fin 3 → Nat :=
  let arg0 : BitVec 32 := BitVec.ofNat 32 (i 0).val
  let c0_i32_89 : BitVec 32 := 0#32
  let v181 : BitVec 1 := Scalar.cmpi .sgt arg0 c0_i32_89
  let v182 : BitVec 32 := Scalar.extui v181
  let c0_i32_90 : BitVec 32 := 0#32
  let v183 : BitVec 1 := Scalar.cmpi .slt arg0 c0_i32_90
  let v184 : BitVec 32 := Scalar.extui v183
  let v185 : BitVec 32 := Scalar.subi v182 v184
  let c32_i32_88 : BitVec 32 := 32#32
  let c0_i32_91 : BitVec 32 := 0#32
  let v186 : BitVec 1 := Scalar.cmpi .sgt c32_i32_88 c0_i32_91
  let v187 : BitVec 32 := Scalar.extui v186
  let c0_i32_92 : BitVec 32 := 0#32
  let v188 : BitVec 1 := Scalar.cmpi .slt c32_i32_88 c0_i32_92
  let v189 : BitVec 32 := Scalar.extui v188
  let v190 : BitVec 32 := Scalar.subi v187 v189
  let v191 : BitVec 1 := Scalar.cmpi .ne v185 v190
  let v192 : BitVec 32 := Scalar.remsi arg0 c32_i32_88
  let c0_i32_93 : BitVec 32 := 0#32
  let v193 : BitVec 1 := Scalar.cmpi .ne v192 c0_i32_93
  let v194 : BitVec 1 := Scalar.andi v191 v193
  let v180 : BitVec 32 := Scalar.divsi arg0 c32_i32_88
  let c1_i32_94 : BitVec 32 := 1#32
  let v195 : BitVec 32 := Scalar.subi v180 c1_i32_94
  let v196 : BitVec 32 := Scalar.select v194 v195 v180
  let c2_i32_95 : BitVec 32 := 2#32
  let v197 : BitVec 32 := Scalar.remsi v196 c2_i32_95
  let v258 : Index := Scalar.indexCast v197
  let c0_119 : Index := 0#32
  let c32_i32 : BitVec 32 := 32#32
  let v0 : BitVec 32 := Scalar.remsi arg0 c32_i32
  let c256_i32 : BitVec 32 := 256#32
  let v256 : BitVec 32 := Scalar.muli v0 c256_i32
  let v257 : BitVec 32 := v256
  let v259 : Index := Scalar.indexCast v257
  ![v258.toNat, 0, v259.toNat]
def k0_mult8 (i : grid0.Coords) : BitVec 32 :=
  let c1023_i32 : BitVec 32 := 1023#32
  let c0_i32_127 : BitVec 32 := 0#32
  let arg0 : BitVec 32 := BitVec.ofNat 32 (i 0).val
  let c65_i32 : BitVec 32 := 65#32
  let v275 : BitVec 32 := Scalar.subi arg0 c65_i32
  let v276 : BitVec 32 := Scalar.maxsi c0_i32_127 v275
  let v277 : BitVec 32 := Scalar.minsi c1023_i32 v276
  let c32_i32_136 : BitVec 32 := 32#32
  let v296 : BitVec 32 := Scalar.remsi v277 c32_i32_136
  let c256_i32_154 : BitVec 32 := 256#32
  let v338 : BitVec 32 := Scalar.muli v296 c256_i32_154
  v338
def k0_off19 (i : grid0.Coords) : Fin 3 → Nat :=
  let arg0 : BitVec 32 := BitVec.ofNat 32 (i 0).val
  let c1_i32_137 : BitVec 32 := 1#32
  let v297 : BitVec 32 := Scalar.subi arg0 c1_i32_137
  let c0_i32_139 : BitVec 32 := 0#32
  let v299 : BitVec 1 := Scalar.cmpi .sgt v297 c0_i32_139
  let v300 : BitVec 32 := Scalar.extui v299
  let c0_i32_140 : BitVec 32 := 0#32
  let v301 : BitVec 1 := Scalar.cmpi .slt v297 c0_i32_140
  let v302 : BitVec 32 := Scalar.extui v301
  let v303 : BitVec 32 := Scalar.subi v300 v302
  let c32_i32_138 : BitVec 32 := 32#32
  let c0_i32_141 : BitVec 32 := 0#32
  let v304 : BitVec 1 := Scalar.cmpi .sgt c32_i32_138 c0_i32_141
  let v305 : BitVec 32 := Scalar.extui v304
  let c0_i32_142 : BitVec 32 := 0#32
  let v306 : BitVec 1 := Scalar.cmpi .slt c32_i32_138 c0_i32_142
  let v307 : BitVec 32 := Scalar.extui v306
  let v308 : BitVec 32 := Scalar.subi v305 v307
  let v309 : BitVec 1 := Scalar.cmpi .ne v303 v308
  let v310 : BitVec 32 := Scalar.remsi v297 c32_i32_138
  let c0_i32_143 : BitVec 32 := 0#32
  let v311 : BitVec 1 := Scalar.cmpi .ne v310 c0_i32_143
  let v312 : BitVec 1 := Scalar.andi v309 v311
  let v298 : BitVec 32 := Scalar.divsi v297 c32_i32_138
  let c1_i32_144 : BitVec 32 := 1#32
  let v313 : BitVec 32 := Scalar.subi v298 c1_i32_144
  let v314 : BitVec 32 := Scalar.select v312 v313 v298
  let c2_i32_145 : BitVec 32 := 2#32
  let v315 : BitVec 32 := Scalar.remsi v314 c2_i32_145
  let v340 : Index := Scalar.indexCast v315
  let c0_155 : Index := 0#32
  let c1023_i32 : BitVec 32 := 1023#32
  let c0_i32_127 : BitVec 32 := 0#32
  let c65_i32 : BitVec 32 := 65#32
  let v275 : BitVec 32 := Scalar.subi arg0 c65_i32
  let v276 : BitVec 32 := Scalar.maxsi c0_i32_127 v275
  let v277 : BitVec 32 := Scalar.minsi c1023_i32 v276
  let c32_i32_136 : BitVec 32 := 32#32
  let v296 : BitVec 32 := Scalar.remsi v277 c32_i32_136
  let c256_i32_154 : BitVec 32 := 256#32
  let v338 : BitVec 32 := Scalar.muli v296 c256_i32_154
  let v339 : BitVec 32 := v338
  let v341 : Index := Scalar.indexCast v339
  ![v340.toNat, 0, v341.toNat]
def k0_off20 (i : grid0.Coords) : Fin 3 → Nat :=
  let c1023_i32 : BitVec 32 := 1023#32
  let c0_i32_127 : BitVec 32 := 0#32
  let arg0 : BitVec 32 := BitVec.ofNat 32 (i 0).val
  let c65_i32 : BitVec 32 := 65#32
  let v275 : BitVec 32 := Scalar.subi arg0 c65_i32
  let v276 : BitVec 32 := Scalar.maxsi c0_i32_127 v275
  let v277 : BitVec 32 := Scalar.minsi c1023_i32 v276
  let c32_i32_136 : BitVec 32 := 32#32
  let v296 : BitVec 32 := Scalar.remsi v277 c32_i32_136
  let v394 : Index := Scalar.indexCast v296
  let c0_182 : Index := 0#32
  let c0_183 : Index := 0#32
  ![v394.toNat, 0, 0]
def k0_off21 (i : grid0.Coords) : Fin 3 → Nat :=
  let c1023_i32 : BitVec 32 := 1023#32
  let c0_i32_127 : BitVec 32 := 0#32
  let arg0 : BitVec 32 := BitVec.ofNat 32 (i 0).val
  let c65_i32 : BitVec 32 := 65#32
  let v275 : BitVec 32 := Scalar.subi arg0 c65_i32
  let v276 : BitVec 32 := Scalar.maxsi c0_i32_127 v275
  let v277 : BitVec 32 := Scalar.minsi c1023_i32 v276
  let c32_i32_136 : BitVec 32 := 32#32
  let v296 : BitVec 32 := Scalar.remsi v277 c32_i32_136
  let v442 : Index := Scalar.indexCast v296
  let c0_204 : Index := 0#32
  let c128_205 : Index := 128#32
  ![v442.toNat, 0, 128]
def k0_cond7 (i : grid0.Coords) : BitVec 1 :=
  let arg0 : BitVec 32 := BitVec.ofNat 32 (i 0).val
  let c1056_i32_12 : BitVec 32 := 1056#32
  let v24 : BitVec 1 := Scalar.cmpi .sgt arg0 c1056_i32_12
  let v25 : BitVec 32 := Scalar.extui v24
  let c0_i32_13 : BitVec 32 := 0#32
  let v26 : BitVec 1 := Scalar.cmpi .ne v25 c0_i32_13
  v26

def k0_mult9 (i : grid0.Coords) : BitVec 32 :=
  let c1023_i32 : BitVec 32 := 1023#32
  let c0_i32_15 : BitVec 32 := 0#32
  let arg0 : BitVec 32 := BitVec.ofNat 32 (i 0).val
  let c65_i32 : BitVec 32 := 65#32
  let v30 : BitVec 32 := Scalar.subi arg0 c65_i32
  let v31 : BitVec 32 := Scalar.maxsi c0_i32_15 v30
  let v32 : BitVec 32 := Scalar.minsi c1023_i32 v31
  let c32_i32_24 : BitVec 32 := 32#32
  let v51 : BitVec 32 := Scalar.remsi v32 c32_i32_24
  let c256_i32 : BitVec 32 := 256#32
  let v93 : BitVec 32 := Scalar.muli v51 c256_i32
  v93
def k0_off22 (i : grid0.Coords) : Fin 3 → Nat :=
  let arg0 : BitVec 32 := BitVec.ofNat 32 (i 0).val
  let c1_i32_25 : BitVec 32 := 1#32
  let v52 : BitVec 32 := Scalar.subi arg0 c1_i32_25
  let c0_i32_27 : BitVec 32 := 0#32
  let v54 : BitVec 1 := Scalar.cmpi .sgt v52 c0_i32_27
  let v55 : BitVec 32 := Scalar.extui v54
  let c0_i32_28 : BitVec 32 := 0#32
  let v56 : BitVec 1 := Scalar.cmpi .slt v52 c0_i32_28
  let v57 : BitVec 32 := Scalar.extui v56
  let v58 : BitVec 32 := Scalar.subi v55 v57
  let c32_i32_26 : BitVec 32 := 32#32
  let c0_i32_29 : BitVec 32 := 0#32
  let v59 : BitVec 1 := Scalar.cmpi .sgt c32_i32_26 c0_i32_29
  let v60 : BitVec 32 := Scalar.extui v59
  let c0_i32_30 : BitVec 32 := 0#32
  let v61 : BitVec 1 := Scalar.cmpi .slt c32_i32_26 c0_i32_30
  let v62 : BitVec 32 := Scalar.extui v61
  let v63 : BitVec 32 := Scalar.subi v60 v62
  let v64 : BitVec 1 := Scalar.cmpi .ne v58 v63
  let v65 : BitVec 32 := Scalar.remsi v52 c32_i32_26
  let c0_i32_31 : BitVec 32 := 0#32
  let v66 : BitVec 1 := Scalar.cmpi .ne v65 c0_i32_31
  let v67 : BitVec 1 := Scalar.andi v64 v66
  let v53 : BitVec 32 := Scalar.divsi v52 c32_i32_26
  let c1_i32_32 : BitVec 32 := 1#32
  let v68 : BitVec 32 := Scalar.subi v53 c1_i32_32
  let v69 : BitVec 32 := Scalar.select v67 v68 v53
  let c2_i32 : BitVec 32 := 2#32
  let v70 : BitVec 32 := Scalar.remsi v69 c2_i32
  let v95 : Index := Scalar.indexCast v70
  let c0_39 : Index := 0#32
  let c1023_i32 : BitVec 32 := 1023#32
  let c0_i32_15 : BitVec 32 := 0#32
  let c65_i32 : BitVec 32 := 65#32
  let v30 : BitVec 32 := Scalar.subi arg0 c65_i32
  let v31 : BitVec 32 := Scalar.maxsi c0_i32_15 v30
  let v32 : BitVec 32 := Scalar.minsi c1023_i32 v31
  let c32_i32_24 : BitVec 32 := 32#32
  let v51 : BitVec 32 := Scalar.remsi v32 c32_i32_24
  let c256_i32 : BitVec 32 := 256#32
  let v93 : BitVec 32 := Scalar.muli v51 c256_i32
  let v94 : BitVec 32 := v93
  let v96 : Index := Scalar.indexCast v94
  ![v95.toNat, 0, v96.toNat]
def k0_off23 (i : grid0.Coords) : Fin 3 → Nat :=
  let c1023_i32 : BitVec 32 := 1023#32
  let c0_i32_15 : BitVec 32 := 0#32
  let arg0 : BitVec 32 := BitVec.ofNat 32 (i 0).val
  let c65_i32 : BitVec 32 := 65#32
  let v30 : BitVec 32 := Scalar.subi arg0 c65_i32
  let v31 : BitVec 32 := Scalar.maxsi c0_i32_15 v30
  let v32 : BitVec 32 := Scalar.minsi c1023_i32 v31
  let c32_i32_24 : BitVec 32 := 32#32
  let v51 : BitVec 32 := Scalar.remsi v32 c32_i32_24
  let v149 : Index := Scalar.indexCast v51
  let c0_63 : Index := 0#32
  let c0_64 : Index := 0#32
  ![v149.toNat, 0, 0]
def k0_off24 (i : grid0.Coords) : Fin 3 → Nat :=
  let c1023_i32 : BitVec 32 := 1023#32
  let c0_i32_15 : BitVec 32 := 0#32
  let arg0 : BitVec 32 := BitVec.ofNat 32 (i 0).val
  let c65_i32 : BitVec 32 := 65#32
  let v30 : BitVec 32 := Scalar.subi arg0 c65_i32
  let v31 : BitVec 32 := Scalar.maxsi c0_i32_15 v30
  let v32 : BitVec 32 := Scalar.minsi c1023_i32 v31
  let c32_i32_24 : BitVec 32 := 32#32
  let v51 : BitVec 32 := Scalar.remsi v32 c32_i32_24
  let v197 : Index := Scalar.indexCast v51
  let c0_84 : Index := 0#32
  let c128_85 : Index := 128#32
  ![v197.toNat, 0, 128]
def k0_cond9 (i : grid0.Coords) : BitVec 1 :=
  let arg0 : BitVec 32 := BitVec.ofNat 32 (i 0).val
  let c1088_i32 : BitVec 32 := 1088#32
  let v27 : BitVec 1 := Scalar.cmpi .eq arg0 c1088_i32
  let v28 : BitVec 32 := Scalar.extui v27
  let c0_i32_14 : BitVec 32 := 0#32
  let v29 : BitVec 1 := Scalar.cmpi .ne v28 c0_i32_14
  v29

def k0_cond6 (i : grid0.Coords) : BitVec 1 :=
  let c1023_i32 : BitVec 32 := 1023#32
  let c0_i32_127 : BitVec 32 := 0#32
  let arg0 : BitVec 32 := BitVec.ofNat 32 (i 0).val
  let c65_i32 : BitVec 32 := 65#32
  let v275 : BitVec 32 := Scalar.subi arg0 c65_i32
  let v276 : BitVec 32 := Scalar.maxsi c0_i32_127 v275
  let v277 : BitVec 32 := Scalar.minsi c1023_i32 v276
  let c32_i32_136 : BitVec 32 := 32#32
  let v296 : BitVec 32 := Scalar.remsi v277 c32_i32_136
  let c31_i32_214 : BitVec 32 := 31#32
  let v460 : BitVec 1 := Scalar.cmpi .eq v296 c31_i32_214
  let v461 : BitVec 32 := Scalar.extui v460
  let c0_i32_215 : BitVec 32 := 0#32
  let v462 : BitVec 1 := Scalar.cmpi .ne v461 c0_i32_215
  v462

def k0_cond8 (i : grid0.Coords) : BitVec 1 :=
  let c1023_i32 : BitVec 32 := 1023#32
  let c0_i32_15 : BitVec 32 := 0#32
  let arg0 : BitVec 32 := BitVec.ofNat 32 (i 0).val
  let c65_i32 : BitVec 32 := 65#32
  let v30 : BitVec 32 := Scalar.subi arg0 c65_i32
  let v31 : BitVec 32 := Scalar.maxsi c0_i32_15 v30
  let v32 : BitVec 32 := Scalar.minsi c1023_i32 v31
  let c32_i32_24 : BitVec 32 := 32#32
  let v51 : BitVec 32 := Scalar.remsi v32 c32_i32_24
  let c31_i32 : BitVec 32 := 31#32
  let v215 : BitVec 1 := Scalar.cmpi .eq v51 c31_i32
  let v216 : BitVec 32 := Scalar.extui v215
  let c0_i32_94 : BitVec 32 := 0#32
  let v217 : BitVec 1 := Scalar.cmpi .ne v216 c0_i32_94
  v217

def cc0_transform_1 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c1023_i32 : BitVec 32 := 1023#32
  let v1 : BitVec 32 := Scalar.maxsi c0_i32 v0
  let v2 : BitVec 32 := Scalar.minsi c1023_i32 v1
  let c32_i32_0 : BitVec 32 := 32#32
  let v3 : BitVec 32 := Scalar.divsi v2 c32_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c32_i32_0 c0_i32_3
  let v10 : BitVec 32 := Scalar.extui v9
  let c0_i32_4 : BitVec 32 := 0#32
  let v11 : BitVec 1 := Scalar.cmpi .slt c32_i32_0 c0_i32_4
  let v12 : BitVec 32 := Scalar.extui v11
  let v13 : BitVec 32 := Scalar.subi v10 v12
  let v14 : BitVec 1 := Scalar.cmpi .ne v8 v13
  let v15 : BitVec 32 := Scalar.remsi v2 c32_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c32_i32_6 : BitVec 32 := 32#32
  let c0_i32_7 : BitVec 32 := 0#32
  let v20 : BitVec 1 := Scalar.cmpi .eq c32_i32_6 c0_i32_7
  let c1_i32_8 : BitVec 32 := 1#32
  let v21 : BitVec 32 := Scalar.select v20 c1_i32_8 c32_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v29.toNat, c0_i32_12.toNat, c0_i32_13.toNat]

def cc0_transform_2 (i : grid0.Coords) : Fin 2 → Nat :=
  let arg0 : BitVec 32 := BitVec.ofNat 32 (i 0).val
  let c1023_i32 : BitVec 32 := 1023#32
  let v0 : BitVec 32 := Scalar.minsi arg0 c1023_i32
  let c1023_i32_0 : BitVec 32 := 1023#32
  let v1 : BitVec 1 := Scalar.cmpi .sle arg0 c1023_i32_0
  let c32_i32 : BitVec 32 := 32#32
  let v2 : BitVec 32 := Scalar.divsi v0 c32_i32
  let c0_i32 : BitVec 32 := 0#32
  let v3 : BitVec 1 := Scalar.cmpi .sgt v0 c0_i32
  let v4 : BitVec 32 := Scalar.extui v3
  let c0_i32_1 : BitVec 32 := 0#32
  let v5 : BitVec 1 := Scalar.cmpi .slt v0 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v0 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c31_i32 : BitVec 32 := 31#32
  let v19 : BitVec 32 := Scalar.select v1 v18 c31_i32
  let c1023_i32_5 : BitVec 32 := 1023#32
  let v20 : BitVec 1 := Scalar.cmpi .sle arg0 c1023_i32_5
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi v0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c31_i32_12 : BitVec 32 := 31#32
  let v31 : BitVec 32 := Scalar.select v20 v30 c31_i32_12
  let c0_i32_13 : BitVec 32 := 0#32
  ![v19.toNat, v31.toNat]

def cc0_transform_3 (i : grid0.Coords) : Fin 2 → Nat :=
  let arg0 : BitVec 32 := BitVec.ofNat 32 (i 0).val
  let c1023_i32 : BitVec 32 := 1023#32
  let v0 : BitVec 32 := Scalar.minsi arg0 c1023_i32
  let c1023_i32_0 : BitVec 32 := 1023#32
  let v1 : BitVec 1 := Scalar.cmpi .sle arg0 c1023_i32_0
  let c32_i32 : BitVec 32 := 32#32
  let v2 : BitVec 32 := Scalar.divsi v0 c32_i32
  let c0_i32 : BitVec 32 := 0#32
  let v3 : BitVec 1 := Scalar.cmpi .sgt v0 c0_i32
  let v4 : BitVec 32 := Scalar.extui v3
  let c0_i32_1 : BitVec 32 := 0#32
  let v5 : BitVec 1 := Scalar.cmpi .slt v0 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v0 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c31_i32 : BitVec 32 := 31#32
  let v19 : BitVec 32 := Scalar.select v1 v18 c31_i32
  let c1023_i32_5 : BitVec 32 := 1023#32
  let v20 : BitVec 1 := Scalar.cmpi .sle arg0 c1023_i32_5
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi v0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c31_i32_12 : BitVec 32 := 31#32
  let v31 : BitVec 32 := Scalar.select v20 v30 c31_i32_12
  let c0_i32_13 : BitVec 32 := 0#32
  ![v19.toNat, v31.toNat]

def cc0_transform_4 (i : grid0.Coords) : Fin 3 → Nat :=
  let arg0 : BitVec 32 := BitVec.ofNat 32 (i 0).val
  let c1023_i32 : BitVec 32 := 1023#32
  let v0 : BitVec 32 := Scalar.minsi arg0 c1023_i32
  let c1023_i32_0 : BitVec 32 := 1023#32
  let v1 : BitVec 1 := Scalar.cmpi .sle arg0 c1023_i32_0
  let c32_i32 : BitVec 32 := 32#32
  let v2 : BitVec 32 := Scalar.divsi v0 c32_i32
  let c0_i32 : BitVec 32 := 0#32
  let v3 : BitVec 1 := Scalar.cmpi .sgt v0 c0_i32
  let v4 : BitVec 32 := Scalar.extui v3
  let c0_i32_1 : BitVec 32 := 0#32
  let v5 : BitVec 1 := Scalar.cmpi .slt v0 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v0 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c31_i32 : BitVec 32 := 31#32
  let v19 : BitVec 32 := Scalar.select v1 v18 c31_i32
  let c1023_i32_5 : BitVec 32 := 1023#32
  let v20 : BitVec 1 := Scalar.cmpi .sle arg0 c1023_i32_5
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi v0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c31_i32_12 : BitVec 32 := 31#32
  let v31 : BitVec 32 := Scalar.select v20 v30 c31_i32_12
  let c0_i32_13 : BitVec 32 := 0#32
  let c0_i32_14 : BitVec 32 := 0#32
  let c0_i32_15 : BitVec 32 := 0#32
  ![v31.toNat, c0_i32_13.toNat, c0_i32_14.toNat]

def cc0_transform_5 (i : grid0.Coords) : Fin 2 → Nat :=
  let arg0 : BitVec 32 := BitVec.ofNat 32 (i 0).val
  let c65_i32 : BitVec 32 := 65#32
  let v0 : BitVec 32 := Scalar.subi arg0 c65_i32
  let c0_i32 : BitVec 32 := 0#32
  let c1023_i32 : BitVec 32 := 1023#32
  let v1 : BitVec 32 := Scalar.maxsi c0_i32 v0
  let v2 : BitVec 32 := Scalar.minsi c1023_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c32_i32_5 : BitVec 32 := 32#32
  let c0_i32_6 : BitVec 32 := 0#32
  let v20 : BitVec 1 := Scalar.cmpi .eq c32_i32_5 c0_i32_6
  let c1_i32_7 : BitVec 32 := 1#32
  let v21 : BitVec 32 := Scalar.select v20 c1_i32_7 c32_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, v29.toNat]

def cc0_transform_6 (i : grid0.Coords) : Fin 2 → Nat :=
  let arg0 : BitVec 32 := BitVec.ofNat 32 (i 0).val
  let c65_i32 : BitVec 32 := 65#32
  let v0 : BitVec 32 := Scalar.subi arg0 c65_i32
  let c0_i32 : BitVec 32 := 0#32
  let c1023_i32 : BitVec 32 := 1023#32
  let v1 : BitVec 32 := Scalar.maxsi c0_i32 v0
  let v2 : BitVec 32 := Scalar.minsi c1023_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c32_i32_5 : BitVec 32 := 32#32
  let c0_i32_6 : BitVec 32 := 0#32
  let v20 : BitVec 1 := Scalar.cmpi .eq c32_i32_5 c0_i32_6
  let c1_i32_7 : BitVec 32 := 1#32
  let v21 : BitVec 32 := Scalar.select v20 c1_i32_7 c32_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, v29.toNat]

def cc0_transform_7 (i : grid0.Coords) : Fin 3 → Nat :=
  let arg0 : BitVec 32 := BitVec.ofNat 32 (i 0).val
  let c65_i32 : BitVec 32 := 65#32
  let v0 : BitVec 32 := Scalar.subi arg0 c65_i32
  let c0_i32 : BitVec 32 := 0#32
  let c1023_i32 : BitVec 32 := 1023#32
  let v1 : BitVec 32 := Scalar.maxsi c0_i32 v0
  let v2 : BitVec 32 := Scalar.minsi c1023_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c32_i32_5 : BitVec 32 := 32#32
  let c0_i32_6 : BitVec 32 := 0#32
  let v20 : BitVec 1 := Scalar.cmpi .eq c32_i32_5 c0_i32_6
  let c1_i32_7 : BitVec 32 := 1#32
  let v21 : BitVec 32 := Scalar.select v20 c1_i32_7 c32_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  let c0_i32_13 : BitVec 32 := 0#32
  ![v29.toNat, c0_i32_11.toNat, c0_i32_12.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c1023_i32 : BitVec 32 := 1023#32
  let v1 : BitVec 32 := Scalar.maxsi c0_i32 v0
  let v2 : BitVec 32 := Scalar.minsi c1023_i32 v1
  let c32_i32_0 : BitVec 32 := 32#32
  let v3 : BitVec 32 := Scalar.divsi v2 c32_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c32_i32_0 c0_i32_3
  let v10 : BitVec 32 := Scalar.extui v9
  let c0_i32_4 : BitVec 32 := 0#32
  let v11 : BitVec 1 := Scalar.cmpi .slt c32_i32_0 c0_i32_4
  let v12 : BitVec 32 := Scalar.extui v11
  let v13 : BitVec 32 := Scalar.subi v10 v12
  let v14 : BitVec 1 := Scalar.cmpi .ne v8 v13
  let v15 : BitVec 32 := Scalar.remsi v2 c32_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c32_i32_6 : BitVec 32 := 32#32
  let c0_i32_7 : BitVec 32 := 0#32
  let v20 : BitVec 1 := Scalar.cmpi .eq c32_i32_6 c0_i32_7
  let c1_i32_8 : BitVec 32 := 1#32
  let v21 : BitVec 32 := Scalar.select v20 c1_i32_8 c32_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c32_i32_12 : BitVec 32 := 32#32
  let v30 : BitVec 32 := Scalar.subi arg0 c32_i32_12
  let c0_i32_13 : BitVec 32 := 0#32
  let c1023_i32_14 : BitVec 32 := 1023#32
  let v31 : BitVec 32 := Scalar.maxsi c0_i32_13 v30
  let v32 : BitVec 32 := Scalar.minsi c1023_i32_14 v31
  let c32_i32_15 : BitVec 32 := 32#32
  let v33 : BitVec 32 := Scalar.divsi v32 c32_i32_15
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c0_i32_18 : BitVec 32 := 0#32
  let v39 : BitVec 1 := Scalar.cmpi .sgt c32_i32_15 c0_i32_18
  let v40 : BitVec 32 := Scalar.extui v39
  let c0_i32_19 : BitVec 32 := 0#32
  let v41 : BitVec 1 := Scalar.cmpi .slt c32_i32_15 c0_i32_19
  let v42 : BitVec 32 := Scalar.extui v41
  let v43 : BitVec 32 := Scalar.subi v40 v42
  let v44 : BitVec 1 := Scalar.cmpi .ne v38 v43
  let v45 : BitVec 32 := Scalar.remsi v32 c32_i32_15
  let c0_i32_20 : BitVec 32 := 0#32
  let v46 : BitVec 1 := Scalar.cmpi .ne v45 c0_i32_20
  let v47 : BitVec 1 := Scalar.andi v44 v46
  let c1_i32_21 : BitVec 32 := 1#32
  let v48 : BitVec 32 := Scalar.subi v33 c1_i32_21
  let v49 : BitVec 32 := Scalar.select v47 v48 v33
  let c32_i32_22 : BitVec 32 := 32#32
  let c0_i32_23 : BitVec 32 := 0#32
  let v50 : BitVec 1 := Scalar.cmpi .eq c32_i32_22 c0_i32_23
  let c1_i32_24 : BitVec 32 := 1#32
  let v51 : BitVec 32 := Scalar.select v50 c1_i32_24 c32_i32_22
  let v52 : BitVec 32 := Scalar.remsi v32 v51
  let c0_i32_25 : BitVec 32 := 0#32
  let v53 : BitVec 1 := Scalar.cmpi .ne v52 c0_i32_25
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let v57 : BitVec 1 := Scalar.andi v56 v53
  let v58 : BitVec 32 := Scalar.addi v52 v51
  let v59 : BitVec 32 := Scalar.select v57 v58 v52
  let c0_i32_28 : BitVec 32 := 0#32
  ![v29.toNat, v49.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c65_i32 : BitVec 32 := 65#32
  let v0 : BitVec 32 := Scalar.subi arg0 c65_i32
  let c0_i32 : BitVec 32 := 0#32
  let c1023_i32 : BitVec 32 := 1023#32
  let v1 : BitVec 32 := Scalar.maxsi c0_i32 v0
  let v2 : BitVec 32 := Scalar.minsi c1023_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c32_i32_5 : BitVec 32 := 32#32
  let c0_i32_6 : BitVec 32 := 0#32
  let v20 : BitVec 1 := Scalar.cmpi .eq c32_i32_5 c0_i32_6
  let c1_i32_7 : BitVec 32 := 1#32
  let v21 : BitVec 32 := Scalar.select v20 c1_i32_7 c32_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, v29.toNat]

def cc0_transform_14 (i : grid0.Coords) : Fin 3 → Nat :=
  let arg0 : BitVec 32 := BitVec.ofNat 32 (i 0).val
  let c65_i32 : BitVec 32 := 65#32
  let v0 : BitVec 32 := Scalar.subi arg0 c65_i32
  let c0_i32 : BitVec 32 := 0#32
  let c1023_i32 : BitVec 32 := 1023#32
  let v1 : BitVec 32 := Scalar.maxsi c0_i32 v0
  let v2 : BitVec 32 := Scalar.minsi c1023_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c32_i32_5 : BitVec 32 := 32#32
  let c0_i32_6 : BitVec 32 := 0#32
  let v20 : BitVec 1 := Scalar.cmpi .eq c32_i32_5 c0_i32_6
  let c1_i32_7 : BitVec 32 := 1#32
  let v21 : BitVec 32 := Scalar.select v20 c1_i32_7 c32_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  let c0_i32_13 : BitVec 32 := 0#32
  ![v19.toNat, c0_i32_11.toNat, c0_i32_12.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c65_i32 : BitVec 32 := 65#32
  let v0 : BitVec 32 := Scalar.subi arg0 c65_i32
  let c0_i32 : BitVec 32 := 0#32
  let c1023_i32 : BitVec 32 := 1023#32
  let v1 : BitVec 32 := Scalar.maxsi c0_i32 v0
  let v2 : BitVec 32 := Scalar.minsi c1023_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c32_i32_5 : BitVec 32 := 32#32
  let c0_i32_6 : BitVec 32 := 0#32
  let v20 : BitVec 1 := Scalar.cmpi .eq c32_i32_5 c0_i32_6
  let c1_i32_7 : BitVec 32 := 1#32
  let v21 : BitVec 32 := Scalar.select v20 c1_i32_7 c32_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  let c0_i32_13 : BitVec 32 := 0#32
  ![v19.toNat, c0_i32_11.toNat, c0_i32_12.toNat]

def cc0_transform_17 (i : grid0.Coords) : Fin 2 → Nat :=
  let arg0 : BitVec 32 := BitVec.ofNat 32 (i 0).val
  let c1023_i32 : BitVec 32 := 1023#32
  let v0 : BitVec 32 := Scalar.minsi arg0 c1023_i32
  let c1023_i32_0 : BitVec 32 := 1023#32
  let v1 : BitVec 1 := Scalar.cmpi .sle arg0 c1023_i32_0
  let c32_i32 : BitVec 32 := 32#32
  let v2 : BitVec 32 := Scalar.divsi v0 c32_i32
  let c0_i32 : BitVec 32 := 0#32
  let v3 : BitVec 1 := Scalar.cmpi .sgt v0 c0_i32
  let v4 : BitVec 32 := Scalar.extui v3
  let c0_i32_1 : BitVec 32 := 0#32
  let v5 : BitVec 1 := Scalar.cmpi .slt v0 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v0 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c31_i32 : BitVec 32 := 31#32
  let v19 : BitVec 32 := Scalar.select v1 v18 c31_i32
  let c1023_i32_5 : BitVec 32 := 1023#32
  let v20 : BitVec 1 := Scalar.cmpi .sle arg0 c1023_i32_5
  let c32_i32_6 : BitVec 32 := 32#32
  let c0_i32_7 : BitVec 32 := 0#32
  let v21 : BitVec 1 := Scalar.cmpi .eq c32_i32_6 c0_i32_7
  let c1_i32_8 : BitVec 32 := 1#32
  let v22 : BitVec 32 := Scalar.select v21 c1_i32_8 c32_i32_6
  let v23 : BitVec 32 := Scalar.remsi v0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c31_i32_12 : BitVec 32 := 31#32
  let v31 : BitVec 32 := Scalar.select v20 v30 c31_i32_12
  let c0_i32_13 : BitVec 32 := 0#32
  ![v19.toNat, v31.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S8x2048x8192 : Shape := ⟨3, ![8, 2048, 8192]⟩
abbrev S8x2048 : Shape := ⟨2, ![8, 2048]⟩
abbrev S16384x8192 : Shape := ⟨2, ![16384, 8192]⟩
abbrev S16384 : Shape := ⟨1, ![16384]⟩
abbrev S8192 : Shape := ⟨1, ![8192]⟩
abbrev S8x2048x16384 : Shape := ⟨3, ![8, 2048, 16384]⟩
abbrev S16384x1 : Shape := ⟨2, ![16384, 1]⟩
abbrev S1x8192 : Shape := ⟨2, ![1, 8192]⟩
abbrev S_ : Shape := ⟨0, ![]⟩
abbrev S16384x4096 : Shape := ⟨2, ![16384, 4096]⟩
abbrev S16384x4096x1 : Shape := ⟨3, ![16384, 4096, 1]⟩
abbrev S16384x4096x2 : Shape := ⟨3, ![16384, 4096, 2]⟩
abbrev S16384x16384 : Shape := ⟨2, ![16384, 16384]⟩
abbrev S1x16384 : Shape := ⟨2, ![1, 16384]⟩

abbrev nBuf : Space → Nat
  | .hbm => 109
  | .vmem => 2
  | .smem => 0
  | _ => 0

abbrev bufTy : (tb : Table) → Fin (tcTables nBuf tb) → BufTy
  | .hbm, ⟨0, _⟩ => ⟨S8x2048x8192, .fp8e4m3⟩
  | .hbm, ⟨1, _⟩ => ⟨S8x2048, .f32⟩
  | .hbm, ⟨2, _⟩ => ⟨S16384x8192, .f32⟩
  | .hbm, ⟨3, _⟩ => ⟨S16384, .f32⟩
  | .hbm, ⟨4, _⟩ => ⟨S16384x8192, .f32⟩
  | .hbm, ⟨5, _⟩ => ⟨S16384, .f32⟩
  | .hbm, ⟨6, _⟩ => ⟨S8192, .f32⟩
  | .hbm, ⟨7, _⟩ => ⟨S8x2048x16384, .bf16⟩
  | .hbm, ⟨8, _⟩ => ⟨S16384x8192, .fp8e4m3⟩
  | .hbm, ⟨9, _⟩ => ⟨S16384x8192, .bf16⟩
  | .hbm, ⟨10, _⟩ => ⟨S16384x1, .f32⟩
  | .hbm, ⟨11, _⟩ => ⟨S16384x8192, .f32⟩
  | .hbm, ⟨12, _⟩ => ⟨S16384x8192, .f32⟩
  | .hbm, ⟨13, _⟩ => ⟨S1x8192, .f32⟩
  | .hbm, ⟨14, _⟩ => ⟨S16384x8192, .f32⟩
  | .hbm, ⟨15, _⟩ => ⟨S16384x8192, .f32⟩
  | .hbm, ⟨16, _⟩ => ⟨S16384x1, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S16384x8192, .f32⟩
  | .hbm, ⟨22, _⟩ => ⟨S_, .i32⟩
  | .hbm, ⟨23, _⟩ => ⟨S_, .i32⟩
  | .hbm, ⟨24, _⟩ => ⟨S_, .f32⟩
  | .hbm, ⟨25, _⟩ => ⟨S16384x8192, .f32⟩
  | .hbm, ⟨26, _⟩ => ⟨S16384x8192, .f32⟩
  | .hbm, ⟨27, _⟩ => ⟨S_, .f32⟩
  | .hbm, ⟨28, _⟩ => ⟨S16384x8192, .f32⟩
  | .hbm, ⟨29, _⟩ => ⟨S16384x8192, .f32⟩
  | .hbm, ⟨30, _⟩ => ⟨S16384x8192, .i32⟩
  | .hbm, ⟨31, _⟩ => ⟨S16384x4096, .i32⟩
  | .hbm, ⟨32, _⟩ => ⟨S_, .i32⟩
  | .hbm, ⟨33, _⟩ => ⟨S16384x4096, .i32⟩
  | .hbm, ⟨34, _⟩ => ⟨S16384x4096, .i32⟩
  | .hbm, ⟨35, _⟩ => ⟨S16384x4096, .i32⟩
  | .hbm, ⟨36, _⟩ => ⟨S_, .i32⟩
  | .hbm, ⟨37, _⟩ => ⟨S16384x4096, .i32⟩
  | .hbm, ⟨38, _⟩ => ⟨S16384x4096, .i32⟩
  | .hbm, ⟨39, _⟩ => ⟨S_, .i32⟩
  | .hbm, ⟨40, _⟩ => ⟨S16384x4096, .i32⟩
  | .hbm, ⟨41, _⟩ => ⟨S16384x4096, .i32⟩
  | .hbm, ⟨42, _⟩ => ⟨S16384x4096, .i32⟩
  | .hbm, ⟨43, _⟩ => ⟨S16384x4096, .i8⟩
  | .hbm, ⟨44, _⟩ => ⟨S16384x4096, .i32⟩
  | .hbm, ⟨45, _⟩ => ⟨S_, .i32⟩
  | .hbm, ⟨46, _⟩ => ⟨S16384x4096, .i32⟩
  | .hbm, ⟨47, _⟩ => ⟨S16384x4096, .i32⟩
  | .hbm, ⟨48, _⟩ => ⟨S_, .i32⟩
  | .hbm, ⟨49, _⟩ => ⟨S16384x4096, .i32⟩
  | .hbm, ⟨50, _⟩ => ⟨S16384x4096, .i32⟩
  | .hbm, ⟨51, _⟩ => ⟨S_, .i32⟩
  | .hbm, ⟨52, _⟩ => ⟨S16384x4096, .i32⟩
  | .hbm, ⟨53, _⟩ => ⟨S16384x4096, .i32⟩
  | .hbm, ⟨54, _⟩ => ⟨S_, .i32⟩
  | .hbm, ⟨55, _⟩ => ⟨S16384x4096, .i32⟩
  | .hbm, ⟨56, _⟩ => ⟨S16384x4096, .i32⟩
  | .hbm, ⟨57, _⟩ => ⟨S_, .i32⟩
  | .hbm, ⟨58, _⟩ => ⟨S16384x4096, .i32⟩
  | .hbm, ⟨59, _⟩ => ⟨S16384x4096, .i32⟩
  | .hbm, ⟨60, _⟩ => ⟨S_, .i32⟩
  | .hbm, ⟨61, _⟩ => ⟨S16384x4096, .i32⟩
  | .hbm, ⟨62, _⟩ => ⟨S16384x4096, .i32⟩
  | .hbm, ⟨63, _⟩ => ⟨S_, .i32⟩
  | .hbm, ⟨64, _⟩ => ⟨S16384x4096, .i32⟩
  | .hbm, ⟨65, _⟩ => ⟨S16384x4096, .i32⟩
  | .hbm, ⟨66, _⟩ => ⟨S16384x4096x1, .i32⟩
  | .hbm, ⟨67, _⟩ => ⟨S16384x4096x1, .i32⟩
  | .hbm, ⟨68, _⟩ => ⟨S16384x4096x2, .i32⟩
  | .hbm, ⟨69, _⟩ => ⟨S16384x8192, .i32⟩
  | .hbm, ⟨70, _⟩ => ⟨S16384x8192, .f32⟩
  | .hbm, ⟨71, _⟩ => ⟨S16384x8192, .bf16⟩
  | .hbm, ⟨72, _⟩ => ⟨S_, .f32⟩
  | .hbm, ⟨73, _⟩ => ⟨S16384x8192, .f32⟩
  | .hbm, ⟨74, _⟩ => ⟨S16384x8192, .i1⟩
  | .hbm, ⟨75, _⟩ => ⟨S_, .f32⟩
  | .hbm, ⟨76, _⟩ => ⟨S16384x8192, .f32⟩
  | .hbm, ⟨77, _⟩ => ⟨S16384x8192, .i1⟩
  | .hbm, ⟨78, _⟩ => ⟨S16384x8192, .i1⟩
  | .hbm, ⟨79, _⟩ => ⟨S_, .f32⟩
  | .hbm, ⟨80, _⟩ => ⟨S_, .f32⟩
  | .hbm, ⟨81, _⟩ => ⟨S16384x8192, .f32⟩
  | .hbm, ⟨82, _⟩ => ⟨S16384x8192, .f32⟩
  | .hbm, ⟨83, _⟩ => ⟨S16384x8192, .f32⟩
  | .hbm, ⟨84, _⟩ => ⟨S16384x16384, .f32⟩
  | .hbm, ⟨85, _⟩ => ⟨S16384, .f32⟩
  | .hbm, ⟨86, _⟩ => ⟨S16384x1, .f32⟩
  | .hbm, ⟨87, _⟩ => ⟨S16384x16384, .f32⟩
  | .hbm, ⟨88, _⟩ => ⟨S16384x16384, .f32⟩
  | .hbm, ⟨89, _⟩ => ⟨S1x16384, .f32⟩
  | .hbm, ⟨90, _⟩ => ⟨S16384x16384, .f32⟩
  | .hbm, ⟨91, _⟩ => ⟨S16384x16384, .f32⟩
  | .hbm, ⟨92, _⟩ => ⟨S16384x16384, .bf16⟩
  | .hbm, ⟨93, _⟩ => ⟨S16384x16384, .f32⟩
  | .hbm, ⟨94, _⟩ => ⟨S16384x16384, .f32⟩
  | .hbm, ⟨95, _⟩ => ⟨S16384x1, .f32⟩
  | .hbm, ⟨96, _⟩ => ⟨S16384x16384, .f32⟩
  | .hbm, ⟨97, _⟩ => ⟨S16384x16384, .f32⟩
  | .hbm, ⟨98, _⟩ => ⟨S_, .f32⟩
  | .hbm, ⟨99, _⟩ => ⟨S16384x16384, .f32⟩
  | .hbm, ⟨100, _⟩ => ⟨S16384x16384, .f32⟩
  | .hbm, ⟨101, _⟩ => ⟨S16384x16384, .bf16⟩
  | .hbm, ⟨102, _⟩ => ⟨S16384x8192, .f32⟩
  | .hbm, ⟨103, _⟩ => ⟨S16384x1, .f32⟩
  | .hbm, ⟨104, _⟩ => ⟨S16384x1, .f32⟩
  | .hbm, ⟨105, _⟩ => ⟨S16384x8192, .f32⟩
  | .hbm, ⟨106, _⟩ => ⟨S16384x8192, .f32⟩
  | .hbm, ⟨107, _⟩ => ⟨S16384x8192, .f32⟩
  | .hbm, ⟨108, _⟩ => ⟨S16384x8192, .f32⟩
  | .local _ .vmem, ⟨0, _⟩ => ⟨S16384x8192, .fp8e4m3⟩
  | .local _ .vmem, ⟨1, _⟩ => ⟨S16384x8192, .bf16⟩
  | _, _ => ⟨S8x2048x8192, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_cst_13 : Ref sig .tc := ⟨.hbm, 80, rfl⟩
abbrev main_call2_v0 : Ref sig .tc := ⟨.hbm, 81, rfl⟩
abbrev main_call2_v1 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16384x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Secs.lean ====
/-
  The kernel body of one grid point, cut at its top-level conditionals into seven sections, each before a
  continuation `k`, over the staging memrefs `S` (the scratch buffers and the semaphores are the call's own), and the equation
  `body_secs`: the printed body is the sections in order.
-/
module

public import proofs.«01_k».proof.Proof.Gen.Kernel.Skeleton

@[expose] public section

set_option synthInstance.maxSize 4096
set_option maxRecDepth 16384

noncomputable section

namespace Cert.Kernel.Gen

open Idealize.ShloMosaic Idealize.ShloMosaic.TcCoe Idealize.SL Idealize.SL.Sem

variable {F : FTy → Type} [FloatOps F]

/-- The staging memrefs the pipeline hands the body, each a whole buffer. -/
structure Stg where
  a2 : Memref sig .tc .vmem S1x1x512 .f32
  h2 : a2.IsWhole
  a3 : Memref sig .tc .vmem S512x256 .f32
  h3 : a3.IsWhole
  a4 : Memref sig .tc .vmem S512x256 .f32
  h4 : a4.IsWhole
  a5 : Memref sig .tc .vmem S1x1x256 .f32
  h5 : a5.IsWhole
  a6 : Memref sig .tc .vmem S512x256 .f32
  h6 : a6.IsWhole
  a7 : Memref sig .tc .vmem S512x256 .f32
  h7 : a7.IsWhole
  a8 : Memref sig .tc .vmem S1x1x256 .f32
  h8 : a8.IsWhole
  a9 : Memref sig .tc .vmem S512x128 .f32
  h9 : a9.IsWhole
  a10 : Memref sig .tc .vmem S512x128 .f32
  h10 : a10.IsWhole
  a11 : Memref sig .tc .vmem S512x512 .bf16
  h11 : a11.IsWhole
  a12 : Memref sig .tc .vmem S256x128 .bf16
  h12 : a12.IsWhole
  a13 : Memref sig .tc .vmem S32x512 .f32
  h13 : a13.IsWhole
  a14 : Memref sig .tc .vmem S512x256 .f32
  h14 : a14.IsWhole
  a15 : Memref sig .tc .vmem S1x1x512 .f32
  h15 : a15.IsWhole
  a16 : Memref sig .tc .vmem S32x256 .f32
  h16 : a16.IsWhole
  a17 : Memref sig .tc .vmem S1x1x512 .f32
  h17 : a17.IsWhole
  a18 : Memref sig .tc .vmem S512x128 .i8
  h18 : a18.IsWhole

/-- The point number as the body reads it. -/
abbrev tW (i : grid0.Coords) : BitVec 32 := BitVec.ofNat 32 (i 0).val
/-- The chunk number `t % 32` as the body computes it. -/
abbrev chW (i : grid0.Coords) : BitVec 32 := Scalar.remsi (tW i) 32#32

/-- Section 1 (`t = 0`): start the transfer of the first token block, zero the error tile, the loss and the column accumulators. -/
def sec1 (i : grid0.Coords) (S : Stg) (k : Prog (TpuEff nD τ sig (Elt F) Λ₀ .tc) PUnit) : Prog (TpuEff nD τ sig (Elt F) Λ₀ .tc) PUnit := do
  if k0_h1 : k0_cond1 i = 1#1 then do
    let v34 : DmaSems sig S1 := cc0_scratch9.slice (Rect.unit (s := S3) k0_off1 S1.size (k0_off1_inb i k0_h1))
    let v35 : DmaSems sig S_ := v34.squeeze S_ squeezes_S1_S_
    let v36 : Memref sig .tc .vmem S1x512x8192 .fp8e4m3 := (Memref.whole cc0_scratch0).slice (Rect.unit (s := S3x512x8192) k0_off2 S1x512x8192.size (k0_off2_inb i k0_h1)) (fun _ => rfl)
    let v37 : Memref sig .tc .vmem S512x8192 .fp8e4m3 := v36.squeeze S512x8192 squeezes_S1x512x8192_S512x8192
    let v38 : Memref sig .tc .hbm S512x8192 .fp8e4m3 := (Memref.whole main_v16).slice (Rect.unit (s := S16384x8192) k0_off3 S512x8192.size (k0_off3_inb i k0_h1)) (fun _ => rfl)
    Prog.lift (.enqueueDma v38 (.here v37) (.dma v35.sem) ((Memref.isWhole_whole _).wordExact_slice rfl _ (k0_off3_wordsfp8e4m3 i k0_h1)) (((Memref.isWhole_whole _).wordExact_slice rfl _ (k0_off2_wordsfp8e4m3 i k0_h1)).reshape _ _) ⟨Or.inl rfl, trivial⟩)
    let v40 : Vec F S512x512 .bf16 ← Prog.lift (.load (Memref.whole cc0_scratch3) (Rect.unit (s := S512x512) ![0, 0] S512x512.size inb_S512x512_S512x512_0_0).toLoadRect (View.loadsAt_vmem h_S512x512))
    Prog.lift (.store (Memref.whole cc0_scratch3) (Rect.unit (s := S512x512) ![0, 0] S512x512.size inb_S512x512_S512x512_0_0) (k0_pay1 (F := F)) Finset.univ (View.stores_vmem h_S512x512 ((Memref.isWhole_whole _).storeExact_slice rfl _ packedbf16_S512x512_S512x512_0_0) (fun _ => rfl)) (.inl rfl))
    let v44 : Vec F S32x8x512 .f32 ← Prog.lift (.load (Memref.whole cc0_scratch5) (Rect.unit (s := S32x8x512) ![0, 0, 0] S32x8x512.size inb_S32x8x512_S32x8x512_0_0_0).toLoadRect (View.loadsAt_vmem h_S32x8x512))
    Prog.lift (.store (Memref.whole cc0_scratch5) (Rect.unit (s := S32x8x512) ![0, 0, 0] S32x8x512.size inb_S32x8x512_S32x8x512_0_0_0) (k0_pay2 (F := F)) Finset.univ (View.stores_vmem_bits_univ h_S32x8x512 rfl) (.inl rfl))
    let v48 : Vec F S32x8x256 .f32 ← Prog.lift (.load (Memref.whole cc0_scratch6) (Rect.unit (s := S32x8x256) ![0, 0, 0] S32x8x256.size inb_S32x8x256_S32x8x256_0_0_0).toLoadRect (View.loadsAt_vmem h_S32x8x256))
    Prog.lift (.store (Memref.whole cc0_scratch6) (Rect.unit (s := S32x8x256) ![0, 0, 0] S32x8x256.size inb_S32x8x256_S32x8x256_0_0_0) (k0_pay3 (F := F)) Finset.univ (View.stores_vmem_bits_univ h_S32x8x256 rfl) (.inl rfl))
    k
  else do
    k

/-- Section 2 (`t < 32`): quantise one column chunk of the first weight tile and zero the two gradient buffers there. -/
def sec2 (i : grid0.Coords) (S : Stg) (k : Prog (TpuEff nD τ sig (Elt F) Λ₀ .tc) PUnit) : Prog (TpuEff nD τ sig (Elt F) Λ₀ .tc) PUnit := do
  if k0_h2 : k0_cond2 i = 1#1 then do
    let ⟨v47, v65, v66, v68, v70⟩ : Σ' (v47 : BitVec 32) (v65 : BitVec 32) (v66 : IVec S512x128 32) (v68 : FVec F S512x128 .f32), IVec S512x128 1 ← k0_part1 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i)
    let ⟨v87, v104, v105, v108, v109⟩ : Σ' (v87 : FVec F S512x128 .f32) (v104 : FVec F S512x128 .f32) (v105 : Vec F S512x128 .f32) (v108 : FVec F S1x128 .f32), FVec F S512x128 .f32 ← k0_part2 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 v47 v66 v68 v70
    let v150 : FVec F S512x256 .f32 ← k0_part3 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (chW i) k0_h2 v65 v87 v104 v105 v108 v109
    let v154 : Vec F S1x512x256 .f32 ← Prog.lift (.load (Memref.whole cc0_scratch2) (Rect.unit (s := S2x512x8192) (k0_off6 i) S1x512x256.size (k0_off6_inb i k0_h2)).toLoadRect (View.loadsAt_vmem h_S1x512x256))
    Prog.lift (.store (Memref.whole cc0_scratch2) (Rect.unit (s := S2x512x8192) (k0_off6 i) S1x512x256.size (k0_off6_inb i k0_h2)) (k0_pay4 v150) Finset.univ (View.stores_vmem_bits_univ h_S1x512x256 rfl) (.inl rfl))
    k
  else do
    k

/-- Section 3: start the transfer of the next token block. -/
def sec3 (i : grid0.Coords) (S : Stg) (k : Prog (TpuEff nD τ sig (Elt F) Λ₀ .tc) PUnit) : Prog (TpuEff nD τ sig (Elt F) Λ₀ .tc) PUnit := do
  if k0_h3 : k0_cond3 i = 1#1 then do
    let v35 : DmaSems sig S1 := cc0_scratch9.slice (Rect.unit (s := S3) (k0_off7 i) S1.size (k0_off7_inb i k0_h3))
    let v36 : DmaSems sig S_ := v35.squeeze S_ squeezes_S1_S_
    let v37 : Memref sig .tc .vmem S1x512x8192 .fp8e4m3 := (Memref.whole cc0_scratch0).slice (Rect.unit (s := S3x512x8192) (k0_off8 i) S1x512x8192.size (k0_off8_inb i k0_h3)) (fun _ => rfl)
    let v38 : Memref sig .tc .vmem S512x8192 .fp8e4m3 := v37.squeeze S512x8192 squeezes_S1x512x8192_S512x8192
    let v39 : Memref sig .tc .hbm S512x8192 .fp8e4m3 := (Memref.whole main_v16).slice (Rect.unit (s := S16384x8192) (k0_off9 i) S512x8192.size (k0_off9_inb i k0_h3)) (fun _ => rfl)
    Prog.lift (.enqueueDma v39 (.here v38) (.dma v36.sem) ((Memref.isWhole_whole _).wordExact_slice rfl _ (k0_off9_wordsfp8e4m3 i k0_h3)) (((Memref.isWhole_whole _).wordExact_slice rfl _ (k0_off8_wordsfp8e4m3 i k0_h3)).reshape _ _) ⟨Or.inl rfl, trivial⟩)
    k
  else do
    k

/-- Section 4: wait for this point's token block. -/
def sec4 (i : grid0.Coords) (S : Stg) (k : Prog (TpuEff nD τ sig (Elt F) Λ₀ .tc) PUnit) : Prog (TpuEff nD τ sig (Elt F) Λ₀ .tc) PUnit := do
  if k0_h4 : k0_cond4 i = 1#1 then do
    let v34 : DmaSems sig S1 := cc0_scratch9.slice (Rect.unit (s := S3) (k0_off10 i) S1.size (k0_off10_inb i k0_h4))
    let v35 : DmaSems sig S_ := v34.squeeze S_ squeezes_S1_S_
    let v36 : Memref sig .tc .vmem S1x512x8192 .fp8e4m3 := (Memref.whole cc0_scratch0).slice (Rect.unit (s := S3x512x8192) (k0_off11 i) S1x512x8192.size (k0_off11_inb i k0_h4)) (fun _ => rfl)
    let v37 : Memref sig .tc .vmem S512x8192 .fp8e4m3 := v36.squeeze S512x8192 squeezes_S1x512x8192_S512x8192
    let v38 : Memref sig .tc .hbm S512x8192 .fp8e4m3 := (Memref.whole main_v16).slice (Rect.unit (s := S16384x8192) (k0_off12 i) S512x8192.size (k0_off12_inb i k0_h4)) (fun _ => rfl)
    Prog.lift (.waitDma2 v35.sem v38 v37 ((Memref.isWhole_whole _).wordExact_slice rfl _ (k0_off12_wordsfp8e4m3 i k0_h4)) (((Memref.isWhole_whole _).wordExact_slice rfl _ (k0_off11_wordsfp8e4m3 i k0_h4)).reshape _ _))
    k
  else do
    k

/-- Section 5 (`32 ≤ t ≤ 1056`): the forward product and error of this token block, the weight-gradient product of the block before it, one quantised chunk of the next tile, and the epilogue of one chunk. -/
def sec5 (i : grid0.Coords) (S : Stg) (k : Prog (TpuEff nD τ sig (Elt F) Λ₀ .tc) PUnit) : Prog (TpuEff nD τ sig (Elt F) Λ₀ .tc) PUnit := do
  if k0_h5 : k0_cond5 i = 1#1 then do
    let ⟨v48, v67, v68, c32_i32_33, v69⟩ : Σ' (v48 : BitVec 32) (v67 : BitVec 32) (v68 : BitVec 32) (c32_i32_33 : BitVec 32), BitVec 32 ← k0_part4 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i)
    let ⟨v87, v93, v104, v105⟩ : Σ' (v87 : BitVec 32) (v93 : BitVec 32) (v104 : FVec F S512x512 .f32), IVec S512x128 32 ← k0_part5 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (Scalar.subi (tW i) 32#32) k0_h5 v48 v67 v68 c32_i32_33 v69
    let v145 : FVec F S512x512 .bf16 ← k0_part6 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i) (chW i) k0_h5 v104 v105
    let ⟨v179, c32_i32_88, v180, v182, v183⟩ : Σ' (v179 : BitVec 32) (c32_i32_88 : BitVec 32) (v180 : BitVec 32) (v182 : BitVec 32), BitVec 1 ← k0_part7 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i) k0_h5 v87 v93 v145
    let ⟨v197, v208, v219, v220, v221, v223⟩ : Σ' (v197 : BitVec 32) (v208 : FVec F S512x128 .f32) (v219 : FVec F S512x128 .f32) (v220 : Vec F S512x128 .f32) (v221 : Vec F S512x128 .f32), FVec F S1x128 .f32 ← k0_part8 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i) v179 c32_i32_88 v180 v182 v183
    let v267 : FVec F S512x256 .f32 ← k0_part9 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (chW i) k0_h5 v197 v208 v219 v220 v221 v223
    let ⟨v278, v295, v296, v297, c32_i32_138, v298, v303, v304⟩ : Σ' (v278 : BitVec 1) (v295 : BitVec 32) (v296 : BitVec 32) (v297 : BitVec 32) (c32_i32_138 : BitVec 32) (v298 : BitVec 32) (v303 : BitVec 32), BitVec 1 ← k0_part10 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i) v267
    let ⟨v326, v337, v343, v344⟩ : Σ' (v326 : FVec F S512x128 .f32) (v337 : FVec F S512x128 .f32) (v343 : FVec F S512x256 .f32), FVec F S512x256 .f32 ← k0_part11 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h5 v295 v296 v297 c32_i32_138 v298 v303 v304
    let ⟨v357, v358, v377, v381, v383, v384⟩ : Σ' (v357 : FVec F S512x128 .f32) (v358 : FVec F S512x128 .f32) (v377 : FVec F S512x128 .f32) (v381 : FVec F S512x128 .f32) (v383 : FVec F S512x128 .f32), FVec F S512x128 .f32 ← k0_part12 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h5 v296 v326 v337 v343 v344
    let ⟨v393, v406, v416, v424⟩ : Σ' (v393 : FVec F S512x128 .f32) (v406 : FVec F S512x128 .f32) (v416 : FVec F S512x128 .f32), FVec F S512x128 .f32 ← k0_part13 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h5 v278 v296 v326 v337 v343 v357 v358 v377 v381 v384
    k0_part14 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h5 v278 v296 v337 v383 v393 v406 v416 v424
    k
  else do
    k

/-- Section 6 (`t > 1056`): the epilogue of one chunk of the last tile. -/
def sec7 (i : grid0.Coords) (S : Stg) (k : Prog (TpuEff nD τ sig (Elt F) Λ₀ .tc) PUnit) : Prog (TpuEff nD τ sig (Elt F) Λ₀ .tc) PUnit := do
  if k0_h7 : k0_cond7 i = 1#1 then do
    let ⟨v33, v50, v51, v69⟩ : Σ' (v33 : BitVec 1) (v50 : BitVec 32) (v51 : BitVec 32), BitVec 32 ← k0_part15 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i)
    let ⟨v81, v92, v98, v108, v109⟩ : Σ' (v81 : FVec F S512x128 .f32) (v92 : FVec F S512x128 .f32) (v98 : FVec F S512x256 .f32) (v108 : FVec F S512x128 .f32), BitVec 1 ← k0_part16 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h7 v50 v51 v69
    let ⟨v136, v138, v148⟩ : Σ' (v136 : FVec F S512x128 .f32) (v138 : FVec F S512x128 .f32), FVec F S512x128 .f32 ← k0_part17 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 v51 v81 v92 v98 v108 v109
    let ⟨v161, v180, v184, v186, v187, c_m8_i32_82⟩ : Σ' (v161 : FVec F S512x128 .f32) (v180 : FVec F S512x128 .f32) (v184 : FVec F S512x128 .f32) (v186 : FVec F S512x128 .f32) (v187 : FVec F S512x128 .f32), BitVec 32 ← k0_part18 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h7 v33 v51 v81 v92 v98 v136 v138
    let v198 : Vec F S1x8x128 .f32 ← Prog.lift (.load (Memref.whole cc0_scratch6) (Rect.unit (s := S32x8x256) (k0_off24 i) S1x8x128.size (k0_off24_inb i k0_h7)).toLoadRect (View.loadsAt_vmem h_S1x8x128))
    let v206 : Vec F S1x8x128 .f32 ← Prog.lift (.load (Memref.whole cc0_scratch6) (Rect.unit (s := S32x8x256) (k0_off24 i) S1x8x128.size (k0_off24_inb i k0_h7)).toLoadRect (View.loadsAt_vmem h_S1x8x128))
    Prog.lift (.store (Memref.whole cc0_scratch6) (Rect.unit (s := S32x8x256) (k0_off24 i) S1x8x128.size (k0_off24_inb i k0_h7)) (k0_pay5 v33 v184 v198) Finset.univ (View.stores_vmem_bits_univ h_S1x8x128 rfl) (.inl rfl))
    let v209 : Vec F S512x128 .f32 ← Prog.lift (.load (Memref.whole cc0_scratch7) (Rect.unit (s := S512x128) ![0, 0] S512x128.size inb_S512x128_S512x128_0_0).toLoadRect (View.loadsAt_vmem h_S512x128))
    Prog.lift (.store (Memref.whole cc0_scratch7) (Rect.unit (s := S512x128) ![0, 0] S512x128.size inb_S512x128_S512x128_0_0) (k0_pay6 v186) Finset.univ (View.stores_vmem_bits_univ h_S512x128 rfl) (.inl rfl))
    let v212 : Vec F S512x128 .f32 ← Prog.lift (.load (Memref.whole cc0_scratch8) (Rect.unit (s := S512x128) ![0, 0] S512x128.size inb_S512x128_S512x128_0_0).toLoadRect (View.loadsAt_vmem h_S512x128))
    Prog.lift (.store (Memref.whole cc0_scratch8) (Rect.unit (s := S512x128) ![0, 0] S512x128.size inb_S512x128_S512x128_0_0) (k0_pay7 v148 v161 v180 v187 c_m8_i32_82) Finset.univ (View.stores_vmem_bits_univ h_S512x128 rfl) (.inl rfl))
    if k0_h8 : k0_cond8 i = 1#1 then do
      let v218 : Vec F S512x128 .f32 ← Prog.lift (.load (Memref.whole cc0_scratch7) (Rect.unit (s := S512x128) ![0, 0] S512x128.size inb_S512x128_S512x128_0_0).toLoadRect (View.loadsAt_vmem h_S512x128))
      let v222 : Vec F S1x1x512 .f32 ← Prog.lift (.load S.a15 (Rect.unit (s := S1x1x512) ![0, 0, 0] S1x1x512.size inb_S1x1x512_S1x1x512_0_0_0).toLoadRect (View.loadsAt_vmem h_S1x1x512))
      Prog.lift (.store S.a15 (Rect.unit (s := S1x1x512) ![0, 0, 0] S1x1x512.size inb_S1x1x512_S1x1x512_0_0_0) (k0_pay8 v218) Finset.univ (View.stores_vmem_bits_univ h_S1x1x512 rfl) (.inl rfl))
      let v225 : Vec F S512x128 .f32 ← Prog.lift (.load (Memref.whole cc0_scratch8) (Rect.unit (s := S512x128) ![0, 0] S512x128.size inb_S512x128_S512x128_0_0).toLoadRect (View.loadsAt_vmem h_S512x128))
      let v229 : Vec F S1x1x512 .f32 ← Prog.lift (.load S.a17 (Rect.unit (s := S1x1x512) ![0, 0, 0] S1x1x512.size inb_S1x1x512_S1x1x512_0_0_0).toLoadRect (View.loadsAt_vmem h_S1x1x512))
      Prog.lift (.store S.a17 (Rect.unit (s := S1x1x512) ![0, 0, 0] S1x1x512.size inb_S1x1x512_S1x1x512_0_0_0) (k0_pay9 v225) Finset.univ (View.stores_vmem_bits_univ h_S1x1x512 rfl) (.inl rfl))
      pure ⟨⟩
    else do
      pure ⟨⟩
    k
  else do
    k

/-- Section 7 (the last point): write the loss and the column gradients. -/
def sec9 (i : grid0.Coords) (S : Stg) (k : Prog (TpuEff nD τ sig (Elt F) Λ₀ .tc) PUnit) : Prog (TpuEff nD τ sig (Elt F) Λ₀ .tc) PUnit := do
  if k0_h9 : k0_cond9 i = 1#1 then do
    let v30 : Vec F S32x8x512 .f32 ← Prog.lift (.load (Memref.whole cc0_scratch5) (Rect.unit (s := S32x8x512) ![0, 0, 0] S32x8x512.size inb_S32x8x512_S32x8x512_0_0_0).toLoadRect (View.loadsAt_vmem h_S32x8x512))
    let v34 : Vec F S32x512 .f32 ← Prog.lift (.load S.a13 (Rect.unit (s := S32x512) ![0, 0] S32x512.size inb_S32x512_S32x512_0_0).toLoadRect (View.loadsAt_vmem h_S32x512))
    Prog.lift (.store S.a13 (Rect.unit (s := S32x512) ![0, 0] S32x512.size inb_S32x512_S32x512_0_0) (k0_pay10 v30) Finset.univ (View.stores_vmem_bits_univ h_S32x512 rfl) (.inl rfl))
    let v35 : Vec F S32x8x256 .f32 ← Prog.lift (.load (Memref.whole cc0_scratch6) (Rect.unit (s := S32x8x256) ![0, 0, 0] S32x8x256.size inb_S32x8x256_S32x8x256_0_0_0).toLoadRect (View.loadsAt_vmem h_S32x8x256))
    let v37 : Vec F S32x256 .f32 ← Prog.lift (.load S.a16 (Rect.unit (s := S32x256) ![0, 0] S32x256.size inb_S32x256_S32x256_0_0).toLoadRect (View.loadsAt_vmem h_S32x256))
    Prog.lift (.store S.a16 (Rect.unit (s := S32x256) ![0, 0] S32x256.size inb_S32x256_S32x256_0_0) (k0_pay11 v35) Finset.univ (View.stores_vmem_bits_univ h_S32x256 rfl) (.inl rfl))
    k
  else do
    k

/-- The printed body at a point is its seven sections in order. -/
theorem body_secs (i : grid0.Coords) (S : Stg) :
    cc0_flexround_step (F := F) i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9
      = sec1 i S (sec2 i S (sec3 i S (sec4 i S (sec5 i S (sec7 i S (sec9 i S (pure ⟨⟩))))))) := by
  rw [cc0_flexround_step_eq_skeleton]; rfl

end Cert.Kernel.Gen

end
-- ==== Proof.Grid.lean ====
/-
  The schedule over the grid: at which points each section of the body runs, and which slot of the ring and which token
  block its transfers and loads name.
-/
module

public import proofs.«01_k».proof.Proof.Secs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
/-- The slot of the ring the token block `n` goes to. -/
abbrev sl3 (n : ℕ) : Fin 3 := ⟨n % 3, Nat.mod_lt _ (by decide)⟩
/-- The token block the `n`-th transfer moves. -/
abbrev bl32 (n : ℕ) : Fin 32 := ⟨n % 32, Nat.mod_lt _ (by decide)⟩

theorem cond1_iff : ∀ t : Fin grid0.N, k0_cond1 (grid0.coords t) = 1#1 ↔ t.val = 0 := by decide +kernel
theorem cond2_iff : ∀ t : Fin grid0.N, k0_cond2 (grid0.coords t) = 1#1 ↔ t.val < 32 := by decide +kernel
theorem cond3_iff : ∀ t : Fin grid0.N, k0_cond3 (grid0.coords t) = 1#1 ↔ 32 ≤ t.val ∧ t.val ≤ 1054 := by decide +kernel
theorem cond4_iff : ∀ t : Fin grid0.N, k0_cond4 (grid0.coords t) = 1#1 ↔ 32 ≤ t.val ∧ t.val ≤ 1055 := by decide +kernel
theorem cond5_iff : ∀ t : Fin grid0.N, k0_cond5 (grid0.coords t) = 1#1 ↔ 32 ≤ t.val ∧ t.val ≤ 1056 := by decide +kernel
theorem cond7_iff : ∀ t : Fin grid0.N, k0_cond7 (grid0.coords t) = 1#1 ↔ 1056 < t.val := by decide +kernel
theorem cond9_iff : ∀ t : Fin grid0.N, k0_cond9 (grid0.coords t) = 1#1 ↔ t.val = 1088 := by decide +kernel

theorem off1_eq : k0_off1 = ![(sl3 0).val] := by decide +kernel
theorem off2_eq : k0_off2 = ![(sl3 0).val, 0, 0] := by decide +kernel
theorem off3_eq : k0_off3 = ![(bl32 0).val * 512, 0] := by decide +kernel
theorem off7_eq : ∀ t : Fin grid0.N, 32 ≤ t.val ∧ t.val ≤ 1054 → k0_off7 (grid0.coords t) = ![(sl3 (t.val - 32 + 1)).val] := by decide +kernel
theorem off8_eq : ∀ t : Fin grid0.N, 32 ≤ t.val ∧ t.val ≤ 1054 → k0_off8 (grid0.coords t) = ![(sl3 (t.val - 32 + 1)).val, 0, 0] := by decide +kernel
theorem off9_eq : ∀ t : Fin grid0.N, 32 ≤ t.val ∧ t.val ≤ 1054 → k0_off9 (grid0.coords t) = ![(bl32 (t.val - 32 + 1)).val * 512, 0] := by decide +kernel
theorem off10_eq : ∀ t : Fin grid0.N, 32 ≤ t.val ∧ t.val ≤ 1055 → k0_off10 (grid0.coords t) = ![(sl3 (t.val - 32)).val] := by decide +kernel
theorem off11_eq : ∀ t : Fin grid0.N, 32 ≤ t.val ∧ t.val ≤ 1055 → k0_off11 (grid0.coords t) = ![(sl3 (t.val - 32)).val, 0, 0] := by decide +kernel
theorem off14_eq : ∀ t : Fin grid0.N, 32 ≤ t.val ∧ t.val ≤ 1056 → k0_off14 (grid0.coords t) = ![(sl3 (t.val - 32)).val, 0, 0] := by decide +kernel
theorem off17_eq : ∀ t : Fin grid0.N, 32 < t.val ∧ t.val ≤ 1056 → k0_off17 (grid0.coords t) = ![(sl3 (t.val - 32 + 2)).val, 0, 0] := by decide +kernel
theorem off17_eq0 : ∀ t : Fin grid0.N, t.val = 32 → k0_off17 (grid0.coords t) = ![(sl3 (t.val - 32)).val, 0, 0] := by decide +kernel

end Cert.Kernel.Gen

end
-- ==== Proof.Ops.lean ====
/-
  Loads and stores of a memref owned whole, over its contents as a function of the index: a load through a rectangle
  reads the contents there (`ld`), a store through one overlays them (`st`), and a load of part of a buffer held on
  exactly the rectangle loaded (`ldAt`).
-/
module

public import proofs.«01_k».proof.Proof.Secs
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

/-- Contents read through a rectangle. -/
abbrev rdR {s : Shape} {α : Type} (r : Rect s) (X : s.Idx → α) : r.shape.Idx → α := fun x => X (r.emb x)

variable (c : Dev nD)

/-- A load through a rectangle of a memref owned at `X` continues at `X` there. -/
theorem ld {s : Shape} {e : EltTy} {M : Memref sig .tc .vmem s e} {q : PosShare TreeShare} {X : s.Idx → Elt F e} {r : Rect s}
    {hl : M.view.LoadsAt r.toLoadRect} {α : Type} {k : (r.shape.Idx → Elt F e) → Prog (TpuEff nD τ sig (Elt F) Λ₀ .tc) α} {Q : α → sProp 𝕄} :
    owns (c : Thread nD τ) M q X
      ⊢ iprop((owns (c : Thread nD τ) M q X -∗ wp frame (wpE (defs₀ (F := F)) Variants.none c none) Set.univ (k (rdR r X)) Q)
        -∗ wp frame (wpE (defs₀ (F := F)) Variants.none c none) Set.univ (Prog.lift (.load M r.toLoadRect hl) >>= k) Q) := by
  unfold owns
  iintro ⟨%f, %hf, H⟩ Hk
  iapply (wp_load_rect Variants.none (c : Thread nD τ) none Set.univ (m := M) (r := r) (View.set_slice_subset _ _)) $$ H
  iintro H
  subst hf
  iapply Hk
  iexists f
  isplitr
  · ipureintro; rfl
  iexact H

/-- A store through a rectangle of a memref owned at `X` leaves `X` overlaid there by what was stored. -/
theorem st {s : Shape} {e : EltTy} {M : Memref sig .tc .vmem s e} {X : s.Idx → Elt F e} {r : Rect s} {w : r.shape.Idx → Elt F e}
    {hx : (M.access r).Stores Finset.univ} {hm : Finset.univ = Finset.univ ∨ ∀ a, r.stride a = 1}
    {α : Type} {k : PUnit → Prog (TpuEff nD τ sig (Elt F) Λ₀ .tc) α} {Q : α → sProp 𝕄} :
    owns (c : Thread nD τ) M fullShare X
      ⊢ iprop((owns (c : Thread nD τ) M fullShare (r.overlay X w) -∗ wp frame (wpE (defs₀ (F := F)) Variants.none c none) Set.univ (k ⟨⟩) Q)
        -∗ wp frame (wpE (defs₀ (F := F)) Variants.none c none) Set.univ (Prog.lift (.store M r w Finset.univ hx hm) >>= k) Q) := by
  unfold owns
  iintro ⟨%f, %hf, H⟩ Hk
  iapply (wp_store Variants.none (c : Thread nD τ) none Set.univ (m := M) (r := r) (Mk := Finset.univ) (View.set_slice_subset _ _)) $$ H
  iintro H
  subst hf
  iapply Hk
  iexists _
  isplitr [H]
  swap
  · iexact H
  ipureintro
  funext j
  by_cases hj : j ∈ r.set
  · obtain ⟨x, -, rfl⟩ := Finset.mem_map.mp (show j ∈ Finset.univ.map r.emb by rwa [Rect.map_emb_univ])
    rw [View.read_slice_write_emb _ _ _ (Finset.mem_univ _), Rect.overlay_emb]
  · rw [View.read_slice_write_of_not_mem _ _ _ _ (by rwa [Rect.map_emb_univ]), Rect.overlay_of_not_mem _ _ _ hj]

/-- A load through a rectangle, its slice of the memref owned at `Y`, continues at `Y`. -/
theorem ldAt {s : Shape} {e : EltTy} {M : Memref sig .tc .vmem s e} {q : PosShare TreeShare} {r : Rect s} {Y : r.shape.Idx → Elt F e}
    {hl : M.view.LoadsAt r.toLoadRect} {α : Type} {k : (r.shape.Idx → Elt F e) → Prog (TpuEff nD τ sig (Elt F) Λ₀ .tc) α} {Q : α → sProp 𝕄} :
    iprop(∃ f, ⌜(M.access r).read (Elt F) f = Y⌝ ∗ ((M.access r).loc (c : Thread nD τ) ↦[(M.access r).set]{q} f))
      ⊢ iprop((iprop(∃ f, ⌜(M.access r).read (Elt F) f = Y⌝ ∗ ((M.access r).loc (c : Thread nD τ) ↦[(M.access r).set]{q} f))
            -∗ wp frame (wpE (defs₀ (F := F)) Variants.none c none) Set.univ (k Y) Q)
        -∗ wp frame (wpE (defs₀ (F := F)) Variants.none c none) Set.univ (Prog.lift (.load M r.toLoadRect hl) >>= k) Q) := by
  iintro ⟨%f, %hf, H⟩ Hk
  iapply (wp_load_rect Variants.none (c : Thread nD τ) none Set.univ (m := M) (r := r) (Finset.Subset.refl _)) $$ H
  iintro H
  subst hf
  iapply Hk
  iexists f
  isplitr
  · ipureintro; rfl
  iexact H

/-- Overlaying all of a buffer through the rectangle of its own sizes at zero offsets is replacing it. -/
theorem overlay_all {s : Shape} {α : Type} {off : Fin s.rank → Nat} (h0 : ∀ a, off a = 0) (h : ∀ a, off a + s.size a ≤ s.size a) (X w : s.Idx → α) :
    (Rect.unit (s := s) off s.size h).overlay X w = w := by
  funext j
  have e : (Rect.unit (s := s) off s.size h).emb j = j := by
    funext a; apply Fin.ext; change off a + 1 * (j a).val = (j a).val; rw [h0]; omega
  have := Rect.overlay_emb (Rect.unit (s := s) off s.size h) X w j
  rwa [e] at this

/-- and reading all of it reads it. -/
theorem rdR_all {s : Shape} {α : Type} {off : Fin s.rank → Nat} (h0 : ∀ a, off a = 0) (h : ∀ a, off a + s.size a ≤ s.size a) (X : s.Idx → α) :
    rdR (Rect.unit (s := s) off s.size h) X = X := by
  funext j
  have e : (Rect.unit (s := s) off s.size h).emb j = j := by
    funext a; apply Fin.ext; change off a + 1 * (j a).val = (j a).val; rw [h0]; omega
  exact congrArg X e

end Cert.Kernel.Gen

end
-- ==== Proof.Step.lean ====
/-
  What one grid point does to the memory, as a function: the input blocks it is handed (`Ins`), the scratch buffers and
  the output blocks it holds (`St`), and for each section of the body the state it leaves, in the printed order of loads and
  stores (`f2`, `f5`, `f7`, `f9`).
-/
module

public import proofs.«01_k».proof.Proof.Ops

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

variable (F) in
/-- The input blocks of a point, and the two token blocks (`xa` this one, `xb` the one before) it reads. -/
structure Ins where
  x2 : S1x1x512.Idx → Elt F .f32
  x3 : S512x256.Idx → Elt F .f32
  x4 : S512x256.Idx → Elt F .f32
  x5 : S1x1x256.Idx → Elt F .f32
  x6 : S512x256.Idx → Elt F .f32
  x7 : S512x256.Idx → Elt F .f32
  x8 : S1x1x256.Idx → Elt F .f32
  x9 : S512x128.Idx → Elt F .f32
  x10 : S512x128.Idx → Elt F .f32
  x11 : S512x512.Idx → Elt F .bf16
  x12 : S256x128.Idx → Elt F .bf16
  xa : S1x512x8192.Idx → Elt F .fp8e4m3
  xb : S1x512x8192.Idx → Elt F .fp8e4m3

variable (F) in
/-- The scratch buffers and the output blocks. -/
structure St where
  /-- the two weight-code tiles -/
  q : S2x512x8192.Idx → Elt F .fp8e4m3
  /-- the two weight-gradient tiles -/
  g : S2x512x8192.Idx → Elt F .f32
  /-- the error of the newest token block -/
  en : S512x512.Idx → Elt F .bf16
  /-- the error of the block before it -/
  ec : S512x512.Idx → Elt F .bf16
  /-- the loss per token, by sublane -/
  la : S32x8x512.Idx → Elt F .f32
  /-- the column gradient, by sublane -/
  dca : S32x8x256.Idx → Elt F .f32
  /-- the row gradient of the tile, by lane -/
  dra : S512x128.Idx → Elt F .f32
  /-- the scale gradient of the tile, by lane -/
  dsa : S512x128.Idx → Elt F .f32
  /-- the loss block -/
  o13 : S32x512.Idx → Elt F .f32
  /-- the block of the gradient of `s2` -/
  o14 : S512x256.Idx → Elt F .f32
  /-- the row gradient block -/
  o15 : S1x1x512.Idx → Elt F .f32
  /-- the column gradient block -/
  o16 : S32x256.Idx → Elt F .f32
  /-- the scale gradient block -/
  o17 : S1x1x512.Idx → Elt F .f32
  /-- the packed codes block -/
  o18 : S512x128.Idx → Elt F .i8

/-- The scalar `v47` of part 1 of the body. -/
def b1_v47 (arg0 : BitVec 32) : BitVec 32 :=
  let v30 : BitVec 32 := Scalar.divsi arg0 32#32
  let v31 : BitVec 1 := Scalar.cmpi .sgt arg0 0#32
  let v32 : BitVec 32 := Scalar.extui v31
  let v33 : BitVec 1 := Scalar.cmpi .slt arg0 0#32
  let v34 : BitVec 32 := Scalar.extui v33
  let v35 : BitVec 32 := Scalar.subi v32 v34
  let v36 : BitVec 1 := Scalar.cmpi .sgt 32#32 0#32
  let v37 : BitVec 32 := Scalar.extui v36
  let v38 : BitVec 1 := Scalar.cmpi .slt 32#32 0#32
  let v39 : BitVec 32 := Scalar.extui v38
  let v40 : BitVec 32 := Scalar.subi v37 v39
  let v41 : BitVec 1 := Scalar.cmpi .ne v35 v40
  let v42 : BitVec 32 := Scalar.remsi arg0 32#32
  let v43 : BitVec 1 := Scalar.cmpi .ne v42 0#32
  let v44 : BitVec 1 := Scalar.andi v41 v43
  let v45 : BitVec 32 := Scalar.subi v30 1#32
  let v46 : BitVec 32 := Scalar.select v44 v45 v30
  let v47 : BitVec 32 := Scalar.minsi v46 31#32
  v47

/-- The scalar `v65` of part 1 of the body. -/
def b1_v65 (arg0 : BitVec 32) : BitVec 32 :=
  let v48 : BitVec 32 := Scalar.divsi arg0 32#32
  let v49 : BitVec 1 := Scalar.cmpi .sgt arg0 0#32
  let v50 : BitVec 32 := Scalar.extui v49
  let v51 : BitVec 1 := Scalar.cmpi .slt arg0 0#32
  let v52 : BitVec 32 := Scalar.extui v51
  let v53 : BitVec 32 := Scalar.subi v50 v52
  let v54 : BitVec 1 := Scalar.cmpi .sgt 32#32 0#32
  let v55 : BitVec 32 := Scalar.extui v54
  let v56 : BitVec 1 := Scalar.cmpi .slt 32#32 0#32
  let v57 : BitVec 32 := Scalar.extui v56
  let v58 : BitVec 32 := Scalar.subi v55 v57
  let v59 : BitVec 1 := Scalar.cmpi .ne v53 v58
  let v60 : BitVec 32 := Scalar.remsi arg0 32#32
  let v61 : BitVec 1 := Scalar.cmpi .ne v60 0#32
  let v62 : BitVec 1 := Scalar.andi v59 v61
  let v63 : BitVec 32 := Scalar.subi v48 1#32
  let v64 : BitVec 32 := Scalar.select v62 v63 v48
  let v65 : BitVec 32 := Scalar.remsi v64 2#32
  v65

/-- Part 1 of the body with its scalars named. -/
theorem k0_part1_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) :
    k0_part1_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 = (do
      let v67 : Vec F S512x128 .f32 ← Prog.lift (.load arg10 (Rect.unit (s := S512x128) ![0, 0] S512x128.size inb_S512x128_S512x128_0_0).toLoadRect (View.loadsAt_vmem h_S512x128))
      pure ⟨(b1_v47 arg0), (b1_v65 arg0), k0_pay12 arg0, k0_pay13 v67, k0_pay14 arg0⟩) := rfl

/-- The scalar `v48` of part 4 of the body. -/
def b4_v48 (arg0 : BitVec 32) : BitVec 32 :=
  let v30 : BitVec 32 := Scalar.divsi arg0 32#32
  let v31 : BitVec 1 := Scalar.cmpi .sgt arg0 0#32
  let v32 : BitVec 32 := Scalar.extui v31
  let v33 : BitVec 1 := Scalar.cmpi .slt arg0 0#32
  let v34 : BitVec 32 := Scalar.extui v33
  let v35 : BitVec 32 := Scalar.subi v32 v34
  let v36 : BitVec 1 := Scalar.cmpi .sgt 32#32 0#32
  let v37 : BitVec 32 := Scalar.extui v36
  let v38 : BitVec 1 := Scalar.cmpi .slt 32#32 0#32
  let v39 : BitVec 32 := Scalar.extui v38
  let v40 : BitVec 32 := Scalar.subi v37 v39
  let v41 : BitVec 1 := Scalar.cmpi .ne v35 v40
  let v42 : BitVec 32 := Scalar.remsi arg0 32#32
  let v43 : BitVec 1 := Scalar.cmpi .ne v42 0#32
  let v44 : BitVec 1 := Scalar.andi v41 v43
  let v45 : BitVec 32 := Scalar.subi v30 1#32
  let v46 : BitVec 32 := Scalar.select v44 v45 v30
  let v47 : BitVec 32 := Scalar.minsi v46 32#32
  let v48 : BitVec 32 := Scalar.subi v47 1#32
  v48

/-- The scalar `v67` of part 4 of the body. -/
def b4_v67 (arg0 : BitVec 32) : BitVec 32 :=
  let v49 : BitVec 32 := Scalar.divsi arg0 32#32
  let v50 : BitVec 1 := Scalar.cmpi .sgt arg0 0#32
  let v51 : BitVec 32 := Scalar.extui v50
  let v52 : BitVec 1 := Scalar.cmpi .slt arg0 0#32
  let v53 : BitVec 32 := Scalar.extui v52
  let v54 : BitVec 32 := Scalar.subi v51 v53
  let v55 : BitVec 1 := Scalar.cmpi .sgt 32#32 0#32
  let v56 : BitVec 32 := Scalar.extui v55
  let v57 : BitVec 1 := Scalar.cmpi .slt 32#32 0#32
  let v58 : BitVec 32 := Scalar.extui v57
  let v59 : BitVec 32 := Scalar.subi v56 v58
  let v60 : BitVec 1 := Scalar.cmpi .ne v54 v59
  let v61 : BitVec 32 := Scalar.remsi arg0 32#32
  let v62 : BitVec 1 := Scalar.cmpi .ne v61 0#32
  let v63 : BitVec 1 := Scalar.andi v60 v62
  let v64 : BitVec 32 := Scalar.subi v49 1#32
  let v65 : BitVec 32 := Scalar.select v63 v64 v49
  let v66 : BitVec 32 := Scalar.addi v65 1#32
  let v67 : BitVec 32 := Scalar.remsi v66 2#32
  v67

/-- The scalar `v68` of part 4 of the body. -/
def b4_v68 (arg0 : BitVec 32) : BitVec 32 :=
  let v68 : BitVec 32 := Scalar.subi arg0 1#32
  v68

/-- The scalar `v69` of part 4 of the body. -/
def b4_v69 (arg0 : BitVec 32) : BitVec 32 :=
  let v68 : BitVec 32 := Scalar.subi arg0 1#32
  let v69 : BitVec 32 := Scalar.divsi v68 32#32
  v69

/-- Part 4 of the body with its scalars named. -/
theorem k0_part4_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) :
    k0_part4_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 = (do
      pure ⟨(b4_v48 arg0), (b4_v67 arg0), (b4_v68 arg0), 32#32, (b4_v69 arg0)⟩) := rfl

/-- The scalar `v87` of part 5 of the body. -/
def b5_v87 (v7 : BitVec 32) (v48 : BitVec 32) (v67 : BitVec 32) (v68 : BitVec 32) (c32_i32_33 : BitVec 32) (v69 : BitVec 32) : BitVec 32 :=
  let v70 : BitVec 1 := Scalar.cmpi .sgt v68 0#32
  let v71 : BitVec 32 := Scalar.extui v70
  let v72 : BitVec 1 := Scalar.cmpi .slt v68 0#32
  let v73 : BitVec 32 := Scalar.extui v72
  let v74 : BitVec 32 := Scalar.subi v71 v73
  let v75 : BitVec 1 := Scalar.cmpi .sgt c32_i32_33 0#32
  let v76 : BitVec 32 := Scalar.extui v75
  let v77 : BitVec 1 := Scalar.cmpi .slt c32_i32_33 0#32
  let v78 : BitVec 32 := Scalar.extui v77
  let v79 : BitVec 32 := Scalar.subi v76 v78
  let v80 : BitVec 1 := Scalar.cmpi .ne v74 v79
  let v81 : BitVec 32 := Scalar.remsi v68 c32_i32_33
  let v82 : BitVec 1 := Scalar.cmpi .ne v81 0#32
  let v83 : BitVec 1 := Scalar.andi v80 v82
  let v84 : BitVec 32 := Scalar.subi v69 1#32
  let v85 : BitVec 32 := Scalar.select v83 v84 v69
  let v86 : BitVec 32 := Scalar.addi v85 1#32
  let v87 : BitVec 32 := Scalar.remsi v86 2#32
  v87

/-- The scalar `v93` of part 5 of the body. -/
def b5_v93 (v7 : BitVec 32) (v48 : BitVec 32) (v67 : BitVec 32) (v68 : BitVec 32) (c32_i32_33 : BitVec 32) (v69 : BitVec 32) : BitVec 32 :=
  let v89 : BitVec 1 := Scalar.cmpi .eq v7 0#32
  let v90 : BitVec 32 := Scalar.addi v7 3#32
  let v91 : BitVec 32 := Scalar.subi v90 1#32
  let v92 : BitVec 32 := Scalar.remsi v91 3#32
  let v93 : BitVec 32 := Scalar.select v89 0#32 v92
  v93

/-- Part 5 of the body with its scalars named. -/
theorem k0_part5_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (v7 : BitVec 32) (k0_h5 : k0_cond5 i = 1#1) (v48 : BitVec 32) (v67 : BitVec 32) (v68 : BitVec 32) (c32_i32_33 : BitVec 32) (v69 : BitVec 32) :
    k0_part5_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 v7 k0_h5 v48 v67 v68 c32_i32_33 v69 = (do
      let v94 : Vec F S512x512 .bf16 ← Prog.lift (.load arg22 (Rect.unit (s := S512x512) ![0, 0] S512x512.size inb_S512x512_S512x512_0_0).toLoadRect (View.loadsAt_vmem h_S512x512))
      let v95 : Vec F S512x512 .bf16 ← Prog.lift (.load arg23 (Rect.unit (s := S512x512) ![0, 0] S512x512.size inb_S512x512_S512x512_0_0).toLoadRect (View.loadsAt_vmem h_S512x512))
      Prog.lift (.store arg23 (Rect.unit (s := S512x512) ![0, 0] S512x512.size inb_S512x512_S512x512_0_0) (k0_pay25 v94) Finset.univ (View.stores_vmem h_S512x512 (harg23.storeExact_slice rfl _ packedbf16_S512x512_S512x512_0_0) (fun _ => rfl)) (.inl rfl))
      let v99 : Vec F S1x512x8192 .fp8e4m3 ← Prog.lift (.load arg20 (Rect.unit (s := S2x512x8192) (k0_off13 i) S1x512x8192.size (k0_off13_inb i k0_h5)).toLoadRect (View.loadsAt_vmem h_S1x512x8192))
      let v102 : Vec F S1x512x8192 .fp8e4m3 ← Prog.lift (.load arg19 (Rect.unit (s := S3x512x8192) (k0_off14 i) S1x512x8192.size (k0_off14_inb i k0_h5)).toLoadRect (View.loadsAt_vmem h_S1x512x8192))
      pure ⟨(b5_v87 v7 v48 v67 v68 c32_i32_33 v69), (b5_v93 v7 v48 v67 v68 c32_i32_33 v69), k0_pay26 v99 v102, k0_pay27 v48⟩) := rfl

/-- The scalar `v179` of part 7 of the body. -/
def b7_v179 (arg0 : BitVec 32) (v87 : BitVec 32) (v93 : BitVec 32) : BitVec 32 :=
  let v162 : BitVec 32 := Scalar.divsi arg0 32#32
  let v163 : BitVec 1 := Scalar.cmpi .sgt arg0 0#32
  let v164 : BitVec 32 := Scalar.extui v163
  let v165 : BitVec 1 := Scalar.cmpi .slt arg0 0#32
  let v166 : BitVec 32 := Scalar.extui v165
  let v167 : BitVec 32 := Scalar.subi v164 v166
  let v168 : BitVec 1 := Scalar.cmpi .sgt 32#32 0#32
  let v169 : BitVec 32 := Scalar.extui v168
  let v170 : BitVec 1 := Scalar.cmpi .slt 32#32 0#32
  let v171 : BitVec 32 := Scalar.extui v170
  let v172 : BitVec 32 := Scalar.subi v169 v171
  let v173 : BitVec 1 := Scalar.cmpi .ne v167 v172
  let v174 : BitVec 32 := Scalar.remsi arg0 32#32
  let v175 : BitVec 1 := Scalar.cmpi .ne v174 0#32
  let v176 : BitVec 1 := Scalar.andi v173 v175
  let v177 : BitVec 32 := Scalar.subi v162 1#32
  let v178 : BitVec 32 := Scalar.select v176 v177 v162
  let v179 : BitVec 32 := Scalar.minsi v178 31#32
  v179

/-- The scalar `v180` of part 7 of the body. -/
def b7_v180 (arg0 : BitVec 32) (v87 : BitVec 32) (v93 : BitVec 32) : BitVec 32 :=
  let v180 : BitVec 32 := Scalar.divsi arg0 32#32
  v180

/-- The scalar `v182` of part 7 of the body. -/
def b7_v182 (arg0 : BitVec 32) (v87 : BitVec 32) (v93 : BitVec 32) : BitVec 32 :=
  let v181 : BitVec 1 := Scalar.cmpi .sgt arg0 0#32
  let v182 : BitVec 32 := Scalar.extui v181
  v182

/-- The scalar `v183` of part 7 of the body. -/
def b7_v183 (arg0 : BitVec 32) (v87 : BitVec 32) (v93 : BitVec 32) : BitVec 1 :=
  let v183 : BitVec 1 := Scalar.cmpi .slt arg0 0#32
  v183

/-- Part 7 of the body with its scalars named. -/
theorem k0_part7_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) (k0_h5 : k0_cond5 i = 1#1) (v87 : BitVec 32) (v93 : BitVec 32) (v145 : FVec F S512x512 .bf16) :
    k0_part7_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 k0_h5 v87 v93 v145 = (do
      let v146 : Vec F S512x512 .bf16 ← Prog.lift (.load arg22 (Rect.unit (s := S512x512) ![0, 0] S512x512.size inb_S512x512_S512x512_0_0).toLoadRect (View.loadsAt_vmem h_S512x512))
      Prog.lift (.store arg22 (Rect.unit (s := S512x512) ![0, 0] S512x512.size inb_S512x512_S512x512_0_0) (k0_pay32 v145) Finset.univ (View.stores_vmem h_S512x512 (harg22.storeExact_slice rfl _ packedbf16_S512x512_S512x512_0_0) (fun _ => rfl)) (.inl rfl))
      let v150 : Vec F S1x512x8192 .f32 ← Prog.lift (.load arg21 (Rect.unit (s := S2x512x8192) (k0_off16 i) S1x512x8192.size (k0_off16_inb i k0_h5)).toLoadRect (View.loadsAt_vmem h_S1x512x8192))
      let v152 : Vec F S512x512 .bf16 ← Prog.lift (.load arg23 (Rect.unit (s := S512x512) ![0, 0] S512x512.size inb_S512x512_S512x512_0_0).toLoadRect (View.loadsAt_vmem h_S512x512))
      let v154 : Vec F S1x512x8192 .fp8e4m3 ← Prog.lift (.load arg19 (Rect.unit (s := S3x512x8192) (k0_off17 i) S1x512x8192.size (k0_off17_inb i k0_h5)).toLoadRect (View.loadsAt_vmem h_S1x512x8192))
      let v159 : Vec F S1x512x8192 .f32 ← Prog.lift (.load arg21 (Rect.unit (s := S2x512x8192) (k0_off16 i) S1x512x8192.size (k0_off16_inb i k0_h5)).toLoadRect (View.loadsAt_vmem h_S1x512x8192))
      Prog.lift (.store arg21 (Rect.unit (s := S2x512x8192) (k0_off16 i) S1x512x8192.size (k0_off16_inb i k0_h5)) (k0_pay33 v150 v152 v154) Finset.univ (View.stores_vmem_bits_univ h_S1x512x8192 rfl) (.inl rfl))
      pure ⟨(b7_v179 arg0 v87 v93), 32#32, (b7_v180 arg0 v87 v93), (b7_v182 arg0 v87 v93), (b7_v183 arg0 v87 v93)⟩) := rfl

/-- The scalar `v197` of part 8 of the body. -/
def b8_v197 (arg0 : BitVec 32) (v179 : BitVec 32) (c32_i32_88 : BitVec 32) (v180 : BitVec 32) (v182 : BitVec 32) (v183 : BitVec 1) : BitVec 32 :=
  let v184 : BitVec 32 := Scalar.extui v183
  let v185 : BitVec 32 := Scalar.subi v182 v184
  let v186 : BitVec 1 := Scalar.cmpi .sgt c32_i32_88 0#32
  let v187 : BitVec 32 := Scalar.extui v186
  let v188 : BitVec 1 := Scalar.cmpi .slt c32_i32_88 0#32
  let v189 : BitVec 32 := Scalar.extui v188
  let v190 : BitVec 32 := Scalar.subi v187 v189
  let v191 : BitVec 1 := Scalar.cmpi .ne v185 v190
  let v192 : BitVec 32 := Scalar.remsi arg0 c32_i32_88
  let v193 : BitVec 1 := Scalar.cmpi .ne v192 0#32
  let v194 : BitVec 1 := Scalar.andi v191 v193
  let v195 : BitVec 32 := Scalar.subi v180 1#32
  let v196 : BitVec 32 := Scalar.select v194 v195 v180
  let v197 : BitVec 32 := Scalar.remsi v196 2#32
  v197

/-- Part 8 of the body with its scalars named. -/
theorem k0_part8_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) (v179 : BitVec 32) (c32_i32_88 : BitVec 32) (v180 : BitVec 32) (v182 : BitVec 32) (v183 : BitVec 1) :
    k0_part8_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 v179 c32_i32_88 v180 v182 v183 = (do
      let v199 : Vec F S512x128 .f32 ← Prog.lift (.load arg10 (Rect.unit (s := S512x128) ![0, 0] S512x128.size inb_S512x128_S512x128_0_0).toLoadRect (View.loadsAt_vmem h_S512x128))
      let v210 : Vec F S512x128 .f32 ← Prog.lift (.load arg9 (Rect.unit (s := S512x128) ![0, 0] S512x128.size inb_S512x128_S512x128_0_0).toLoadRect (View.loadsAt_vmem h_S512x128))
      let v220 : Vec F S512x128 .f32 ← Prog.lift (.load arg3 (Rect.unit (s := S512x256) ![0, 0] S512x128.size inb_S512x256_S512x128_0_0).toLoadRect (View.loadsAt_vmem h_S512x128))
      let v221 : Vec F S512x128 .f32 ← Prog.lift (.load arg4 (Rect.unit (s := S512x256) ![0, 0] S512x128.size inb_S512x256_S512x128_0_0).toLoadRect (View.loadsAt_vmem h_S512x128))
      let v222 : Vec F S1x1x128 .f32 ← Prog.lift (.load arg5 (Rect.unit (s := S1x1x256) ![0, 0, 0] S1x1x128.size inb_S1x1x256_S1x1x128_0_0_0).toLoadRect (View.loadsAt_vmem h_S1x1x128))
      pure ⟨(b8_v197 arg0 v179 c32_i32_88 v180 v182 v183), k0_pay34 v179 v199, k0_pay35 v179 v210, v220, v221, k0_pay36 v222⟩) := rfl

/-- The scalar `v278` of part 10 of the body. -/
def b10_v278 (arg0 : BitVec 32) : BitVec 1 :=
  let v278 : BitVec 1 := Scalar.cmpi .sge arg0 65#32
  v278

/-- The scalar `v295` of part 10 of the body. -/
def b10_v295 (arg0 : BitVec 32) : BitVec 32 :=
  let v275 : BitVec 32 := Scalar.subi arg0 65#32
  let v276 : BitVec 32 := Scalar.maxsi 0#32 v275
  let v277 : BitVec 32 := Scalar.minsi 1023#32 v276
  let v279 : BitVec 32 := Scalar.divsi v277 32#32
  let v280 : BitVec 1 := Scalar.cmpi .sgt v277 0#32
  let v281 : BitVec 32 := Scalar.extui v280
  let v282 : BitVec 1 := Scalar.cmpi .slt v277 0#32
  let v283 : BitVec 32 := Scalar.extui v282
  let v284 : BitVec 32 := Scalar.subi v281 v283
  let v285 : BitVec 1 := Scalar.cmpi .sgt 32#32 0#32
  let v286 : BitVec 32 := Scalar.extui v285
  let v287 : BitVec 1 := Scalar.cmpi .slt 32#32 0#32
  let v288 : BitVec 32 := Scalar.extui v287
  let v289 : BitVec 32 := Scalar.subi v286 v288
  let v290 : BitVec 1 := Scalar.cmpi .ne v284 v289
  let v291 : BitVec 32 := Scalar.remsi v277 32#32
  let v292 : BitVec 1 := Scalar.cmpi .ne v291 0#32
  let v293 : BitVec 1 := Scalar.andi v290 v292
  let v294 : BitVec 32 := Scalar.subi v279 1#32
  let v295 : BitVec 32 := Scalar.select v293 v294 v279
  v295

/-- The scalar `v296` of part 10 of the body. -/
def b10_v296 (arg0 : BitVec 32) : BitVec 32 :=
  let v275 : BitVec 32 := Scalar.subi arg0 65#32
  let v276 : BitVec 32 := Scalar.maxsi 0#32 v275
  let v277 : BitVec 32 := Scalar.minsi 1023#32 v276
  let v296 : BitVec 32 := Scalar.remsi v277 32#32
  v296

/-- The scalar `v297` of part 10 of the body. -/
def b10_v297 (arg0 : BitVec 32) : BitVec 32 :=
  let v297 : BitVec 32 := Scalar.subi arg0 1#32
  v297

/-- The scalar `v298` of part 10 of the body. -/
def b10_v298 (arg0 : BitVec 32) : BitVec 32 :=
  let v297 : BitVec 32 := Scalar.subi arg0 1#32
  let v298 : BitVec 32 := Scalar.divsi v297 32#32
  v298

/-- The scalar `v303` of part 10 of the body. -/
def b10_v303 (arg0 : BitVec 32) : BitVec 32 :=
  let v297 : BitVec 32 := Scalar.subi arg0 1#32
  let v299 : BitVec 1 := Scalar.cmpi .sgt v297 0#32
  let v300 : BitVec 32 := Scalar.extui v299
  let v301 : BitVec 1 := Scalar.cmpi .slt v297 0#32
  let v302 : BitVec 32 := Scalar.extui v301
  let v303 : BitVec 32 := Scalar.subi v300 v302
  v303

/-- The scalar `v304` of part 10 of the body. -/
def b10_v304 (arg0 : BitVec 32) : BitVec 1 :=
  let v304 : BitVec 1 := Scalar.cmpi .sgt 32#32 0#32
  v304

/-- Part 10 of the body with its scalars named. -/
theorem k0_part10_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) (v267 : FVec F S512x256 .f32) :
    k0_part10_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 v267 = (do
      let v269 : Vec F S256x128 .bf16 ← Prog.lift (.load arg12 (Rect.unit (s := S256x128) ![0, 0] S256x128.size inb_S256x128_S256x128_0_0).toLoadRect (View.loadsAt_vmem h_S256x128))
      let v274 : Vec F S512x128 .i8 ← Prog.lift (.load arg18 (Rect.unit (s := S512x128) ![0, 0] S512x128.size inb_S512x128_S512x128_0_0).toLoadRect (View.loadsAt_vmem h_S512x128))
      Prog.lift (.store arg18 (Rect.unit (s := S512x128) ![0, 0] S512x128.size inb_S512x128_S512x128_0_0) (k0_pay40 v267 v269) Finset.univ (View.stores_vmem h_S512x128 (harg18.storeExact_slice rfl _ packedi8_S512x128_S512x128_0_0) (fun _ => rfl)) (.inl rfl))
      pure ⟨(b10_v278 arg0), (b10_v295 arg0), (b10_v296 arg0), (b10_v297 arg0), 32#32, (b10_v298 arg0), (b10_v303 arg0), (b10_v304 arg0)⟩) := rfl

/-- The scalar `v33` of part 15 of the body. -/
def b15_v33 (arg0 : BitVec 32) : BitVec 1 :=
  let v33 : BitVec 1 := Scalar.cmpi .sge arg0 65#32
  v33

/-- The scalar `v50` of part 15 of the body. -/
def b15_v50 (arg0 : BitVec 32) : BitVec 32 :=
  let v30 : BitVec 32 := Scalar.subi arg0 65#32
  let v31 : BitVec 32 := Scalar.maxsi 0#32 v30
  let v32 : BitVec 32 := Scalar.minsi 1023#32 v31
  let v34 : BitVec 32 := Scalar.divsi v32 32#32
  let v35 : BitVec 1 := Scalar.cmpi .sgt v32 0#32
  let v36 : BitVec 32 := Scalar.extui v35
  let v37 : BitVec 1 := Scalar.cmpi .slt v32 0#32
  let v38 : BitVec 32 := Scalar.extui v37
  let v39 : BitVec 32 := Scalar.subi v36 v38
  let v40 : BitVec 1 := Scalar.cmpi .sgt 32#32 0#32
  let v41 : BitVec 32 := Scalar.extui v40
  let v42 : BitVec 1 := Scalar.cmpi .slt 32#32 0#32
  let v43 : BitVec 32 := Scalar.extui v42
  let v44 : BitVec 32 := Scalar.subi v41 v43
  let v45 : BitVec 1 := Scalar.cmpi .ne v39 v44
  let v46 : BitVec 32 := Scalar.remsi v32 32#32
  let v47 : BitVec 1 := Scalar.cmpi .ne v46 0#32
  let v48 : BitVec 1 := Scalar.andi v45 v47
  let v49 : BitVec 32 := Scalar.subi v34 1#32
  let v50 : BitVec 32 := Scalar.select v48 v49 v34
  v50

/-- The scalar `v51` of part 15 of the body. -/
def b15_v51 (arg0 : BitVec 32) : BitVec 32 :=
  let v30 : BitVec 32 := Scalar.subi arg0 65#32
  let v31 : BitVec 32 := Scalar.maxsi 0#32 v30
  let v32 : BitVec 32 := Scalar.minsi 1023#32 v31
  let v51 : BitVec 32 := Scalar.remsi v32 32#32
  v51

/-- The scalar `v69` of part 15 of the body. -/
def b15_v69 (arg0 : BitVec 32) : BitVec 32 :=
  let v52 : BitVec 32 := Scalar.subi arg0 1#32
  let v53 : BitVec 32 := Scalar.divsi v52 32#32
  let v54 : BitVec 1 := Scalar.cmpi .sgt v52 0#32
  let v55 : BitVec 32 := Scalar.extui v54
  let v56 : BitVec 1 := Scalar.cmpi .slt v52 0#32
  let v57 : BitVec 32 := Scalar.extui v56
  let v58 : BitVec 32 := Scalar.subi v55 v57
  let v59 : BitVec 1 := Scalar.cmpi .sgt 32#32 0#32
  let v60 : BitVec 32 := Scalar.extui v59
  let v61 : BitVec 1 := Scalar.cmpi .slt 32#32 0#32
  let v62 : BitVec 32 := Scalar.extui v61
  let v63 : BitVec 32 := Scalar.subi v60 v62
  let v64 : BitVec 1 := Scalar.cmpi .ne v58 v63
  let v65 : BitVec 32 := Scalar.remsi v52 32#32
  let v66 : BitVec 1 := Scalar.cmpi .ne v65 0#32
  let v67 : BitVec 1 := Scalar.andi v64 v66
  let v68 : BitVec 32 := Scalar.subi v53 1#32
  let v69 : BitVec 32 := Scalar.select v67 v68 v53
  v69

/-- Part 15 of the body with its scalars named. -/
theorem k0_part15_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) :
    k0_part15_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 = (do
      pure ⟨(b15_v33 arg0), (b15_v50 arg0), (b15_v51 arg0), (b15_v69 arg0)⟩) := rfl

/-- The scalar `v109` of part 16 of the body. -/
def b16_v109 (v50 : BitVec 32) (v51 : BitVec 32) (v69 : BitVec 32) : BitVec 1 :=
  let v109 : BitVec 1 := Scalar.cmpi .eq v51 0#32
  v109

/-- Part 16 of the body with its scalars named. -/
theorem k0_part16_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (k0_h7 : k0_cond7 i = 1#1) (v50 : BitVec 32) (v51 : BitVec 32) (v69 : BitVec 32) :
    k0_part16_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 k0_h7 v50 v51 v69 = (do
      let v72 : Vec F S512x128 .f32 ← Prog.lift (.load arg10 (Rect.unit (s := S512x128) ![0, 0] S512x128.size inb_S512x128_S512x128_0_0).toLoadRect (View.loadsAt_vmem h_S512x128))
      let v83 : Vec F S512x128 .f32 ← Prog.lift (.load arg9 (Rect.unit (s := S512x128) ![0, 0] S512x128.size inb_S512x128_S512x128_0_0).toLoadRect (View.loadsAt_vmem h_S512x128))
      let v97 : Vec F S1x512x256 .f32 ← Prog.lift (.load arg21 (Rect.unit (s := S2x512x8192) (k0_off22 i) S1x512x256.size (k0_off22_inb i k0_h7)).toLoadRect (View.loadsAt_vmem h_S1x512x256))
      let v102 : Vec F S1x512x256 .f32 ← Prog.lift (.load arg21 (Rect.unit (s := S2x512x8192) (k0_off22 i) S1x512x256.size (k0_off22_inb i k0_h7)).toLoadRect (View.loadsAt_vmem h_S1x512x256))
      Prog.lift (.store arg21 (Rect.unit (s := S2x512x8192) (k0_off22 i) S1x512x256.size (k0_off22_inb i k0_h7)) (k0_pay68 (F := F)) Finset.univ (View.stores_vmem_bits_univ h_S1x512x256 rfl) (.inl rfl))
      let v106 : Vec F S512x128 .f32 ← Prog.lift (.load arg26 (Rect.unit (s := S512x128) ![0, 0] S512x128.size inb_S512x128_S512x128_0_0).toLoadRect (View.loadsAt_vmem h_S512x128))
      pure ⟨k0_pay65 v50 v72, k0_pay66 v50 v83, k0_pay67 v97, k0_pay69 v51 v106, (b16_v109 v50 v51 v69)⟩) := rfl

/-- Section 2: one quantised chunk of the first tile, the gradient buffers zeroed there. -/
def f2 (i : grid0.Coords) (k0_h2 : k0_cond2 i = 1#1) (I : Ins F) (s : St F) : St F :=
  let v67_p1 := rdR (Rect.unit (s := S512x128) ![0, 0] S512x128.size inb_S512x128_S512x128_0_0) I.x10
  let v47_p1r := ((b1_v47 (tW i)))
  let v66_p1r := (k0_pay12 (tW i))
  let v68_p1r := (k0_pay13 v67_p1)
  let v70_p1r := (k0_pay14 (tW i))
  let v78_p2 := rdR (Rect.unit (s := S512x128) ![0, 0] S512x128.size inb_S512x128_S512x128_0_0) I.x9
  let v88_p2 := rdR (Rect.unit (s := S512x256) ![0, 0] S512x128.size inb_S512x256_S512x128_0_0) I.x3
  let v89_p2 := rdR (Rect.unit (s := S512x256) ![0, 0] S512x128.size inb_S512x256_S512x128_0_0) I.x4
  let v90_p2 := rdR (Rect.unit (s := S1x1x256) ![0, 0, 0] S1x1x128.size inb_S1x1x256_S1x1x128_0_0_0) I.x5
  let v105_p2 := rdR (Rect.unit (s := S512x256) ![0, 128] S512x128.size inb_S512x256_S512x128_0_128) I.x3
  let v106_p2 := rdR (Rect.unit (s := S512x256) ![0, 128] S512x128.size inb_S512x256_S512x128_0_128) I.x4
  let v107_p2 := rdR (Rect.unit (s := S1x1x256) ![0, 0, 128] S1x1x128.size inb_S1x1x256_S1x1x128_0_0_128) I.x5
  let v87_p2r := (k0_pay16 v47_p1r v78_p2)
  let v104_p2r := (k0_pay17 v47_p1r v66_p1r v68_p1r v70_p1r v78_p2 v88_p2 v89_p2 v90_p2)
  let v105_p2r := (v105_p2)
  let v108_p2r := (k0_pay18 v107_p2)
  let v109_p2r := (k0_pay19 v66_p1r v68_p1r v70_p1r v106_p2)
  let q_1 := (Rect.unit (s := S2x512x8192) (k0_off4 i) S1x512x256.size (k0_off4_inb i k0_h2)).overlay s.q ((k0_pay21 v87_p2r v104_p2r v105_p2r v108_p2r v109_p2r))
  let v137_p3 := rdR (Rect.unit (s := S256x128) ![0, 0] S256x128.size inb_S256x128_S256x128_0_0) I.x12
  let o18_1 := (Rect.unit (s := S512x128) ![0, 0] S512x128.size inb_S512x128_S512x128_0_0).overlay s.o18 ((k0_pay22 v87_p2r v104_p2r v105_p2r v108_p2r v109_p2r v137_p3))
  let g_1 := (Rect.unit (s := S2x512x8192) (k0_off5 i) S1x512x256.size (k0_off5_inb i k0_h2)).overlay s.g ((k0_pay23 (F := F)))
  let v150_p3r := (k0_pay24 (F := F))
  let g_2 := (Rect.unit (s := S2x512x8192) (k0_off6 i) S1x512x256.size (k0_off6_inb i k0_h2)).overlay g_1 ((k0_pay4 v150_p3r))
  ⟨q_1, g_2, s.en, s.ec, s.la, s.dca, s.dra, s.dsa, s.o13, s.o14, s.o15, s.o16, s.o17, o18_1⟩

/-- Section 5: the forward product, the weight-gradient product, a quantised chunk and an epilogue chunk. -/
def f5 (i : grid0.Coords) (k0_h5 : k0_cond5 i = 1#1) (I : Ins F) (s : St F) : St F :=
  let v48_p4r := ((b4_v48 (tW i)))
  let v67_p4r := ((b4_v67 (tW i)))
  let v68_p4r := ((b4_v68 (tW i)))
  let c32_i32_33_p4r := (32#32)
  let v69_p4r := ((b4_v69 (tW i)))
  let v94_p5 := rdR (Rect.unit (s := S512x512) ![0, 0] S512x512.size inb_S512x512_S512x512_0_0) s.en
  let ec_1 := (Rect.unit (s := S512x512) ![0, 0] S512x512.size inb_S512x512_S512x512_0_0).overlay s.ec ((k0_pay25 v94_p5))
  let v99_p5 := rdR (Rect.unit (s := S2x512x8192) (k0_off13 i) S1x512x8192.size (k0_off13_inb i k0_h5)) s.q
  let v102_p5 := I.xa
  let v87_p5r := ((b5_v87 (Scalar.subi (tW i) 32#32) v48_p4r v67_p4r v68_p4r c32_i32_33_p4r v69_p4r))
  let v93_p5r := ((b5_v93 (Scalar.subi (tW i) 32#32) v48_p4r v67_p4r v68_p4r c32_i32_33_p4r v69_p4r))
  let v104_p5r := (k0_pay26 v99_p5 v102_p5)
  let v105_p5r := (k0_pay27 v48_p4r)
  let v106_p6 := rdR (Rect.unit (s := S512x128) ![0, 0] S512x128.size inb_S512x128_S512x128_0_0) I.x9
  let v117_p6 := rdR (Rect.unit (s := S1x1x512) ![0, 0, 0] S1x1x512.size inb_S1x1x512_S1x1x512_0_0_0) I.x2
  let v122_p6 := rdR (Rect.unit (s := S512x512) ![0, 0] S512x512.size inb_S512x512_S512x512_0_0) I.x11
  let v128_p6 := rdR (Rect.unit (s := S32x8x512) (k0_off15 i) S1x8x512.size (k0_off15_inb i k0_h5)) s.la
  let la_1 := (Rect.unit (s := S32x8x512) (k0_off15 i) S1x8x512.size (k0_off15_inb i k0_h5)).overlay s.la ((k0_pay30 (tW i) v104_p5r v105_p5r v106_p6 v117_p6 v122_p6 v128_p6))
  let v145_p6r := (k0_pay31 v104_p5r v105_p5r v106_p6 v117_p6 v122_p6)
  let en_1 := (Rect.unit (s := S512x512) ![0, 0] S512x512.size inb_S512x512_S512x512_0_0).overlay s.en ((k0_pay32 v145_p6r))
  let v150_p7 := rdR (Rect.unit (s := S2x512x8192) (k0_off16 i) S1x512x8192.size (k0_off16_inb i k0_h5)) s.g
  let v152_p7 := rdR (Rect.unit (s := S512x512) ![0, 0] S512x512.size inb_S512x512_S512x512_0_0) ec_1
  let v154_p7 := I.xb
  let g_1 := (Rect.unit (s := S2x512x8192) (k0_off16 i) S1x512x8192.size (k0_off16_inb i k0_h5)).overlay s.g ((k0_pay33 v150_p7 v152_p7 v154_p7))
  let v179_p7r := ((b7_v179 (tW i) v87_p5r v93_p5r))
  let v199_p8 := rdR (Rect.unit (s := S512x128) ![0, 0] S512x128.size inb_S512x128_S512x128_0_0) I.x10
  let v210_p8 := rdR (Rect.unit (s := S512x128) ![0, 0] S512x128.size inb_S512x128_S512x128_0_0) I.x9
  let v220_p8 := rdR (Rect.unit (s := S512x256) ![0, 0] S512x128.size inb_S512x256_S512x128_0_0) I.x3
  let v221_p8 := rdR (Rect.unit (s := S512x256) ![0, 0] S512x128.size inb_S512x256_S512x128_0_0) I.x4
  let v222_p8 := rdR (Rect.unit (s := S1x1x256) ![0, 0, 0] S1x1x128.size inb_S1x1x256_S1x1x128_0_0_0) I.x5
  let v208_p8r := (k0_pay34 v179_p7r v199_p8)
  let v219_p8r := (k0_pay35 v179_p7r v210_p8)
  let v220_p8r := (v220_p8)
  let v221_p8r := (v221_p8)
  let v223_p8r := (k0_pay36 v222_p8)
  let v237_p9 := rdR (Rect.unit (s := S512x256) ![0, 128] S512x128.size inb_S512x256_S512x128_0_128) I.x3
  let v238_p9 := rdR (Rect.unit (s := S512x256) ![0, 128] S512x128.size inb_S512x256_S512x128_0_128) I.x4
  let v239_p9 := rdR (Rect.unit (s := S1x1x256) ![0, 0, 128] S1x1x128.size inb_S1x1x256_S1x1x128_0_0_128) I.x5
  let q_1 := (Rect.unit (s := S2x512x8192) (k0_off18 i) S1x512x256.size (k0_off18_inb i k0_h5)).overlay s.q ((k0_pay38 v208_p8r v219_p8r v220_p8r v221_p8r v223_p8r v237_p9 v238_p9 v239_p9))
  let v267_p9r := (k0_pay39 v208_p8r v219_p8r v220_p8r v221_p8r v223_p8r v237_p9 v238_p9 v239_p9)
  let v269_p10 := rdR (Rect.unit (s := S256x128) ![0, 0] S256x128.size inb_S256x128_S256x128_0_0) I.x12
  let o18_1 := (Rect.unit (s := S512x128) ![0, 0] S512x128.size inb_S512x128_S512x128_0_0).overlay s.o18 ((k0_pay40 v267_p9r v269_p10))
  let v278_p10r := ((b10_v278 (tW i)))
  let v295_p10r := ((b10_v295 (tW i)))
  let v296_p10r := ((b10_v296 (tW i)))
  let v317_p11 := rdR (Rect.unit (s := S512x128) ![0, 0] S512x128.size inb_S512x128_S512x128_0_0) I.x10
  let v328_p11 := rdR (Rect.unit (s := S512x128) ![0, 0] S512x128.size inb_S512x128_S512x128_0_0) I.x9
  let v342_p11 := rdR (Rect.unit (s := S2x512x8192) (k0_off19 i) S1x512x256.size (k0_off19_inb i k0_h5)) g_1
  let v326_p11r := (k0_pay41 v295_p10r v317_p11)
  let v337_p11r := (k0_pay42 v295_p10r v328_p11)
  let v343_p11r := (k0_pay43 v342_p11)
  let v344_p11r := (k0_pay44 (F := F))
  let g_2 := (Rect.unit (s := S2x512x8192) (k0_off19 i) S1x512x256.size (k0_off19_inb i k0_h5)).overlay g_1 ((k0_pay45 v344_p11r))
  let v351_p12 := rdR (Rect.unit (s := S512x128) ![0, 0] S512x128.size inb_S512x128_S512x128_0_0) s.dra
  let v355_p12 := rdR (Rect.unit (s := S512x128) ![0, 0] S512x128.size inb_S512x128_S512x128_0_0) s.dsa
  let v359_p12 := rdR (Rect.unit (s := S512x256) ![0, 0] S512x128.size inb_S512x256_S512x128_0_0) I.x6
  let v360_p12 := rdR (Rect.unit (s := S512x256) ![0, 0] S512x128.size inb_S512x256_S512x128_0_0) I.x7
  let v361_p12 := rdR (Rect.unit (s := S1x1x256) ![0, 0, 0] S1x1x128.size inb_S1x1x256_S1x1x128_0_0_0) I.x8
  let o14_1 := (Rect.unit (s := S512x256) ![0, 0] S512x128.size inb_S512x256_S512x128_0_0).overlay s.o14 ((k0_pay50 v326_p11r v337_p11r v343_p11r v359_p12 v360_p12 v361_p12))
  let v357_p12r := (k0_pay46 v296_p10r v355_p12)
  let v358_p12r := (k0_pay47 v343_p11r)
  let v377_p12r := (k0_pay49 v326_p11r v337_p11r v359_p12 v360_p12 v361_p12)
  let v381_p12r := (k0_pay50 v326_p11r v337_p11r v343_p11r v359_p12 v360_p12 v361_p12)
  let v383_p12r := (k0_pay51 v296_p10r v326_p11r v337_p11r v343_p11r v351_p12 v359_p12 v360_p12 v361_p12)
  let v384_p12r := (k0_pay52 v326_p11r v337_p11r v359_p12 v360_p12 v361_p12)
  let v395_p13 := rdR (Rect.unit (s := S32x8x256) (k0_off20 i) S1x8x128.size (k0_off20_inb i k0_h5)) s.dca
  let dca_1 := (Rect.unit (s := S32x8x256) (k0_off20 i) S1x8x128.size (k0_off20_inb i k0_h5)).overlay s.dca ((k0_pay54 v278_p10r v381_p12r v395_p13))
  let v407_p13 := rdR (Rect.unit (s := S512x256) ![0, 128] S512x128.size inb_S512x256_S512x128_0_128) I.x6
  let v408_p13 := rdR (Rect.unit (s := S512x256) ![0, 128] S512x128.size inb_S512x256_S512x128_0_128) I.x7
  let v409_p13 := rdR (Rect.unit (s := S1x1x256) ![0, 0, 128] S1x1x128.size inb_S1x1x256_S1x1x128_0_0_128) I.x8
  let v393_p13r := (k0_pay53 v357_p12r v358_p12r v377_p12r v384_p12r)
  let v406_p13r := (k0_pay55 v343_p11r)
  let v416_p13r := (k0_pay56 v326_p11r v337_p11r v407_p13 v408_p13 v409_p13)
  let v424_p13r := (k0_pay57 v326_p11r v337_p11r v407_p13 v408_p13 v409_p13)
  let o14_2 := (Rect.unit (s := S512x256) ![0, 128] S512x128.size inb_S512x256_S512x128_0_128).overlay o14_1 ((k0_pay59 v337_p11r v406_p13r v416_p13r v424_p13r))
  let v443_p14 := rdR (Rect.unit (s := S32x8x256) (k0_off21 i) S1x8x128.size (k0_off21_inb i k0_h5)) dca_1
  let dca_2 := (Rect.unit (s := S32x8x256) (k0_off21 i) S1x8x128.size (k0_off21_inb i k0_h5)).overlay dca_1 ((k0_pay60 v278_p10r v337_p11r v406_p13r v416_p13r v424_p13r v443_p14))
  let dra_1 := (Rect.unit (s := S512x128) ![0, 0] S512x128.size inb_S512x128_S512x128_0_0).overlay s.dra ((k0_pay61 v337_p11r v383_p12r v406_p13r v416_p13r v424_p13r))
  let dsa_1 := (Rect.unit (s := S512x128) ![0, 0] S512x128.size inb_S512x128_S512x128_0_0).overlay s.dsa ((k0_pay62 v393_p13r v406_p13r v416_p13r v424_p13r))
  let o15_if := if k0_h6 : k0_cond6 i = 1#1 then (
    let v463_p14 := rdR (Rect.unit (s := S512x128) ![0, 0] S512x128.size inb_S512x128_S512x128_0_0) dra_1
    let v467_p14 := rdR (Rect.unit (s := S1x1x512) ![0, 0, 0] S1x1x512.size inb_S1x1x512_S1x1x512_0_0_0) s.o15
    let o15_1 := (Rect.unit (s := S1x1x512) ![0, 0, 0] S1x1x512.size inb_S1x1x512_S1x1x512_0_0_0).overlay s.o15 ((k0_pay63 v463_p14))
    let v470_p14 := rdR (Rect.unit (s := S512x128) ![0, 0] S512x128.size inb_S512x128_S512x128_0_0) dsa_1
    let v474_p14 := rdR (Rect.unit (s := S1x1x512) ![0, 0, 0] S1x1x512.size inb_S1x1x512_S1x1x512_0_0_0) s.o17
    let o17_1 := (Rect.unit (s := S1x1x512) ![0, 0, 0] S1x1x512.size inb_S1x1x512_S1x1x512_0_0_0).overlay s.o17 ((k0_pay64 v470_p14))
    o15_1) else s.o15
  let o17_if := if k0_h6 : k0_cond6 i = 1#1 then (
    let v463_p14 := rdR (Rect.unit (s := S512x128) ![0, 0] S512x128.size inb_S512x128_S512x128_0_0) dra_1
    let v467_p14 := rdR (Rect.unit (s := S1x1x512) ![0, 0, 0] S1x1x512.size inb_S1x1x512_S1x1x512_0_0_0) s.o15
    let o15_1 := (Rect.unit (s := S1x1x512) ![0, 0, 0] S1x1x512.size inb_S1x1x512_S1x1x512_0_0_0).overlay s.o15 ((k0_pay63 v463_p14))
    let v470_p14 := rdR (Rect.unit (s := S512x128) ![0, 0] S512x128.size inb_S512x128_S512x128_0_0) dsa_1
    let v474_p14 := rdR (Rect.unit (s := S1x1x512) ![0, 0, 0] S1x1x512.size inb_S1x1x512_S1x1x512_0_0_0) s.o17
    let o17_1 := (Rect.unit (s := S1x1x512) ![0, 0, 0] S1x1x512.size inb_S1x1x512_S1x1x512_0_0_0).overlay s.o17 ((k0_pay64 v470_p14))
    o17_1) else s.o17
  ⟨q_1, g_2, en_1, ec_1, la_1, dca_2, dra_1, dsa_1, s.o13, o14_2, o15_if, s.o16, o17_if, o18_1⟩

/-- Section 6: an epilogue chunk of the last tile. -/
def f7 (i : grid0.Coords) (k0_h7 : k0_cond7 i = 1#1) (I : Ins F) (s : St F) : St F :=
  let v33_p15r := ((b15_v33 (tW i)))
  let v50_p15r := ((b15_v50 (tW i)))
  let v51_p15r := ((b15_v51 (tW i)))
  let v69_p15r := ((b15_v69 (tW i)))
  let v72_p16 := rdR (Rect.unit (s := S512x128) ![0, 0] S512x128.size inb_S512x128_S512x128_0_0) I.x10
  let v83_p16 := rdR (Rect.unit (s := S512x128) ![0, 0] S512x128.size inb_S512x128_S512x128_0_0) I.x9
  let v97_p16 := rdR (Rect.unit (s := S2x512x8192) (k0_off22 i) S1x512x256.size (k0_off22_inb i k0_h7)) s.g
  let g_1 := (Rect.unit (s := S2x512x8192) (k0_off22 i) S1x512x256.size (k0_off22_inb i k0_h7)).overlay s.g ((k0_pay68 (F := F)))
  let v106_p16 := rdR (Rect.unit (s := S512x128) ![0, 0] S512x128.size inb_S512x128_S512x128_0_0) s.dra
  let v81_p16r := (k0_pay65 v50_p15r v72_p16)
  let v92_p16r := (k0_pay66 v50_p15r v83_p16)
  let v98_p16r := (k0_pay67 v97_p16)
  let v108_p16r := (k0_pay69 v51_p15r v106_p16)
  let v109_p16r := ((b16_v109 v50_p15r v51_p15r v69_p15r))
  let v110_p17 := rdR (Rect.unit (s := S512x128) ![0, 0] S512x128.size inb_S512x128_S512x128_0_0) s.dsa
  let v114_p17 := rdR (Rect.unit (s := S512x256) ![0, 0] S512x128.size inb_S512x256_S512x128_0_0) I.x6
  let v115_p17 := rdR (Rect.unit (s := S512x256) ![0, 0] S512x128.size inb_S512x256_S512x128_0_0) I.x7
  let v116_p17 := rdR (Rect.unit (s := S1x1x256) ![0, 0, 0] S1x1x128.size inb_S1x1x256_S1x1x128_0_0_0) I.x8
  let o14_1 := (Rect.unit (s := S512x256) ![0, 0] S512x128.size inb_S512x256_S512x128_0_0).overlay s.o14 ((k0_pay73 v81_p16r v92_p16r v98_p16r v114_p17 v115_p17 v116_p17))
  let v136_p17r := (k0_pay73 v81_p16r v92_p16r v98_p16r v114_p17 v115_p17 v116_p17)
  let v138_p17r := (k0_pay74 v81_p16r v92_p16r v98_p16r v108_p16r v114_p17 v115_p17 v116_p17)
  let v148_p17r := (k0_pay75 v81_p16r v92_p16r v98_p16r v109_p16r v110_p17 v114_p17 v115_p17 v116_p17)
  let v150_p18 := rdR (Rect.unit (s := S32x8x256) (k0_off23 i) S1x8x128.size (k0_off23_inb i k0_h7)) s.dca
  let dca_1 := (Rect.unit (s := S32x8x256) (k0_off23 i) S1x8x128.size (k0_off23_inb i k0_h7)).overlay s.dca ((k0_pay76 v33_p15r v136_p17r v150_p18))
  let v162_p18 := rdR (Rect.unit (s := S512x256) ![0, 128] S512x128.size inb_S512x256_S512x128_0_128) I.x6
  let v163_p18 := rdR (Rect.unit (s := S512x256) ![0, 128] S512x128.size inb_S512x256_S512x128_0_128) I.x7
  let v164_p18 := rdR (Rect.unit (s := S1x1x256) ![0, 0, 128] S1x1x128.size inb_S1x1x256_S1x1x128_0_0_128) I.x8
  let o14_2 := (Rect.unit (s := S512x256) ![0, 128] S512x128.size inb_S512x256_S512x128_0_128).overlay o14_1 ((k0_pay80 v81_p16r v92_p16r v98_p16r v162_p18 v163_p18 v164_p18))
  let v161_p18r := (k0_pay77 v98_p16r)
  let v180_p18r := (k0_pay79 v81_p16r v92_p16r v162_p18 v163_p18 v164_p18)
  let v184_p18r := (k0_pay80 v81_p16r v92_p16r v98_p16r v162_p18 v163_p18 v164_p18)
  let v186_p18r := (k0_pay81 v81_p16r v92_p16r v98_p16r v138_p17r v162_p18 v163_p18 v164_p18)
  let v187_p18r := (k0_pay82 v81_p16r v92_p16r v162_p18 v163_p18 v164_p18)
  let c_m8_i32_82_p18r := (4294967288#32)
  let v198_t := rdR (Rect.unit (s := S32x8x256) (k0_off24 i) S1x8x128.size (k0_off24_inb i k0_h7)) dca_1
  let dca_2 := (Rect.unit (s := S32x8x256) (k0_off24 i) S1x8x128.size (k0_off24_inb i k0_h7)).overlay dca_1 ((k0_pay5 v33_p15r v184_p18r v198_t))
  let dra_1 := (Rect.unit (s := S512x128) ![0, 0] S512x128.size inb_S512x128_S512x128_0_0).overlay s.dra ((k0_pay6 v186_p18r))
  let dsa_1 := (Rect.unit (s := S512x128) ![0, 0] S512x128.size inb_S512x128_S512x128_0_0).overlay s.dsa ((k0_pay7 v148_p17r v161_p18r v180_p18r v187_p18r c_m8_i32_82_p18r))
  let o15_if := if k0_h8 : k0_cond8 i = 1#1 then (
    let v218_t := rdR (Rect.unit (s := S512x128) ![0, 0] S512x128.size inb_S512x128_S512x128_0_0) dra_1
    let v222_t := rdR (Rect.unit (s := S1x1x512) ![0, 0, 0] S1x1x512.size inb_S1x1x512_S1x1x512_0_0_0) s.o15
    let o15_1 := (Rect.unit (s := S1x1x512) ![0, 0, 0] S1x1x512.size inb_S1x1x512_S1x1x512_0_0_0).overlay s.o15 ((k0_pay8 v218_t))
    let v225_t := rdR (Rect.unit (s := S512x128) ![0, 0] S512x128.size inb_S512x128_S512x128_0_0) dsa_1
    let v229_t := rdR (Rect.unit (s := S1x1x512) ![0, 0, 0] S1x1x512.size inb_S1x1x512_S1x1x512_0_0_0) s.o17
    let o17_1 := (Rect.unit (s := S1x1x512) ![0, 0, 0] S1x1x512.size inb_S1x1x512_S1x1x512_0_0_0).overlay s.o17 ((k0_pay9 v225_t))
    o15_1) else s.o15
  let o17_if := if k0_h8 : k0_cond8 i = 1#1 then (
    let v218_t := rdR (Rect.unit (s := S512x128) ![0, 0] S512x128.size inb_S512x128_S512x128_0_0) dra_1
    let v222_t := rdR (Rect.unit (s := S1x1x512) ![0, 0, 0] S1x1x512.size inb_S1x1x512_S1x1x512_0_0_0) s.o15
    let o15_1 := (Rect.unit (s := S1x1x512) ![0, 0, 0] S1x1x512.size inb_S1x1x512_S1x1x512_0_0_0).overlay s.o15 ((k0_pay8 v218_t))
    let v225_t := rdR (Rect.unit (s := S512x128) ![0, 0] S512x128.size inb_S512x128_S512x128_0_0) dsa_1
    let v229_t := rdR (Rect.unit (s := S1x1x512) ![0, 0, 0] S1x1x512.size inb_S1x1x512_S1x1x512_0_0_0) s.o17
    let o17_1 := (Rect.unit (s := S1x1x512) ![0, 0, 0] S1x1x512.size inb_S1x1x512_S1x1x512_0_0_0).overlay s.o17 ((k0_pay9 v225_t))
    o17_1) else s.o17
  ⟨s.q, g_1, s.en, s.ec, s.la, dca_2, dra_1, dsa_1, s.o13, o14_2, o15_if, s.o16, o17_if, s.o18⟩

/-- Section 7: the loss and the column gradient written. -/
def f9 (i : grid0.Coords) (k0_h9 : k0_cond9 i = 1#1) (I : Ins F) (s : St F) : St F :=
  let v30_t := rdR (Rect.unit (s := S32x8x512) ![0, 0, 0] S32x8x512.size inb_S32x8x512_S32x8x512_0_0_0) s.la
  let o13_1 := (Rect.unit (s := S32x512) ![0, 0] S32x512.size inb_S32x512_S32x512_0_0).overlay s.o13 ((k0_pay10 v30_t))
  let v35_t := rdR (Rect.unit (s := S32x8x256) ![0, 0, 0] S32x8x256.size inb_S32x8x256_S32x8x256_0_0_0) s.dca
  let o16_1 := (Rect.unit (s := S32x256) ![0, 0] S32x256.size inb_S32x256_S32x256_0_0).overlay s.o16 ((k0_pay11 v35_t))
  ⟨s.q, s.g, s.en, s.ec, s.la, s.dca, s.dra, s.dsa, o13_1, s.o14, s.o15, o16_1, s.o17, s.o18⟩

/-- Section 1: the error tile, the loss and the column accumulators zeroed. -/
def f1 (s : St F) : St F :=
  { s with
    en := (Rect.unit (s := S512x512) ![0, 0] S512x512.size inb_S512x512_S512x512_0_0).overlay s.en k0_pay1
    la := (Rect.unit (s := S32x8x512) ![0, 0, 0] S32x8x512.size inb_S32x8x512_S32x8x512_0_0_0).overlay s.la k0_pay2
    dca := (Rect.unit (s := S32x8x256) ![0, 0, 0] S32x8x256.size inb_S32x8x256_S32x8x256_0_0_0).overlay s.dca k0_pay3 }

end Cert.Kernel.Gen

end
-- ==== Proof.Dma.lean ====
/-
  The token blocks' transfers: a slot of the ring held at contents, a start of a transfer into it (`startX`), the wait for
  one started earlier (`waitX`).
-/
module

public import proofs.«01_k».proof.Proof.Step

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

/-- A slot of the ring as the body names it: the buffer sliced at `off`, squeezed. -/
abbrev sMem (off : Fin 3 → Nat) (h : ∀ a, off a + S1x512x8192.size a ≤ S3x512x8192.size a) : Memref sig .tc .vmem S512x8192 .fp8e4m3 :=
  ((Memref.whole cc0_scratch0).slice (Rect.unit (s := S3x512x8192) off S1x512x8192.size h) (fun _ => rfl)).squeeze S512x8192 squeezes_S1x512x8192_S512x8192
/-- A token block of the array in HBM as the body names it. -/
abbrev hMem (off : Fin 2 → Nat) (h : ∀ a, off a + S512x8192.size a ≤ S16384x8192.size a) : Memref sig .tc .hbm S512x8192 .fp8e4m3 :=
  (Memref.whole main_v16).slice (Rect.unit (s := S16384x8192) off S512x8192.size h) (fun _ => rfl)
/-- A slot as a load of the body reads it. -/
abbrev sAcc (off : Fin 3 → Nat) (h : ∀ a, off a + S1x512x8192.size a ≤ S3x512x8192.size a) :=
  (Memref.whole cc0_scratch0).access (Rect.unit (s := S3x512x8192) off S1x512x8192.size h)
/-- A semaphore of the ring as the body names it. -/
abbrev semE (off : Fin 1 → Nat) (h : ∀ a, off a + S1.size a ≤ S3.size a) : DmaSem sig :=
  ((SemArray.slice cc0_scratch9 (Rect.unit (s := S3) off S1.size h)).squeeze S_ squeezes_S1_S_).sem

theorem sOff_inb (j : Fin 3) : ∀ a, (![j.val, 0, 0] : Fin 3 → Nat) a + S1x512x8192.size a ≤ S3x512x8192.size a := by revert j; decide
theorem hOff_inb (b : Fin 32) : ∀ a, (![b.val * 512, 0] : Fin 2 → Nat) a + S512x8192.size a ≤ S16384x8192.size a := by revert b; decide
theorem eOff_inb (j : Fin 3) : ∀ a, (![j.val] : Fin 1 → Nat) a + S1.size a ≤ S3.size a := by revert j; decide

/-- The ring's semaphore of slot `j`. -/
abbrev xsem (j : Fin 3) : DmaSem sig := semE ![j.val] (eOff_inb j)

/-- What a view reads of a buffer its reshape wrote whole. -/
theorem read_reshape_write {κ : Kind} {sp : Space} {s s' : Shape} {e : EltTy} {Val : EltTy → Type} (v : View sig κ sp s e) (h : s'.numel = s.numel) (f : v.ty.Contents Val) (w : s'.Idx → Val e) :
    v.read Val ((v.reshape s' h).write Val f w Finset.univ) = fun x => w ((Shape.reshapeEquiv h).symm x) := by
  funext x
  have e2 := congrFun (View.read_write_univ (v := v.reshape s' h) (Val := Val) f w) ((Shape.reshapeEquiv h).symm x)
  rw [← e2]
  rw [View.read_apply, View.read_apply, View.emb_reshape]
  simp only [Function.Embedding.trans_apply, Equiv.coe_toEmbedding, Equiv.apply_symm_apply]

variable (c : Dev nD)

/-- The slot at `off` held at share `q`, its contents `Y`. -/
def XS (off : Fin 3 → Nat) (h : ∀ a, off a + S1x512x8192.size a ≤ S3x512x8192.size a) (q : PosShare TreeShare) (Y : S1x512x8192.Idx → Elt F .fp8e4m3) : sProp 𝕄 :=
  iprop(∃ f, ⌜(sAcc off h).read (Elt F) f = Y⌝ ∗ ((sAcc off h).loc (c : Thread nD τ) ↦[(sAcc off h).set]{q} f))

/-- Slot `j` held at contents `Y`. -/
abbrev Slot (j : Fin 3) (q : PosShare TreeShare) (Y : S1x512x8192.Idx → Elt F .fp8e4m3) : sProp 𝕄 := XS c ![j.val, 0, 0] (sOff_inb j) q Y

/-- The token block `b` of the array's contents `X`, in the shape the body loads it. -/
def xblk (X : Buf (Elt F) ((c : Thread nD τ).loc main_v16)) (off : Fin 2 → Nat) (h : ∀ a, off a + S512x8192.size a ≤ S16384x8192.size a) : S1x512x8192.Idx → Elt F .fp8e4m3 :=
  fun x => (hMem off h).view.read (Elt F) X ((Shape.reshapeEquiv (squeezes_S1x512x8192_S512x8192).numel_eq).symm x)

/-- The elements of a token block of the array, at its contents `X`. -/
abbrev HB (off : Fin 2 → Nat) (h : ∀ a, off a + S512x8192.size a ≤ S16384x8192.size a) (q : PosShare TreeShare) (X : Buf (Elt F) ((c : Thread nD τ).loc main_v16)) : sProp 𝕄 :=
  ((hMem off h).view.loc (c : Thread nD τ) ↦[(hMem off h).view.set]{q} X)

/-- The units a transfer of one token block credits. -/
def nX : ℕ := (sMem ![0, 0, 0] (sOff_inb 0)).view.dmaCredit

theorem nX_pos : 0 < nX := by unfold nX; decide
theorem nX_eq (j : Fin 3) (sm : SemLoc sig) : (sMem ![j.val, 0, 0] (sOff_inb j)).view.amount (.dma (xsem j)) = nX := rfl

/-- The flight of block `b` into slot `j`: what the wait for it hands back. -/
abbrev Fly (j : Fin 3) (b : Fin 32) (q : PosShare TreeShare) (X : Buf (Elt F) ((c : Thread nD τ).loc main_v16)) : sProp 𝕄 :=
  Transfers.Flight (countersEmb (U := UD sig nD τ)) (c : Thread nD τ) (.dma (xsem j)) () nX
    iprop(Slot c j fullShare (xblk c X ![b.val * 512, 0] (hOff_inb b)) ∗ HB c ![b.val * 512, 0] (hOff_inb b) q X)

/-- The start of the transfer of block `b` into slot `j`. -/
theorem startX (j : Fin 3) (b : Fin 32) {offS : Fin 1 → Nat} {hS} {offD : Fin 3 → Nat} {hD} {offH : Fin 2 → Nat} {hH}
    (eS : offS = ![j.val]) (eD : offD = ![j.val, 0, 0]) (eH : offH = ![b.val * 512, 0])
    (X : Buf (Elt F) ((c : Thread nD τ).loc main_v16)) (q : PosShare TreeShare) (Y : S1x512x8192.Idx → Elt F .fp8e4m3)
    {hw1 hw2 ht} {α : Type} {k : PUnit → Prog (TpuEff nD τ sig (Elt F) Λ₀ .tc) α} {Q : α → sProp 𝕄} :
    iprop(HB c ![b.val * 512, 0] (hOff_inb b) q X ∗ Slot c j fullShare Y ∗ semVal ((c : Thread nD τ), .dma (xsem j)) 0)
      ⊢ iprop((Fly c j b q X -∗ wp frame (wpE (defs₀ (F := F)) Variants.none c none) Set.univ (k ⟨⟩) Q)
        -∗ wp frame (wpE (defs₀ (F := F)) Variants.none c none) Set.univ
            (Prog.lift (.enqueueDma (hMem offH hH) (.here (sMem offD hD)) (.dma (semE offS hS)) hw1 hw2 ht) >>= k) Q) := by
  subst eS eD eH
  unfold Slot XS
  iintro ⟨HH, ⟨%f, %hf, HS⟩, Hv⟩ Hk
  iapply (Transfers.wp_dmaLocal (countersEmb (U := UD sig nD τ)) Variants.none (c : Thread nD τ) none (Sd := (sAcc ![j.val, 0, 0] (sOff_inb j)).set) () nX (nX_eq j (.dma (xsem j))) nX_pos
    (Eq.subset (View.set_reshape (v := sAcc ![j.val, 0, 0] (sOff_inb j)) (s' := S512x8192) (squeezes_S1x512x8192_S512x8192).numel_eq))) $$ [HH HS Hv]
  · isplitl [HH]; · iexact HH
    isplitl [HS]; · iexact HS
    iexact Hv
  iintro HF
  iapply Hk
  iapply (Transfers.Flight_mono) $$ HF
  iintro ⟨HS, HH⟩
  isplitl [HS]
  · unfold Slot XS
    iexists _
    isplitr
    swap
    · iexact HS
    ipureintro
    exact read_reshape_write (sAcc ![j.val, 0, 0] (sOff_inb j)) (squeezes_S1x512x8192_S512x8192).numel_eq f _
  iexact HH

/-- The wait for the transfer of block `b` into slot `j`. -/
theorem waitX (j : Fin 3) (b : Fin 32) {offS : Fin 1 → Nat} {hS} {offD : Fin 3 → Nat} {hD} {offH : Fin 2 → Nat} {hH}
    (eS : offS = ![j.val]) (eD : offD = ![j.val, 0, 0])
    (X : Buf (Elt F) ((c : Thread nD τ).loc main_v16)) (q : PosShare TreeShare) {W : Waits sig Unit}
    {hw1 hw2} {α : Type} {k : PUnit → Prog (TpuEff nD τ sig (Elt F) Λ₀ .tc) α} {Q : α → sProp 𝕄} :
    iprop(Fly c j b q X ∗ owes (c : Thread nD τ) 0 W)
      ⊢ iprop((iprop(HB c ![b.val * 512, 0] (hOff_inb b) q X ∗ Slot c j fullShare (xblk c X ![b.val * 512, 0] (hOff_inb b))
            ∗ semVal ((c : Thread nD τ), .dma (xsem j)) 0 ∗ owes (c : Thread nD τ) 0 (insert (SemLoc.dma (xsem j), ()) W))
          -∗ wp frame (wpE (defs₀ (F := F)) Variants.none c none) Set.univ (k ⟨⟩) Q)
        -∗ wp frame (wpE (defs₀ (F := F)) Variants.none c none) Set.univ
            (Prog.lift (.waitDma2 (semE offS hS) (hMem offH hH) (sMem offD hD) hw1 hw2) >>= k) Q) := by
  subst eS eD
  iintro ⟨HF, HO⟩ Hk
  iapply (Transfers.wp_waitLocal (countersEmb (U := UD sig nD τ)) Variants.none (c : Thread nD τ) none (sem := xsem j) (srcw := hMem offH hH) (dstw := sMem ![j.val, 0, 0] (sOff_inb j)) (hsrc := hw1) (hdst := hw2) () (N := nX) rfl) $$ [HF HO]
  · isplitl [HF] <;> iassumption
  iintro ⟨⟨HS, HH⟩, Hv, HO⟩
  iapply Hk
  isplitl [HH]; · iexact HH
  isplitl [HS]; · iexact HS
  isplitl [Hv] <;> iassumption

end Cert.Kernel.Gen

end
-- ==== Proof.Own.lean ====
/-
  What a section of the body is run from: the scratch buffers, the output blocks and the input blocks as held by the core.
-/
module

public import proofs.«01_k».proof.Proof.Step

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

variable (c : Dev nD) (S : Stg) (π : ℕ → PosShare TreeShare)

/-- The eight scratch buffers the sections load and store, at the contents `s`. -/
def ScO (s : St F) : sProp 𝕄 :=
  iprop(owns (c : Thread nD τ) (Memref.whole cc0_scratch1) fullShare s.q
    ∗ owns (c : Thread nD τ) (Memref.whole cc0_scratch2) fullShare s.g
    ∗ owns (c : Thread nD τ) (Memref.whole cc0_scratch3) fullShare s.en
    ∗ owns (c : Thread nD τ) (Memref.whole cc0_scratch4) fullShare s.ec
    ∗ owns (c : Thread nD τ) (Memref.whole cc0_scratch5) fullShare s.la
    ∗ owns (c : Thread nD τ) (Memref.whole cc0_scratch6) fullShare s.dca
    ∗ owns (c : Thread nD τ) (Memref.whole cc0_scratch7) fullShare s.dra
    ∗ owns (c : Thread nD τ) (Memref.whole cc0_scratch8) fullShare s.dsa)

/-- The six output blocks, at the contents `s`. -/
def OutO (s : St F) : sProp 𝕄 :=
  iprop(owns (c : Thread nD τ) S.a13 fullShare s.o13
    ∗ owns (c : Thread nD τ) S.a14 fullShare s.o14
    ∗ owns (c : Thread nD τ) S.a15 fullShare s.o15
    ∗ owns (c : Thread nD τ) S.a16 fullShare s.o16
    ∗ owns (c : Thread nD τ) S.a17 fullShare s.o17
    ∗ owns (c : Thread nD τ) S.a18 fullShare s.o18)

/-- The input blocks, at the contents `I`, each at its share. -/
def InO (I : Ins F) : sProp 𝕄 :=
  iprop(owns (c : Thread nD τ) S.a2 (π 2) I.x2
    ∗ owns (c : Thread nD τ) S.a3 (π 3) I.x3
    ∗ owns (c : Thread nD τ) S.a4 (π 4) I.x4
    ∗ owns (c : Thread nD τ) S.a5 (π 5) I.x5
    ∗ owns (c : Thread nD τ) S.a6 (π 6) I.x6
    ∗ owns (c : Thread nD τ) S.a7 (π 7) I.x7
    ∗ owns (c : Thread nD τ) S.a8 (π 8) I.x8
    ∗ owns (c : Thread nD τ) S.a9 (π 9) I.x9
    ∗ owns (c : Thread nD τ) S.a10 (π 10) I.x10
    ∗ owns (c : Thread nD τ) S.a11 (π 11) I.x11
    ∗ owns (c : Thread nD τ) S.a12 (π 12) I.x12)

/-- The slot of this point's token block, at `Y`. -/
def XaO (i : grid0.Coords) (h : k0_cond5 i = 1#1) (q : PosShare TreeShare) (Y : S1x512x8192.Idx → Elt F .fp8e4m3) : sProp 𝕄 :=
  iprop(∃ f, ⌜((Memref.whole cc0_scratch0).access (Rect.unit (s := S3x512x8192) (k0_off14 i) S1x512x8192.size (k0_off14_inb i h))).read (Elt F) f = Y⌝
    ∗ (((Memref.whole cc0_scratch0).access (Rect.unit (s := S3x512x8192) (k0_off14 i) S1x512x8192.size (k0_off14_inb i h))).loc (c : Thread nD τ)
      ↦[((Memref.whole cc0_scratch0).access (Rect.unit (s := S3x512x8192) (k0_off14 i) S1x512x8192.size (k0_off14_inb i h))).set]{q} f))

/-- The slot of the block before it, at `Y`. -/
def XbO (i : grid0.Coords) (h : k0_cond5 i = 1#1) (q : PosShare TreeShare) (Y : S1x512x8192.Idx → Elt F .fp8e4m3) : sProp 𝕄 :=
  iprop(∃ f, ⌜((Memref.whole cc0_scratch0).access (Rect.unit (s := S3x512x8192) (k0_off17 i) S1x512x8192.size (k0_off17_inb i h))).read (Elt F) f = Y⌝
    ∗ (((Memref.whole cc0_scratch0).access (Rect.unit (s := S3x512x8192) (k0_off17 i) S1x512x8192.size (k0_off17_inb i h))).loc (c : Thread nD τ)
      ↦[((Memref.whole cc0_scratch0).access (Rect.unit (s := S3x512x8192) (k0_off17 i) S1x512x8192.size (k0_off17_inb i h))).set]{q} f))

end Cert.Kernel.Gen

end
-- ==== Proof.Ring.lean ====
/-
  The ring of token blocks between grid points: what is held of the array in HBM, of the three slots and of the three
  semaphores before point `t` (`Ring`), and how sections 1, 3 and 4 of the body move it on.
-/
module

public import proofs.«01_k».proof.Proof.Grid
public import proofs.«01_k».proof.Proof.Dma
public import proofs.«01_k».proof.Proof.Own

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

/-- The half of the array's share the `n`-th transfer is given. -/
def hs (n : ℕ) : PosShare TreeShare := if n % 2 = 0 then fullShare.left else fullShare.right
theorem hs_two (n : ℕ) : hs (n + 2) = hs n := by unfold hs; rw [Nat.add_mod_right]

theorem sl3_three (n : ℕ) : sl3 (n + 3) = sl3 n := Fin.ext (Nat.add_mod_right n 3)

variable (c : Dev nD) (X : Buf (Elt F) ((c : Thread nD τ).loc main_v16))

/-- The elements of the array the `n`-th transfer reads. -/
abbrev bs (n : ℕ) := (hMem ![(bl32 n).val * 512, 0] (hOff_inb (bl32 n))).view.set
/-- The token block the `n`-th transfer brings. -/
abbrev XB (n : ℕ) : S1x512x8192.Idx → Elt F .fp8e4m3 := xblk c X ![(bl32 n).val * 512, 0] (hOff_inb (bl32 n))
/-- The block the `n`-th transfer reads, held at `q`. -/
abbrev HBn (n : ℕ) (q : PosShare TreeShare) : sProp 𝕄 := HB c ![(bl32 n).val * 512, 0] (hOff_inb (bl32 n)) q X
/-- The array without the block the `n`-th transfer reads, held at `q`. -/
abbrev HRn (n : ℕ) (q : PosShare TreeShare) : sProp 𝕄 := ((hMem ![(bl32 n).val * 512, 0] (hOff_inb (bl32 n))).view.loc (c : Thread nD τ) ↦[Finset.univ \ bs n]{q} X)
/-- The whole array held at `q`. -/
abbrev HA (q : PosShare TreeShare) : sProp 𝕄 := ((c : Thread nD τ).loc main_v16 ↦{q} X)
/-- The semaphore of the slot of the `n`-th transfer at zero. -/
abbrev Sm (n : ℕ) : sProp 𝕄 := semVal ((c : Thread nD τ), .dma (xsem (sl3 n))) 0
/-- The slot of the `n`-th transfer held at some contents. -/
abbrev Any (n : ℕ) : sProp 𝕄 := iprop(∃ Y, Slot (F := F) c (sl3 n) fullShare Y)

theorem HA_take (n : ℕ) (q : PosShare TreeShare) : HA c X q ⊢ iprop(HBn c X n q ∗ HRn c X n q) :=
  (pointsTo_split_subset (Finset.subset_univ (bs n))).1
theorem HA_put (n : ℕ) (q : PosShare TreeShare) : iprop(HBn c X n q ∗ HRn c X n q) ⊢ HA c X q :=
  (pointsTo_split_subset (Finset.subset_univ (bs n))).2
theorem HA_split (n : ℕ) : HA c X fullShare ⊢ iprop(HA c X (hs n) ∗ HA c X (hs (n + 1))) := by
  unfold hs
  rcases Nat.mod_two_eq_zero_or_one n with e | e
  · rw [if_pos e, if_neg (by omega)]; exact (pointsTo_share (PosShare.mem_left_op_right fullShare)).1
  · rw [if_neg (by omega), if_pos (by omega)]
    iintro H
    ihave H := (pointsTo_share (PosShare.mem_left_op_right fullShare)).1 $$ H
    icases H with ⟨H1, H2⟩
    isplitl [H2] <;> iassumption
theorem HA_join (n : ℕ) : iprop(HA c X (hs n) ∗ HA c X (hs (n + 1))) ⊢ HA c X fullShare := by
  unfold hs
  rcases Nat.mod_two_eq_zero_or_one n with e | e
  · rw [if_pos e, if_neg (by omega)]; exact (pointsTo_share (PosShare.mem_left_op_right fullShare)).2
  · rw [if_neg (by omega), if_pos (by omega)]
    iintro ⟨H1, H2⟩
    iapply (pointsTo_share (PosShare.mem_left_op_right fullShare)).2
    isplitl [H2] <;> iassumption

/-- Nothing in flight: the array whole, the three slots at anything, the three semaphores at zero. -/
def Idle : sProp 𝕄 :=
  iprop(HA c X fullShare ∗ Any (F := F) c 0 ∗ Any (F := F) c 1 ∗ Any (F := F) c 2 ∗ Sm (F := F) c 0 ∗ Sm (F := F) c 1 ∗ Sm (F := F) c 2)

/-- The slot read at the point before `t`: from point 33 on, at the token block of that point. -/
def Prev (t : ℕ) : sProp 𝕄 := iprop(∃ Y, ⌜32 < t → Y = XB c X (t - 32 - 1)⌝ ∗ Slot (F := F) c (sl3 (t - 32 + 2)) fullShare Y)

/-- One transfer in flight: the block it reads is lent at half the share. -/
def Flying (t : ℕ) : sProp 𝕄 :=
  iprop(Fly c (sl3 (t - 32)) (bl32 (t - 32)) (hs (t - 32)) X ∗ HRn c X (t - 32) (hs (t - 32)) ∗ HA c X (hs (t - 32 + 1))
    ∗ Prev c X t ∗ Any (F := F) c (t - 32 + 1) ∗ Sm (F := F) c (t - 32 + 1) ∗ Sm (F := F) c (t - 32 + 2))

/-- All transfers waited for, the last token block still in its slot. -/
def Landed : sProp 𝕄 :=
  iprop(HA c X fullShare ∗ Prev c X 1056 ∗ Any (F := F) c 1024 ∗ Any (F := F) c 1025 ∗ Sm (F := F) c 0 ∗ Sm (F := F) c 1 ∗ Sm (F := F) c 2)

/-- The ring before grid point `t`. -/
def Ring (t : ℕ) : sProp 𝕄 :=
  if t = 0 then Idle c X else if t ≤ 1055 then Flying c X t else if t = 1056 then Landed c X else Idle c X

theorem Ring_zero : Ring c X 0 = Idle c X := by unfold Ring; rw [if_pos rfl]
theorem Ring_fly {t : ℕ} (h0 : t ≠ 0) (h : t ≤ 1055) : Ring c X t = Flying c X t := by unfold Ring; rw [if_neg h0, if_pos h]
theorem Ring_landed {t : ℕ} (h : t = 1056) : Ring c X t = Landed c X := by
  subst h; unfold Ring; rw [if_neg (by decide), if_neg (by decide), if_pos rfl]
theorem Ring_end {t : ℕ} (h : 1056 < t) : Ring c X t = Idle c X := by
  unfold Ring; rw [if_neg (by omega), if_neg (by omega), if_neg (by omega)]

/-- Between points 1 and 32 nothing of the ring changes. -/
theorem Ring_wait {t : ℕ} (h0 : t ≠ 0) (h : t < 32) : Ring c X t ⊢ Ring c X (t + 1) := by
  rw [Ring_fly c X h0 (by omega), Ring_fly c X (by omega) (by omega)]
  unfold Flying Prev
  have e1 : t - 32 = 0 := by omega
  have e2 : t + 1 - 32 = 0 := by omega
  rw [e1, e2]
  iintro ⟨HF, HR, HA, ⟨%Y, %hY, HS⟩, H⟩
  isplitl [HF]; · iexact HF
  isplitl [HR]; · iexact HR
  isplitl [HA]; · iexact HA
  isplitl [HS]
  · iexists Y
    isplitr; · ipureintro; omega
    iexact HS
  iexact H

/-- Section 1 at the first point: the first transfer is started and the accumulators are zeroed. -/
theorem sec1_wp (S : Stg) (i : grid0.Coords) (h : k0_cond1 i = 1#1) (s : St F) {k : Prog (TpuEff nD τ sig (Elt F) Λ₀ .tc) PUnit} {Q : PUnit → sProp 𝕄} :
    iprop(ScO c s ∗ Ring c X 0)
      ⊢ iprop((iprop(ScO c (f1 s) ∗ Ring c X 1) -∗ wp frame (wpE (defs₀ (F := F)) Variants.none c none) Set.univ k Q)
        -∗ wp frame (wpE (defs₀ (F := F)) Variants.none c none) Set.univ (sec1 i S k) Q) := by
  rw [Ring_zero, Ring_fly c X (t := 1) (by decide) (by decide)]
  unfold ScO Idle Flying Prev sec1
  rw [dif_pos h]
  dsimp only
  iintro ⟨⟨Hq, Hg, Hen, Hec, Hla, Hdca, Hdra, Hdsa⟩, HA, ⟨%Y0, H0⟩, ⟨%Y1, H1⟩, ⟨%Y2, H2⟩, S0, S1, S2⟩ Hk
  ihave HA := (HA_split c X 0) $$ HA
  icases HA with ⟨HAl, HAr⟩
  ihave HAl := (HA_take c X 0 (hs 0)) $$ HAl
  icases HAl with ⟨HB, HR⟩
  iapply (startX c (sl3 0) (bl32 0) off1_eq off2_eq off3_eq X (hs 0) Y0) $$ [HB H0 S0]
  · isplitl [HB]; · iexact HB
    isplitl [H0] <;> iassumption
  iintro HF
  iapply (ld c) $$ Hen
  iintro Hen
  iapply (st c) $$ Hen
  iintro Hen
  iapply (ld c) $$ Hla
  iintro Hla
  iapply (st c) $$ Hla
  iintro Hla
  iapply (ld c) $$ Hdca
  iintro Hdca
  iapply (st c) $$ Hdca
  iintro Hdca
  iapply Hk
  unfold f1
  dsimp only
  isplitl [Hq Hg Hen Hec Hla Hdca Hdra Hdsa]
  · isplitl [Hq]; · iexact Hq
    isplitl [Hg]; · iexact Hg
    isplitl [Hen]; · iexact Hen
    isplitl [Hec]; · iexact Hec
    isplitl [Hla]; · iexact Hla
    isplitl [Hdca]; · iexact Hdca
    isplitl [Hdra]; · iexact Hdra
    iexact Hdsa
  isplitl [HF]; · iexact HF
  isplitl [HR]; · iexact HR
  isplitl [HAr]; · iexact HAr
  isplitl [H2]
  · iexists Y2
    isplitr; · ipureintro; omega
    iexact H2
  isplitl [H1]; · iexists Y1; iexact H1
  isplitl [S1]; · iexact S1
  iexact S2

/-- What sections 3 and 4 hand on: the slots of this point's token block and of the one before it, and the way from them to the ring at the next point. -/
def Mid (t : ℕ) : sProp 𝕄 :=
  iprop(∃ Ya Yb, ∃ W : Waits sig Unit, ⌜(t ≤ 1055 → Ya = XB c X (t - 32)) ∧ (32 < t → Yb = XB c X (t - 32 - 1))⌝
    ∗ Slot (F := F) c (sl3 (t - 32)) fullShare Ya ∗ Slot (F := F) c (sl3 (t - 32 + 2)) fullShare Yb ∗ owes (c : Thread nD τ) 0 W
    ∗ (iprop(Slot (F := F) c (sl3 (t - 32)) fullShare Ya ∗ Slot (F := F) c (sl3 (t - 32 + 2)) fullShare Yb) -∗ Ring c X (t + 1)))

/-- What the wait leaves when a next transfer is in flight. -/
theorem mid_of_next (t : ℕ) (h1 : 32 ≤ t) (h2 : t ≤ 1054) (Yb : S1x512x8192.Idx → Elt F .fp8e4m3) (hb : 32 < t → Yb = XB c X (t - 32 - 1)) (W : Waits sig Unit) :
    iprop(HBn c X (t - 32) (hs (t - 32)) ∗ HRn c X (t - 32) (hs (t - 32)) ∗ Slot (F := F) c (sl3 (t - 32)) fullShare (XB c X (t - 32)) ∗ Sm (F := F) c (t - 32) ∗ owes (c : Thread nD τ) 0 W
      ∗ Fly c (sl3 (t - 32 + 1)) (bl32 (t - 32 + 1)) (hs (t - 32 + 1)) X ∗ HRn c X (t - 32 + 1) (hs (t - 32 + 1))
      ∗ Slot (F := F) c (sl3 (t - 32 + 2)) fullShare Yb ∗ Sm (F := F) c (t - 32 + 2)) ⊢ Mid c X t := by
  unfold Mid
  rw [Ring_fly c X (by omega) (by omega)]
  unfold Flying Prev
  obtain ⟨n, rfl⟩ : ∃ n, t = n + 32 := ⟨t - 32, by omega⟩
  have e1 : n + 32 - 32 = n := by omega
  have e2 : n + 32 + 1 - 32 = n + 1 := by omega
  rw [e1] at hb ⊢
  have e3 : Sm (F := F) c (n + 3) = Sm (F := F) c n := by unfold Sm; rw [sl3_three]
  rw [e2, hs_two, show n + 1 + 2 = n + 3 from rfl, sl3_three, e3]
  iintro ⟨HB, HR, HS, Hm, HO, HF, HR', Hb, Hm2⟩
  ihave HA := (HA_put c X n (hs n)) $$ [HB HR]
  · isplitl [HB] <;> iassumption
  iexists (XB c X n), Yb, W
  isplitr
  · ipureintro; exact ⟨fun _ => rfl, hb⟩
  isplitl [HS]; · iexact HS
  isplitl [Hb]; · iexact Hb
  isplitl [HO]; · iexact HO
  iintro ⟨HS, Hb⟩
  isplitl [HF]; · iexact HF
  isplitl [HR']; · iexact HR'
  isplitl [HA]; · iexact HA
  isplitl [HS]
  · iexists (XB c X n)
    isplitr; · ipureintro; intro _; rw [show n + 1 - 1 = n from rfl]
    iexact HS
  isplitl [Hb]; · iexists Yb; iexact Hb
  isplitl [Hm2]; · iexact Hm2
  iexact Hm

/-- What the last wait leaves. -/
theorem mid_of_last (t : ℕ) (h : t = 1055) (Y1 Yb : S1x512x8192.Idx → Elt F .fp8e4m3) (hb : 32 < t → Yb = XB c X (t - 32 - 1)) (W : Waits sig Unit) :
    iprop(HBn c X (t - 32) (hs (t - 32)) ∗ HRn c X (t - 32) (hs (t - 32)) ∗ HA c X (hs (t - 32 + 1)) ∗ Slot (F := F) c (sl3 (t - 32)) fullShare (XB c X (t - 32)) ∗ Sm (F := F) c (t - 32) ∗ owes (c : Thread nD τ) 0 W
      ∗ Slot (F := F) c (sl3 (t - 32 + 2)) fullShare Yb ∗ Slot (F := F) c (sl3 (t - 32 + 1)) fullShare Y1 ∗ Sm (F := F) c (t - 32 + 1) ∗ Sm (F := F) c (t - 32 + 2)) ⊢ Mid c X t := by
  unfold Mid
  rw [Ring_landed c X (t := t + 1) (by omega)]
  unfold Landed Prev
  iintro ⟨HB, HR, HA, HS, Hm, HO, Hb, H1, S1, S2⟩
  ihave HAl := (HA_put c X (t - 32) (hs (t - 32))) $$ [HB HR]
  · isplitl [HB] <;> iassumption
  ihave HA := (HA_join c X (t - 32)) $$ [HA HAl]
  · isplitl [HAl] <;> iassumption
  subst h
  iexists (XB c X (1055 - 32)), Yb, W
  isplitr
  · ipureintro; exact ⟨fun _ => rfl, hb⟩
  isplitl [HS]; · iexact HS
  isplitl [Hb]; · iexact Hb
  isplitl [HO]; · iexact HO
  iintro ⟨HS, Hb⟩
  isplitl [HA]; · iexact HA
  isplitl [HS]
  · iexists (XB c X (1055 - 32))
    isplitr; · ipureintro; intro _; rfl
    iexact HS
  isplitl [H1]; · iexists Y1; iexact H1
  isplitl [Hb]; · iexists Yb; iexact Hb
  isplitl [Hm]; · iexact Hm
  isplitl [S1]; · iexact S1
  iexact S2

/-- Sections 3 and 4 together, at every point that reads a token block. -/
theorem sec34_wp (S : Stg) (t : Fin grid0.N) (h1 : 32 ≤ t.val) (h2 : t.val ≤ 1056) {W : Waits sig Unit} {k : Prog (TpuEff nD τ sig (Elt F) Λ₀ .tc) PUnit} {Q : PUnit → sProp 𝕄} :
    iprop(Ring c X t.val ∗ owes (c : Thread nD τ) 0 W)
      ⊢ iprop((Mid c X t.val -∗ wp frame (wpE (defs₀ (F := F)) Variants.none c none) Set.univ k Q)
        -∗ wp frame (wpE (defs₀ (F := F)) Variants.none c none) Set.univ (sec3 (grid0.coords t) S (sec4 (grid0.coords t) S k)) Q) := by
  unfold sec3 sec4
  by_cases h3 : t.val ≤ 1054
  · rw [dif_pos ((cond3_iff t).mpr ⟨h1, h3⟩), dif_pos ((cond4_iff t).mpr ⟨h1, by omega⟩), Ring_fly c X (by omega) (by omega)]
    unfold Flying Prev
    dsimp only
    iintro ⟨⟨HF, HR, HA, ⟨%Yb, %hb, Hb⟩, ⟨%Y1, H1⟩, S1, S2⟩, HO⟩ Hk
    ihave HA := (HA_take c X (t.val - 32 + 1) (hs (t.val - 32 + 1))) $$ HA
    icases HA with ⟨HB1, HR1⟩
    iapply (startX c (sl3 (t.val - 32 + 1)) (bl32 (t.val - 32 + 1)) (off7_eq t ⟨h1, h3⟩) (off8_eq t ⟨h1, h3⟩) (off9_eq t ⟨h1, h3⟩) X (hs (t.val - 32 + 1)) Y1) $$ [HB1 H1 S1]
    · isplitl [HB1]; · iexact HB1
      isplitl [H1] <;> iassumption
    iintro HF1
    iapply (waitX c (sl3 (t.val - 32)) (bl32 (t.val - 32)) (off10_eq t ⟨h1, by omega⟩) (off11_eq t ⟨h1, by omega⟩) X (hs (t.val - 32))) $$ [HF HO]
    · isplitl [HF] <;> iassumption
    iintro ⟨HB, HS, Hm, HO⟩
    iapply Hk
    iapply (mid_of_next c X t.val h1 h3 Yb hb _)
    isplitl [HB]; · iexact HB
    isplitl [HR]; · iexact HR
    isplitl [HS]; · iexact HS
    isplitl [Hm]; · iexact Hm
    isplitl [HO]; · iexact HO
    isplitl [HF1]; · iexact HF1
    isplitl [HR1]; · iexact HR1
    isplitl [Hb]; · iexact Hb
    iexact S2
  · rw [dif_neg (fun h => h3 ((cond3_iff t).mp h).2)]
    by_cases h4 : t.val = 1055
    · rw [dif_pos ((cond4_iff t).mpr ⟨h1, by omega⟩), Ring_fly c X (by omega) (by omega)]
      unfold Flying Prev
      dsimp only
      iintro ⟨⟨HF, HR, HA, ⟨%Yb, %hb, Hb⟩, ⟨%Y1, H1⟩, S1, S2⟩, HO⟩ Hk
      iapply (waitX c (sl3 (t.val - 32)) (bl32 (t.val - 32)) (off10_eq t ⟨h1, by omega⟩) (off11_eq t ⟨h1, by omega⟩) X (hs (t.val - 32))) $$ [HF HO]
      · isplitl [HF] <;> iassumption
      iintro ⟨HB, HS, Hm, HO⟩
      iapply Hk
      iapply (mid_of_last c X t.val h4 Y1 Yb hb _)
      isplitl [HB]; · iexact HB
      isplitl [HR]; · iexact HR
      isplitl [HA]; · iexact HA
      isplitl [HS]; · iexact HS
      isplitl [Hm]; · iexact Hm
      isplitl [HO]; · iexact HO
      isplitl [Hb]; · iexact Hb
      isplitl [H1]; · iexact H1
      isplitl [S1]; · iexact S1
      iexact S2
    · have h5 : t.val = 1056 := by omega
      rw [dif_neg (fun h => h4 (by have := ((cond4_iff t).mp h).2; omega)), Ring_landed c X h5]
      unfold Mid
      rw [Ring_end c X (t := t.val + 1) (by omega)]
      unfold Landed Idle Prev
      rw [h5]
      iintro ⟨⟨HA, ⟨%Yb, %hb, Hb⟩, ⟨%Ya, Ha⟩, ⟨%Y1, H1⟩, S0, S1, S2⟩, HO⟩ Hk
      iapply Hk
      iexists Ya, Yb, W
      isplitr
      · ipureintro; exact ⟨fun h => absurd h (by decide), hb⟩
      isplitl [Ha]; · iexact Ha
      isplitl [Hb]; · iexact Hb
      isplitl [HO]; · iexact HO
      iintro ⟨Ha, Hb⟩
      isplitl [HA]; · iexact HA
      isplitl [Hb]; · iexists Yb; iexact Hb
      isplitl [Ha]; · iexists Ya; iexact Ha
      isplitl [H1]; · iexists Y1; iexact H1
      isplitl [S0]; · iexact S0
      isplitl [S1]; · iexact S1
      iexact S2

end Cert.Kernel.Gen

end
-- ==== Proof.Triples.lean ====
/-
  The rules of the sections 2, 6 and 7 of the body, each run from the memory it is handed to the memory `Step` says it
  leaves, before an arbitrary continuation.
-/
module

public import proofs.«01_k».proof.Proof.Own

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

set_option maxHeartbeats 4000000

local notation "𝕄" => MT nD τ sig Unit (Elt F) ℕ (UD sig nD τ) ℕ

variable (c : Dev nD) (S : Stg) (π : ℕ → PosShare TreeShare)

/-- The rule of the section `sec9`. -/
theorem sec9_wp (i : grid0.Coords) (h : k0_cond9 i = 1#1) (I : Ins F) (s : St F) {k : Prog (TpuEff nD τ sig (Elt F) Λ₀ .tc) PUnit} {Q : PUnit → sProp 𝕄} :
    iprop(ScO c s ∗ OutO c S s ∗ InO c S π I)
      ⊢ iprop((iprop(ScO c (f9 i h I s) ∗ OutO c S (f9 i h I s) ∗ InO c S π I) -∗ wp frame (wpE (defs₀ (F := F)) Variants.none c none) Set.univ k Q)
        -∗ wp frame (wpE (defs₀ (F := F)) Variants.none c none) Set.univ (sec9 i S k) Q) := by
  unfold ScO OutO InO sec9
  rw [dif_pos h]
  iintro ⟨⟨Hq, Hg, Hen, Hec, Hla, Hdca, Hdra, Hdsa⟩, ⟨Ho13, Ho14, Ho15, Ho16, Ho17, Ho18⟩, ⟨Hx2, Hx3, Hx4, Hx5, Hx6, Hx7, Hx8, Hx9, Hx10, Hx11, Hx12⟩⟩ Hk
  iapply (ld c) $$ Hla; iintro Hla
  iapply (ld c) $$ Ho13; iintro Ho13
  iapply (st c) $$ Ho13; iintro Ho13
  iapply (ld c) $$ Hdca; iintro Hdca
  iapply (ld c) $$ Ho16; iintro Ho16
  iapply (st c) $$ Ho16; iintro Ho16
  iapply Hk
  unfold f9; dsimp only
  isplitl [Hq Hg Hen Hec Hla Hdca Hdra Hdsa]
  · isplitl [Hq]; · iexact Hq
    isplitl [Hg]; · iexact Hg
    isplitl [Hen]; · iexact Hen
    isplitl [Hec]; · iexact Hec
    isplitl [Hla]; · iexact Hla
    isplitl [Hdca]; · iexact Hdca
    isplitl [Hdra]; · iexact Hdra
    iexact Hdsa
  isplitl [Ho13 Ho14 Ho15 Ho16 Ho17 Ho18]
  · isplitl [Ho13]; · iexact Ho13
    isplitl [Ho14]; · iexact Ho14
    isplitl [Ho15]; · iexact Ho15
    isplitl [Ho16]; · iexact Ho16
    isplitl [Ho17]; · iexact Ho17
    iexact Ho18
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hx8]; · iexact Hx8
  isplitl [Hx9]; · iexact Hx9
  isplitl [Hx10]; · iexact Hx10
  isplitl [Hx11]; · iexact Hx11
  iexact Hx12

/-- The rule of the section `sec2`. -/
theorem sec2_wp (i : grid0.Coords) (h : k0_cond2 i = 1#1) (I : Ins F) (s : St F) {k : Prog (TpuEff nD τ sig (Elt F) Λ₀ .tc) PUnit} {Q : PUnit → sProp 𝕄} :
    iprop(ScO c s ∗ OutO c S s ∗ InO c S π I)
      ⊢ iprop((iprop(ScO c (f2 i h I s) ∗ OutO c S (f2 i h I s) ∗ InO c S π I) -∗ wp frame (wpE (defs₀ (F := F)) Variants.none c none) Set.univ k Q)
        -∗ wp frame (wpE (defs₀ (F := F)) Variants.none c none) Set.univ (sec2 i S k) Q) := by
  unfold ScO OutO InO sec2
  rw [dif_pos h]
  iintro ⟨⟨Hq, Hg, Hen, Hec, Hla, Hdca, Hdra, Hdsa⟩, ⟨Ho13, Ho14, Ho15, Ho16, Ho17, Ho18⟩, ⟨Hx2, Hx3, Hx4, Hx5, Hx6, Hx7, Hx8, Hx9, Hx10, Hx11, Hx12⟩⟩ Hk
  rw [k0_part1_eq_skeleton, k0_part1_named, wp_bind]
  iapply (ld c) $$ Hx10; iintro Hx10
  rw [wp_pure]; imodintro; dsimp only
  rw [k0_part2_eq_skeleton, wp_bind]; unfold k0_part2_skel
  iapply (ld c) $$ Hx9; iintro Hx9
  iapply (ld c) $$ Hx3; iintro Hx3
  iapply (ld c) $$ Hx4; iintro Hx4
  iapply (ld c) $$ Hx5; iintro Hx5
  iapply (ld c) $$ Hx3; iintro Hx3
  iapply (ld c) $$ Hx4; iintro Hx4
  iapply (ld c) $$ Hx5; iintro Hx5
  rw [wp_pure]; imodintro; dsimp only
  rw [k0_part3_eq_skeleton, wp_bind]; unfold k0_part3_skel
  iapply (ld c) $$ Hq; iintro Hq
  iapply (st c) $$ Hq; iintro Hq
  iapply (ld c) $$ Hx12; iintro Hx12
  iapply (ld c) $$ Ho18; iintro Ho18
  iapply (st c) $$ Ho18; iintro Ho18
  iapply (ld c) $$ Hg; iintro Hg
  iapply (st c) $$ Hg; iintro Hg
  rw [wp_pure]; imodintro; dsimp only
  iapply (ld c) $$ Hg; iintro Hg
  iapply (st c) $$ Hg; iintro Hg
  iapply Hk
  unfold f2; dsimp only
  isplitl [Hq Hg Hen Hec Hla Hdca Hdra Hdsa]
  · isplitl [Hq]; · iexact Hq
    isplitl [Hg]; · iexact Hg
    isplitl [Hen]; · iexact Hen
    isplitl [Hec]; · iexact Hec
    isplitl [Hla]; · iexact Hla
    isplitl [Hdca]; · iexact Hdca
    isplitl [Hdra]; · iexact Hdra
    iexact Hdsa
  isplitl [Ho13 Ho14 Ho15 Ho16 Ho17 Ho18]
  · isplitl [Ho13]; · iexact Ho13
    isplitl [Ho14]; · iexact Ho14
    isplitl [Ho15]; · iexact Ho15
    isplitl [Ho16]; · iexact Ho16
    isplitl [Ho17]; · iexact Ho17
    iexact Ho18
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hx8]; · iexact Hx8
  isplitl [Hx9]; · iexact Hx9
  isplitl [Hx10]; · iexact Hx10
  isplitl [Hx11]; · iexact Hx11
  iexact Hx12

/-- The rule of the section `sec7`. -/
theorem sec7_wp (i : grid0.Coords) (h : k0_cond7 i = 1#1) (I : Ins F) (s : St F) {k : Prog (TpuEff nD τ sig (Elt F) Λ₀ .tc) PUnit} {Q : PUnit → sProp 𝕄} :
    iprop(ScO c s ∗ OutO c S s ∗ InO c S π I)
      ⊢ iprop((iprop(ScO c (f7 i h I s) ∗ OutO c S (f7 i h I s) ∗ InO c S π I) -∗ wp frame (wpE (defs₀ (F := F)) Variants.none c none) Set.univ k Q)
        -∗ wp frame (wpE (defs₀ (F := F)) Variants.none c none) Set.univ (sec7 i S k) Q) := by
  unfold ScO OutO InO sec7
  rw [dif_pos h]
  iintro ⟨⟨Hq, Hg, Hen, Hec, Hla, Hdca, Hdra, Hdsa⟩, ⟨Ho13, Ho14, Ho15, Ho16, Ho17, Ho18⟩, ⟨Hx2, Hx3, Hx4, Hx5, Hx6, Hx7, Hx8, Hx9, Hx10, Hx11, Hx12⟩⟩ Hk
  rw [k0_part15_eq_skeleton, k0_part15_named, wp_bind]
  rw [wp_pure]; imodintro; dsimp only
  rw [k0_part16_eq_skeleton, k0_part16_named, wp_bind]
  iapply (ld c) $$ Hx10; iintro Hx10
  iapply (ld c) $$ Hx9; iintro Hx9
  iapply (ld c) $$ Hg; iintro Hg
  iapply (ld c) $$ Hg; iintro Hg
  iapply (st c) $$ Hg; iintro Hg
  iapply (ld c) $$ Hdra; iintro Hdra
  rw [wp_pure]; imodintro; dsimp only
  rw [k0_part17_eq_skeleton, wp_bind]; unfold k0_part17_skel
  iapply (ld c) $$ Hdsa; iintro Hdsa
  iapply (ld c) $$ Hx6; iintro Hx6
  iapply (ld c) $$ Hx7; iintro Hx7
  iapply (ld c) $$ Hx8; iintro Hx8
  iapply (ld c) $$ Ho14; iintro Ho14
  iapply (st c) $$ Ho14; iintro Ho14
  rw [wp_pure]; imodintro; dsimp only
  rw [k0_part18_eq_skeleton, wp_bind]; unfold k0_part18_skel
  iapply (ld c) $$ Hdca; iintro Hdca
  iapply (ld c) $$ Hdca; iintro Hdca
  iapply (st c) $$ Hdca; iintro Hdca
  iapply (ld c) $$ Hx6; iintro Hx6
  iapply (ld c) $$ Hx7; iintro Hx7
  iapply (ld c) $$ Hx8; iintro Hx8
  iapply (ld c) $$ Ho14; iintro Ho14
  iapply (st c) $$ Ho14; iintro Ho14
  rw [wp_pure]; imodintro; dsimp only
  iapply (ld c) $$ Hdca; iintro Hdca
  iapply (ld c) $$ Hdca; iintro Hdca
  iapply (st c) $$ Hdca; iintro Hdca
  iapply (ld c) $$ Hdra; iintro Hdra
  iapply (st c) $$ Hdra; iintro Hdra
  iapply (ld c) $$ Hdsa; iintro Hdsa
  iapply (st c) $$ Hdsa; iintro Hdsa
  by_cases hz : k0_cond8 i = 1#1
  · rw [dif_pos hz]
    iapply (ld c) $$ Hdra; iintro Hdra
    iapply (ld c) $$ Ho15; iintro Ho15
    iapply (st c) $$ Ho15; iintro Ho15
    iapply (ld c) $$ Hdsa; iintro Hdsa
    iapply (ld c) $$ Ho17; iintro Ho17
    iapply (st c) $$ Ho17; iintro Ho17
    have eo15 : (f7 i h I s).o15 = _ := dif_pos hz
    have eo17 : (f7 i h I s).o17 = _ := dif_pos hz
    rw [eo15, eo17]
    iapply Hk
    unfold f7; dsimp only
    isplitl [Hq Hg Hen Hec Hla Hdca Hdra Hdsa]
    · isplitl [Hq]; · iexact Hq
      isplitl [Hg]; · iexact Hg
      isplitl [Hen]; · iexact Hen
      isplitl [Hec]; · iexact Hec
      isplitl [Hla]; · iexact Hla
      isplitl [Hdca]; · iexact Hdca
      isplitl [Hdra]; · iexact Hdra
      iexact Hdsa
    isplitl [Ho13 Ho14 Ho15 Ho16 Ho17 Ho18]
    · isplitl [Ho13]; · iexact Ho13
      isplitl [Ho14]; · iexact Ho14
      isplitl [Ho15]; · iexact Ho15
      isplitl [Ho16]; · iexact Ho16
      isplitl [Ho17]; · iexact Ho17
      iexact Ho18
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    iexact Hx12
  · rw [dif_neg hz]
    have eo15 : (f7 i h I s).o15 = _ := dif_neg hz
    have eo17 : (f7 i h I s).o17 = _ := dif_neg hz
    rw [eo15, eo17]
    iapply Hk
    unfold f7; dsimp only
    isplitl [Hq Hg Hen Hec Hla Hdca Hdra Hdsa]
    · isplitl [Hq]; · iexact Hq
      isplitl [Hg]; · iexact Hg
      isplitl [Hen]; · iexact Hen
      isplitl [Hec]; · iexact Hec
      isplitl [Hla]; · iexact Hla
      isplitl [Hdca]; · iexact Hdca
      isplitl [Hdra]; · iexact Hdra
      iexact Hdsa
    isplitl [Ho13 Ho14 Ho15 Ho16 Ho17 Ho18]
    · isplitl [Ho13]; · iexact Ho13
      isplitl [Ho14]; · iexact Ho14
      isplitl [Ho15]; · iexact Ho15
      isplitl [Ho16]; · iexact Ho16
      isplitl [Ho17]; · iexact Ho17
      iexact Ho18
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    iexact Hx12

end Cert.Kernel.Gen

end
-- ==== Proof.Triples5.lean ====
/-
  The rule of the section 5 of the body (`f5`).
-/
module

public import proofs.«01_k».proof.Proof.Own

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

set_option maxHeartbeats 4000000

local notation "𝕄" => MT nD τ sig Unit (Elt F) ℕ (UD sig nD τ) ℕ

variable (c : Dev nD) (S : Stg) (π : ℕ → PosShare TreeShare)

/-- The rule of the section `sec5`. -/
theorem sec5_wp (i : grid0.Coords) (h : k0_cond5 i = 1#1) (I : Ins F) (s : St F) {q1 q2 : PosShare TreeShare} {k : Prog (TpuEff nD τ sig (Elt F) Λ₀ .tc) PUnit} {Q : PUnit → sProp 𝕄} :
    iprop(ScO c s ∗ OutO c S s ∗ InO c S π I ∗ XaO c i h q1 I.xa ∗ XbO c i h q2 I.xb)
      ⊢ iprop((iprop(ScO c (f5 i h I s) ∗ OutO c S (f5 i h I s) ∗ InO c S π I ∗ XaO c i h q1 I.xa ∗ XbO c i h q2 I.xb) -∗ wp frame (wpE (defs₀ (F := F)) Variants.none c none) Set.univ k Q)
        -∗ wp frame (wpE (defs₀ (F := F)) Variants.none c none) Set.univ (sec5 i S k) Q) := by
  unfold ScO OutO InO XaO XbO sec5
  rw [dif_pos h]
  iintro ⟨⟨Hq, Hg, Hen, Hec, Hla, Hdca, Hdra, Hdsa⟩, ⟨Ho13, Ho14, Ho15, Ho16, Ho17, Ho18⟩, ⟨Hx2, Hx3, Hx4, Hx5, Hx6, Hx7, Hx8, Hx9, Hx10, Hx11, Hx12⟩, HXa, HXb⟩ Hk
  rw [k0_part4_eq_skeleton, k0_part4_named, wp_bind]
  rw [wp_pure]; imodintro; dsimp only
  rw [k0_part5_eq_skeleton, k0_part5_named, wp_bind]
  iapply (ld c) $$ Hen; iintro Hen
  iapply (ld c) $$ Hec; iintro Hec
  iapply (st c) $$ Hec; iintro Hec
  iapply (ld c) $$ Hq; iintro Hq
  iapply (ldAt c) $$ HXa; iintro HXa
  rw [wp_pure]; imodintro; dsimp only
  rw [k0_part6_eq_skeleton, wp_bind]; unfold k0_part6_skel
  iapply (ld c) $$ Hx9; iintro Hx9
  iapply (ld c) $$ Hx2; iintro Hx2
  iapply (ld c) $$ Hx11; iintro Hx11
  iapply (ld c) $$ Hla; iintro Hla
  iapply (ld c) $$ Hla; iintro Hla
  iapply (st c) $$ Hla; iintro Hla
  rw [wp_pure]; imodintro; dsimp only
  rw [k0_part7_eq_skeleton, k0_part7_named, wp_bind]
  iapply (ld c) $$ Hen; iintro Hen
  iapply (st c) $$ Hen; iintro Hen
  iapply (ld c) $$ Hg; iintro Hg
  iapply (ld c) $$ Hec; iintro Hec
  iapply (ldAt c) $$ HXb; iintro HXb
  iapply (ld c) $$ Hg; iintro Hg
  iapply (st c) $$ Hg; iintro Hg
  rw [wp_pure]; imodintro; dsimp only
  rw [k0_part8_eq_skeleton, k0_part8_named, wp_bind]
  iapply (ld c) $$ Hx10; iintro Hx10
  iapply (ld c) $$ Hx9; iintro Hx9
  iapply (ld c) $$ Hx3; iintro Hx3
  iapply (ld c) $$ Hx4; iintro Hx4
  iapply (ld c) $$ Hx5; iintro Hx5
  rw [wp_pure]; imodintro; dsimp only
  rw [k0_part9_eq_skeleton, wp_bind]; unfold k0_part9_skel
  iapply (ld c) $$ Hx3; iintro Hx3
  iapply (ld c) $$ Hx4; iintro Hx4
  iapply (ld c) $$ Hx5; iintro Hx5
  iapply (ld c) $$ Hq; iintro Hq
  iapply (st c) $$ Hq; iintro Hq
  rw [wp_pure]; imodintro; dsimp only
  rw [k0_part10_eq_skeleton, k0_part10_named, wp_bind]
  iapply (ld c) $$ Hx12; iintro Hx12
  iapply (ld c) $$ Ho18; iintro Ho18
  iapply (st c) $$ Ho18; iintro Ho18
  rw [wp_pure]; imodintro; dsimp only
  rw [k0_part11_eq_skeleton, wp_bind]; unfold k0_part11_skel
  iapply (ld c) $$ Hx10; iintro Hx10
  iapply (ld c) $$ Hx9; iintro Hx9
  iapply (ld c) $$ Hg; iintro Hg
  iapply (ld c) $$ Hg; iintro Hg
  rw [wp_pure]; imodintro; dsimp only
  rw [k0_part12_eq_skeleton, wp_bind]; unfold k0_part12_skel
  iapply (st c) $$ Hg; iintro Hg
  iapply (ld c) $$ Hdra; iintro Hdra
  iapply (ld c) $$ Hdsa; iintro Hdsa
  iapply (ld c) $$ Hx6; iintro Hx6
  iapply (ld c) $$ Hx7; iintro Hx7
  iapply (ld c) $$ Hx8; iintro Hx8
  iapply (ld c) $$ Ho14; iintro Ho14
  iapply (st c) $$ Ho14; iintro Ho14
  rw [wp_pure]; imodintro; dsimp only
  rw [k0_part13_eq_skeleton, wp_bind]; unfold k0_part13_skel
  iapply (ld c) $$ Hdca; iintro Hdca
  iapply (ld c) $$ Hdca; iintro Hdca
  iapply (st c) $$ Hdca; iintro Hdca
  iapply (ld c) $$ Hx6; iintro Hx6
  iapply (ld c) $$ Hx7; iintro Hx7
  iapply (ld c) $$ Hx8; iintro Hx8
  rw [wp_pure]; imodintro; dsimp only
  rw [k0_part14_eq_skeleton, wp_bind]; unfold k0_part14_skel
  iapply (ld c) $$ Ho14; iintro Ho14
  iapply (st c) $$ Ho14; iintro Ho14
  iapply (ld c) $$ Hdca; iintro Hdca
  iapply (ld c) $$ Hdca; iintro Hdca
  iapply (st c) $$ Hdca; iintro Hdca
  iapply (ld c) $$ Hdra; iintro Hdra
  iapply (st c) $$ Hdra; iintro Hdra
  iapply (ld c) $$ Hdsa; iintro Hdsa
  iapply (st c) $$ Hdsa; iintro Hdsa
  dsimp only
  by_cases hz : k0_cond6 i = 1#1
  · rw [dif_pos hz]
    iapply (ld c) $$ Hdra; iintro Hdra
    iapply (ld c) $$ Ho15; iintro Ho15
    iapply (st c) $$ Ho15; iintro Ho15
    iapply (ld c) $$ Hdsa; iintro Hdsa
    iapply (ld c) $$ Ho17; iintro Ho17
    iapply (st c) $$ Ho17; iintro Ho17
    repeat (first | (rw [wp_pure]; imodintro) | dsimp only)
    have eo15 : (f5 i h I s).o15 = _ := dif_pos hz
    have eo17 : (f5 i h I s).o17 = _ := dif_pos hz
    rw [eo15, eo17]
    iapply Hk
    unfold f5; dsimp only
    isplitl [Hq Hg Hen Hec Hla Hdca Hdra Hdsa]
    · isplitl [Hq]; · iexact Hq
      isplitl [Hg]; · iexact Hg
      isplitl [Hen]; · iexact Hen
      isplitl [Hec]; · iexact Hec
      isplitl [Hla]; · iexact Hla
      isplitl [Hdca]; · iexact Hdca
      isplitl [Hdra]; · iexact Hdra
      iexact Hdsa
    isplitl [Ho13 Ho14 Ho15 Ho16 Ho17 Ho18]
    · isplitl [Ho13]; · iexact Ho13
      isplitl [Ho14]; · iexact Ho14
      isplitl [Ho15]; · iexact Ho15
      isplitl [Ho16]; · iexact Ho16
      isplitl [Ho17]; · iexact Ho17
      iexact Ho18
    isplitl [Hx2 Hx3 Hx4 Hx5 Hx6 Hx7 Hx8 Hx9 Hx10 Hx11 Hx12]
    · isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hx10]; · iexact Hx10
      isplitl [Hx11]; · iexact Hx11
      iexact Hx12
    isplitl [HXa]; · iexact HXa
    iexact HXb
  · rw [dif_neg hz]
    repeat (first | (rw [wp_pure]; imodintro) | dsimp only)
    have eo15 : (f5 i h I s).o15 = _ := dif_neg hz
    have eo17 : (f5 i h I s).o17 = _ := dif_neg hz
    rw [eo15, eo17]
    iapply Hk
    unfold f5; dsimp only
    isplitl [Hq Hg Hen Hec Hla Hdca Hdra Hdsa]
    · isplitl [Hq]; · iexact Hq
      isplitl [Hg]; · iexact Hg
      isplitl [Hen]; · iexact Hen
      isplitl [Hec]; · iexact Hec
      isplitl [Hla]; · iexact Hla
      isplitl [Hdca]; · iexact Hdca
      isplitl [Hdra]; · iexact Hdra
      iexact Hdsa
    isplitl [Ho13 Ho14 Ho15 Ho16 Ho17 Ho18]
    · isplitl [Ho13]; · iexact Ho13
      isplitl [Ho14]; · iexact Ho14
      isplitl [Ho15]; · iexact Ho15
      isplitl [Ho16]; · iexact Ho16
      isplitl [Ho17]; · iexact Ho17
      iexact Ho18
    isplitl [Hx2 Hx3 Hx4 Hx5 Hx6 Hx7 Hx8 Hx9 Hx10 Hx11 Hx12]
    · isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hx10]; · iexact Hx10
      isplitl [Hx11]; · iexact Hx11
      iexact Hx12
    isplitl [HXa]; · iexact HXa
    iexact HXb

end Cert.Kernel.Gen

end
-- ==== Proof.Body.lean ====
/-
  The body of one grid point: the sections together, run from the memory before the point to `stepSt` of it, with the ring
  moved on; and from it the pipeline's body obligation, for any invariant of the scratch buffers and any conditions on the
  blocks written that the step keeps.
-/
module

public import proofs.«01_k».proof.Proof.Ring
public import proofs.«01_k».proof.Proof.Triples
public import proofs.«01_k».proof.Proof.Triples5
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

section Ring
variable (c : Dev nD)

theorem XS_congr {off off' : Fin 3 → Nat} (e : off = off') (h) (h') (q : PosShare TreeShare) (Y : S1x512x8192.Idx → Elt F .fp8e4m3) :
    XS c off h q Y = XS c off' h' q Y := by subst e; rfl

theorem XaO_eq (i : grid0.Coords) (h : k0_cond5 i = 1#1) (j : Fin 3) (e : k0_off14 i = ![j.val, 0, 0]) (q : PosShare TreeShare) (Y : S1x512x8192.Idx → Elt F .fp8e4m3) :
    XaO c i h q Y = Slot c j q Y :=
  (show XaO c i h q Y = XS c (k0_off14 i) (k0_off14_inb i h) q Y from by unfold XaO XS; rfl).trans (XS_congr c e _ _ q Y)
theorem XbO_eq (i : grid0.Coords) (h : k0_cond5 i = 1#1) (j : Fin 3) (e : k0_off17 i = ![j.val, 0, 0]) (q : PosShare TreeShare) (Y : S1x512x8192.Idx → Elt F .fp8e4m3) :
    XbO c i h q Y = Slot c j q Y :=
  (show XbO c i h q Y = XS c (k0_off17 i) (k0_off17_inb i h) q Y from by unfold XbO XS; rfl).trans (XS_congr c e _ _ q Y)

/-- A slot held whole is held by halves, and back. -/
theorem Slot_split (j : Fin 3) (Y : S1x512x8192.Idx → Elt F .fp8e4m3) : Slot c j fullShare Y ⊢ iprop(Slot c j fullShare.left Y ∗ Slot c j fullShare.right Y) := by
  unfold Slot XS
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2
theorem Slot_join (j : Fin 3) (Y : S1x512x8192.Idx → Elt F .fp8e4m3) : iprop(Slot c j fullShare.left Y ∗ Slot c j fullShare.right Y) ⊢ Slot c j fullShare Y := by
  unfold Slot XS
  iintro ⟨⟨%f, %hf, H1⟩, ⟨%g, %hg, H2⟩⟩
  have e : ∀ i ∈ (sAcc ![j.val, 0, 0] (sOff_inb j)).set, g i = f i := by
    intro i hi
    obtain ⟨x, -, rfl⟩ := Finset.mem_map.mp hi
    have := congrFun (hg.trans hf.symm) x
    simpa [View.read_apply] using this
  ihave H2 := (Entails.of_eq (pointsTo_congr e)) $$ H2
  iexists f
  isplitr; · ipureintro; exact hf
  iapply (pointsTo_share (PosShare.mem_left_op_right fullShare)).2
  isplitl [H1] <;> iassumption

end Ring

/-- The token blocks a point reads, put with its other inputs. -/
abbrev Ins.at_ (I : Ins F) (xa xb : S1x512x8192.Idx → Elt F .fp8e4m3) : Ins F := { I with xa := xa, xb := xb }

/-- What one grid point makes of the scratch buffers and the output blocks. -/
def stepSt (t : Fin grid0.N) (I : Ins F) (s : St F) : St F :=
  let s1 := if t.val = 0 then f1 s else s
  let s2 := if h : k0_cond2 (grid0.coords t) = 1#1 then f2 (grid0.coords t) h I s1 else s1
  let s5 := if h : k0_cond5 (grid0.coords t) = 1#1 then f5 (grid0.coords t) h I s2 else s2
  let s7 := if h : k0_cond7 (grid0.coords t) = 1#1 then f7 (grid0.coords t) h I s5 else s5
  if h : k0_cond9 (grid0.coords t) = 1#1 then f9 (grid0.coords t) h I s7 else s7

theorem stepSt_zero (t : Fin grid0.N) (I : Ins F) (s : St F) (h : t.val = 0) (h2 : k0_cond2 (grid0.coords t) = 1#1) :
    stepSt t I s = f2 (grid0.coords t) h2 I (f1 s) := by
  have n5 : ¬ k0_cond5 (grid0.coords t) = 1#1 := fun e => by have := (cond5_iff t).mp e; omega
  have n7 : ¬ k0_cond7 (grid0.coords t) = 1#1 := fun e => by have := (cond7_iff t).mp e; omega
  have n9 : ¬ k0_cond9 (grid0.coords t) = 1#1 := fun e => by have := (cond9_iff t).mp e; omega
  unfold stepSt
  simp only [if_pos h, dif_pos h2, dif_neg n5, dif_neg n7, dif_neg n9]
theorem stepSt_pre (t : Fin grid0.N) (I : Ins F) (s : St F) (h : t.val ≠ 0) (h' : t.val < 32) (h2 : k0_cond2 (grid0.coords t) = 1#1) :
    stepSt t I s = f2 (grid0.coords t) h2 I s := by
  have n5 : ¬ k0_cond5 (grid0.coords t) = 1#1 := fun e => by have := (cond5_iff t).mp e; omega
  have n7 : ¬ k0_cond7 (grid0.coords t) = 1#1 := fun e => by have := (cond7_iff t).mp e; omega
  have n9 : ¬ k0_cond9 (grid0.coords t) = 1#1 := fun e => by have := (cond9_iff t).mp e; omega
  unfold stepSt
  simp only [if_neg h, dif_pos h2, dif_neg n5, dif_neg n7, dif_neg n9]
theorem stepSt_main (t : Fin grid0.N) (I : Ins F) (s : St F) (h : 32 ≤ t.val) (h' : t.val ≤ 1056) (h5 : k0_cond5 (grid0.coords t) = 1#1) :
    stepSt t I s = f5 (grid0.coords t) h5 I s := by
  have n2 : ¬ k0_cond2 (grid0.coords t) = 1#1 := fun e => by have := (cond2_iff t).mp e; omega
  have n7 : ¬ k0_cond7 (grid0.coords t) = 1#1 := fun e => by have := (cond7_iff t).mp e; omega
  have n9 : ¬ k0_cond9 (grid0.coords t) = 1#1 := fun e => by have := (cond9_iff t).mp e; omega
  unfold stepSt
  simp only [if_neg (show ¬ t.val = 0 by omega), dif_pos h5, dif_neg n2, dif_neg n7, dif_neg n9]
theorem stepSt_post (t : Fin grid0.N) (I : Ins F) (s : St F) (h : 1056 < t.val) (h' : t.val ≠ 1088) (h7 : k0_cond7 (grid0.coords t) = 1#1) :
    stepSt t I s = f7 (grid0.coords t) h7 I s := by
  have n2 : ¬ k0_cond2 (grid0.coords t) = 1#1 := fun e => by have := (cond2_iff t).mp e; omega
  have n5 : ¬ k0_cond5 (grid0.coords t) = 1#1 := fun e => by have := (cond5_iff t).mp e; omega
  have n9 : ¬ k0_cond9 (grid0.coords t) = 1#1 := fun e => by have := (cond9_iff t).mp e; omega
  unfold stepSt
  simp only [if_neg (show ¬ t.val = 0 by omega), dif_pos h7, dif_neg n2, dif_neg n5, dif_neg n9]
theorem stepSt_last (t : Fin grid0.N) (I : Ins F) (s : St F) (h : t.val = 1088) (h7 : k0_cond7 (grid0.coords t) = 1#1) (h9 : k0_cond9 (grid0.coords t) = 1#1) :
    stepSt t I s = f9 (grid0.coords t) h9 I (f7 (grid0.coords t) h7 I s) := by
  have n2 : ¬ k0_cond2 (grid0.coords t) = 1#1 := fun e => by have := (cond2_iff t).mp e; omega
  have n5 : ¬ k0_cond5 (grid0.coords t) = 1#1 := fun e => by have := (cond5_iff t).mp e; omega
  unfold stepSt
  simp only [if_neg (show ¬ t.val = 0 by omega), dif_pos h7, dif_pos h9, dif_neg n2, dif_neg n5]

section Body
variable (c : Dev nD) (X : Buf (Elt F) ((c : Thread nD τ).loc main_v16)) (S : Stg) (π : ℕ → PosShare TreeShare)

/-- What is known of the token blocks a point reads. -/
def Toks (t : ℕ) (xa xb : S1x512x8192.Idx → Elt F .fp8e4m3) : Prop :=
  (32 ≤ t → t ≤ 1055 → xa = XB c X (t - 32)) ∧ (32 < t → t ≤ 1056 → xb = XB c X (t - 32 - 1)) ∧ (t = 32 → xb = XB c X 0)

/-- The memory after a point. -/
def After (t : Fin grid0.N) (I : Ins F) (s : St F) : sProp 𝕄 :=
  iprop(∃ xa xb, ∃ W : Waits sig Unit, ⌜Toks c X t.val xa xb⌝ ∗ ScO c (stepSt t (I.at_ xa xb) s) ∗ OutO c S (stepSt t (I.at_ xa xb) s) ∗ InO c S π I
    ∗ Ring c X (t.val + 1) ∗ owes (c : Thread nD τ) 0 W)

/-- A point outside the main range gives its memory back without reading a token block. -/
theorem After_intro (t : Fin grid0.N) (I : Ins F) (s s' : St F) (ht : t.val < 32 ∨ 1056 < t.val) (e : stepSt t (I.at_ I.xa I.xb) s = s') (W : Waits sig Unit) :
    iprop(ScO c s' ∗ OutO c S s' ∗ InO c S π I ∗ Ring c X (t.val + 1) ∗ owes (c : Thread nD τ) 0 W) ⊢ After c X S π t I s := by
  subst e
  unfold After
  iintro H
  iexists I.xa, I.xb, W
  isplitr
  · ipureintro; exact ⟨fun _ _ => by omega, fun _ _ => by omega, fun _ => by omega⟩
  iexact H

/-- Section 5 between sections 3, 4 and the end. -/
theorem main_wp (t : Fin grid0.N) (h1 : 32 ≤ t.val) (h2 : t.val ≤ 1056) (I : Ins F) (s : St F) {k : Prog (TpuEff nD τ sig (Elt F) Λ₀ .tc) PUnit} {Q : PUnit → sProp 𝕄} :
    iprop(ScO c s ∗ OutO c S s ∗ InO c S π I ∗ Mid c X t.val)
      ⊢ iprop((After c X S π t I s -∗ wp frame (wpE (defs₀ (F := F)) Variants.none c none) Set.univ k Q)
        -∗ wp frame (wpE (defs₀ (F := F)) Variants.none c none) Set.univ (sec5 (grid0.coords t) S k) Q) := by
  have h5 := (cond5_iff t).mpr ⟨h1, h2⟩
  unfold Mid After
  iintro ⟨Hs, Ho, Hi, ⟨%Ya, %Yb, %W, %hY, Ha, Hb, HO, HR⟩⟩ Hk
  by_cases h3 : t.val = 32
  · ihave Ha := (Slot_split c (sl3 (t.val - 32)) Ya) $$ Ha
    icases Ha with ⟨Ha1, Ha2⟩
    iapply (sec5_wp c S π (grid0.coords t) h5 (I.at_ Ya Ya) s (q1 := fullShare.left) (q2 := fullShare.right)) $$ [Hs Ho Hi Ha1 Ha2]
    · irw [XaO_eq c (grid0.coords t) h5 (sl3 (t.val - 32)) (off14_eq t ⟨h1, h2⟩), XbO_eq c (grid0.coords t) h5 (sl3 (t.val - 32)) (off17_eq0 t h3)]
      isplitl [Hs]; · iexact Hs
      isplitl [Ho]; · iexact Ho
      isplitl [Hi]; · iexact Hi
      isplitl [Ha1]; · iexact Ha1
      iexact Ha2
    rw [XaO_eq c (grid0.coords t) h5 (sl3 (t.val - 32)) (off14_eq t ⟨h1, h2⟩), XbO_eq c (grid0.coords t) h5 (sl3 (t.val - 32)) (off17_eq0 t h3)]
    iintro ⟨Hs, Ho, Hi, Ha1, Ha2⟩
    ihave Ha := (Slot_join c (sl3 (t.val - 32)) Ya) $$ [Ha1 Ha2]
    · isplitl [Ha1] <;> iassumption
    iapply Hk
    iexists Ya, Ya, W
    isplitr
    · ipureintro
      exact ⟨fun _ h => hY.1 h, fun h _ => by omega, fun h => by rw [hY.1 (by omega), h]⟩
    rw [stepSt_main t _ s h1 h2 h5]
    isplitl [Hs]; · iexact Hs
    isplitl [Ho]; · iexact Ho
    isplitl [Hi]; · iexact Hi
    isplitl [HR Ha Hb]
    · iapply HR; isplitl [Ha] <;> iassumption
    iexact HO
  · iapply (sec5_wp c S π (grid0.coords t) h5 (I.at_ Ya Yb) s (q1 := fullShare) (q2 := fullShare)) $$ [Hs Ho Hi Ha Hb]
    · irw [XaO_eq c (grid0.coords t) h5 (sl3 (t.val - 32)) (off14_eq t ⟨h1, h2⟩), XbO_eq c (grid0.coords t) h5 (sl3 (t.val - 32 + 2)) (off17_eq t ⟨by omega, h2⟩)]
      isplitl [Hs]; · iexact Hs
      isplitl [Ho]; · iexact Ho
      isplitl [Hi]; · iexact Hi
      isplitl [Ha]; · iexact Ha
      iexact Hb
    rw [XaO_eq c (grid0.coords t) h5 (sl3 (t.val - 32)) (off14_eq t ⟨h1, h2⟩), XbO_eq c (grid0.coords t) h5 (sl3 (t.val - 32 + 2)) (off17_eq t ⟨by omega, h2⟩)]
    iintro ⟨Hs, Ho, Hi, Ha, Hb⟩
    iapply Hk
    iexists Ya, Yb, W
    isplitr
    · ipureintro
      exact ⟨fun _ h => hY.1 h, fun h _ => hY.2 h, fun h => absurd h h3⟩
    rw [stepSt_main t _ s h1 h2 h5]
    isplitl [Hs]; · iexact Hs
    isplitl [Ho]; · iexact Ho
    isplitl [Hi]; · iexact Hi
    isplitl [HR Ha Hb]
    · iapply HR; isplitl [Ha] <;> iassumption
    iexact HO

/-- The body of one grid point. -/
theorem body_wp (t : Fin grid0.N) (I : Ins F) (s : St F) {W : Waits sig Unit} :
    iprop(ScO c s ∗ OutO c S s ∗ InO c S π I ∗ Ring c X t.val ∗ owes (c : Thread nD τ) 0 W)
      ⊢ wp frame (wpE (defs₀ (F := F)) Variants.none c none) Set.univ
          (sec1 (grid0.coords t) S (sec2 (grid0.coords t) S (sec3 (grid0.coords t) S (sec4 (grid0.coords t) S (sec5 (grid0.coords t) S (sec7 (grid0.coords t) S (sec9 (grid0.coords t) S (pure ⟨⟩))))))))
          fun _ => After c X S π t I s := by
  have s1 : ∀ k, t.val ≠ 0 → sec1 (F := F) (grid0.coords t) S k = k := fun k h => by
    unfold sec1; rw [dif_neg (fun e => h ((cond1_iff t).mp e))]
  have s2 : ∀ k, ¬ t.val < 32 → sec2 (F := F) (grid0.coords t) S k = k := fun k h => by
    unfold sec2; rw [dif_neg (fun e => h ((cond2_iff t).mp e))]
  have s3 : ∀ k, ¬ (32 ≤ t.val ∧ t.val ≤ 1056) → sec3 (F := F) (grid0.coords t) S k = k := fun k h => by
    unfold sec3; rw [dif_neg (fun e => h (by have := (cond3_iff t).mp e; omega))]
  have s4 : ∀ k, ¬ (32 ≤ t.val ∧ t.val ≤ 1056) → sec4 (F := F) (grid0.coords t) S k = k := fun k h => by
    unfold sec4; rw [dif_neg (fun e => h (by have := (cond4_iff t).mp e; omega))]
  have s5 : ∀ k, ¬ (32 ≤ t.val ∧ t.val ≤ 1056) → sec5 (F := F) (grid0.coords t) S k = k := fun k h => by
    unfold sec5; rw [dif_neg (fun e => h ((cond5_iff t).mp e))]
  have s7 : ∀ k, ¬ 1056 < t.val → sec7 (F := F) (grid0.coords t) S k = k := fun k h => by
    unfold sec7; rw [dif_neg (fun e => h ((cond7_iff t).mp e))]
  have s9 : ∀ k, t.val ≠ 1088 → sec9 (F := F) (grid0.coords t) S k = k := fun k h => by
    unfold sec9; rw [dif_neg (fun e => h ((cond9_iff t).mp e))]
  by_cases h32 : t.val < 32
  · have h2 := (cond2_iff t).mpr h32
    rw [s3 _ (by omega), s4 _ (by omega), s5 _ (by omega), s7 _ (by omega), s9 _ (by omega)]
    by_cases h0 : t.val = 0
    · have h1 := (cond1_iff t).mpr h0
      iintro ⟨Hs, Ho, Hi, HR, HO⟩
      iapply (sec1_wp c X S (grid0.coords t) h1 s) $$ [Hs HR]
      · isplitl [Hs]; · iexact Hs
        irw [← h0]
        iexact HR
      iintro ⟨Hs, HR⟩
      iapply (sec2_wp c S π (grid0.coords t) h2 I (f1 s)) $$ [Hs Ho Hi]
      · isplitl [Hs]; · iexact Hs
        isplitl [Ho]; · iexact Ho
        iexact Hi
      iintro ⟨Hs, Ho, Hi⟩
      rw [wp_pure]
      imodintro
      iapply (After_intro c X S π t I s _ (Or.inl h32) (stepSt_zero t _ s h0 h2) W)
      isplitl [Hs]; · iexact Hs
      isplitl [Ho]; · iexact Ho
      isplitl [Hi]; · iexact Hi
      isplitl [HR]
      · irw [h0]; iexact HR
      iexact HO
    · rw [s1 _ h0]
      iintro ⟨Hs, Ho, Hi, HR, HO⟩
      ihave HR := (Ring_wait c X h0 h32) $$ HR
      iapply (sec2_wp c S π (grid0.coords t) h2 I s) $$ [Hs Ho Hi]
      · isplitl [Hs]; · iexact Hs
        isplitl [Ho]; · iexact Ho
        iexact Hi
      iintro ⟨Hs, Ho, Hi⟩
      rw [wp_pure]
      imodintro
      iapply (After_intro c X S π t I s _ (Or.inl h32) (stepSt_pre t _ s h0 h32 h2) W)
      isplitl [Hs]; · iexact Hs
      isplitl [Ho]; · iexact Ho
      isplitl [Hi]; · iexact Hi
      isplitl [HR]; · iexact HR
      iexact HO
  · rw [s1 _ (by omega), s2 _ h32]
    by_cases h56 : t.val ≤ 1056
    · rw [s7 _ (by omega), s9 _ (by omega)]
      iintro ⟨Hs, Ho, Hi, HR, HO⟩
      iapply (sec34_wp c X S t (by omega) h56 (W := W)) $$ [HR HO]
      · isplitl [HR] <;> iassumption
      iintro HM
      iapply (main_wp c X S π t (by omega) h56 I s) $$ [Hs Ho Hi HM]
      · isplitl [Hs]; · iexact Hs
        isplitl [Ho]; · iexact Ho
        isplitl [Hi]; · iexact Hi
        iexact HM
      iintro H
      rw [wp_pure]
      imodintro
      iexact H
    · have h7 := (cond7_iff t).mpr (by omega)
      rw [s3 _ (by omega), s4 _ (by omega), s5 _ (by omega)]
      have er : Ring c X (t.val + 1) = Ring c X t.val := by rw [Ring_end c X (by omega), Ring_end c X (by omega)]
      by_cases h88 : t.val = 1088
      · have h9 := (cond9_iff t).mpr h88
        iintro ⟨Hs, Ho, Hi, HR, HO⟩
        iapply (sec7_wp c S π (grid0.coords t) h7 I s) $$ [Hs Ho Hi]
        · isplitl [Hs]; · iexact Hs
          isplitl [Ho]; · iexact Ho
          iexact Hi
        iintro ⟨Hs, Ho, Hi⟩
        iapply (sec9_wp c S π (grid0.coords t) h9 I _) $$ [Hs Ho Hi]
        · isplitl [Hs]; · iexact Hs
          isplitl [Ho]; · iexact Ho
          iexact Hi
        iintro ⟨Hs, Ho, Hi⟩
        rw [wp_pure]
        imodintro
        iapply (After_intro c X S π t I s _ (Or.inr (by omega)) (stepSt_last t _ s h88 h7 h9) W)
        rw [er]
        isplitl [Hs]; · iexact Hs
        isplitl [Ho]; · iexact Ho
        isplitl [Hi]; · iexact Hi
        isplitl [HR]; · iexact HR
        iexact HO
      · rw [s9 _ h88]
        iintro ⟨Hs, Ho, Hi, HR, HO⟩
        iapply (sec7_wp c S π (grid0.coords t) h7 I s) $$ [Hs Ho Hi]
        · isplitl [Hs]; · iexact Hs
          isplitl [Ho]; · iexact Ho
          iexact Hi
        iintro ⟨Hs, Ho, Hi⟩
        rw [wp_pure]
        imodintro
        iapply (After_intro c X S π t I s _ (Or.inr (by omega)) (stepSt_post t _ s (by omega) h88 h7) W)
        rw [er]
        isplitl [Hs]; · iexact Hs
        isplitl [Ho]; · iexact Ho
        isplitl [Hi]; · iexact Hi
        isplitl [HR]; · iexact HR
        iexact HO

end Body

/-! ## The proof data of the pipeline -/

/-- The staging buffers at a grid point. -/
abbrev stg (t : Fin cfg0.N) : Stg where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := win0_12.stage (cfg0.slots t 12)
  h14 := hstage0_12 ((cfg0.slots t 12).cast nbuf0_12)
  a15 := win0_13.stage (cfg0.slots t 13)
  h15 := hstage0_13 ((cfg0.slots t 13).cast nbuf0_13)
  a16 := win0_14.stage (cfg0.slots t 14)
  h16 := hstage0_14 ((cfg0.slots t 14).cast nbuf0_14)
  a17 := win0_15.stage (cfg0.slots t 15)
  h17 := hstage0_15 ((cfg0.slots t 15).cast nbuf0_15)
  a18 := win0_16.stage (cfg0.slots t 16)
  h18 := hstage0_16 ((cfg0.slots t 16).cast nbuf0_16)

theorem row (t : Fin cfg0.N) : defs₀ (F := F) .tc cfg0.body (cfg0.bodyArgs t (cfg0.slots t))
    = sec1 (grid0.coords t) (stg t) (sec2 (grid0.coords t) (stg t) (sec3 (grid0.coords t) (stg t) (sec4 (grid0.coords t) (stg t) (sec5 (grid0.coords t) (stg t) (sec7 (grid0.coords t) (stg t) (sec9 (grid0.coords t) (stg t) (pure ⟨⟩))))))) := by
  rw [← body_secs]; unfold defs₀; rw [Defs.onTc_tc]

/-- Conditions on the blocks the points leave in the output windows. -/
structure Outs (F : FTy → Type) [FloatOps F] where
  p13 : Fin cfg0.N → (S32x512.Idx → Elt F .f32) → Prop
  p14 : Fin cfg0.N → (S512x256.Idx → Elt F .f32) → Prop
  p15 : Fin cfg0.N → (S1x1x512.Idx → Elt F .f32) → Prop
  p16 : Fin cfg0.N → (S32x256.Idx → Elt F .f32) → Prop
  p17 : Fin cfg0.N → (S1x1x512.Idx → Elt F .f32) → Prop
  p18 : Fin cfg0.N → (S512x128.Idx → Elt F .i8) → Prop

/-- What a point leaves in a window's buffer: an input's as found, an output's in its condition. -/
def aftW (A : Outs F) : (w : Fin 17) → Fin cfg0.N → (Y X : (win0 w).block.Idx → Elt F (win0 w).elt) → Prop := fun
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun _ Y X => X = Y
  | 10 => fun _ Y X => X = Y
  | 11 => fun t _ X => A.p13 t X
  | 12 => fun t _ X => A.p14 t X
  | 13 => fun t _ X => A.p15 t X
  | 14 => fun t _ X => A.p16 t X
  | 15 => fun t _ X => A.p17 t X
  | 16 => fun t _ X => A.p18 t X
  | ⟨_ + 17, h⟩ => absurd h (Nat.not_lt.2 (Nat.le_add_left _ _))

variable (m : (ℓ : Loc nD τ sig) → Buf (Elt F) ℓ)

/-- The array of the tokens at the call. -/
abbrev xArr (c : Dev nD) : Buf (Elt F) ((c : Thread nD τ).loc main_v16) := V m c main_v16

/-- The memory between points: the scratch buffers at contents in the invariant, the ring, the generator register. -/
def PhiT (Inv : (c : Dev nD) → ℕ → St F → Prop) (c : Dev nD) (t : ℕ) : sProp 𝕄 :=
  iprop(∃ s, ⌜Inv c t s⌝ ∗ ScO c s ∗ Ring c (xArr m c) t ∗ ∃ r, prngReg c r)

/-- The pipeline's proof data over an invariant and the output conditions. -/
def rd (Inv : (c : Dev nD) → ℕ → St F → Prop) (A : Dev nD → Outs F) (c : Dev nD) : RDat τ (Elt F) Unit ℕ (UD sig nD τ) ℕ cfg0 c where
  A w := V m c (Pipeline.arrRef spec0 w)
  after := aftW (A c)
  Φ k := PhiT m Inv c k.val
  q w := Pipeline.shareOf spec0 w
  owed _ := 0

/-- The inputs of a point in what the windows' buffers are found at. -/
abbrev insOf (Y : (w : Fin cfg0.W) → (cfg0.win w).block.Idx → Elt F (cfg0.win w).elt) (xa xb : S1x512x8192.Idx → Elt F .fp8e4m3) : Ins F where
  x2 := Y 0
  x3 := Y 1
  x4 := Y 2
  x5 := Y 3
  x6 := Y 4
  x7 := Y 5
  x8 := Y 6
  x9 := Y 7
  x10 := Y 8
  x11 := Y 9
  x12 := Y 10
  xa := xa
  xb := xb
/-- The scratch buffers with the output blocks the windows' buffers are found at. -/
abbrev stOf (s : St F) (Y : (w : Fin cfg0.W) → (cfg0.win w).block.Idx → Elt F (cfg0.win w).elt) : St F :=
  { s with o13 := Y 11, o14 := Y 12, o15 := Y 13, o16 := Y 14, o17 := Y 15, o18 := Y 16 }

/-- Some contents of a slot. -/
def Y0 (s : St F) : S1x512x8192.Idx → Elt F .fp8e4m3 := fun _ => s.q (fun a => ⟨0, by revert a; decide⟩)

/-- One grid point keeps the invariant and meets the output conditions. -/
def Keeps (Inv : (c : Dev nD) → ℕ → St F → Prop) (A : Dev nD → Outs F) (c : Dev nD) : Prop :=
  ∀ (t : Fin cfg0.N) (Y : (w : Fin cfg0.W) → (cfg0.win w).block.Idx → Elt F (cfg0.win w).elt) (s : St F) (xa xb : S1x512x8192.Idx → Elt F .fp8e4m3),
    (∀ w, (rd m Inv A c).Finds w t (Y w)) → Inv c t.val s → Toks c (xArr m c) t.val xa xb →
    Inv c (t.val + 1) (stepSt t (insOf Y xa xb) (stOf s Y))
      ∧ (A c).p13 t (stepSt t (insOf Y xa xb) (stOf s Y)).o13
      ∧ (A c).p14 t (stepSt t (insOf Y xa xb) (stOf s Y)).o14
      ∧ (A c).p15 t (stepSt t (insOf Y xa xb) (stOf s Y)).o15
      ∧ (A c).p16 t (stepSt t (insOf Y xa xb) (stOf s Y)).o16
      ∧ (A c).p17 t (stepSt t (insOf Y xa xb) (stOf s Y)).o17
      ∧ (A c).p18 t (stepSt t (insOf Y xa xb) (stOf s Y)).o18

theorem body_ob (Inv : (c : Dev nD) → ℕ → St F → Prop) (A : Dev nD → Outs F) (c : Dev nD) (hK : Keeps m Inv A c) :
    (rd m Inv A c).BodyObligation defs₀ Variants.none () Set.univ := by
  intro t Y hY
  rw [bigSep_W0, row t]
  rw [show (rd m Inv A c).Φ t.castSucc = PhiT m Inv c t.val from rfl, show (rd m Inv A c).Φ t.succ = PhiT m Inv c (t.val + 1) from rfl]
  unfold PhiT
  iintro ⟨⟨%s, %hs, Hs, HR, Hp⟩, ⟨%W, %hW, HO⟩, Hx2, Hx3, Hx4, Hx5, Hx6, Hx7, Hx8, Hx9, Hx10, Hx11, Hx12, Ho13, Ho14, Ho15, Ho16, Ho17, Ho18⟩
  iapply (wp_wand_r _ _ _)
  isplitl [Hs HR HO Hx2 Hx3 Hx4 Hx5 Hx6 Hx7 Hx8 Hx9 Hx10 Hx11 Hx12 Ho13 Ho14 Ho15 Ho16 Ho17 Ho18]
  · iapply (body_wp c (xArr m c) (stg t) (fun _ => fullShare) t (insOf Y (Y0 s) (Y0 s)) (stOf s Y) (W := W))
    isplitl [Hs]; · iexact Hs
    unfold OutO InO
    dsimp only
    isplitl [Ho13 Ho14 Ho15 Ho16 Ho17 Ho18]
    · isplitl [Ho13]; · iexact Ho13
      isplitl [Ho14]; · iexact Ho14
      isplitl [Ho15]; · iexact Ho15
      isplitl [Ho16]; · iexact Ho16
      isplitl [Ho17]; · iexact Ho17
      iexact Ho18
    isplitl [Hx2 Hx3 Hx4 Hx5 Hx6 Hx7 Hx8 Hx9 Hx10 Hx11 Hx12]
    · isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hx10]; · iexact Hx10
      isplitl [Hx11]; · iexact Hx11
      iexact Hx12
    isplitl [HR]; · iexact HR
    iexact HO
  iintro %_ H
  unfold After
  icases H with ⟨%xa, %xb, %W', %hT, Hs, Ho, Hi, HR, HO⟩
  have hk := hK t Y s xa xb hY hs hT
  isplitl [Hs HR Hp]
  · iexists (stepSt t (insOf Y xa xb) (stOf s Y))
    isplitr; · ipureintro; exact hk.1
    isplitl [Hs]; · iexact Hs
    isplitl [HR]; · iexact HR
    iexact Hp
  isplitl [HO]
  · iexists W'
    isplitr; · ipureintro; exact fun _ _ => Or.inl trivial
    iexact HO
  irw [bigSep_W0]
  unfold OutO InO
  icases Ho with ⟨Ho13, Ho14, Ho15, Ho16, Ho17, Ho18⟩
  icases Hi with ⟨Hx2, Hx3, Hx4, Hx5, Hx6, Hx7, Hx8, Hx9, Hx10, Hx11, Hx12⟩
  isplitl [Hx2]
  · iexists (Y 0); isplitr; · ipureintro; exact rfl
    iexact Hx2
  isplitl [Hx3]
  · iexists (Y 1); isplitr; · ipureintro; exact rfl
    iexact Hx3
  isplitl [Hx4]
  · iexists (Y 2); isplitr; · ipureintro; exact rfl
    iexact Hx4
  isplitl [Hx5]
  · iexists (Y 3); isplitr; · ipureintro; exact rfl
    iexact Hx5
  isplitl [Hx6]
  · iexists (Y 4); isplitr; · ipureintro; exact rfl
    iexact Hx6
  isplitl [Hx7]
  · iexists (Y 5); isplitr; · ipureintro; exact rfl
    iexact Hx7
  isplitl [Hx8]
  · iexists (Y 6); isplitr; · ipureintro; exact rfl
    iexact Hx8
  isplitl [Hx9]
  · iexists (Y 7); isplitr; · ipureintro; exact rfl
    iexact Hx9
  isplitl [Hx10]
  · iexists (Y 8); isplitr; · ipureintro; exact rfl
    iexact Hx10
  isplitl [Hx11]
  · iexists (Y 9); isplitr; · ipureintro; exact rfl
    iexact Hx11
  isplitl [Hx12]
  · iexists (Y 10); isplitr; · ipureintro; exact rfl
    iexact Hx12
  isplitl [Ho13]
  · iexists ((stepSt t (insOf Y xa xb) (stOf s Y)).o13); isplitr; · ipureintro; exact hk.2.1
    iexact Ho13
  isplitl [Ho14]
  · iexists ((stepSt t (insOf Y xa xb) (stOf s Y)).o14); isplitr; · ipureintro; exact hk.2.2.1
    iexact Ho14
  isplitl [Ho15]
  · iexists ((stepSt t (insOf Y xa xb) (stOf s Y)).o15); isplitr; · ipureintro; exact hk.2.2.2.1
    iexact Ho15
  isplitl [Ho16]
  · iexists ((stepSt t (insOf Y xa xb) (stOf s Y)).o16); isplitr; · ipureintro; exact hk.2.2.2.2.1
    iexact Ho16
  isplitl [Ho17]
  · iexists ((stepSt t (insOf Y xa xb) (stOf s Y)).o17); isplitr; · ipureintro; exact hk.2.2.2.2.2.1
    iexact Ho17
  iexists ((stepSt t (insOf Y xa xb) (stOf s Y)).o18); isplitr; · ipureintro; exact hk.2.2.2.2.2.2
  iexact Ho18

end Cert.Kernel.Gen

end
-- ==== Proof.Run.lean ====
/-
  The launch: what the region is entered with is the memory before the first point, what it is left with is the memory after
  the last, and from the body's obligation the run of the whole program.
-/
module

public import proofs.«01_k».proof.Proof.Body

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The kernel's own semaphores: the three of the ring. -/
abbrev osem0 : Fin 3 → SemLoc sig := fun j => .dma (xsem j)
theorem ownSemFacts0 : Pipeline.OwnSemFacts spec0 osem0 := by decide
theorem ownSems00_eq (c : Dev nD) :
    (Pipeline.ownSems0 (Ix := Unit) (Name := ℕ) (U := UD sig nD τ) (Lvl := ℕ) (Val := Elt F) (τ := τ) osem0 c : sProp 𝕄)
      = iprop(semVal ((c : Thread nD τ), .dma (xsem 0)) 0 ∗ semVal ((c : Thread nD τ), .dma (xsem 1)) 0 ∗ semVal ((c : Thread nD τ), .dma (xsem 2)) 0) := by
  rw [Pipeline.ownSems0_eq_of_list c osem0 [0, 1, 2] (by decide) (by decide)]; rfl

/-- The array the kernel copies from, left in HBM. -/
def H0 : Finset (Ref sig .tc) := {main_v16}
theorem H0_sub : H0 ⊆ Pipeline.restRefs sig spec0 := by decide
theorem hbmPts0_eq (c : Dev nD) :
    (bigSep H0 (fun b => ((c : Thread nD τ).loc b) ↦{fullShare} V m c b) : sProp 𝕄) = HA c (xArr m c) fullShare := by
  rw [BI.bigSep_eq_bigSepL_of_eq [main_v16] (by decide) (by decide)]; rfl

/-- Different slots share no element. -/
theorem sSet_disjoint (j j' : Fin 3) (h : j ≠ j') :
    Disjoint (Rect.unit (s := S3x512x8192) ![j.val, 0, 0] S1x512x8192.size (sOff_inb j)).set (Rect.unit (s := S3x512x8192) ![j'.val, 0, 0] S1x512x8192.size (sOff_inb j')).set :=
  Idealize.ShloMosaic.Ring.lead_disjoint (s := S3x512x8192) (NB := 3) (0 : Fin 3) 1 (fun j : Fin 3 => ![j.val, 0, 0]) S1x512x8192.size sOff_inb (by decide) (by decide) j j' h

/-- The slots cover the buffer. -/
theorem sSet_cover : Finset.univ.biUnion (fun j : Fin 3 => (Rect.unit (s := S3x512x8192) ![j.val, 0, 0] S1x512x8192.size (sOff_inb j)).set) = Finset.univ :=
  Idealize.ShloMosaic.Ring.lead_cover (s := S3x512x8192) (NB := 3) (0 : Fin 3) 1 (fun j : Fin 3 => ![j.val, 0, 0]) S1x512x8192.size sOff_inb (by decide) (by decide) (by decide) (by decide) (by decide)

/-- Slot `j` held at the buffer's contents `f`. -/
def SP (c : Dev nD) (j : Fin 3) (f : Buf (Elt F) ((c : Thread nD τ).loc cc0_scratch0)) : sProp 𝕄 :=
  ((sAcc ![j.val, 0, 0] (sOff_inb j)).loc (c : Thread nD τ) ↦[(sAcc ![j.val, 0, 0] (sOff_inb j)).set]{fullShare} f)
theorem SP_eq (c : Dev nD) (j : Fin 3) (f : Buf (Elt F) ((c : Thread nD τ).loc cc0_scratch0)) :
    SP c j f = (((c : Thread nD τ).loc cc0_scratch0) ↦[(Rect.unit (s := S3x512x8192) ![j.val, 0, 0] S1x512x8192.size (sOff_inb j)).set]{fullShare} f : sProp 𝕄) := by
  unfold SP
  rw [show (sAcc ![j.val, 0, 0] (sOff_inb j)).set = (Rect.unit (s := S3x512x8192) ![j.val, 0, 0] S1x512x8192.size (sOff_inb j)).set from View.set_slice_whole _ _]

/-- A slot at some contents of the buffer is the slot at some contents. -/
theorem Any_of_SP (c : Dev nD) (n : ℕ) (j : Fin 3) (e : sl3 n = j) : iprop(∃ f, SP (F := F) c j f) ⊢ Any (F := F) c n := by
  subst e; unfold SP Any Slot XS
  iintro ⟨%f, H⟩
  iexists _; iexists f; isplitr; · ipureintro; rfl
  iexact H
theorem SP_of_Any (c : Dev nD) (n : ℕ) (j : Fin 3) (e : sl3 n = j) : Any (F := F) c n ⊢ iprop(∃ f, SP (F := F) c j f) := by
  subst e; unfold SP Any Slot XS
  iintro ⟨%y, %f, -, H⟩
  iexists f; iexact H

/-- The ring buffer whole is its three slots. -/
theorem slots_split (c : Dev nD) :
    iprop(∃ f : Buf (Elt F) ((c : Thread nD τ).loc cc0_scratch0), ((c : Thread nD τ).loc cc0_scratch0) ↦{fullShare} f)
      ⊢ (iprop(Any (F := F) c 0 ∗ Any (F := F) c 1 ∗ Any (F := F) c 2) : sProp 𝕄) := by
  refine (Idealize.ShloMosaic.Ring.slots3_split (ℓ := (c : Thread nD τ).loc cc0_scratch0) (q := fullShare) (fun j : Fin 3 => (Rect.unit (s := S3x512x8192) ![j.val, 0, 0] S1x512x8192.size (sOff_inb j)).set) sSet_disjoint sSet_cover
    (fun f => SP c 0 f) (fun f => SP c 1 f) (fun f => SP c 2 f) (fun f => SP_eq c 0 f) (fun f => SP_eq c 1 f) (fun f => SP_eq c 2 f)).trans ?_
  iintro ⟨H0, H1, H2⟩
  isplitl [H0]; · iapply (Any_of_SP c 0 0 rfl); iexact H0
  isplitl [H1]; · iapply (Any_of_SP c 1 1 rfl); iexact H1
  iapply (Any_of_SP c 2 2 rfl); iexact H2
/-- Its three slots are the ring buffer whole. -/
theorem slots_join (c : Dev nD) :
    (iprop(Any (F := F) c 0 ∗ Any (F := F) c 1 ∗ Any (F := F) c 2) : sProp 𝕄)
      ⊢ iprop(∃ f : Buf (Elt F) ((c : Thread nD τ).loc cc0_scratch0), ((c : Thread nD τ).loc cc0_scratch0) ↦{fullShare} f) := by
  refine BIBase.Entails.trans ?_ (Idealize.ShloMosaic.Ring.slots3_join (ℓ := (c : Thread nD τ).loc cc0_scratch0) (q := fullShare) (fun j : Fin 3 => (Rect.unit (s := S3x512x8192) ![j.val, 0, 0] S1x512x8192.size (sOff_inb j)).set) sSet_disjoint sSet_cover
    (fun f => SP c 0 f) (fun f => SP c 1 f) (fun f => SP c 2 f) (fun f => SP_eq c 0 f) (fun f => SP_eq c 1 f) (fun f => SP_eq c 2 f))
  iintro ⟨H0, H1, H2⟩
  isplitl [H0]; · iapply (SP_of_Any c 0 0 rfl); iexact H0
  isplitl [H1]; · iapply (SP_of_Any c 1 1 rfl); iexact H1
  iapply (SP_of_Any c 2 2 rfl); iexact H2

/-- An index. -/
def z0 : S32x8x512.Idx := fun a => ⟨0, by revert a; decide⟩

/-- What the region is entered with is the memory before the first point. -/
theorem Phi_in (Inv : (c : Dev nD) → ℕ → St F → Prop) (h0 : ∀ c s, Inv c 0 s) (c : Dev nD) :
    (Pipeline.ΦD osem0 spec0 H0 (V m) c : sProp 𝕄) ⊢ PhiT m Inv c 0 := by
  rw [Pipeline.ΦD_eq, scopedRest0_eq, ownSems00_eq, hbmPts0_eq]
  unfold PhiT ScO
  rw [Ring_zero]; unfold Idle
  simp only [owns_whole]
  iintro ⟨⟨H0, ⟨%q, Hq⟩, ⟨%g, Hg⟩, ⟨%en, Hen⟩, ⟨%ec, Hec⟩, ⟨%la, Hla⟩, ⟨%dca, Hdca⟩, ⟨%dra, Hdra⟩, ⟨%dsa, Hdsa⟩⟩, Hp, ⟨Hs0, Hs1, Hs2⟩, HX⟩
  ihave HS := (slots_split c) $$ H0
  icases HS with ⟨HS0, HS1, HS2⟩
  iexists (⟨q, g, en, ec, la, dca, dra, dsa, fun _ => la z0, fun _ => la z0, fun _ => la z0, fun _ => la z0, fun _ => la z0, fun _ => (0 : BitVec 8)⟩ : St F)
  isplitr; · ipureintro; exact h0 c _
  isplitl [Hq Hg Hen Hec Hla Hdca Hdra Hdsa]
  · isplitl [Hq]; · iexact Hq
    isplitl [Hg]; · iexact Hg
    isplitl [Hen]; · iexact Hen
    isplitl [Hec]; · iexact Hec
    isplitl [Hla]; · iexact Hla
    isplitl [Hdca]; · iexact Hdca
    isplitl [Hdra]; · iexact Hdra
    iexact Hdsa
  isplitr [Hp]
  · isplitl [HX]; · iexact HX
    isplitl [HS0]; · iexact HS0
    isplitl [HS1]; · iexact HS1
    isplitl [HS2]; · iexact HS2
    isplitl [Hs0]; · iexact Hs0
    isplitl [Hs1]; · iexact Hs1
    iexact Hs2
  iexact Hp

/-- The memory after the last point is what the region is left with. -/
theorem Phi_out (Inv : (c : Dev nD) → ℕ → St F → Prop) (c : Dev nD) :
    PhiT m Inv c 1089 ⊢ (Pipeline.ΦD osem0 spec0 H0 (V m) c : sProp 𝕄) := by
  rw [Pipeline.ΦD_eq, scopedRest0_eq, ownSems00_eq, hbmPts0_eq]
  unfold PhiT ScO
  rw [Ring_end _ _ (by decide)]; unfold Idle
  simp only [owns_whole]
  iintro ⟨%s, -, ⟨Hq, Hg, Hen, Hec, Hla, Hdca, Hdra, Hdsa⟩, ⟨HX, HS0, HS1, HS2, Hs0, Hs1, Hs2⟩, Hp⟩
  isplitl [HS0 HS1 HS2 Hq Hg Hen Hec Hla Hdca Hdra Hdsa]
  · isplitl [HS0 HS1 HS2]
    · iapply (slots_join c)
      isplitl [HS0]; · iexact HS0
      isplitl [HS1]; · iexact HS1
      iexact HS2
    isplitl [Hq]; · iexists s.q; iexact Hq
    isplitl [Hg]; · iexists s.g; iexact Hg
    isplitl [Hen]; · iexists s.en; iexact Hen
    isplitl [Hec]; · iexists s.ec; iexact Hec
    isplitl [Hla]; · iexists s.la; iexact Hla
    isplitl [Hdca]; · iexists s.dca; iexact Hdca
    isplitl [Hdra]; · iexists s.dra; iexact Hdra
    iexists s.dsa; iexact Hdsa
  isplitl [Hp]; · iexact Hp
  isplitl [Hs0 Hs1 Hs2]
  · isplitl [Hs0]; · iexact Hs0
    isplitl [Hs1]; · iexact Hs1
    iexact Hs2
  iexact HX

set_option maxHeartbeats 800000 in
/-- @main up to the region, stated at the algebra the transfers run in. -/
theorem hmainD (𝒱₀ : Variants) : Pipeline.HMain (Ix := Unit) (Name := ℕ) (U := UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

set_option backward.isDefEq.respectTransparency.types false in
/-- The run: from any memory with zero counters the program terminates without fault; every array of a window ends at contents
    the output conditions allow, every other array as the call found it, every counter at zero. -/
theorem run_main (Inv : (c : Dev nD) → ℕ → St F → Prop) (A : Dev nD → Outs F) (h0 : ∀ c s, Inv c 0 s) (hK : ∀ c, Keeps m Inv A c) :
    θ_run defs (onTc (τ := τ) (main (F := F))) (s₀ m ρ)
      (fun r => RDat.FramePost (cfgs 0) (rd m Inv A) (V m) r ∧ r.2.sem = fun _ => 0) :=
  Pipeline.RDat.θ_run_frame_dma_shared (Q' := _) cfgs (0 : Fin 1) launch₀0 osem0 defs₀ Variants.none (rd m Inv A) ownSemFacts0 H0 H0_sub m ρ main
    (hbody := fun c => body_ob m Inv A c (hK c)) (hq := fun _ _ _ => rfl)
    (howed := fun _ _ => rfl) (V := V m) (hmain := hmainD m Variants.none) (hA := fun _ _ => rfl)
    (hin := fun c => Phi_in m Inv h0 c) (hout := fun c => Phi_out m Inv c) (hQ' := fun _ h => h)

/-- The argument arrays end as launched. -/
theorem args_kept (Inv : (c : Dev nD) → ℕ → St F → Prop) (A : Dev nD → Outs F) (r : PUnit × MemSt nD τ sig (Elt F))
    (h : RDat.FramePost (cfgs 0) (rd m Inv A) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have e4 := (h c).1 4
  have e5 := (h c).1 5
  rw [RDat.ArrAt_in _ 4 rfl] at e4
  rw [RDat.ArrAt_in _ 5 rfl] at e5
  exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      e4.trans (V_main_arg2 m c),
      ((h c).2 main_arg3 (Pipeline.mem_restRefs_of main_arg3 (by decide) (by decide))).trans (V_main_arg3 m c),
      e5.trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

/-- The frame: the program terminates without fault, its argument arrays end as launched, every counter at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_kept m _ _ r h.1 c, h.2⟩)
    (run_main m ρ (fun _ _ _ => True) (fun _ => ⟨fun _ _ => True, fun _ _ => True, fun _ _ => True, fun _ _ => True, fun _ _ => True, fun _ _ => True⟩)
      (fun _ _ => trivial) (fun _ _ _ _ _ _ _ _ _ => ⟨trivial, trivial, trivial, trivial, trivial, trivial, trivial⟩))

end Cert.Kernel.Gen

end
-- ==== Proof.SecsI.lean ====
/-
  The kernel body of one grid point, cut at its top-level conditionals into seven sections, each before a
  continuation `k`, over the staging memrefs `S` (the scratch buffers and the semaphores are the call's own), and the equation
  `body_secs`: the printed body is the sections in order.
-/
module

public import proofs.«01_k».proof.Proof.Gen.KernelIdeal.Skeleton

@[expose] public section

set_option synthInstance.maxSize 4096
set_option maxRecDepth 16384

noncomputable section

namespace Cert.KernelIdeal.Gen

open Idealize.ShloMosaic Idealize.ShloMosaic.TcCoe Idealize.SL Idealize.SL.Sem

variable {F : FTy → Type} [FloatOps F]

/-- The staging memrefs the pipeline hands the body, each a whole buffer. -/
structure Stg where
  a2 : Memref sig .tc .vmem S1x1x512 .f32
  h2 : a2.IsWhole
  a3 : Memref sig .tc .vmem S512x256 .f32
  h3 : a3.IsWhole
  a4 : Memref sig .tc .vmem S512x256 .f32
  h4 : a4.IsWhole
  a5 : Memref sig .tc .vmem S1x1x256 .f32
  h5 : a5.IsWhole
  a6 : Memref sig .tc .vmem S512x256 .f32
  h6 : a6.IsWhole
  a7 : Memref sig .tc .vmem S512x256 .f32
  h7 : a7.IsWhole
  a8 : Memref sig .tc .vmem S1x1x256 .f32
  h8 : a8.IsWhole
  a9 : Memref sig .tc .vmem S512x128 .f32
  h9 : a9.IsWhole
  a10 : Memref sig .tc .vmem S512x128 .f32
  h10 : a10.IsWhole
  a11 : Memref sig .tc .vmem S512x512 .bf16
  h11 : a11.IsWhole
  a12 : Memref sig .tc .vmem S256x128 .bf16
  h12 : a12.IsWhole
  a13 : Memref sig .tc .vmem S32x512 .f32
  h13 : a13.IsWhole
  a14 : Memref sig .tc .vmem S512x256 .f32
  h14 : a14.IsWhole
  a15 : Memref sig .tc .vmem S1x1x512 .f32
  h15 : a15.IsWhole
  a16 : Memref sig .tc .vmem S32x256 .f32
  h16 : a16.IsWhole
  a17 : Memref sig .tc .vmem S1x1x512 .f32
  h17 : a17.IsWhole
  a18 : Memref sig .tc .vmem S512x128 .i8
  h18 : a18.IsWhole

/-- The point number as the body reads it. -/
abbrev tW (i : grid0.Coords) : BitVec 32 := BitVec.ofNat 32 (i 0).val
/-- The chunk number `t % 32` as the body computes it. -/
abbrev chW (i : grid0.Coords) : BitVec 32 := Scalar.remsi (tW i) 32#32

/-- Section 1 (`t = 0`): start the transfer of the first token block, zero the error tile, the loss and the column accumulators. -/
def sec1 (i : grid0.Coords) (S : Stg) (k : Prog (TpuEff nD τ sig (Elt F) Λ₀ .tc) PUnit) : Prog (TpuEff nD τ sig (Elt F) Λ₀ .tc) PUnit := do
  if k0_h1 : k0_cond1 i = 1#1 then do
    let v34 : DmaSems sig S1 := cc0_scratch9.slice (Rect.unit (s := S3) k0_off1 S1.size (k0_off1_inb i k0_h1))
    let v35 : DmaSems sig S_ := v34.squeeze S_ squeezes_S1_S_
    let v36 : Memref sig .tc .vmem S1x512x8192 .fp8e4m3 := (Memref.whole cc0_scratch0).slice (Rect.unit (s := S3x512x8192) k0_off2 S1x512x8192.size (k0_off2_inb i k0_h1)) (fun _ => rfl)
    let v37 : Memref sig .tc .vmem S512x8192 .fp8e4m3 := v36.squeeze S512x8192 squeezes_S1x512x8192_S512x8192
    let v38 : Memref sig .tc .hbm S512x8192 .fp8e4m3 := (Memref.whole main_v16).slice (Rect.unit (s := S16384x8192) k0_off3 S512x8192.size (k0_off3_inb i k0_h1)) (fun _ => rfl)
    Prog.lift (.enqueueDma v38 (.here v37) (.dma v35.sem) ((Memref.isWhole_whole _).wordExact_slice rfl _ (k0_off3_wordsfp8e4m3 i k0_h1)) (((Memref.isWhole_whole _).wordExact_slice rfl _ (k0_off2_wordsfp8e4m3 i k0_h1)).reshape _ _) ⟨Or.inl rfl, trivial⟩)
    let v40 : Vec F S512x512 .bf16 ← Prog.lift (.load (Memref.whole cc0_scratch3) (Rect.unit (s := S512x512) ![0, 0] S512x512.size inb_S512x512_S512x512_0_0).toLoadRect (View.loadsAt_vmem h_S512x512))
    Prog.lift (.store (Memref.whole cc0_scratch3) (Rect.unit (s := S512x512) ![0, 0] S512x512.size inb_S512x512_S512x512_0_0) (k0_pay1 (F := F)) Finset.univ (View.stores_vmem h_S512x512 ((Memref.isWhole_whole _).storeExact_slice rfl _ packedbf16_S512x512_S512x512_0_0) (fun _ => rfl)) (.inl rfl))
    let v44 : Vec F S32x8x512 .f32 ← Prog.lift (.load (Memref.whole cc0_scratch5) (Rect.unit (s := S32x8x512) ![0, 0, 0] S32x8x512.size inb_S32x8x512_S32x8x512_0_0_0).toLoadRect (View.loadsAt_vmem h_S32x8x512))
    Prog.lift (.store (Memref.whole cc0_scratch5) (Rect.unit (s := S32x8x512) ![0, 0, 0] S32x8x512.size inb_S32x8x512_S32x8x512_0_0_0) (k0_pay2 (F := F)) Finset.univ (View.stores_vmem_bits_univ h_S32x8x512 rfl) (.inl rfl))
    let v48 : Vec F S32x8x256 .f32 ← Prog.lift (.load (Memref.whole cc0_scratch6) (Rect.unit (s := S32x8x256) ![0, 0, 0] S32x8x256.size inb_S32x8x256_S32x8x256_0_0_0).toLoadRect (View.loadsAt_vmem h_S32x8x256))
    Prog.lift (.store (Memref.whole cc0_scratch6) (Rect.unit (s := S32x8x256) ![0, 0, 0] S32x8x256.size inb_S32x8x256_S32x8x256_0_0_0) (k0_pay3 (F := F)) Finset.univ (View.stores_vmem_bits_univ h_S32x8x256 rfl) (.inl rfl))
    k
  else do
    k

/-- Section 2 (`t < 32`): quantise one column chunk of the first weight tile and zero the two gradient buffers there. -/
def sec2 (i : grid0.Coords) (S : Stg) (k : Prog (TpuEff nD τ sig (Elt F) Λ₀ .tc) PUnit) : Prog (TpuEff nD τ sig (Elt F) Λ₀ .tc) PUnit := do
  if k0_h2 : k0_cond2 i = 1#1 then do
    let ⟨v47, v65, v66, v68, v70⟩ : Σ' (v47 : BitVec 32) (v65 : BitVec 32) (v66 : IVec S512x128 32) (v68 : FVec F S512x128 .f32), IVec S512x128 1 ← k0_part1 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i)
    let ⟨v87, v104, v105, v108, v109⟩ : Σ' (v87 : FVec F S512x128 .f32) (v104 : FVec F S512x128 .f32) (v105 : Vec F S512x128 .f32) (v108 : FVec F S1x128 .f32), FVec F S512x128 .f32 ← k0_part2 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 v47 v66 v68 v70
    let v150 : FVec F S512x256 .f32 ← k0_part3 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (chW i) k0_h2 v65 v87 v104 v105 v108 v109
    let v154 : Vec F S1x512x256 .f32 ← Prog.lift (.load (Memref.whole cc0_scratch2) (Rect.unit (s := S2x512x8192) (k0_off6 i) S1x512x256.size (k0_off6_inb i k0_h2)).toLoadRect (View.loadsAt_vmem h_S1x512x256))
    Prog.lift (.store (Memref.whole cc0_scratch2) (Rect.unit (s := S2x512x8192) (k0_off6 i) S1x512x256.size (k0_off6_inb i k0_h2)) (k0_pay4 v150) Finset.univ (View.stores_vmem_bits_univ h_S1x512x256 rfl) (.inl rfl))
    k
  else do
    k

/-- Section 3: start the transfer of the next token block. -/
def sec3 (i : grid0.Coords) (S : Stg) (k : Prog (TpuEff nD τ sig (Elt F) Λ₀ .tc) PUnit) : Prog (TpuEff nD τ sig (Elt F) Λ₀ .tc) PUnit := do
  if k0_h3 : k0_cond3 i = 1#1 then do
    let v35 : DmaSems sig S1 := cc0_scratch9.slice (Rect.unit (s := S3) (k0_off7 i) S1.size (k0_off7_inb i k0_h3))
    let v36 : DmaSems sig S_ := v35.squeeze S_ squeezes_S1_S_
    let v37 : Memref sig .tc .vmem S1x512x8192 .fp8e4m3 := (Memref.whole cc0_scratch0).slice (Rect.unit (s := S3x512x8192) (k0_off8 i) S1x512x8192.size (k0_off8_inb i k0_h3)) (fun _ => rfl)
    let v38 : Memref sig .tc .vmem S512x8192 .fp8e4m3 := v37.squeeze S512x8192 squeezes_S1x512x8192_S512x8192
    let v39 : Memref sig .tc .hbm S512x8192 .fp8e4m3 := (Memref.whole main_v16).slice (Rect.unit (s := S16384x8192) (k0_off9 i) S512x8192.size (k0_off9_inb i k0_h3)) (fun _ => rfl)
    Prog.lift (.enqueueDma v39 (.here v38) (.dma v36.sem) ((Memref.isWhole_whole _).wordExact_slice rfl _ (k0_off9_wordsfp8e4m3 i k0_h3)) (((Memref.isWhole_whole _).wordExact_slice rfl _ (k0_off8_wordsfp8e4m3 i k0_h3)).reshape _ _) ⟨Or.inl rfl, trivial⟩)
    k
  else do
    k

/-- Section 4: wait for this point's token block. -/
def sec4 (i : grid0.Coords) (S : Stg) (k : Prog (TpuEff nD τ sig (Elt F) Λ₀ .tc) PUnit) : Prog (TpuEff nD τ sig (Elt F) Λ₀ .tc) PUnit := do
  if k0_h4 : k0_cond4 i = 1#1 then do
    let v34 : DmaSems sig S1 := cc0_scratch9.slice (Rect.unit (s := S3) (k0_off10 i) S1.size (k0_off10_inb i k0_h4))
    let v35 : DmaSems sig S_ := v34.squeeze S_ squeezes_S1_S_
    let v36 : Memref sig .tc .vmem S1x512x8192 .fp8e4m3 := (Memref.whole cc0_scratch0).slice (Rect.unit (s := S3x512x8192) (k0_off11 i) S1x512x8192.size (k0_off11_inb i k0_h4)) (fun _ => rfl)
    let v37 : Memref sig .tc .vmem S512x8192 .fp8e4m3 := v36.squeeze S512x8192 squeezes_S1x512x8192_S512x8192
    let v38 : Memref sig .tc .hbm S512x8192 .fp8e4m3 := (Memref.whole main_v16).slice (Rect.unit (s := S16384x8192) (k0_off12 i) S512x8192.size (k0_off12_inb i k0_h4)) (fun _ => rfl)
    Prog.lift (.waitDma2 v35.sem v38 v37 ((Memref.isWhole_whole _).wordExact_slice rfl _ (k0_off12_wordsfp8e4m3 i k0_h4)) (((Memref.isWhole_whole _).wordExact_slice rfl _ (k0_off11_wordsfp8e4m3 i k0_h4)).reshape _ _))
    k
  else do
    k

/-- Section 5 (`32 ≤ t ≤ 1056`): the forward product and error of this token block, the weight-gradient product of the block before it, one quantised chunk of the next tile, and the epilogue of one chunk. -/
def sec5 (i : grid0.Coords) (S : Stg) (k : Prog (TpuEff nD τ sig (Elt F) Λ₀ .tc) PUnit) : Prog (TpuEff nD τ sig (Elt F) Λ₀ .tc) PUnit := do
  if k0_h5 : k0_cond5 i = 1#1 then do
    let ⟨v48, v67, v68, c32_i32_33, v69⟩ : Σ' (v48 : BitVec 32) (v67 : BitVec 32) (v68 : BitVec 32) (c32_i32_33 : BitVec 32), BitVec 32 ← k0_part4 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i)
    let ⟨v87, v93, v104, v105⟩ : Σ' (v87 : BitVec 32) (v93 : BitVec 32) (v104 : FVec F S512x512 .f32), IVec S512x128 32 ← k0_part5 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (Scalar.subi (tW i) 32#32) k0_h5 v48 v67 v68 c32_i32_33 v69
    let v145 : FVec F S512x512 .bf16 ← k0_part6 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i) (chW i) k0_h5 v104 v105
    let ⟨v179, c32_i32_88, v180, v182, v183⟩ : Σ' (v179 : BitVec 32) (c32_i32_88 : BitVec 32) (v180 : BitVec 32) (v182 : BitVec 32), BitVec 1 ← k0_part7 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i) k0_h5 v87 v93 v145
    let ⟨v197, v208, v219, v220, v221, v223⟩ : Σ' (v197 : BitVec 32) (v208 : FVec F S512x128 .f32) (v219 : FVec F S512x128 .f32) (v220 : Vec F S512x128 .f32) (v221 : Vec F S512x128 .f32), FVec F S1x128 .f32 ← k0_part8 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i) v179 c32_i32_88 v180 v182 v183
    let v267 : FVec F S512x256 .f32 ← k0_part9 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (chW i) k0_h5 v197 v208 v219 v220 v221 v223
    let ⟨v278, v295, v296, v297, c32_i32_138, v298, v303, v304⟩ : Σ' (v278 : BitVec 1) (v295 : BitVec 32) (v296 : BitVec 32) (v297 : BitVec 32) (c32_i32_138 : BitVec 32) (v298 : BitVec 32) (v303 : BitVec 32), BitVec 1 ← k0_part10 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i) v267
    let ⟨v326, v337, v343, v344⟩ : Σ' (v326 : FVec F S512x128 .f32) (v337 : FVec F S512x128 .f32) (v343 : FVec F S512x256 .f32), FVec F S512x256 .f32 ← k0_part11 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h5 v295 v296 v297 c32_i32_138 v298 v303 v304
    let ⟨v357, v358, v377, v381, v383, v384⟩ : Σ' (v357 : FVec F S512x128 .f32) (v358 : FVec F S512x128 .f32) (v377 : FVec F S512x128 .f32) (v381 : FVec F S512x128 .f32) (v383 : FVec F S512x128 .f32), FVec F S512x128 .f32 ← k0_part12 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h5 v296 v326 v337 v343 v344
    let ⟨v393, v406, v416, v424⟩ : Σ' (v393 : FVec F S512x128 .f32) (v406 : FVec F S512x128 .f32) (v416 : FVec F S512x128 .f32), FVec F S512x128 .f32 ← k0_part13 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h5 v278 v296 v326 v337 v343 v357 v358 v377 v381 v384
    k0_part14 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h5 v278 v296 v337 v383 v393 v406 v416 v424
    k
  else do
    k

/-- Section 6 (`t > 1056`): the epilogue of one chunk of the last tile. -/
def sec7 (i : grid0.Coords) (S : Stg) (k : Prog (TpuEff nD τ sig (Elt F) Λ₀ .tc) PUnit) : Prog (TpuEff nD τ sig (Elt F) Λ₀ .tc) PUnit := do
  if k0_h7 : k0_cond7 i = 1#1 then do
    let ⟨v33, v50, v51, v69⟩ : Σ' (v33 : BitVec 1) (v50 : BitVec 32) (v51 : BitVec 32), BitVec 32 ← k0_part15 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tW i)
    let ⟨v81, v92, v98, v108, v109⟩ : Σ' (v81 : FVec F S512x128 .f32) (v92 : FVec F S512x128 .f32) (v98 : FVec F S512x256 .f32) (v108 : FVec F S512x128 .f32), BitVec 1 ← k0_part16 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h7 v50 v51 v69
    let ⟨v136, v138, v148⟩ : Σ' (v136 : FVec F S512x128 .f32) (v138 : FVec F S512x128 .f32), FVec F S512x128 .f32 ← k0_part17 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 v51 v81 v92 v98 v108 v109
    let ⟨v161, v180, v184, v186, v187, c_m8_i32_82⟩ : Σ' (v161 : FVec F S512x128 .f32) (v180 : FVec F S512x128 .f32) (v184 : FVec F S512x128 .f32) (v186 : FVec F S512x128 .f32) (v187 : FVec F S512x128 .f32), BitVec 32 ← k0_part18 i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h7 v33 v51 v81 v92 v98 v136 v138
    let v198 : Vec F S1x8x128 .f32 ← Prog.lift (.load (Memref.whole cc0_scratch6) (Rect.unit (s := S32x8x256) (k0_off24 i) S1x8x128.size (k0_off24_inb i k0_h7)).toLoadRect (View.loadsAt_vmem h_S1x8x128))
    let v206 : Vec F S1x8x128 .f32 ← Prog.lift (.load (Memref.whole cc0_scratch6) (Rect.unit (s := S32x8x256) (k0_off24 i) S1x8x128.size (k0_off24_inb i k0_h7)).toLoadRect (View.loadsAt_vmem h_S1x8x128))
    Prog.lift (.store (Memref.whole cc0_scratch6) (Rect.unit (s := S32x8x256) (k0_off24 i) S1x8x128.size (k0_off24_inb i k0_h7)) (k0_pay5 v33 v184 v198) Finset.univ (View.stores_vmem_bits_univ h_S1x8x128 rfl) (.inl rfl))
    let v209 : Vec F S512x128 .f32 ← Prog.lift (.load (Memref.whole cc0_scratch7) (Rect.unit (s := S512x128) ![0, 0] S512x128.size inb_S512x128_S512x128_0_0).toLoadRect (View.loadsAt_vmem h_S512x128))
    Prog.lift (.store (Memref.whole cc0_scratch7) (Rect.unit (s := S512x128) ![0, 0] S512x128.size inb_S512x128_S512x128_0_0) (k0_pay6 v186) Finset.univ (View.stores_vmem_bits_univ h_S512x128 rfl) (.inl rfl))
    let v212 : Vec F S512x128 .f32 ← Prog.lift (.load (Memref.whole cc0_scratch8) (Rect.unit (s := S512x128) ![0, 0] S512x128.size inb_S512x128_S512x128_0_0).toLoadRect (View.loadsAt_vmem h_S512x128))
    Prog.lift (.store (Memref.whole cc0_scratch8) (Rect.unit (s := S512x128) ![0, 0] S512x128.size inb_S512x128_S512x128_0_0) (k0_pay7 v148 v161 v180 v187 c_m8_i32_82) Finset.univ (View.stores_vmem_bits_univ h_S512x128 rfl) (.inl rfl))
    if k0_h8 : k0_cond8 i = 1#1 then do
      let v218 : Vec F S512x128 .f32 ← Prog.lift (.load (Memref.whole cc0_scratch7) (Rect.unit (s := S512x128) ![0, 0] S512x128.size inb_S512x128_S512x128_0_0).toLoadRect (View.loadsAt_vmem h_S512x128))
      let v222 : Vec F S1x1x512 .f32 ← Prog.lift (.load S.a15 (Rect.unit (s := S1x1x512) ![0, 0, 0] S1x1x512.size inb_S1x1x512_S1x1x512_0_0_0).toLoadRect (View.loadsAt_vmem h_S1x1x512))
      Prog.lift (.store S.a15 (Rect.unit (s := S1x1x512) ![0, 0, 0] S1x1x512.size inb_S1x1x512_S1x1x512_0_0_0) (k0_pay8 v218) Finset.univ (View.stores_vmem_bits_univ h_S1x1x512 rfl) (.inl rfl))
      let v225 : Vec F S512x128 .f32 ← Prog.lift (.load (Memref.whole cc0_scratch8) (Rect.unit (s := S512x128) ![0, 0] S512x128.size inb_S512x128_S512x128_0_0).toLoadRect (View.loadsAt_vmem h_S512x128))
      let v229 : Vec F S1x1x512 .f32 ← Prog.lift (.load S.a17 (Rect.unit (s := S1x1x512) ![0, 0, 0] S1x1x512.size inb_S1x1x512_S1x1x512_0_0_0).toLoadRect (View.loadsAt_vmem h_S1x1x512))
      Prog.lift (.store S.a17 (Rect.unit (s := S1x1x512) ![0, 0, 0] S1x1x512.size inb_S1x1x512_S1x1x512_0_0_0) (k0_pay9 v225) Finset.univ (View.stores_vmem_bits_univ h_S1x1x512 rfl) (.inl rfl))
      pure ⟨⟩
    else do
      pure ⟨⟩
    k
  else do
    k

/-- Section 7 (the last point): write the loss and the column gradients. -/
def sec9 (i : grid0.Coords) (S : Stg) (k : Prog (TpuEff nD τ sig (Elt F) Λ₀ .tc) PUnit) : Prog (TpuEff nD τ sig (Elt F) Λ₀ .tc) PUnit := do
  if k0_h9 : k0_cond9 i = 1#1 then do
    let v30 : Vec F S32x8x512 .f32 ← Prog.lift (.load (Memref.whole cc0_scratch5) (Rect.unit (s := S32x8x512) ![0, 0, 0] S32x8x512.size inb_S32x8x512_S32x8x512_0_0_0).toLoadRect (View.loadsAt_vmem h_S32x8x512))
    let v34 : Vec F S32x512 .f32 ← Prog.lift (.load S.a13 (Rect.unit (s := S32x512) ![0, 0] S32x512.size inb_S32x512_S32x512_0_0).toLoadRect (View.loadsAt_vmem h_S32x512))
    Prog.lift (.store S.a13 (Rect.unit (s := S32x512) ![0, 0] S32x512.size inb_S32x512_S32x512_0_0) (k0_pay10 v30) Finset.univ (View.stores_vmem_bits_univ h_S32x512 rfl) (.inl rfl))
    let v35 : Vec F S32x8x256 .f32 ← Prog.lift (.load (Memref.whole cc0_scratch6) (Rect.unit (s := S32x8x256) ![0, 0, 0] S32x8x256.size inb_S32x8x256_S32x8x256_0_0_0).toLoadRect (View.loadsAt_vmem h_S32x8x256))
    let v37 : Vec F S32x256 .f32 ← Prog.lift (.load S.a16 (Rect.unit (s := S32x256) ![0, 0] S32x256.size inb_S32x256_S32x256_0_0).toLoadRect (View.loadsAt_vmem h_S32x256))
    Prog.lift (.store S.a16 (Rect.unit (s := S32x256) ![0, 0] S32x256.size inb_S32x256_S32x256_0_0) (k0_pay11 v35) Finset.univ (View.stores_vmem_bits_univ h_S32x256 rfl) (.inl rfl))
    k
  else do
    k

/-- The printed body at a point is its seven sections in order. -/
theorem body_secs (i : grid0.Coords) (S : Stg) :
    cc0_flexround_step (F := F) i (Memref.whole main_v16) (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9
      = sec1 i S (sec2 i S (sec3 i S (sec4 i S (sec5 i S (sec7 i S (sec9 i S (pure ⟨⟩))))))) := by
  rw [cc0_flexround_step_eq_skeleton]; rfl

end Cert.KernelIdeal.Gen

end
-- ==== Proof.GridI.lean ====
/-
  The schedule over the grid: at which points each section of the body runs, and which slot of the ring and which token
  block its transfers and loads name.
-/
module

public import proofs.«01_k».proof.Proof.SecsI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
/-- The slot of the ring the token block `n` goes to. -/
abbrev sl3 (n : ℕ) : Fin 3 := ⟨n % 3, Nat.mod_lt _ (by decide)⟩
/-- The token block the `n`-th transfer moves. -/
abbrev bl32 (n : ℕ) : Fin 32 := ⟨n % 32, Nat.mod_lt _ (by decide)⟩

theorem cond1_iff : ∀ t : Fin grid0.N, k0_cond1 (grid0.coords t) = 1#1 ↔ t.val = 0 := by decide +kernel
theorem cond2_iff : ∀ t : Fin grid0.N, k0_cond2 (grid0.coords t) = 1#1 ↔ t.val < 32 := by decide +kernel
theorem cond3_iff : ∀ t : Fin grid0.N, k0_cond3 (grid0.coords t) = 1#1 ↔ 32 ≤ t.val ∧ t.val ≤ 1054 := by decide +kernel
theorem cond4_iff : ∀ t : Fin grid0.N, k0_cond4 (grid0.coords t) = 1#1 ↔ 32 ≤ t.val ∧ t.val ≤ 1055 := by decide +kernel
theorem cond5_iff : ∀ t : Fin grid0.N, k0_cond5 (grid0.coords t) = 1#1 ↔ 32 ≤ t.val ∧ t.val ≤ 1056 := by decide +kernel
theorem cond7_iff : ∀ t : Fin grid0.N, k0_cond7 (grid0.coords t) = 1#1 ↔ 1056 < t.val := by decide +kernel
theorem cond9_iff : ∀ t : Fin grid0.N, k0_cond9 (grid0.coords t) = 1#1 ↔ t.val = 1088 := by decide +kernel

theorem off1_eq : k0_off1 = ![(sl3 0).val] := by decide +kernel
theorem off2_eq : k0_off2 = ![(sl3 0).val, 0, 0] := by decide +kernel
theorem off3_eq : k0_off3 = ![(bl32 0).val * 512, 0] := by decide +kernel
theorem off7_eq : ∀ t : Fin grid0.N, 32 ≤ t.val ∧ t.val ≤ 1054 → k0_off7 (grid0.coords t) = ![(sl3 (t.val - 32 + 1)).val] := by decide +kernel
theorem off8_eq : ∀ t : Fin grid0.N, 32 ≤ t.val ∧ t.val ≤ 1054 → k0_off8 (grid0.coords t) = ![(sl3 (t.val - 32 + 1)).val, 0, 0] := by decide +kernel
theorem off9_eq : ∀ t : Fin grid0.N, 32 ≤ t.val ∧ t.val ≤ 1054 → k0_off9 (grid0.coords t) = ![(bl32 (t.val - 32 + 1)).val * 512, 0] := by decide +kernel
theorem off10_eq : ∀ t : Fin grid0.N, 32 ≤ t.val ∧ t.val ≤ 1055 → k0_off10 (grid0.coords t) = ![(sl3 (t.val - 32)).val] := by decide +kernel
theorem off11_eq : ∀ t : Fin grid0.N, 32 ≤ t.val ∧ t.val ≤ 1055 → k0_off11 (grid0.coords t) = ![(sl3 (t.val - 32)).val, 0, 0] := by decide +kernel
theorem off14_eq : ∀ t : Fin grid0.N, 32 ≤ t.val ∧ t.val ≤ 1056 → k0_off14 (grid0.coords t) = ![(sl3 (t.val - 32)).val, 0, 0] := by decide +kernel
theorem off17_eq : ∀ t : Fin grid0.N, 32 < t.val ∧ t.val ≤ 1056 → k0_off17 (grid0.coords t) = ![(sl3 (t.val - 32 + 2)).val, 0, 0] := by decide +kernel
theorem off17_eq0 : ∀ t : Fin grid0.N, t.val = 32 → k0_off17 (grid0.coords t) = ![(sl3 (t.val - 32)).val, 0, 0] := by decide +kernel

end Cert.KernelIdeal.Gen

end
-- ==== Proof.OpsI.lean ====
/-
  Loads and stores of a memref owned whole, over its contents as a function of the index: a load through a rectangle
  reads the contents there (`ld`), a store through one overlays them (`st`), and a load of part of a buffer held on
  exactly the rectangle loaded (`ldAt`).
-/
module

public import proofs.«01_k».proof.Proof.SecsI
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

/-- Contents read through a rectangle. -/
abbrev rdR {s : Shape} {α : Type} (r : Rect s) (X : s.Idx → α) : r.shape.Idx → α := fun x => X (r.emb x)

variable (c : Dev nD)

/-- A load through a rectangle of a memref owned at `X` continues at `X` there. -/
theorem ld {s : Shape} {e : EltTy} {M : Memref sig .tc .vmem s e} {q : PosShare TreeShare} {X : s.Idx → Elt F e} {r : Rect s}
    {hl : M.view.LoadsAt r.toLoadRect} {α : Type} {k : (r.shape.Idx → Elt F e) → Prog (TpuEff nD τ sig (Elt F) Λ₀ .tc) α} {Q : α → sProp 𝕄} :
    owns (c : Thread nD τ) M q X
      ⊢ iprop((owns (c : Thread nD τ) M q X -∗ wp frame (wpE (defs₀ (F := F)) Variants.none c none) Set.univ (k (rdR r X)) Q)
        -∗ wp frame (wpE (defs₀ (F := F)) Variants.none c none) Set.univ (Prog.lift (.load M r.toLoadRect hl) >>= k) Q) := by
  unfold owns
  iintro ⟨%f, %hf, H⟩ Hk
  iapply (wp_load_rect Variants.none (c : Thread nD τ) none Set.univ (m := M) (r := r) (View.set_slice_subset _ _)) $$ H
  iintro H
  subst hf
  iapply Hk
  iexists f
  isplitr
  · ipureintro; rfl
  iexact H

/-- A store through a rectangle of a memref owned at `X` leaves `X` overlaid there by what was stored. -/
theorem st {s : Shape} {e : EltTy} {M : Memref sig .tc .vmem s e} {X : s.Idx → Elt F e} {r : Rect s} {w : r.shape.Idx → Elt F e}
    {hx : (M.access r).Stores Finset.univ} {hm : Finset.univ = Finset.univ ∨ ∀ a, r.stride a = 1}
    {α : Type} {k : PUnit → Prog (TpuEff nD τ sig (Elt F) Λ₀ .tc) α} {Q : α → sProp 𝕄} :
    owns (c : Thread nD τ) M fullShare X
      ⊢ iprop((owns (c : Thread nD τ) M fullShare (r.overlay X w) -∗ wp frame (wpE (defs₀ (F := F)) Variants.none c none) Set.univ (k ⟨⟩) Q)
        -∗ wp frame (wpE (defs₀ (F := F)) Variants.none c none) Set.univ (Prog.lift (.store M r w Finset.univ hx hm) >>= k) Q) := by
  unfold owns
  iintro ⟨%f, %hf, H⟩ Hk
  iapply (wp_store Variants.none (c : Thread nD τ) none Set.univ (m := M) (r := r) (Mk := Finset.univ) (View.set_slice_subset _ _)) $$ H
  iintro H
  subst hf
  iapply Hk
  iexists _
  isplitr [H]
  swap
  · iexact H
  ipureintro
  funext j
  by_cases hj : j ∈ r.set
  · obtain ⟨x, -, rfl⟩ := Finset.mem_map.mp (show j ∈ Finset.univ.map r.emb by rwa [Rect.map_emb_univ])
    rw [View.read_slice_write_emb _ _ _ (Finset.mem_univ _), Rect.overlay_emb]
  · rw [View.read_slice_write_of_not_mem _ _ _ _ (by rwa [Rect.map_emb_univ]), Rect.overlay_of_not_mem _ _ _ hj]

/-- A load through a rectangle, its slice of the memref owned at `Y`, continues at `Y`. -/
theorem ldAt {s : Shape} {e : EltTy} {M : Memref sig .tc .vmem s e} {q : PosShare TreeShare} {r : Rect s} {Y : r.shape.Idx → Elt F e}
    {hl : M.view.LoadsAt r.toLoadRect} {α : Type} {k : (r.shape.Idx → Elt F e) → Prog (TpuEff nD τ sig (Elt F) Λ₀ .tc) α} {Q : α → sProp 𝕄} :
    iprop(∃ f, ⌜(M.access r).read (Elt F) f = Y⌝ ∗ ((M.access r).loc (c : Thread nD τ) ↦[(M.access r).set]{q} f))
      ⊢ iprop((iprop(∃ f, ⌜(M.access r).read (Elt F) f = Y⌝ ∗ ((M.access r).loc (c : Thread nD τ) ↦[(M.access r).set]{q} f))
            -∗ wp frame (wpE (defs₀ (F := F)) Variants.none c none) Set.univ (k Y) Q)
        -∗ wp frame (wpE (defs₀ (F := F)) Variants.none c none) Set.univ (Prog.lift (.load M r.toLoadRect hl) >>= k) Q) := by
  iintro ⟨%f, %hf, H⟩ Hk
  iapply (wp_load_rect Variants.none (c : Thread nD τ) none Set.univ (m := M) (r := r) (Finset.Subset.refl _)) $$ H
  iintro H
  subst hf
  iapply Hk
  iexists f
  isplitr
  · ipureintro; rfl
  iexact H

/-- Overlaying all of a buffer through the rectangle of its own sizes at zero offsets is replacing it. -/
theorem overlay_all {s : Shape} {α : Type} {off : Fin s.rank → Nat} (h0 : ∀ a, off a = 0) (h : ∀ a, off a + s.size a ≤ s.size a) (X w : s.Idx → α) :
    (Rect.unit (s := s) off s.size h).overlay X w = w := by
  funext j
  have e : (Rect.unit (s := s) off s.size h).emb j = j := by
    funext a; apply Fin.ext; change off a + 1 * (j a).val = (j a).val; rw [h0]; omega
  have := Rect.overlay_emb (Rect.unit (s := s) off s.size h) X w j
  rwa [e] at this

/-- and reading all of it reads it. -/
theorem rdR_all {s : Shape} {α : Type} {off : Fin s.rank → Nat} (h0 : ∀ a, off a = 0) (h : ∀ a, off a + s.size a ≤ s.size a) (X : s.Idx → α) :
    rdR (Rect.unit (s := s) off s.size h) X = X := by
  funext j
  have e : (Rect.unit (s := s) off s.size h).emb j = j := by
    funext a; apply Fin.ext; change off a + 1 * (j a).val = (j a).val; rw [h0]; omega
  exact congrArg X e

end Cert.KernelIdeal.Gen

end
-- ==== Proof.StepI.lean ====
/-
  What one grid point does to the memory, as a function: the input blocks it is handed (`Ins`), the scratch buffers and
  the output blocks it holds (`St`), and for each section of the body the state it leaves, in the printed order of loads and
  stores (`f2`, `f5`, `f7`, `f9`).
-/
module

public import proofs.«01_k».proof.Proof.OpsI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

variable (F) in
/-- The input blocks of a point, and the two token blocks (`xa` this one, `xb` the one before) it reads. -/
structure Ins where
  x2 : S1x1x512.Idx → Elt F .f32
  x3 : S512x256.Idx → Elt F .f32
  x4 : S512x256.Idx → Elt F .f32
  x5 : S1x1x256.Idx → Elt F .f32
  x6 : S512x256.Idx → Elt F .f32
  x7 : S512x256.Idx → Elt F .f32
  x8 : S1x1x256.Idx → Elt F .f32
  x9 : S512x128.Idx → Elt F .f32
  x10 : S512x128.Idx → Elt F .f32
  x11 : S512x512.Idx → Elt F .bf16
  x12 : S256x128.Idx → Elt F .bf16
  xa : S1x512x8192.Idx → Elt F .fp8e4m3
  xb : S1x512x8192.Idx → Elt F .fp8e4m3

variable (F) in
/-- The scratch buffers and the output blocks. -/
structure St where
  /-- the two weight-code tiles -/
  q : S2x512x8192.Idx → Elt F .fp8e4m3
  /-- the two weight-gradient tiles -/
  g : S2x512x8192.Idx → Elt F .f32
  /-- the error of the newest token block -/
  en : S512x512.Idx → Elt F .bf16
  /-- the error of the block before it -/
  ec : S512x512.Idx → Elt F .bf16
  /-- the loss per token, by sublane -/
  la : S32x8x512.Idx → Elt F .f32
  /-- the column gradient, by sublane -/
  dca : S32x8x256.Idx → Elt F .f32
  /-- the row gradient of the tile, by lane -/
  dra : S512x128.Idx → Elt F .f32
  /-- the scale gradient of the tile, by lane -/
  dsa : S512x128.Idx → Elt F .f32
  /-- the loss block -/
  o13 : S32x512.Idx → Elt F .f32
  /-- the block of the gradient of `s2` -/
  o14 : S512x256.Idx → Elt F .f32
  /-- the row gradient block -/
  o15 : S1x1x512.Idx → Elt F .f32
  /-- the column gradient block -/
  o16 : S32x256.Idx → Elt F .f32
  /-- the scale gradient block -/
  o17 : S1x1x512.Idx → Elt F .f32
  /-- the packed codes block -/
  o18 : S512x128.Idx → Elt F .i8

/-- The scalar `v47` of part 1 of the body. -/
def b1_v47 (arg0 : BitVec 32) : BitVec 32 :=
  let v30 : BitVec 32 := Scalar.divsi arg0 32#32
  let v31 : BitVec 1 := Scalar.cmpi .sgt arg0 0#32
  let v32 : BitVec 32 := Scalar.extui v31
  let v33 : BitVec 1 := Scalar.cmpi .slt arg0 0#32
  let v34 : BitVec 32 := Scalar.extui v33
  let v35 : BitVec 32 := Scalar.subi v32 v34
  let v36 : BitVec 1 := Scalar.cmpi .sgt 32#32 0#32
  let v37 : BitVec 32 := Scalar.extui v36
  let v38 : BitVec 1 := Scalar.cmpi .slt 32#32 0#32
  let v39 : BitVec 32 := Scalar.extui v38
  let v40 : BitVec 32 := Scalar.subi v37 v39
  let v41 : BitVec 1 := Scalar.cmpi .ne v35 v40
  let v42 : BitVec 32 := Scalar.remsi arg0 32#32
  let v43 : BitVec 1 := Scalar.cmpi .ne v42 0#32
  let v44 : BitVec 1 := Scalar.andi v41 v43
  let v45 : BitVec 32 := Scalar.subi v30 1#32
  let v46 : BitVec 32 := Scalar.select v44 v45 v30
  let v47 : BitVec 32 := Scalar.minsi v46 31#32
  v47

/-- The scalar `v65` of part 1 of the body. -/
def b1_v65 (arg0 : BitVec 32) : BitVec 32 :=
  let v48 : BitVec 32 := Scalar.divsi arg0 32#32
  let v49 : BitVec 1 := Scalar.cmpi .sgt arg0 0#32
  let v50 : BitVec 32 := Scalar.extui v49
  let v51 : BitVec 1 := Scalar.cmpi .slt arg0 0#32
  let v52 : BitVec 32 := Scalar.extui v51
  let v53 : BitVec 32 := Scalar.subi v50 v52
  let v54 : BitVec 1 := Scalar.cmpi .sgt 32#32 0#32
  let v55 : BitVec 32 := Scalar.extui v54
  let v56 : BitVec 1 := Scalar.cmpi .slt 32#32 0#32
  let v57 : BitVec 32 := Scalar.extui v56
  let v58 : BitVec 32 := Scalar.subi v55 v57
  let v59 : BitVec 1 := Scalar.cmpi .ne v53 v58
  let v60 : BitVec 32 := Scalar.remsi arg0 32#32
  let v61 : BitVec 1 := Scalar.cmpi .ne v60 0#32
  let v62 : BitVec 1 := Scalar.andi v59 v61
  let v63 : BitVec 32 := Scalar.subi v48 1#32
  let v64 : BitVec 32 := Scalar.select v62 v63 v48
  let v65 : BitVec 32 := Scalar.remsi v64 2#32
  v65

/-- Part 1 of the body with its scalars named. -/
theorem k0_part1_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) :
    k0_part1_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 = (do
      let v67 : Vec F S512x128 .f32 ← Prog.lift (.load arg10 (Rect.unit (s := S512x128) ![0, 0] S512x128.size inb_S512x128_S512x128_0_0).toLoadRect (View.loadsAt_vmem h_S512x128))
      pure ⟨(b1_v47 arg0), (b1_v65 arg0), k0_pay12 arg0, k0_pay13 v67, k0_pay14 arg0⟩) := rfl

/-- The scalar `v48` of part 4 of the body. -/
def b4_v48 (arg0 : BitVec 32) : BitVec 32 :=
  let v30 : BitVec 32 := Scalar.divsi arg0 32#32
  let v31 : BitVec 1 := Scalar.cmpi .sgt arg0 0#32
  let v32 : BitVec 32 := Scalar.extui v31
  let v33 : BitVec 1 := Scalar.cmpi .slt arg0 0#32
  let v34 : BitVec 32 := Scalar.extui v33
  let v35 : BitVec 32 := Scalar.subi v32 v34
  let v36 : BitVec 1 := Scalar.cmpi .sgt 32#32 0#32
  let v37 : BitVec 32 := Scalar.extui v36
  let v38 : BitVec 1 := Scalar.cmpi .slt 32#32 0#32
  let v39 : BitVec 32 := Scalar.extui v38
  let v40 : BitVec 32 := Scalar.subi v37 v39
  let v41 : BitVec 1 := Scalar.cmpi .ne v35 v40
  let v42 : BitVec 32 := Scalar.remsi arg0 32#32
  let v43 : BitVec 1 := Scalar.cmpi .ne v42 0#32
  let v44 : BitVec 1 := Scalar.andi v41 v43
  let v45 : BitVec 32 := Scalar.subi v30 1#32
  let v46 : BitVec 32 := Scalar.select v44 v45 v30
  let v47 : BitVec 32 := Scalar.minsi v46 32#32
  let v48 : BitVec 32 := Scalar.subi v47 1#32
  v48

/-- The scalar `v67` of part 4 of the body. -/
def b4_v67 (arg0 : BitVec 32) : BitVec 32 :=
  let v49 : BitVec 32 := Scalar.divsi arg0 32#32
  let v50 : BitVec 1 := Scalar.cmpi .sgt arg0 0#32
  let v51 : BitVec 32 := Scalar.extui v50
  let v52 : BitVec 1 := Scalar.cmpi .slt arg0 0#32
  let v53 : BitVec 32 := Scalar.extui v52
  let v54 : BitVec 32 := Scalar.subi v51 v53
  let v55 : BitVec 1 := Scalar.cmpi .sgt 32#32 0#32
  let v56 : BitVec 32 := Scalar.extui v55
  let v57 : BitVec 1 := Scalar.cmpi .slt 32#32 0#32
  let v58 : BitVec 32 := Scalar.extui v57
  let v59 : BitVec 32 := Scalar.subi v56 v58
  let v60 : BitVec 1 := Scalar.cmpi .ne v54 v59
  let v61 : BitVec 32 := Scalar.remsi arg0 32#32
  let v62 : BitVec 1 := Scalar.cmpi .ne v61 0#32
  let v63 : BitVec 1 := Scalar.andi v60 v62
  let v64 : BitVec 32 := Scalar.subi v49 1#32
  let v65 : BitVec 32 := Scalar.select v63 v64 v49
  let v66 : BitVec 32 := Scalar.addi v65 1#32
  let v67 : BitVec 32 := Scalar.remsi v66 2#32
  v67

/-- The scalar `v68` of part 4 of the body. -/
def b4_v68 (arg0 : BitVec 32) : BitVec 32 :=
  let v68 : BitVec 32 := Scalar.subi arg0 1#32
  v68

/-- The scalar `v69` of part 4 of the body. -/
def b4_v69 (arg0 : BitVec 32) : BitVec 32 :=
  let v68 : BitVec 32 := Scalar.subi arg0 1#32
  let v69 : BitVec 32 := Scalar.divsi v68 32#32
  v69

/-- Part 4 of the body with its scalars named. -/
theorem k0_part4_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) :
    k0_part4_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 = (do
      pure ⟨(b4_v48 arg0), (b4_v67 arg0), (b4_v68 arg0), 32#32, (b4_v69 arg0)⟩) := rfl

/-- The scalar `v87` of part 5 of the body. -/
def b5_v87 (v7 : BitVec 32) (v48 : BitVec 32) (v67 : BitVec 32) (v68 : BitVec 32) (c32_i32_33 : BitVec 32) (v69 : BitVec 32) : BitVec 32 :=
  let v70 : BitVec 1 := Scalar.cmpi .sgt v68 0#32
  let v71 : BitVec 32 := Scalar.extui v70
  let v72 : BitVec 1 := Scalar.cmpi .slt v68 0#32
  let v73 : BitVec 32 := Scalar.extui v72
  let v74 : BitVec 32 := Scalar.subi v71 v73
  let v75 : BitVec 1 := Scalar.cmpi .sgt c32_i32_33 0#32
  let v76 : BitVec 32 := Scalar.extui v75
  let v77 : BitVec 1 := Scalar.cmpi .slt c32_i32_33 0#32
  let v78 : BitVec 32 := Scalar.extui v77
  let v79 : BitVec 32 := Scalar.subi v76 v78
  let v80 : BitVec 1 := Scalar.cmpi .ne v74 v79
  let v81 : BitVec 32 := Scalar.remsi v68 c32_i32_33
  let v82 : BitVec 1 := Scalar.cmpi .ne v81 0#32
  let v83 : BitVec 1 := Scalar.andi v80 v82
  let v84 : BitVec 32 := Scalar.subi v69 1#32
  let v85 : BitVec 32 := Scalar.select v83 v84 v69
  let v86 : BitVec 32 := Scalar.addi v85 1#32
  let v87 : BitVec 32 := Scalar.remsi v86 2#32
  v87

/-- The scalar `v93` of part 5 of the body. -/
def b5_v93 (v7 : BitVec 32) (v48 : BitVec 32) (v67 : BitVec 32) (v68 : BitVec 32) (c32_i32_33 : BitVec 32) (v69 : BitVec 32) : BitVec 32 :=
  let v89 : BitVec 1 := Scalar.cmpi .eq v7 0#32
  let v90 : BitVec 32 := Scalar.addi v7 3#32
  let v91 : BitVec 32 := Scalar.subi v90 1#32
  let v92 : BitVec 32 := Scalar.remsi v91 3#32
  let v93 : BitVec 32 := Scalar.select v89 0#32 v92
  v93

/-- Part 5 of the body with its scalars named. -/
theorem k0_part5_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (v7 : BitVec 32) (k0_h5 : k0_cond5 i = 1#1) (v48 : BitVec 32) (v67 : BitVec 32) (v68 : BitVec 32) (c32_i32_33 : BitVec 32) (v69 : BitVec 32) :
    k0_part5_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 v7 k0_h5 v48 v67 v68 c32_i32_33 v69 = (do
      let v94 : Vec F S512x512 .bf16 ← Prog.lift (.load arg22 (Rect.unit (s := S512x512) ![0, 0] S512x512.size inb_S512x512_S512x512_0_0).toLoadRect (View.loadsAt_vmem h_S512x512))
      let v95 : Vec F S512x512 .bf16 ← Prog.lift (.load arg23 (Rect.unit (s := S512x512) ![0, 0] S512x512.size inb_S512x512_S512x512_0_0).toLoadRect (View.loadsAt_vmem h_S512x512))
      Prog.lift (.store arg23 (Rect.unit (s := S512x512) ![0, 0] S512x512.size inb_S512x512_S512x512_0_0) (k0_pay25 v94) Finset.univ (View.stores_vmem h_S512x512 (harg23.storeExact_slice rfl _ packedbf16_S512x512_S512x512_0_0) (fun _ => rfl)) (.inl rfl))
      let v99 : Vec F S1x512x8192 .fp8e4m3 ← Prog.lift (.load arg20 (Rect.unit (s := S2x512x8192) (k0_off13 i) S1x512x8192.size (k0_off13_inb i k0_h5)).toLoadRect (View.loadsAt_vmem h_S1x512x8192))
      let v102 : Vec F S1x512x8192 .fp8e4m3 ← Prog.lift (.load arg19 (Rect.unit (s := S3x512x8192) (k0_off14 i) S1x512x8192.size (k0_off14_inb i k0_h5)).toLoadRect (View.loadsAt_vmem h_S1x512x8192))
      pure ⟨(b5_v87 v7 v48 v67 v68 c32_i32_33 v69), (b5_v93 v7 v48 v67 v68 c32_i32_33 v69), k0_pay26 v99 v102, k0_pay27 v48⟩) := rfl

/-- The scalar `v179` of part 7 of the body. -/
def b7_v179 (arg0 : BitVec 32) (v87 : BitVec 32) (v93 : BitVec 32) : BitVec 32 :=
  let v162 : BitVec 32 := Scalar.divsi arg0 32#32
  let v163 : BitVec 1 := Scalar.cmpi .sgt arg0 0#32
  let v164 : BitVec 32 := Scalar.extui v163
  let v165 : BitVec 1 := Scalar.cmpi .slt arg0 0#32
  let v166 : BitVec 32 := Scalar.extui v165
  let v167 : BitVec 32 := Scalar.subi v164 v166
  let v168 : BitVec 1 := Scalar.cmpi .sgt 32#32 0#32
  let v169 : BitVec 32 := Scalar.extui v168
  let v170 : BitVec 1 := Scalar.cmpi .slt 32#32 0#32
  let v171 : BitVec 32 := Scalar.extui v170
  let v172 : BitVec 32 := Scalar.subi v169 v171
  let v173 : BitVec 1 := Scalar.cmpi .ne v167 v172
  let v174 : BitVec 32 := Scalar.remsi arg0 32#32
  let v175 : BitVec 1 := Scalar.cmpi .ne v174 0#32
  let v176 : BitVec 1 := Scalar.andi v173 v175
  let v177 : BitVec 32 := Scalar.subi v162 1#32
  let v178 : BitVec 32 := Scalar.select v176 v177 v162
  let v179 : BitVec 32 := Scalar.minsi v178 31#32
  v179

/-- The scalar `v180` of part 7 of the body. -/
def b7_v180 (arg0 : BitVec 32) (v87 : BitVec 32) (v93 : BitVec 32) : BitVec 32 :=
  let v180 : BitVec 32 := Scalar.divsi arg0 32#32
  v180

/-- The scalar `v182` of part 7 of the body. -/
def b7_v182 (arg0 : BitVec 32) (v87 : BitVec 32) (v93 : BitVec 32) : BitVec 32 :=
  let v181 : BitVec 1 := Scalar.cmpi .sgt arg0 0#32
  let v182 : BitVec 32 := Scalar.extui v181
  v182

/-- The scalar `v183` of part 7 of the body. -/
def b7_v183 (arg0 : BitVec 32) (v87 : BitVec 32) (v93 : BitVec 32) : BitVec 1 :=
  let v183 : BitVec 1 := Scalar.cmpi .slt arg0 0#32
  v183

/-- Part 7 of the body with its scalars named. -/
theorem k0_part7_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) (k0_h5 : k0_cond5 i = 1#1) (v87 : BitVec 32) (v93 : BitVec 32) (v145 : FVec F S512x512 .bf16) :
    k0_part7_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 k0_h5 v87 v93 v145 = (do
      let v146 : Vec F S512x512 .bf16 ← Prog.lift (.load arg22 (Rect.unit (s := S512x512) ![0, 0] S512x512.size inb_S512x512_S512x512_0_0).toLoadRect (View.loadsAt_vmem h_S512x512))
      Prog.lift (.store arg22 (Rect.unit (s := S512x512) ![0, 0] S512x512.size inb_S512x512_S512x512_0_0) (k0_pay32 v145) Finset.univ (View.stores_vmem h_S512x512 (harg22.storeExact_slice rfl _ packedbf16_S512x512_S512x512_0_0) (fun _ => rfl)) (.inl rfl))
      let v150 : Vec F S1x512x8192 .f32 ← Prog.lift (.load arg21 (Rect.unit (s := S2x512x8192) (k0_off16 i) S1x512x8192.size (k0_off16_inb i k0_h5)).toLoadRect (View.loadsAt_vmem h_S1x512x8192))
      let v152 : Vec F S512x512 .bf16 ← Prog.lift (.load arg23 (Rect.unit (s := S512x512) ![0, 0] S512x512.size inb_S512x512_S512x512_0_0).toLoadRect (View.loadsAt_vmem h_S512x512))
      let v154 : Vec F S1x512x8192 .fp8e4m3 ← Prog.lift (.load arg19 (Rect.unit (s := S3x512x8192) (k0_off17 i) S1x512x8192.size (k0_off17_inb i k0_h5)).toLoadRect (View.loadsAt_vmem h_S1x512x8192))
      let v159 : Vec F S1x512x8192 .f32 ← Prog.lift (.load arg21 (Rect.unit (s := S2x512x8192) (k0_off16 i) S1x512x8192.size (k0_off16_inb i k0_h5)).toLoadRect (View.loadsAt_vmem h_S1x512x8192))
      Prog.lift (.store arg21 (Rect.unit (s := S2x512x8192) (k0_off16 i) S1x512x8192.size (k0_off16_inb i k0_h5)) (k0_pay33 v150 v152 v154) Finset.univ (View.stores_vmem_bits_univ h_S1x512x8192 rfl) (.inl rfl))
      pure ⟨(b7_v179 arg0 v87 v93), 32#32, (b7_v180 arg0 v87 v93), (b7_v182 arg0 v87 v93), (b7_v183 arg0 v87 v93)⟩) := rfl

/-- The scalar `v197` of part 8 of the body. -/
def b8_v197 (arg0 : BitVec 32) (v179 : BitVec 32) (c32_i32_88 : BitVec 32) (v180 : BitVec 32) (v182 : BitVec 32) (v183 : BitVec 1) : BitVec 32 :=
  let v184 : BitVec 32 := Scalar.extui v183
  let v185 : BitVec 32 := Scalar.subi v182 v184
  let v186 : BitVec 1 := Scalar.cmpi .sgt c32_i32_88 0#32
  let v187 : BitVec 32 := Scalar.extui v186
  let v188 : BitVec 1 := Scalar.cmpi .slt c32_i32_88 0#32
  let v189 : BitVec 32 := Scalar.extui v188
  let v190 : BitVec 32 := Scalar.subi v187 v189
  let v191 : BitVec 1 := Scalar.cmpi .ne v185 v190
  let v192 : BitVec 32 := Scalar.remsi arg0 c32_i32_88
  let v193 : BitVec 1 := Scalar.cmpi .ne v192 0#32
  let v194 : BitVec 1 := Scalar.andi v191 v193
  let v195 : BitVec 32 := Scalar.subi v180 1#32
  let v196 : BitVec 32 := Scalar.select v194 v195 v180
  let v197 : BitVec 32 := Scalar.remsi v196 2#32
  v197

/-- Part 8 of the body with its scalars named. -/
theorem k0_part8_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) (v179 : BitVec 32) (c32_i32_88 : BitVec 32) (v180 : BitVec 32) (v182 : BitVec 32) (v183 : BitVec 1) :
    k0_part8_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 v179 c32_i32_88 v180 v182 v183 = (do
      let v199 : Vec F S512x128 .f32 ← Prog.lift (.load arg10 (Rect.unit (s := S512x128) ![0, 0] S512x128.size inb_S512x128_S512x128_0_0).toLoadRect (View.loadsAt_vmem h_S512x128))
      let v210 : Vec F S512x128 .f32 ← Prog.lift (.load arg9 (Rect.unit (s := S512x128) ![0, 0] S512x128.size inb_S512x128_S512x128_0_0).toLoadRect (View.loadsAt_vmem h_S512x128))
      let v220 : Vec F S512x128 .f32 ← Prog.lift (.load arg3 (Rect.unit (s := S512x256) ![0, 0] S512x128.size inb_S512x256_S512x128_0_0).toLoadRect (View.loadsAt_vmem h_S512x128))
      let v221 : Vec F S512x128 .f32 ← Prog.lift (.load arg4 (Rect.unit (s := S512x256) ![0, 0] S512x128.size inb_S512x256_S512x128_0_0).toLoadRect (View.loadsAt_vmem h_S512x128))
      let v222 : Vec F S1x1x128 .f32 ← Prog.lift (.load arg5 (Rect.unit (s := S1x1x256) ![0, 0, 0] S1x1x128.size inb_S1x1x256_S1x1x128_0_0_0).toLoadRect (View.loadsAt_vmem h_S1x1x128))
      pure ⟨(b8_v197 arg0 v179 c32_i32_88 v180 v182 v183), k0_pay34 v179 v199, k0_pay35 v179 v210, v220, v221, k0_pay36 v222⟩) := rfl

/-- The scalar `v278` of part 10 of the body. -/
def b10_v278 (arg0 : BitVec 32) : BitVec 1 :=
  let v278 : BitVec 1 := Scalar.cmpi .sge arg0 65#32
  v278

/-- The scalar `v295` of part 10 of the body. -/
def b10_v295 (arg0 : BitVec 32) : BitVec 32 :=
  let v275 : BitVec 32 := Scalar.subi arg0 65#32
  let v276 : BitVec 32 := Scalar.maxsi 0#32 v275
  let v277 : BitVec 32 := Scalar.minsi 1023#32 v276
  let v279 : BitVec 32 := Scalar.divsi v277 32#32
  let v280 : BitVec 1 := Scalar.cmpi .sgt v277 0#32
  let v281 : BitVec 32 := Scalar.extui v280
  let v282 : BitVec 1 := Scalar.cmpi .slt v277 0#32
  let v283 : BitVec 32 := Scalar.extui v282
  let v284 : BitVec 32 := Scalar.subi v281 v283
  let v285 : BitVec 1 := Scalar.cmpi .sgt 32#32 0#32
  let v286 : BitVec 32 := Scalar.extui v285
  let v287 : BitVec 1 := Scalar.cmpi .slt 32#32 0#32
  let v288 : BitVec 32 := Scalar.extui v287
  let v289 : BitVec 32 := Scalar.subi v286 v288
  let v290 : BitVec 1 := Scalar.cmpi .ne v284 v289
  let v291 : BitVec 32 := Scalar.remsi v277 32#32
  let v292 : BitVec 1 := Scalar.cmpi .ne v291 0#32
  let v293 : BitVec 1 := Scalar.andi v290 v292
  let v294 : BitVec 32 := Scalar.subi v279 1#32
  let v295 : BitVec 32 := Scalar.select v293 v294 v279
  v295

/-- The scalar `v296` of part 10 of the body. -/
def b10_v296 (arg0 : BitVec 32) : BitVec 32 :=
  let v275 : BitVec 32 := Scalar.subi arg0 65#32
  let v276 : BitVec 32 := Scalar.maxsi 0#32 v275
  let v277 : BitVec 32 := Scalar.minsi 1023#32 v276
  let v296 : BitVec 32 := Scalar.remsi v277 32#32
  v296

/-- The scalar `v297` of part 10 of the body. -/
def b10_v297 (arg0 : BitVec 32) : BitVec 32 :=
  let v297 : BitVec 32 := Scalar.subi arg0 1#32
  v297

/-- The scalar `v298` of part 10 of the body. -/
def b10_v298 (arg0 : BitVec 32) : BitVec 32 :=
  let v297 : BitVec 32 := Scalar.subi arg0 1#32
  let v298 : BitVec 32 := Scalar.divsi v297 32#32
  v298

/-- The scalar `v303` of part 10 of the body. -/
def b10_v303 (arg0 : BitVec 32) : BitVec 32 :=
  let v297 : BitVec 32 := Scalar.subi arg0 1#32
  let v299 : BitVec 1 := Scalar.cmpi .sgt v297 0#32
  let v300 : BitVec 32 := Scalar.extui v299
  let v301 : BitVec 1 := Scalar.cmpi .slt v297 0#32
  let v302 : BitVec 32 := Scalar.extui v301
  let v303 : BitVec 32 := Scalar.subi v300 v302
  v303

/-- The scalar `v304` of part 10 of the body. -/
def b10_v304 (arg0 : BitVec 32) : BitVec 1 :=
  let v304 : BitVec 1 := Scalar.cmpi .sgt 32#32 0#32
  v304

/-- Part 10 of the body with its scalars named. -/
theorem k0_part10_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) (v267 : FVec F S512x256 .f32) :
    k0_part10_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 v267 = (do
      let v269 : Vec F S256x128 .bf16 ← Prog.lift (.load arg12 (Rect.unit (s := S256x128) ![0, 0] S256x128.size inb_S256x128_S256x128_0_0).toLoadRect (View.loadsAt_vmem h_S256x128))
      let v274 : Vec F S512x128 .i8 ← Prog.lift (.load arg18 (Rect.unit (s := S512x128) ![0, 0] S512x128.size inb_S512x128_S512x128_0_0).toLoadRect (View.loadsAt_vmem h_S512x128))
      Prog.lift (.store arg18 (Rect.unit (s := S512x128) ![0, 0] S512x128.size inb_S512x128_S512x128_0_0) (k0_pay40 v267 v269) Finset.univ (View.stores_vmem h_S512x128 (harg18.storeExact_slice rfl _ packedi8_S512x128_S512x128_0_0) (fun _ => rfl)) (.inl rfl))
      pure ⟨(b10_v278 arg0), (b10_v295 arg0), (b10_v296 arg0), (b10_v297 arg0), 32#32, (b10_v298 arg0), (b10_v303 arg0), (b10_v304 arg0)⟩) := rfl

/-- The scalar `v33` of part 15 of the body. -/
def b15_v33 (arg0 : BitVec 32) : BitVec 1 :=
  let v33 : BitVec 1 := Scalar.cmpi .sge arg0 65#32
  v33

/-- The scalar `v50` of part 15 of the body. -/
def b15_v50 (arg0 : BitVec 32) : BitVec 32 :=
  let v30 : BitVec 32 := Scalar.subi arg0 65#32
  let v31 : BitVec 32 := Scalar.maxsi 0#32 v30
  let v32 : BitVec 32 := Scalar.minsi 1023#32 v31
  let v34 : BitVec 32 := Scalar.divsi v32 32#32
  let v35 : BitVec 1 := Scalar.cmpi .sgt v32 0#32
  let v36 : BitVec 32 := Scalar.extui v35
  let v37 : BitVec 1 := Scalar.cmpi .slt v32 0#32
  let v38 : BitVec 32 := Scalar.extui v37
  let v39 : BitVec 32 := Scalar.subi v36 v38
  let v40 : BitVec 1 := Scalar.cmpi .sgt 32#32 0#32
  let v41 : BitVec 32 := Scalar.extui v40
  let v42 : BitVec 1 := Scalar.cmpi .slt 32#32 0#32
  let v43 : BitVec 32 := Scalar.extui v42
  let v44 : BitVec 32 := Scalar.subi v41 v43
  let v45 : BitVec 1 := Scalar.cmpi .ne v39 v44
  let v46 : BitVec 32 := Scalar.remsi v32 32#32
  let v47 : BitVec 1 := Scalar.cmpi .ne v46 0#32
  let v48 : BitVec 1 := Scalar.andi v45 v47
  let v49 : BitVec 32 := Scalar.subi v34 1#32
  let v50 : BitVec 32 := Scalar.select v48 v49 v34
  v50

/-- The scalar `v51` of part 15 of the body. -/
def b15_v51 (arg0 : BitVec 32) : BitVec 32 :=
  let v30 : BitVec 32 := Scalar.subi arg0 65#32
  let v31 : BitVec 32 := Scalar.maxsi 0#32 v30
  let v32 : BitVec 32 := Scalar.minsi 1023#32 v31
  let v51 : BitVec 32 := Scalar.remsi v32 32#32
  v51

/-- The scalar `v69` of part 15 of the body. -/
def b15_v69 (arg0 : BitVec 32) : BitVec 32 :=
  let v52 : BitVec 32 := Scalar.subi arg0 1#32
  let v53 : BitVec 32 := Scalar.divsi v52 32#32
  let v54 : BitVec 1 := Scalar.cmpi .sgt v52 0#32
  let v55 : BitVec 32 := Scalar.extui v54
  let v56 : BitVec 1 := Scalar.cmpi .slt v52 0#32
  let v57 : BitVec 32 := Scalar.extui v56
  let v58 : BitVec 32 := Scalar.subi v55 v57
  let v59 : BitVec 1 := Scalar.cmpi .sgt 32#32 0#32
  let v60 : BitVec 32 := Scalar.extui v59
  let v61 : BitVec 1 := Scalar.cmpi .slt 32#32 0#32
  let v62 : BitVec 32 := Scalar.extui v61
  let v63 : BitVec 32 := Scalar.subi v60 v62
  let v64 : BitVec 1 := Scalar.cmpi .ne v58 v63
  let v65 : BitVec 32 := Scalar.remsi v52 32#32
  let v66 : BitVec 1 := Scalar.cmpi .ne v65 0#32
  let v67 : BitVec 1 := Scalar.andi v64 v66
  let v68 : BitVec 32 := Scalar.subi v53 1#32
  let v69 : BitVec 32 := Scalar.select v67 v68 v53
  v69

/-- Part 15 of the body with its scalars named. -/
theorem k0_part15_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (arg0 : BitVec 32) :
    k0_part15_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg0 = (do
      pure ⟨(b15_v33 arg0), (b15_v50 arg0), (b15_v51 arg0), (b15_v69 arg0)⟩) := rfl

/-- The scalar `v109` of part 16 of the body. -/
def b16_v109 (v50 : BitVec 32) (v51 : BitVec 32) (v69 : BitVec 32) : BitVec 1 :=
  let v109 : BitVec 1 := Scalar.cmpi .eq v51 0#32
  v109

/-- Part 16 of the body with its scalars named. -/
theorem k0_part16_named (i : grid0.Coords) (arg1 : Memref sig .tc .hbm S16384x8192 .fp8e4m3) (harg1 : arg1.IsWhole) (arg2 : Memref sig .tc .vmem S1x1x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S1x1x256 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S32x512 .f32) (harg13 : arg13.IsWhole) (arg14 : Memref sig .tc .vmem S512x256 .f32) (harg14 : arg14.IsWhole) (arg15 : Memref sig .tc .vmem S1x1x512 .f32) (harg15 : arg15.IsWhole) (arg16 : Memref sig .tc .vmem S32x256 .f32) (harg16 : arg16.IsWhole) (arg17 : Memref sig .tc .vmem S1x1x512 .f32) (harg17 : arg17.IsWhole) (arg18 : Memref sig .tc .vmem S512x128 .i8) (harg18 : arg18.IsWhole) (arg19 : Memref sig .tc .vmem S3x512x8192 .fp8e4m3) (harg19 : arg19.IsWhole) (arg20 : Memref sig .tc .vmem S2x512x8192 .fp8e4m3) (harg20 : arg20.IsWhole) (arg21 : Memref sig .tc .vmem S2x512x8192 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S32x8x512 .f32) (harg24 : arg24.IsWhole) (arg25 : Memref sig .tc .vmem S32x8x256 .f32) (harg25 : arg25.IsWhole) (arg26 : Memref sig .tc .vmem S512x128 .f32) (harg26 : arg26.IsWhole) (arg27 : Memref sig .tc .vmem S512x128 .f32) (harg27 : arg27.IsWhole) (arg28 : DmaSems sig S3) (k0_h7 : k0_cond7 i = 1#1) (v50 : BitVec 32) (v51 : BitVec 32) (v69 : BitVec 32) :
    k0_part16_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 k0_h7 v50 v51 v69 = (do
      let v72 : Vec F S512x128 .f32 ← Prog.lift (.load arg10 (Rect.unit (s := S512x128) ![0, 0] S512x128.size inb_S512x128_S512x128_0_0).toLoadRect (View.loadsAt_vmem h_S512x128))
      let v83 : Vec F S512x128 .f32 ← Prog.lift (.load arg9 (Rect.unit (s := S512x128) ![0, 0] S512x128.size inb_S512x128_S512x128_0_0).toLoadRect (View.loadsAt_vmem h_S512x128))
      let v97 : Vec F S1x512x256 .f32 ← Prog.lift (.load arg21 (Rect.unit (s := S2x512x8192) (k0_off22 i) S1x512x256.size (k0_off22_inb i k0_h7)).toLoadRect (View.loadsAt_vmem h_S1x512x256))
      let v102 : Vec F S1x512x256 .f32 ← Prog.lift (.load arg21 (Rect.unit (s := S2x512x8192) (k0_off22 i) S1x512x256.size (k0_off22_inb i k0_h7)).toLoadRect (View.loadsAt_vmem h_S1x512x256))
      Prog.lift (.store arg21 (Rect.unit (s := S2x512x8192) (k0_off22 i) S1x512x256.size (k0_off22_inb i k0_h7)) (k0_pay68 (F := F)) Finset.univ (View.stores_vmem_bits_univ h_S1x512x256 rfl) (.inl rfl))
      let v106 : Vec F S512x128 .f32 ← Prog.lift (.load arg26 (Rect.unit (s := S512x128) ![0, 0] S512x128.size inb_S512x128_S512x128_0_0).toLoadRect (View.loadsAt_vmem h_S512x128))
      pure ⟨k0_pay65 v50 v72, k0_pay66 v50 v83, k0_pay67 v97, k0_pay69 v51 v106, (b16_v109 v50 v51 v69)⟩) := rfl

/-- Section 2: one quantised chunk of the first tile, the gradient buffers zeroed there. -/
def f2 (i : grid0.Coords) (k0_h2 : k0_cond2 i = 1#1) (I : Ins F) (s : St F) : St F :=
  let v67_p1 := rdR (Rect.unit (s := S512x128) ![0, 0] S512x128.size inb_S512x128_S512x128_0_0) I.x10
  let v47_p1r := ((b1_v47 (tW i)))
  let v66_p1r := (k0_pay12 (tW i))
  let v68_p1r := (k0_pay13 v67_p1)
  let v70_p1r := (k0_pay14 (tW i))
  let v78_p2 := rdR (Rect.unit (s := S512x128) ![0, 0] S512x128.size inb_S512x128_S512x128_0_0) I.x9
  let v88_p2 := rdR (Rect.unit (s := S512x256) ![0, 0] S512x128.size inb_S512x256_S512x128_0_0) I.x3
  let v89_p2 := rdR (Rect.unit (s := S512x256) ![0, 0] S512x128.size inb_S512x256_S512x128_0_0) I.x4
  let v90_p2 := rdR (Rect.unit (s := S1x1x256) ![0, 0, 0] S1x1x128.size inb_S1x1x256_S1x1x128_0_0_0) I.x5
  let v105_p2 := rdR (Rect.unit (s := S512x256) ![0, 128] S512x128.size inb_S512x256_S512x128_0_128) I.x3
  let v106_p2 := rdR (Rect.unit (s := S512x256) ![0, 128] S512x128.size inb_S512x256_S512x128_0_128) I.x4
  let v107_p2 := rdR (Rect.unit (s := S1x1x256) ![0, 0, 128] S1x1x128.size inb_S1x1x256_S1x1x128_0_0_128) I.x5
  let v87_p2r := (k0_pay16 v47_p1r v78_p2)
  let v104_p2r := (k0_pay17 v47_p1r v66_p1r v68_p1r v70_p1r v78_p2 v88_p2 v89_p2 v90_p2)
  let v105_p2r := (v105_p2)
  let v108_p2r := (k0_pay18 v107_p2)
  let v109_p2r := (k0_pay19 v66_p1r v68_p1r v70_p1r v106_p2)
  let q_1 := (Rect.unit (s := S2x512x8192) (k0_off4 i) S1x512x256.size (k0_off4_inb i k0_h2)).overlay s.q ((k0_pay21 v87_p2r v104_p2r v105_p2r v108_p2r v109_p2r))
  let v137_p3 := rdR (Rect.unit (s := S256x128) ![0, 0] S256x128.size inb_S256x128_S256x128_0_0) I.x12
  let o18_1 := (Rect.unit (s := S512x128) ![0, 0] S512x128.size inb_S512x128_S512x128_0_0).overlay s.o18 ((k0_pay22 v87_p2r v104_p2r v105_p2r v108_p2r v109_p2r v137_p3))
  let g_1 := (Rect.unit (s := S2x512x8192) (k0_off5 i) S1x512x256.size (k0_off5_inb i k0_h2)).overlay s.g ((k0_pay23 (F := F)))
  let v150_p3r := (k0_pay24 (F := F))
  let g_2 := (Rect.unit (s := S2x512x8192) (k0_off6 i) S1x512x256.size (k0_off6_inb i k0_h2)).overlay g_1 ((k0_pay4 v150_p3r))
  ⟨q_1, g_2, s.en, s.ec, s.la, s.dca, s.dra, s.dsa, s.o13, s.o14, s.o15, s.o16, s.o17, o18_1⟩

/-- Section 5: the forward product, the weight-gradient product, a quantised chunk and an epilogue chunk. -/
def f5 (i : grid0.Coords) (k0_h5 : k0_cond5 i = 1#1) (I : Ins F) (s : St F) : St F :=
  let v48_p4r := ((b4_v48 (tW i)))
  let v67_p4r := ((b4_v67 (tW i)))
  let v68_p4r := ((b4_v68 (tW i)))
  let c32_i32_33_p4r := (32#32)
  let v69_p4r := ((b4_v69 (tW i)))
  let v94_p5 := rdR (Rect.unit (s := S512x512) ![0, 0] S512x512.size inb_S512x512_S512x512_0_0) s.en
  let ec_1 := (Rect.unit (s := S512x512) ![0, 0] S512x512.size inb_S512x512_S512x512_0_0).overlay s.ec ((k0_pay25 v94_p5))
  let v99_p5 := rdR (Rect.unit (s := S2x512x8192) (k0_off13 i) S1x512x8192.size (k0_off13_inb i k0_h5)) s.q
  let v102_p5 := I.xa
  let v87_p5r := ((b5_v87 (Scalar.subi (tW i) 32#32) v48_p4r v67_p4r v68_p4r c32_i32_33_p4r v69_p4r))
  let v93_p5r := ((b5_v93 (Scalar.subi (tW i) 32#32) v48_p4r v67_p4r v68_p4r c32_i32_33_p4r v69_p4r))
  let v104_p5r := (k0_pay26 v99_p5 v102_p5)
  let v105_p5r := (k0_pay27 v48_p4r)
  let v106_p6 := rdR (Rect.unit (s := S512x128) ![0, 0] S512x128.size inb_S512x128_S512x128_0_0) I.x9
  let v117_p6 := rdR (Rect.unit (s := S1x1x512) ![0, 0, 0] S1x1x512.size inb_S1x1x512_S1x1x512_0_0_0) I.x2
  let v122_p6 := rdR (Rect.unit (s := S512x512) ![0, 0] S512x512.size inb_S512x512_S512x512_0_0) I.x11
  let v128_p6 := rdR (Rect.unit (s := S32x8x512) (k0_off15 i) S1x8x512.size (k0_off15_inb i k0_h5)) s.la
  let la_1 := (Rect.unit (s := S32x8x512) (k0_off15 i) S1x8x512.size (k0_off15_inb i k0_h5)).overlay s.la ((k0_pay30 (tW i) v104_p5r v105_p5r v106_p6 v117_p6 v122_p6 v128_p6))
  let v145_p6r := (k0_pay31 v104_p5r v105_p5r v106_p6 v117_p6 v122_p6)
  let en_1 := (Rect.unit (s := S512x512) ![0, 0] S512x512.size inb_S512x512_S512x512_0_0).overlay s.en ((k0_pay32 v145_p6r))
  let v150_p7 := rdR (Rect.unit (s := S2x512x8192) (k0_off16 i) S1x512x8192.size (k0_off16_inb i k0_h5)) s.g
  let v152_p7 := rdR (Rect.unit (s := S512x512) ![0, 0] S512x512.size inb_S512x512_S512x512_0_0) ec_1
  let v154_p7 := I.xb
  let g_1 := (Rect.unit (s := S2x512x8192) (k0_off16 i) S1x512x8192.size (k0_off16_inb i k0_h5)).overlay s.g ((k0_pay33 v150_p7 v152_p7 v154_p7))
  let v179_p7r := ((b7_v179 (tW i) v87_p5r v93_p5r))
  let v199_p8 := rdR (Rect.unit (s := S512x128) ![0, 0] S512x128.size inb_S512x128_S512x128_0_0) I.x10
  let v210_p8 := rdR (Rect.unit (s := S512x128) ![0, 0] S512x128.size inb_S512x128_S512x128_0_0) I.x9
  let v220_p8 := rdR (Rect.unit (s := S512x256) ![0, 0] S512x128.size inb_S512x256_S512x128_0_0) I.x3
  let v221_p8 := rdR (Rect.unit (s := S512x256) ![0, 0] S512x128.size inb_S512x256_S512x128_0_0) I.x4
  let v222_p8 := rdR (Rect.unit (s := S1x1x256) ![0, 0, 0] S1x1x128.size inb_S1x1x256_S1x1x128_0_0_0) I.x5
  let v208_p8r := (k0_pay34 v179_p7r v199_p8)
  let v219_p8r := (k0_pay35 v179_p7r v210_p8)
  let v220_p8r := (v220_p8)
  let v221_p8r := (v221_p8)
  let v223_p8r := (k0_pay36 v222_p8)
  let v237_p9 := rdR (Rect.unit (s := S512x256) ![0, 128] S512x128.size inb_S512x256_S512x128_0_128) I.x3
  let v238_p9 := rdR (Rect.unit (s := S512x256) ![0, 128] S512x128.size inb_S512x256_S512x128_0_128) I.x4
  let v239_p9 := rdR (Rect.unit (s := S1x1x256) ![0, 0, 128] S1x1x128.size inb_S1x1x256_S1x1x128_0_0_128) I.x5
  let q_1 := (Rect.unit (s := S2x512x8192) (k0_off18 i) S1x512x256.size (k0_off18_inb i k0_h5)).overlay s.q ((k0_pay38 v208_p8r v219_p8r v220_p8r v221_p8r v223_p8r v237_p9 v238_p9 v239_p9))
  let v267_p9r := (k0_pay39 v208_p8r v219_p8r v220_p8r v221_p8r v223_p8r v237_p9 v238_p9 v239_p9)
  let v269_p10 := rdR (Rect.unit (s := S256x128) ![0, 0] S256x128.size inb_S256x128_S256x128_0_0) I.x12
  let o18_1 := (Rect.unit (s := S512x128) ![0, 0] S512x128.size inb_S512x128_S512x128_0_0).overlay s.o18 ((k0_pay40 v267_p9r v269_p10))
  let v278_p10r := ((b10_v278 (tW i)))
  let v295_p10r := ((b10_v295 (tW i)))
  let v296_p10r := ((b10_v296 (tW i)))
  let v317_p11 := rdR (Rect.unit (s := S512x128) ![0, 0] S512x128.size inb_S512x128_S512x128_0_0) I.x10
  let v328_p11 := rdR (Rect.unit (s := S512x128) ![0, 0] S512x128.size inb_S512x128_S512x128_0_0) I.x9
  let v342_p11 := rdR (Rect.unit (s := S2x512x8192) (k0_off19 i) S1x512x256.size (k0_off19_inb i k0_h5)) g_1
  let v326_p11r := (k0_pay41 v295_p10r v317_p11)
  let v337_p11r := (k0_pay42 v295_p10r v328_p11)
  let v343_p11r := (k0_pay43 v342_p11)
  let v344_p11r := (k0_pay44 (F := F))
  let g_2 := (Rect.unit (s := S2x512x8192) (k0_off19 i) S1x512x256.size (k0_off19_inb i k0_h5)).overlay g_1 ((k0_pay45 v344_p11r))
  let v351_p12 := rdR (Rect.unit (s := S512x128) ![0, 0] S512x128.size inb_S512x128_S512x128_0_0) s.dra
  let v355_p12 := rdR (Rect.unit (s := S512x128) ![0, 0] S512x128.size inb_S512x128_S512x128_0_0) s.dsa
  let v359_p12 := rdR (Rect.unit (s := S512x256) ![0, 0] S512x128.size inb_S512x256_S512x128_0_0) I.x6
  let v360_p12 := rdR (Rect.unit (s := S512x256) ![0, 0] S512x128.size inb_S512x256_S512x128_0_0) I.x7
  let v361_p12 := rdR (Rect.unit (s := S1x1x256) ![0, 0, 0] S1x1x128.size inb_S1x1x256_S1x1x128_0_0_0) I.x8
  let o14_1 := (Rect.unit (s := S512x256) ![0, 0] S512x128.size inb_S512x256_S512x128_0_0).overlay s.o14 ((k0_pay50 v326_p11r v337_p11r v343_p11r v359_p12 v360_p12 v361_p12))
  let v357_p12r := (k0_pay46 v296_p10r v355_p12)
  let v358_p12r := (k0_pay47 v343_p11r)
  let v377_p12r := (k0_pay49 v326_p11r v337_p11r v359_p12 v360_p12 v361_p12)
  let v381_p12r := (k0_pay50 v326_p11r v337_p11r v343_p11r v359_p12 v360_p12 v361_p12)
  let v383_p12r := (k0_pay51 v296_p10r v326_p11r v337_p11r v343_p11r v351_p12 v359_p12 v360_p12 v361_p12)
  let v384_p12r := (k0_pay52 v326_p11r v337_p11r v359_p12 v360_p12 v361_p12)
  let v395_p13 := rdR (Rect.unit (s := S32x8x256) (k0_off20 i) S1x8x128.size (k0_off20_inb i k0_h5)) s.dca
  let dca_1 := (Rect.unit (s := S32x8x256) (k0_off20 i) S1x8x128.size (k0_off20_inb i k0_h5)).overlay s.dca ((k0_pay54 v278_p10r v381_p12r v395_p13))
  let v407_p13 := rdR (Rect.unit (s := S512x256) ![0, 128] S512x128.size inb_S512x256_S512x128_0_128) I.x6
  let v408_p13 := rdR (Rect.unit (s := S512x256) ![0, 128] S512x128.size inb_S512x256_S512x128_0_128) I.x7
  let v409_p13 := rdR (Rect.unit (s := S1x1x256) ![0, 0, 128] S1x1x128.size inb_S1x1x256_S1x1x128_0_0_128) I.x8
  let v393_p13r := (k0_pay53 v357_p12r v358_p12r v377_p12r v384_p12r)
  let v406_p13r := (k0_pay55 v343_p11r)
  let v416_p13r := (k0_pay56 v326_p11r v337_p11r v407_p13 v408_p13 v409_p13)
  let v424_p13r := (k0_pay57 v326_p11r v337_p11r v407_p13 v408_p13 v409_p13)
  let o14_2 := (Rect.unit (s := S512x256) ![0, 128] S512x128.size inb_S512x256_S512x128_0_128).overlay o14_1 ((k0_pay59 v337_p11r v406_p13r v416_p13r v424_p13r))
  let v443_p14 := rdR (Rect.unit (s := S32x8x256) (k0_off21 i) S1x8x128.size (k0_off21_inb i k0_h5)) dca_1
  let dca_2 := (Rect.unit (s := S32x8x256) (k0_off21 i) S1x8x128.size (k0_off21_inb i k0_h5)).overlay dca_1 ((k0_pay60 v278_p10r v337_p11r v406_p13r v416_p13r v424_p13r v443_p14))
  let dra_1 := (Rect.unit (s := S512x128) ![0, 0] S512x128.size inb_S512x128_S512x128_0_0).overlay s.dra ((k0_pay61 v337_p11r v383_p12r v406_p13r v416_p13r v424_p13r))
  let dsa_1 := (Rect.unit (s := S512x128) ![0, 0] S512x128.size inb_S512x128_S512x128_0_0).overlay s.dsa ((k0_pay62 v393_p13r v406_p13r v416_p13r v424_p13r))
  let o15_if := if k0_h6 : k0_cond6 i = 1#1 then (
    let v463_p14 := rdR (Rect.unit (s := S512x128) ![0, 0] S512x128.size inb_S512x128_S512x128_0_0) dra_1
    let v467_p14 := rdR (Rect.unit (s := S1x1x512) ![0, 0, 0] S1x1x512.size inb_S1x1x512_S1x1x512_0_0_0) s.o15
    let o15_1 := (Rect.unit (s := S1x1x512) ![0, 0, 0] S1x1x512.size inb_S1x1x512_S1x1x512_0_0_0).overlay s.o15 ((k0_pay63 v463_p14))
    let v470_p14 := rdR (Rect.unit (s := S512x128) ![0, 0] S512x128.size inb_S512x128_S512x128_0_0) dsa_1
    let v474_p14 := rdR (Rect.unit (s := S1x1x512) ![0, 0, 0] S1x1x512.size inb_S1x1x512_S1x1x512_0_0_0) s.o17
    let o17_1 := (Rect.unit (s := S1x1x512) ![0, 0, 0] S1x1x512.size inb_S1x1x512_S1x1x512_0_0_0).overlay s.o17 ((k0_pay64 v470_p14))
    o15_1) else s.o15
  let o17_if := if k0_h6 : k0_cond6 i = 1#1 then (
    let v463_p14 := rdR (Rect.unit (s := S512x128) ![0, 0] S512x128.size inb_S512x128_S512x128_0_0) dra_1
    let v467_p14 := rdR (Rect.unit (s := S1x1x512) ![0, 0, 0] S1x1x512.size inb_S1x1x512_S1x1x512_0_0_0) s.o15
    let o15_1 := (Rect.unit (s := S1x1x512) ![0, 0, 0] S1x1x512.size inb_S1x1x512_S1x1x512_0_0_0).overlay s.o15 ((k0_pay63 v463_p14))
    let v470_p14 := rdR (Rect.unit (s := S512x128) ![0, 0] S512x128.size inb_S512x128_S512x128_0_0) dsa_1
    let v474_p14 := rdR (Rect.unit (s := S1x1x512) ![0, 0, 0] S1x1x512.size inb_S1x1x512_S1x1x512_0_0_0) s.o17
    let o17_1 := (Rect.unit (s := S1x1x512) ![0, 0, 0] S1x1x512.size inb_S1x1x512_S1x1x512_0_0_0).overlay s.o17 ((k0_pay64 v470_p14))
    o17_1) else s.o17
  ⟨q_1, g_2, en_1, ec_1, la_1, dca_2, dra_1, dsa_1, s.o13, o14_2, o15_if, s.o16, o17_if, o18_1⟩

/-- Section 6: an epilogue chunk of the last tile. -/
def f7 (i : grid0.Coords) (k0_h7 : k0_cond7 i = 1#1) (I : Ins F) (s : St F) : St F :=
  let v33_p15r := ((b15_v33 (tW i)))
  let v50_p15r := ((b15_v50 (tW i)))
  let v51_p15r := ((b15_v51 (tW i)))
  let v69_p15r := ((b15_v69 (tW i)))
  let v72_p16 := rdR (Rect.unit (s := S512x128) ![0, 0] S512x128.size inb_S512x128_S512x128_0_0) I.x10
  let v83_p16 := rdR (Rect.unit (s := S512x128) ![0, 0] S512x128.size inb_S512x128_S512x128_0_0) I.x9
  let v97_p16 := rdR (Rect.unit (s := S2x512x8192) (k0_off22 i) S1x512x256.size (k0_off22_inb i k0_h7)) s.g
  let g_1 := (Rect.unit (s := S2x512x8192) (k0_off22 i) S1x512x256.size (k0_off22_inb i k0_h7)).overlay s.g ((k0_pay68 (F := F)))
  let v106_p16 := rdR (Rect.unit (s := S512x128) ![0, 0] S512x128.size inb_S512x128_S512x128_0_0) s.dra
  let v81_p16r := (k0_pay65 v50_p15r v72_p16)
  let v92_p16r := (k0_pay66 v50_p15r v83_p16)
  let v98_p16r := (k0_pay67 v97_p16)
  let v108_p16r := (k0_pay69 v51_p15r v106_p16)
  let v109_p16r := ((b16_v109 v50_p15r v51_p15r v69_p15r))
  let v110_p17 := rdR (Rect.unit (s := S512x128) ![0, 0] S512x128.size inb_S512x128_S512x128_0_0) s.dsa
  let v114_p17 := rdR (Rect.unit (s := S512x256) ![0, 0] S512x128.size inb_S512x256_S512x128_0_0) I.x6
  let v115_p17 := rdR (Rect.unit (s := S512x256) ![0, 0] S512x128.size inb_S512x256_S512x128_0_0) I.x7
  let v116_p17 := rdR (Rect.unit (s := S1x1x256) ![0, 0, 0] S1x1x128.size inb_S1x1x256_S1x1x128_0_0_0) I.x8
  let o14_1 := (Rect.unit (s := S512x256) ![0, 0] S512x128.size inb_S512x256_S512x128_0_0).overlay s.o14 ((k0_pay73 v81_p16r v92_p16r v98_p16r v114_p17 v115_p17 v116_p17))
  let v136_p17r := (k0_pay73 v81_p16r v92_p16r v98_p16r v114_p17 v115_p17 v116_p17)
  let v138_p17r := (k0_pay74 v81_p16r v92_p16r v98_p16r v108_p16r v114_p17 v115_p17 v116_p17)
  let v148_p17r := (k0_pay75 v81_p16r v92_p16r v98_p16r v109_p16r v110_p17 v114_p17 v115_p17 v116_p17)
  let v150_p18 := rdR (Rect.unit (s := S32x8x256) (k0_off23 i) S1x8x128.size (k0_off23_inb i k0_h7)) s.dca
  let dca_1 := (Rect.unit (s := S32x8x256) (k0_off23 i) S1x8x128.size (k0_off23_inb i k0_h7)).overlay s.dca ((k0_pay76 v33_p15r v136_p17r v150_p18))
  let v162_p18 := rdR (Rect.unit (s := S512x256) ![0, 128] S512x128.size inb_S512x256_S512x128_0_128) I.x6
  let v163_p18 := rdR (Rect.unit (s := S512x256) ![0, 128] S512x128.size inb_S512x256_S512x128_0_128) I.x7
  let v164_p18 := rdR (Rect.unit (s := S1x1x256) ![0, 0, 128] S1x1x128.size inb_S1x1x256_S1x1x128_0_0_128) I.x8
  let o14_2 := (Rect.unit (s := S512x256) ![0, 128] S512x128.size inb_S512x256_S512x128_0_128).overlay o14_1 ((k0_pay80 v81_p16r v92_p16r v98_p16r v162_p18 v163_p18 v164_p18))
  let v161_p18r := (k0_pay77 v98_p16r)
  let v180_p18r := (k0_pay79 v81_p16r v92_p16r v162_p18 v163_p18 v164_p18)
  let v184_p18r := (k0_pay80 v81_p16r v92_p16r v98_p16r v162_p18 v163_p18 v164_p18)
  let v186_p18r := (k0_pay81 v81_p16r v92_p16r v98_p16r v138_p17r v162_p18 v163_p18 v164_p18)
  let v187_p18r := (k0_pay82 v81_p16r v92_p16r v162_p18 v163_p18 v164_p18)
  let c_m8_i32_82_p18r := (4294967288#32)
  let v198_t := rdR (Rect.unit (s := S32x8x256) (k0_off24 i) S1x8x128.size (k0_off24_inb i k0_h7)) dca_1
  let dca_2 := (Rect.unit (s := S32x8x256) (k0_off24 i) S1x8x128.size (k0_off24_inb i k0_h7)).overlay dca_1 ((k0_pay5 v33_p15r v184_p18r v198_t))
  let dra_1 := (Rect.unit (s := S512x128) ![0, 0] S512x128.size inb_S512x128_S512x128_0_0).overlay s.dra ((k0_pay6 v186_p18r))
  let dsa_1 := (Rect.unit (s := S512x128) ![0, 0] S512x128.size inb_S512x128_S512x128_0_0).overlay s.dsa ((k0_pay7 v148_p17r v161_p18r v180_p18r v187_p18r c_m8_i32_82_p18r))
  let o15_if := if k0_h8 : k0_cond8 i = 1#1 then (
    let v218_t := rdR (Rect.unit (s := S512x128) ![0, 0] S512x128.size inb_S512x128_S512x128_0_0) dra_1
    let v222_t := rdR (Rect.unit (s := S1x1x512) ![0, 0, 0] S1x1x512.size inb_S1x1x512_S1x1x512_0_0_0) s.o15
    let o15_1 := (Rect.unit (s := S1x1x512) ![0, 0, 0] S1x1x512.size inb_S1x1x512_S1x1x512_0_0_0).overlay s.o15 ((k0_pay8 v218_t))
    let v225_t := rdR (Rect.unit (s := S512x128) ![0, 0] S512x128.size inb_S512x128_S512x128_0_0) dsa_1
    let v229_t := rdR (Rect.unit (s := S1x1x512) ![0, 0, 0] S1x1x512.size inb_S1x1x512_S1x1x512_0_0_0) s.o17
    let o17_1 := (Rect.unit (s := S1x1x512) ![0, 0, 0] S1x1x512.size inb_S1x1x512_S1x1x512_0_0_0).overlay s.o17 ((k0_pay9 v225_t))
    o15_1) else s.o15
  let o17_if := if k0_h8 : k0_cond8 i = 1#1 then (
    let v218_t := rdR (Rect.unit (s := S512x128) ![0, 0] S512x128.size inb_S512x128_S512x128_0_0) dra_1
    let v222_t := rdR (Rect.unit (s := S1x1x512) ![0, 0, 0] S1x1x512.size inb_S1x1x512_S1x1x512_0_0_0) s.o15
    let o15_1 := (Rect.unit (s := S1x1x512) ![0, 0, 0] S1x1x512.size inb_S1x1x512_S1x1x512_0_0_0).overlay s.o15 ((k0_pay8 v218_t))
    let v225_t := rdR (Rect.unit (s := S512x128) ![0, 0] S512x128.size inb_S512x128_S512x128_0_0) dsa_1
    let v229_t := rdR (Rect.unit (s := S1x1x512) ![0, 0, 0] S1x1x512.size inb_S1x1x512_S1x1x512_0_0_0) s.o17
    let o17_1 := (Rect.unit (s := S1x1x512) ![0, 0, 0] S1x1x512.size inb_S1x1x512_S1x1x512_0_0_0).overlay s.o17 ((k0_pay9 v225_t))
    o17_1) else s.o17
  ⟨s.q, g_1, s.en, s.ec, s.la, dca_2, dra_1, dsa_1, s.o13, o14_2, o15_if, s.o16, o17_if, s.o18⟩

/-- Section 7: the loss and the column gradient written. -/
def f9 (i : grid0.Coords) (k0_h9 : k0_cond9 i = 1#1) (I : Ins F) (s : St F) : St F :=
  let v30_t := rdR (Rect.unit (s := S32x8x512) ![0, 0, 0] S32x8x512.size inb_S32x8x512_S32x8x512_0_0_0) s.la
  let o13_1 := (Rect.unit (s := S32x512) ![0, 0] S32x512.size inb_S32x512_S32x512_0_0).overlay s.o13 ((k0_pay10 v30_t))
  let v35_t := rdR (Rect.unit (s := S32x8x256) ![0, 0, 0] S32x8x256.size inb_S32x8x256_S32x8x256_0_0_0) s.dca
  let o16_1 := (Rect.unit (s := S32x256) ![0, 0] S32x256.size inb_S32x256_S32x256_0_0).overlay s.o16 ((k0_pay11 v35_t))
  ⟨s.q, s.g, s.en, s.ec, s.la, s.dca, s.dra, s.dsa, o13_1, s.o14, s.o15, o16_1, s.o17, s.o18⟩

/-- Section 1: the error tile, the loss and the column accumulators zeroed. -/
def f1 (s : St F) : St F :=
  { s with
    en := (Rect.unit (s := S512x512) ![0, 0] S512x512.size inb_S512x512_S512x512_0_0).overlay s.en k0_pay1
    la := (Rect.unit (s := S32x8x512) ![0, 0, 0] S32x8x512.size inb_S32x8x512_S32x8x512_0_0_0).overlay s.la k0_pay2
    dca := (Rect.unit (s := S32x8x256) ![0, 0, 0] S32x8x256.size inb_S32x8x256_S32x8x256_0_0_0).overlay s.dca k0_pay3 }

end Cert.KernelIdeal.Gen

end
-- ==== Proof.DmaI.lean ====
/-
  The token blocks' transfers: a slot of the ring held at contents, a start of a transfer into it (`startX`), the wait for
  one started earlier (`waitX`).
-/
module

public import proofs.«01_k».proof.Proof.StepI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

/-- A slot of the ring as the body names it: the buffer sliced at `off`, squeezed. -/
abbrev sMem (off : Fin 3 → Nat) (h : ∀ a, off a + S1x512x8192.size a ≤ S3x512x8192.size a) : Memref sig .tc .vmem S512x8192 .fp8e4m3 :=
  ((Memref.whole cc0_scratch0).slice (Rect.unit (s := S3x512x8192) off S1x512x8192.size h) (fun _ => rfl)).squeeze S512x8192 squeezes_S1x512x8192_S512x8192
/-- A token block of the array in HBM as the body names it. -/
abbrev hMem (off : Fin 2 → Nat) (h : ∀ a, off a + S512x8192.size a ≤ S16384x8192.size a) : Memref sig .tc .hbm S512x8192 .fp8e4m3 :=
  (Memref.whole main_v16).slice (Rect.unit (s := S16384x8192) off S512x8192.size h) (fun _ => rfl)
/-- A slot as a load of the body reads it. -/
abbrev sAcc (off : Fin 3 → Nat) (h : ∀ a, off a + S1x512x8192.size a ≤ S3x512x8192.size a) :=
  (Memref.whole cc0_scratch0).access (Rect.unit (s := S3x512x8192) off S1x512x8192.size h)
/-- A semaphore of the ring as the body names it. -/
abbrev semE (off : Fin 1 → Nat) (h : ∀ a, off a + S1.size a ≤ S3.size a) : DmaSem sig :=
  ((SemArray.slice cc0_scratch9 (Rect.unit (s := S3) off S1.size h)).squeeze S_ squeezes_S1_S_).sem

theorem sOff_inb (j : Fin 3) : ∀ a, (![j.val, 0, 0] : Fin 3 → Nat) a + S1x512x8192.size a ≤ S3x512x8192.size a := by revert j; decide
theorem hOff_inb (b : Fin 32) : ∀ a, (![b.val * 512, 0] : Fin 2 → Nat) a + S512x8192.size a ≤ S16384x8192.size a := by revert b; decide
theorem eOff_inb (j : Fin 3) : ∀ a, (![j.val] : Fin 1 → Nat) a + S1.size a ≤ S3.size a := by revert j; decide

/-- The ring's semaphore of slot `j`. -/
abbrev xsem (j : Fin 3) : DmaSem sig := semE ![j.val] (eOff_inb j)

/-- What a view reads of a buffer its reshape wrote whole. -/
theorem read_reshape_write {κ : Kind} {sp : Space} {s s' : Shape} {e : EltTy} {Val : EltTy → Type} (v : View sig κ sp s e) (h : s'.numel = s.numel) (f : v.ty.Contents Val) (w : s'.Idx → Val e) :
    v.read Val ((v.reshape s' h).write Val f w Finset.univ) = fun x => w ((Shape.reshapeEquiv h).symm x) := by
  funext x
  have e2 := congrFun (View.read_write_univ (v := v.reshape s' h) (Val := Val) f w) ((Shape.reshapeEquiv h).symm x)
  rw [← e2]
  rw [View.read_apply, View.read_apply, View.emb_reshape]
  simp only [Function.Embedding.trans_apply, Equiv.coe_toEmbedding, Equiv.apply_symm_apply]

variable (c : Dev nD)

/-- The slot at `off` held at share `q`, its contents `Y`. -/
def XS (off : Fin 3 → Nat) (h : ∀ a, off a + S1x512x8192.size a ≤ S3x512x8192.size a) (q : PosShare TreeShare) (Y : S1x512x8192.Idx → Elt F .fp8e4m3) : sProp 𝕄 :=
  iprop(∃ f, ⌜(sAcc off h).read (Elt F) f = Y⌝ ∗ ((sAcc off h).loc (c : Thread nD τ) ↦[(sAcc off h).set]{q} f))

/-- Slot `j` held at contents `Y`. -/
abbrev Slot (j : Fin 3) (q : PosShare TreeShare) (Y : S1x512x8192.Idx → Elt F .fp8e4m3) : sProp 𝕄 := XS c ![j.val, 0, 0] (sOff_inb j) q Y

/-- The token block `b` of the array's contents `X`, in the shape the body loads it. -/
def xblk (X : Buf (Elt F) ((c : Thread nD τ).loc main_v16)) (off : Fin 2 → Nat) (h : ∀ a, off a + S512x8192.size a ≤ S16384x8192.size a) : S1x512x8192.Idx → Elt F .fp8e4m3 :=
  fun x => (hMem off h).view.read (Elt F) X ((Shape.reshapeEquiv (squeezes_S1x512x8192_S512x8192).numel_eq).symm x)

/-- The elements of a token block of the array, at its contents `X`. -/
abbrev HB (off : Fin 2 → Nat) (h : ∀ a, off a + S512x8192.size a ≤ S16384x8192.size a) (q : PosShare TreeShare) (X : Buf (Elt F) ((c : Thread nD τ).loc main_v16)) : sProp 𝕄 :=
  ((hMem off h).view.loc (c : Thread nD τ) ↦[(hMem off h).view.set]{q} X)

/-- The units a transfer of one token block credits. -/
def nX : ℕ := (sMem ![0, 0, 0] (sOff_inb 0)).view.dmaCredit

theorem nX_pos : 0 < nX := by unfold nX; decide
theorem nX_eq (j : Fin 3) (sm : SemLoc sig) : (sMem ![j.val, 0, 0] (sOff_inb j)).view.amount (.dma (xsem j)) = nX := rfl

/-- The flight of block `b` into slot `j`: what the wait for it hands back. -/
abbrev Fly (j : Fin 3) (b : Fin 32) (q : PosShare TreeShare) (X : Buf (Elt F) ((c : Thread nD τ).loc main_v16)) : sProp 𝕄 :=
  Transfers.Flight (countersEmb (U := UD sig nD τ)) (c : Thread nD τ) (.dma (xsem j)) () nX
    iprop(Slot c j fullShare (xblk c X ![b.val * 512, 0] (hOff_inb b)) ∗ HB c ![b.val * 512, 0] (hOff_inb b) q X)

/-- The start of the transfer of block `b` into slot `j`. -/
theorem startX (j : Fin 3) (b : Fin 32) {offS : Fin 1 → Nat} {hS} {offD : Fin 3 → Nat} {hD} {offH : Fin 2 → Nat} {hH}
    (eS : offS = ![j.val]) (eD : offD = ![j.val, 0, 0]) (eH : offH = ![b.val * 512, 0])
    (X : Buf (Elt F) ((c : Thread nD τ).loc main_v16)) (q : PosShare TreeShare) (Y : S1x512x8192.Idx → Elt F .fp8e4m3)
    {hw1 hw2 ht} {α : Type} {k : PUnit → Prog (TpuEff nD τ sig (Elt F) Λ₀ .tc) α} {Q : α → sProp 𝕄} :
    iprop(HB c ![b.val * 512, 0] (hOff_inb b) q X ∗ Slot c j fullShare Y ∗ semVal ((c : Thread nD τ), .dma (xsem j)) 0)
      ⊢ iprop((Fly c j b q X -∗ wp frame (wpE (defs₀ (F := F)) Variants.none c none) Set.univ (k ⟨⟩) Q)
        -∗ wp frame (wpE (defs₀ (F := F)) Variants.none c none) Set.univ
            (Prog.lift (.enqueueDma (hMem offH hH) (.here (sMem offD hD)) (.dma (semE offS hS)) hw1 hw2 ht) >>= k) Q) := by
  subst eS eD eH
  unfold Slot XS
  iintro ⟨HH, ⟨%f, %hf, HS⟩, Hv⟩ Hk
  iapply (Transfers.wp_dmaLocal (countersEmb (U := UD sig nD τ)) Variants.none (c : Thread nD τ) none (Sd := (sAcc ![j.val, 0, 0] (sOff_inb j)).set) () nX (nX_eq j (.dma (xsem j))) nX_pos
    (Eq.subset (View.set_reshape (v := sAcc ![j.val, 0, 0] (sOff_inb j)) (s' := S512x8192) (squeezes_S1x512x8192_S512x8192).numel_eq))) $$ [HH HS Hv]
  · isplitl [HH]; · iexact HH
    isplitl [HS]; · iexact HS
    iexact Hv
  iintro HF
  iapply Hk
  iapply (Transfers.Flight_mono) $$ HF
  iintro ⟨HS, HH⟩
  isplitl [HS]
  · unfold Slot XS
    iexists _
    isplitr
    swap
    · iexact HS
    ipureintro
    exact read_reshape_write (sAcc ![j.val, 0, 0] (sOff_inb j)) (squeezes_S1x512x8192_S512x8192).numel_eq f _
  iexact HH

/-- The wait for the transfer of block `b` into slot `j`. -/
theorem waitX (j : Fin 3) (b : Fin 32) {offS : Fin 1 → Nat} {hS} {offD : Fin 3 → Nat} {hD} {offH : Fin 2 → Nat} {hH}
    (eS : offS = ![j.val]) (eD : offD = ![j.val, 0, 0])
    (X : Buf (Elt F) ((c : Thread nD τ).loc main_v16)) (q : PosShare TreeShare) {W : Waits sig Unit}
    {hw1 hw2} {α : Type} {k : PUnit → Prog (TpuEff nD τ sig (Elt F) Λ₀ .tc) α} {Q : α → sProp 𝕄} :
    iprop(Fly c j b q X ∗ owes (c : Thread nD τ) 0 W)
      ⊢ iprop((iprop(HB c ![b.val * 512, 0] (hOff_inb b) q X ∗ Slot c j fullShare (xblk c X ![b.val * 512, 0] (hOff_inb b))
            ∗ semVal ((c : Thread nD τ), .dma (xsem j)) 0 ∗ owes (c : Thread nD τ) 0 (insert (SemLoc.dma (xsem j), ()) W))
          -∗ wp frame (wpE (defs₀ (F := F)) Variants.none c none) Set.univ (k ⟨⟩) Q)
        -∗ wp frame (wpE (defs₀ (F := F)) Variants.none c none) Set.univ
            (Prog.lift (.waitDma2 (semE offS hS) (hMem offH hH) (sMem offD hD) hw1 hw2) >>= k) Q) := by
  subst eS eD
  iintro ⟨HF, HO⟩ Hk
  iapply (Transfers.wp_waitLocal (countersEmb (U := UD sig nD τ)) Variants.none (c : Thread nD τ) none (sem := xsem j) (srcw := hMem offH hH) (dstw := sMem ![j.val, 0, 0] (sOff_inb j)) (hsrc := hw1) (hdst := hw2) () (N := nX) rfl) $$ [HF HO]
  · isplitl [HF] <;> iassumption
  iintro ⟨⟨HS, HH⟩, Hv, HO⟩
  iapply Hk
  isplitl [HH]; · iexact HH
  isplitl [HS]; · iexact HS
  isplitl [Hv] <;> iassumption

end Cert.KernelIdeal.Gen

end
-- ==== Proof.OwnI.lean ====
/-
  What a section of the body is run from: the scratch buffers, the output blocks and the input blocks as held by the core.
-/
module

public import proofs.«01_k».proof.Proof.StepI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

variable (c : Dev nD) (S : Stg) (π : ℕ → PosShare TreeShare)

/-- The eight scratch buffers the sections load and store, at the contents `s`. -/
def ScO (s : St F) : sProp 𝕄 :=
  iprop(owns (c : Thread nD τ) (Memref.whole cc0_scratch1) fullShare s.q
    ∗ owns (c : Thread nD τ) (Memref.whole cc0_scratch2) fullShare s.g
    ∗ owns (c : Thread nD τ) (Memref.whole cc0_scratch3) fullShare s.en
    ∗ owns (c : Thread nD τ) (Memref.whole cc0_scratch4) fullShare s.ec
    ∗ owns (c : Thread nD τ) (Memref.whole cc0_scratch5) fullShare s.la
    ∗ owns (c : Thread nD τ) (Memref.whole cc0_scratch6) fullShare s.dca
    ∗ owns (c : Thread nD τ) (Memref.whole cc0_scratch7) fullShare s.dra
    ∗ owns (c : Thread nD τ) (Memref.whole cc0_scratch8) fullShare s.dsa)

/-- The six output blocks, at the contents `s`. -/
def OutO (s : St F) : sProp 𝕄 :=
  iprop(owns (c : Thread nD τ) S.a13 fullShare s.o13
    ∗ owns (c : Thread nD τ) S.a14 fullShare s.o14
    ∗ owns (c : Thread nD τ) S.a15 fullShare s.o15
    ∗ owns (c : Thread nD τ) S.a16 fullShare s.o16
    ∗ owns (c : Thread nD τ) S.a17 fullShare s.o17
    ∗ owns (c : Thread nD τ) S.a18 fullShare s.o18)

/-- The input blocks, at the contents `I`, each at its share. -/
def InO (I : Ins F) : sProp 𝕄 :=
  iprop(owns (c : Thread nD τ) S.a2 (π 2) I.x2
    ∗ owns (c : Thread nD τ) S.a3 (π 3) I.x3
    ∗ owns (c : Thread nD τ) S.a4 (π 4) I.x4
    ∗ owns (c : Thread nD τ) S.a5 (π 5) I.x5
    ∗ owns (c : Thread nD τ) S.a6 (π 6) I.x6
    ∗ owns (c : Thread nD τ) S.a7 (π 7) I.x7
    ∗ owns (c : Thread nD τ) S.a8 (π 8) I.x8
    ∗ owns (c : Thread nD τ) S.a9 (π 9) I.x9
    ∗ owns (c : Thread nD τ) S.a10 (π 10) I.x10
    ∗ owns (c : Thread nD τ) S.a11 (π 11) I.x11
    ∗ owns (c : Thread nD τ) S.a12 (π 12) I.x12)

/-- The slot of this point's token block, at `Y`. -/
def XaO (i : grid0.Coords) (h : k0_cond5 i = 1#1) (q : PosShare TreeShare) (Y : S1x512x8192.Idx → Elt F .fp8e4m3) : sProp 𝕄 :=
  iprop(∃ f, ⌜((Memref.whole cc0_scratch0).access (Rect.unit (s := S3x512x8192) (k0_off14 i) S1x512x8192.size (k0_off14_inb i h))).read (Elt F) f = Y⌝
    ∗ (((Memref.whole cc0_scratch0).access (Rect.unit (s := S3x512x8192) (k0_off14 i) S1x512x8192.size (k0_off14_inb i h))).loc (c : Thread nD τ)
      ↦[((Memref.whole cc0_scratch0).access (Rect.unit (s := S3x512x8192) (k0_off14 i) S1x512x8192.size (k0_off14_inb i h))).set]{q} f))

/-- The slot of the block before it, at `Y`. -/
def XbO (i : grid0.Coords) (h : k0_cond5 i = 1#1) (q : PosShare TreeShare) (Y : S1x512x8192.Idx → Elt F .fp8e4m3) : sProp 𝕄 :=
  iprop(∃ f, ⌜((Memref.whole cc0_scratch0).access (Rect.unit (s := S3x512x8192) (k0_off17 i) S1x512x8192.size (k0_off17_inb i h))).read (Elt F) f = Y⌝
    ∗ (((Memref.whole cc0_scratch0).access (Rect.unit (s := S3x512x8192) (k0_off17 i) S1x512x8192.size (k0_off17_inb i h))).loc (c : Thread nD τ)
      ↦[((Memref.whole cc0_scratch0).access (Rect.unit (s := S3x512x8192) (k0_off17 i) S1x512x8192.size (k0_off17_inb i h))).set]{q} f))

end Cert.KernelIdeal.Gen

end
-- ==== Proof.RingI.lean ====
/-
  The ring of token blocks between grid points: what is held of the array in HBM, of the three slots and of the three
  semaphores before point `t` (`Ring`), and how sections 1, 3 and 4 of the body move it on.
-/
module

public import proofs.«01_k».proof.Proof.GridI
public import proofs.«01_k».proof.Proof.DmaI
public import proofs.«01_k».proof.Proof.OwnI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

/-- The half of the array's share the `n`-th transfer is given. -/
def hs (n : ℕ) : PosShare TreeShare := if n % 2 = 0 then fullShare.left else fullShare.right
theorem hs_two (n : ℕ) : hs (n + 2) = hs n := by unfold hs; rw [Nat.add_mod_right]

theorem sl3_three (n : ℕ) : sl3 (n + 3) = sl3 n := Fin.ext (Nat.add_mod_right n 3)

variable (c : Dev nD) (X : Buf (Elt F) ((c : Thread nD τ).loc main_v16))

/-- The elements of the array the `n`-th transfer reads. -/
abbrev bs (n : ℕ) := (hMem ![(bl32 n).val * 512, 0] (hOff_inb (bl32 n))).view.set
/-- The token block the `n`-th transfer brings. -/
abbrev XB (n : ℕ) : S1x512x8192.Idx → Elt F .fp8e4m3 := xblk c X ![(bl32 n).val * 512, 0] (hOff_inb (bl32 n))
/-- The block the `n`-th transfer reads, held at `q`. -/
abbrev HBn (n : ℕ) (q : PosShare TreeShare) : sProp 𝕄 := HB c ![(bl32 n).val * 512, 0] (hOff_inb (bl32 n)) q X
/-- The array without the block the `n`-th transfer reads, held at `q`. -/
abbrev HRn (n : ℕ) (q : PosShare TreeShare) : sProp 𝕄 := ((hMem ![(bl32 n).val * 512, 0] (hOff_inb (bl32 n))).view.loc (c : Thread nD τ) ↦[Finset.univ \ bs n]{q} X)
/-- The whole array held at `q`. -/
abbrev HA (q : PosShare TreeShare) : sProp 𝕄 := ((c : Thread nD τ).loc main_v16 ↦{q} X)
/-- The semaphore of the slot of the `n`-th transfer at zero. -/
abbrev Sm (n : ℕ) : sProp 𝕄 := semVal ((c : Thread nD τ), .dma (xsem (sl3 n))) 0
/-- The slot of the `n`-th transfer held at some contents. -/
abbrev Any (n : ℕ) : sProp 𝕄 := iprop(∃ Y, Slot (F := F) c (sl3 n) fullShare Y)

theorem HA_take (n : ℕ) (q : PosShare TreeShare) : HA c X q ⊢ iprop(HBn c X n q ∗ HRn c X n q) :=
  (pointsTo_split_subset (Finset.subset_univ (bs n))).1
theorem HA_put (n : ℕ) (q : PosShare TreeShare) : iprop(HBn c X n q ∗ HRn c X n q) ⊢ HA c X q :=
  (pointsTo_split_subset (Finset.subset_univ (bs n))).2
theorem HA_split (n : ℕ) : HA c X fullShare ⊢ iprop(HA c X (hs n) ∗ HA c X (hs (n + 1))) := by
  unfold hs
  rcases Nat.mod_two_eq_zero_or_one n with e | e
  · rw [if_pos e, if_neg (by omega)]; exact (pointsTo_share (PosShare.mem_left_op_right fullShare)).1
  · rw [if_neg (by omega), if_pos (by omega)]
    iintro H
    ihave H := (pointsTo_share (PosShare.mem_left_op_right fullShare)).1 $$ H
    icases H with ⟨H1, H2⟩
    isplitl [H2] <;> iassumption
theorem HA_join (n : ℕ) : iprop(HA c X (hs n) ∗ HA c X (hs (n + 1))) ⊢ HA c X fullShare := by
  unfold hs
  rcases Nat.mod_two_eq_zero_or_one n with e | e
  · rw [if_pos e, if_neg (by omega)]; exact (pointsTo_share (PosShare.mem_left_op_right fullShare)).2
  · rw [if_neg (by omega), if_pos (by omega)]
    iintro ⟨H1, H2⟩
    iapply (pointsTo_share (PosShare.mem_left_op_right fullShare)).2
    isplitl [H2] <;> iassumption

/-- Nothing in flight: the array whole, the three slots at anything, the three semaphores at zero. -/
def Idle : sProp 𝕄 :=
  iprop(HA c X fullShare ∗ Any (F := F) c 0 ∗ Any (F := F) c 1 ∗ Any (F := F) c 2 ∗ Sm (F := F) c 0 ∗ Sm (F := F) c 1 ∗ Sm (F := F) c 2)

/-- The slot read at the point before `t`: from point 33 on, at the token block of that point. -/
def Prev (t : ℕ) : sProp 𝕄 := iprop(∃ Y, ⌜32 < t → Y = XB c X (t - 32 - 1)⌝ ∗ Slot (F := F) c (sl3 (t - 32 + 2)) fullShare Y)

/-- One transfer in flight: the block it reads is lent at half the share. -/
def Flying (t : ℕ) : sProp 𝕄 :=
  iprop(Fly c (sl3 (t - 32)) (bl32 (t - 32)) (hs (t - 32)) X ∗ HRn c X (t - 32) (hs (t - 32)) ∗ HA c X (hs (t - 32 + 1))
    ∗ Prev c X t ∗ Any (F := F) c (t - 32 + 1) ∗ Sm (F := F) c (t - 32 + 1) ∗ Sm (F := F) c (t - 32 + 2))

/-- All transfers waited for, the last token block still in its slot. -/
def Landed : sProp 𝕄 :=
  iprop(HA c X fullShare ∗ Prev c X 1056 ∗ Any (F := F) c 1024 ∗ Any (F := F) c 1025 ∗ Sm (F := F) c 0 ∗ Sm (F := F) c 1 ∗ Sm (F := F) c 2)

/-- The ring before grid point `t`. -/
def Ring (t : ℕ) : sProp 𝕄 :=
  if t = 0 then Idle c X else if t ≤ 1055 then Flying c X t else if t = 1056 then Landed c X else Idle c X

theorem Ring_zero : Ring c X 0 = Idle c X := by unfold Ring; rw [if_pos rfl]
theorem Ring_fly {t : ℕ} (h0 : t ≠ 0) (h : t ≤ 1055) : Ring c X t = Flying c X t := by unfold Ring; rw [if_neg h0, if_pos h]
theorem Ring_landed {t : ℕ} (h : t = 1056) : Ring c X t = Landed c X := by
  subst h; unfold Ring; rw [if_neg (by decide), if_neg (by decide), if_pos rfl]
theorem Ring_end {t : ℕ} (h : 1056 < t) : Ring c X t = Idle c X := by
  unfold Ring; rw [if_neg (by omega), if_neg (by omega), if_neg (by omega)]

/-- Between points 1 and 32 nothing of the ring changes. -/
theorem Ring_wait {t : ℕ} (h0 : t ≠ 0) (h : t < 32) : Ring c X t ⊢ Ring c X (t + 1) := by
  rw [Ring_fly c X h0 (by omega), Ring_fly c X (by omega) (by omega)]
  unfold Flying Prev
  have e1 : t - 32 = 0 := by omega
  have e2 : t + 1 - 32 = 0 := by omega
  rw [e1, e2]
  iintro ⟨HF, HR, HA, ⟨%Y, %hY, HS⟩, H⟩
  isplitl [HF]; · iexact HF
  isplitl [HR]; · iexact HR
  isplitl [HA]; · iexact HA
  isplitl [HS]
  · iexists Y
    isplitr; · ipureintro; omega
    iexact HS
  iexact H

/-- Section 1 at the first point: the first transfer is started and the accumulators are zeroed. -/
theorem sec1_wp (S : Stg) (i : grid0.Coords) (h : k0_cond1 i = 1#1) (s : St F) {k : Prog (TpuEff nD τ sig (Elt F) Λ₀ .tc) PUnit} {Q : PUnit → sProp 𝕄} :
    iprop(ScO c s ∗ Ring c X 0)
      ⊢ iprop((iprop(ScO c (f1 s) ∗ Ring c X 1) -∗ wp frame (wpE (defs₀ (F := F)) Variants.none c none) Set.univ k Q)
        -∗ wp frame (wpE (defs₀ (F := F)) Variants.none c none) Set.univ (sec1 i S k) Q) := by
  rw [Ring_zero, Ring_fly c X (t := 1) (by decide) (by decide)]
  unfold ScO Idle Flying Prev sec1
  rw [dif_pos h]
  dsimp only
  iintro ⟨⟨Hq, Hg, Hen, Hec, Hla, Hdca, Hdra, Hdsa⟩, HA, ⟨%Y0, H0⟩, ⟨%Y1, H1⟩, ⟨%Y2, H2⟩, S0, S1, S2⟩ Hk
  ihave HA := (HA_split c X 0) $$ HA
  icases HA with ⟨HAl, HAr⟩
  ihave HAl := (HA_take c X 0 (hs 0)) $$ HAl
  icases HAl with ⟨HB, HR⟩
  iapply (startX c (sl3 0) (bl32 0) off1_eq off2_eq off3_eq X (hs 0) Y0) $$ [HB H0 S0]
  · isplitl [HB]; · iexact HB
    isplitl [H0] <;> iassumption
  iintro HF
  iapply (ld c) $$ Hen
  iintro Hen
  iapply (st c) $$ Hen
  iintro Hen
  iapply (ld c) $$ Hla
  iintro Hla
  iapply (st c) $$ Hla
  iintro Hla
  iapply (ld c) $$ Hdca
  iintro Hdca
  iapply (st c) $$ Hdca
  iintro Hdca
  iapply Hk
  unfold f1
  dsimp only
  isplitl [Hq Hg Hen Hec Hla Hdca Hdra Hdsa]
  · isplitl [Hq]; · iexact Hq
    isplitl [Hg]; · iexact Hg
    isplitl [Hen]; · iexact Hen
    isplitl [Hec]; · iexact Hec
    isplitl [Hla]; · iexact Hla
    isplitl [Hdca]; · iexact Hdca
    isplitl [Hdra]; · iexact Hdra
    iexact Hdsa
  isplitl [HF]; · iexact HF
  isplitl [HR]; · iexact HR
  isplitl [HAr]; · iexact HAr
  isplitl [H2]
  · iexists Y2
    isplitr; · ipureintro; omega
    iexact H2
  isplitl [H1]; · iexists Y1; iexact H1
  isplitl [S1]; · iexact S1
  iexact S2

/-- What sections 3 and 4 hand on: the slots of this point's token block and of the one before it, and the way from them to the ring at the next point. -/
def Mid (t : ℕ) : sProp 𝕄 :=
  iprop(∃ Ya Yb, ∃ W : Waits sig Unit, ⌜(t ≤ 1055 → Ya = XB c X (t - 32)) ∧ (32 < t → Yb = XB c X (t - 32 - 1))⌝
    ∗ Slot (F := F) c (sl3 (t - 32)) fullShare Ya ∗ Slot (F := F) c (sl3 (t - 32 + 2)) fullShare Yb ∗ owes (c : Thread nD τ) 0 W
    ∗ (iprop(Slot (F := F) c (sl3 (t - 32)) fullShare Ya ∗ Slot (F := F) c (sl3 (t - 32 + 2)) fullShare Yb) -∗ Ring c X (t + 1)))

/-- What the wait leaves when a next transfer is in flight. -/
theorem mid_of_next (t : ℕ) (h1 : 32 ≤ t) (h2 : t ≤ 1054) (Yb : S1x512x8192.Idx → Elt F .fp8e4m3) (hb : 32 < t → Yb = XB c X (t - 32 - 1)) (W : Waits sig Unit) :
    iprop(HBn c X (t - 32) (hs (t - 32)) ∗ HRn c X (t - 32) (hs (t - 32)) ∗ Slot (F := F) c (sl3 (t - 32)) fullShare (XB c X (t - 32)) ∗ Sm (F := F) c (t - 32) ∗ owes (c : Thread nD τ) 0 W
      ∗ Fly c (sl3 (t - 32 + 1)) (bl32 (t - 32 + 1)) (hs (t - 32 + 1)) X ∗ HRn c X (t - 32 + 1) (hs (t - 32 + 1))
      ∗ Slot (F := F) c (sl3 (t - 32 + 2)) fullShare Yb ∗ Sm (F := F) c (t - 32 + 2)) ⊢ Mid c X t := by
  unfold Mid
  rw [Ring_fly c X (by omega) (by omega)]
  unfold Flying Prev
  obtain ⟨n, rfl⟩ : ∃ n, t = n + 32 := ⟨t - 32, by omega⟩
  have e1 : n + 32 - 32 = n := by omega
  have e2 : n + 32 + 1 - 32 = n + 1 := by omega
  rw [e1] at hb ⊢
  have e3 : Sm (F := F) c (n + 3) = Sm (F := F) c n := by unfold Sm; rw [sl3_three]
  rw [e2, hs_two, show n + 1 + 2 = n + 3 from rfl, sl3_three, e3]
  iintro ⟨HB, HR, HS, Hm, HO, HF, HR', Hb, Hm2⟩
  ihave HA := (HA_put c X n (hs n)) $$ [HB HR]
  · isplitl [HB] <;> iassumption
  iexists (XB c X n), Yb, W
  isplitr
  · ipureintro; exact ⟨fun _ => rfl, hb⟩
  isplitl [HS]; · iexact HS
  isplitl [Hb]; · iexact Hb
  isplitl [HO]; · iexact HO
  iintro ⟨HS, Hb⟩
  isplitl [HF]; · iexact HF
  isplitl [HR']; · iexact HR'
  isplitl [HA]; · iexact HA
  isplitl [HS]
  · iexists (XB c X n)
    isplitr; · ipureintro; intro _; rw [show n + 1 - 1 = n from rfl]
    iexact HS
  isplitl [Hb]; · iexists Yb; iexact Hb
  isplitl [Hm2]; · iexact Hm2
  iexact Hm

/-- What the last wait leaves. -/
theorem mid_of_last (t : ℕ) (h : t = 1055) (Y1 Yb : S1x512x8192.Idx → Elt F .fp8e4m3) (hb : 32 < t → Yb = XB c X (t - 32 - 1)) (W : Waits sig Unit) :
    iprop(HBn c X (t - 32) (hs (t - 32)) ∗ HRn c X (t - 32) (hs (t - 32)) ∗ HA c X (hs (t - 32 + 1)) ∗ Slot (F := F) c (sl3 (t - 32)) fullShare (XB c X (t - 32)) ∗ Sm (F := F) c (t - 32) ∗ owes (c : Thread nD τ) 0 W
      ∗ Slot (F := F) c (sl3 (t - 32 + 2)) fullShare Yb ∗ Slot (F := F) c (sl3 (t - 32 + 1)) fullShare Y1 ∗ Sm (F := F) c (t - 32 + 1) ∗ Sm (F := F) c (t - 32 + 2)) ⊢ Mid c X t := by
  unfold Mid
  rw [Ring_landed c X (t := t + 1) (by omega)]
  unfold Landed Prev
  iintro ⟨HB, HR, HA, HS, Hm, HO, Hb, H1, S1, S2⟩
  ihave HAl := (HA_put c X (t - 32) (hs (t - 32))) $$ [HB HR]
  · isplitl [HB] <;> iassumption
  ihave HA := (HA_join c X (t - 32)) $$ [HA HAl]
  · isplitl [HAl] <;> iassumption
  subst h
  iexists (XB c X (1055 - 32)), Yb, W
  isplitr
  · ipureintro; exact ⟨fun _ => rfl, hb⟩
  isplitl [HS]; · iexact HS
  isplitl [Hb]; · iexact Hb
  isplitl [HO]; · iexact HO
  iintro ⟨HS, Hb⟩
  isplitl [HA]; · iexact HA
  isplitl [HS]
  · iexists (XB c X (1055 - 32))
    isplitr; · ipureintro; intro _; rfl
    iexact HS
  isplitl [H1]; · iexists Y1; iexact H1
  isplitl [Hb]; · iexists Yb; iexact Hb
  isplitl [Hm]; · iexact Hm
  isplitl [S1]; · iexact S1
  iexact S2

/-- Sections 3 and 4 together, at every point that reads a token block. -/
theorem sec34_wp (S : Stg) (t : Fin grid0.N) (h1 : 32 ≤ t.val) (h2 : t.val ≤ 1056) {W : Waits sig Unit} {k : Prog (TpuEff nD τ sig (Elt F) Λ₀ .tc) PUnit} {Q : PUnit → sProp 𝕄} :
    iprop(Ring c X t.val ∗ owes (c : Thread nD τ) 0 W)
      ⊢ iprop((Mid c X t.val -∗ wp frame (wpE (defs₀ (F := F)) Variants.none c none) Set.univ k Q)
        -∗ wp frame (wpE (defs₀ (F := F)) Variants.none c none) Set.univ (sec3 (grid0.coords t) S (sec4 (grid0.coords t) S k)) Q) := by
  unfold sec3 sec4
  by_cases h3 : t.val ≤ 1054
  · rw [dif_pos ((cond3_iff t).mpr ⟨h1, h3⟩), dif_pos ((cond4_iff t).mpr ⟨h1, by omega⟩), Ring_fly c X (by omega) (by omega)]
    unfold Flying Prev
    dsimp only
    iintro ⟨⟨HF, HR, HA, ⟨%Yb, %hb, Hb⟩, ⟨%Y1, H1⟩, S1, S2⟩, HO⟩ Hk
    ihave HA := (HA_take c X (t.val - 32 + 1) (hs (t.val - 32 + 1))) $$ HA
    icases HA with ⟨HB1, HR1⟩
    iapply (startX c (sl3 (t.val - 32 + 1)) (bl32 (t.val - 32 + 1)) (off7_eq t ⟨h1, h3⟩) (off8_eq t ⟨h1, h3⟩) (off9_eq t ⟨h1, h3⟩) X (hs (t.val - 32 + 1)) Y1) $$ [HB1 H1 S1]
    · isplitl [HB1]; · iexact HB1
      isplitl [H1] <;> iassumption
    iintro HF1
    iapply (waitX c (sl3 (t.val - 32)) (bl32 (t.val - 32)) (off10_eq t ⟨h1, by omega⟩) (off11_eq t ⟨h1, by omega⟩) X (hs (t.val - 32))) $$ [HF HO]
    · isplitl [HF] <;> iassumption
    iintro ⟨HB, HS, Hm, HO⟩
    iapply Hk
    iapply (mid_of_next c X t.val h1 h3 Yb hb _)
    isplitl [HB]; · iexact HB
    isplitl [HR]; · iexact HR
    isplitl [HS]; · iexact HS
    isplitl [Hm]; · iexact Hm
    isplitl [HO]; · iexact HO
    isplitl [HF1]; · iexact HF1
    isplitl [HR1]; · iexact HR1
    isplitl [Hb]; · iexact Hb
    iexact S2
  · rw [dif_neg (fun h => h3 ((cond3_iff t).mp h).2)]
    by_cases h4 : t.val = 1055
    · rw [dif_pos ((cond4_iff t).mpr ⟨h1, by omega⟩), Ring_fly c X (by omega) (by omega)]
      unfold Flying Prev
      dsimp only
      iintro ⟨⟨HF, HR, HA, ⟨%Yb, %hb, Hb⟩, ⟨%Y1, H1⟩, S1, S2⟩, HO⟩ Hk
      iapply (waitX c (sl3 (t.val - 32)) (bl32 (t.val - 32)) (off10_eq t ⟨h1, by omega⟩) (off11_eq t ⟨h1, by omega⟩) X (hs (t.val - 32))) $$ [HF HO]
      · isplitl [HF] <;> iassumption
      iintro ⟨HB, HS, Hm, HO⟩
      iapply Hk
      iapply (mid_of_last c X t.val h4 Y1 Yb hb _)
      isplitl [HB]; · iexact HB
      isplitl [HR]; · iexact HR
      isplitl [HA]; · iexact HA
      isplitl [HS]; · iexact HS
      isplitl [Hm]; · iexact Hm
      isplitl [HO]; · iexact HO
      isplitl [Hb]; · iexact Hb
      isplitl [H1]; · iexact H1
      isplitl [S1]; · iexact S1
      iexact S2
    · have h5 : t.val = 1056 := by omega
      rw [dif_neg (fun h => h4 (by have := ((cond4_iff t).mp h).2; omega)), Ring_landed c X h5]
      unfold Mid
      rw [Ring_end c X (t := t.val + 1) (by omega)]
      unfold Landed Idle Prev
      rw [h5]
      iintro ⟨⟨HA, ⟨%Yb, %hb, Hb⟩, ⟨%Ya, Ha⟩, ⟨%Y1, H1⟩, S0, S1, S2⟩, HO⟩ Hk
      iapply Hk
      iexists Ya, Yb, W
      isplitr
      · ipureintro; exact ⟨fun h => absurd h (by decide), hb⟩
      isplitl [Ha]; · iexact Ha
      isplitl [Hb]; · iexact Hb
      isplitl [HO]; · iexact HO
      iintro ⟨Ha, Hb⟩
      isplitl [HA]; · iexact HA
      isplitl [Hb]; · iexists Yb; iexact Hb
      isplitl [Ha]; · iexists Ya; iexact Ha
      isplitl [H1]; · iexists Y1; iexact H1
      isplitl [S0]; · iexact S0
      isplitl [S1]; · iexact S1
      iexact S2

end Cert.KernelIdeal.Gen

end
-- ==== Proof.TriplesI.lean ====
/-
  The rules of the sections 2, 6 and 7 of the body, each run from the memory it is handed to the memory `Step` says it
  leaves, before an arbitrary continuation.
-/
module

public import proofs.«01_k».proof.Proof.OwnI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

set_option maxHeartbeats 4000000

local notation "𝕄" => MT nD τ sig Unit (Elt F) ℕ (UD sig nD τ) ℕ

variable (c : Dev nD) (S : Stg) (π : ℕ → PosShare TreeShare)

/-- The rule of the section `sec9`. -/
theorem sec9_wp (i : grid0.Coords) (h : k0_cond9 i = 1#1) (I : Ins F) (s : St F) {k : Prog (TpuEff nD τ sig (Elt F) Λ₀ .tc) PUnit} {Q : PUnit → sProp 𝕄} :
    iprop(ScO c s ∗ OutO c S s ∗ InO c S π I)
      ⊢ iprop((iprop(ScO c (f9 i h I s) ∗ OutO c S (f9 i h I s) ∗ InO c S π I) -∗ wp frame (wpE (defs₀ (F := F)) Variants.none c none) Set.univ k Q)
        -∗ wp frame (wpE (defs₀ (F := F)) Variants.none c none) Set.univ (sec9 i S k) Q) := by
  unfold ScO OutO InO sec9
  rw [dif_pos h]
  iintro ⟨⟨Hq, Hg, Hen, Hec, Hla, Hdca, Hdra, Hdsa⟩, ⟨Ho13, Ho14, Ho15, Ho16, Ho17, Ho18⟩, ⟨Hx2, Hx3, Hx4, Hx5, Hx6, Hx7, Hx8, Hx9, Hx10, Hx11, Hx12⟩⟩ Hk
  iapply (ld c) $$ Hla; iintro Hla
  iapply (ld c) $$ Ho13; iintro Ho13
  iapply (st c) $$ Ho13; iintro Ho13
  iapply (ld c) $$ Hdca; iintro Hdca
  iapply (ld c) $$ Ho16; iintro Ho16
  iapply (st c) $$ Ho16; iintro Ho16
  iapply Hk
  unfold f9; dsimp only
  isplitl [Hq Hg Hen Hec Hla Hdca Hdra Hdsa]
  · isplitl [Hq]; · iexact Hq
    isplitl [Hg]; · iexact Hg
    isplitl [Hen]; · iexact Hen
    isplitl [Hec]; · iexact Hec
    isplitl [Hla]; · iexact Hla
    isplitl [Hdca]; · iexact Hdca
    isplitl [Hdra]; · iexact Hdra
    iexact Hdsa
  isplitl [Ho13 Ho14 Ho15 Ho16 Ho17 Ho18]
  · isplitl [Ho13]; · iexact Ho13
    isplitl [Ho14]; · iexact Ho14
    isplitl [Ho15]; · iexact Ho15
    isplitl [Ho16]; · iexact Ho16
    isplitl [Ho17]; · iexact Ho17
    iexact Ho18
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hx8]; · iexact Hx8
  isplitl [Hx9]; · iexact Hx9
  isplitl [Hx10]; · iexact Hx10
  isplitl [Hx11]; · iexact Hx11
  iexact Hx12

/-- The rule of the section `sec2`. -/
theorem sec2_wp (i : grid0.Coords) (h : k0_cond2 i = 1#1) (I : Ins F) (s : St F) {k : Prog (TpuEff nD τ sig (Elt F) Λ₀ .tc) PUnit} {Q : PUnit → sProp 𝕄} :
    iprop(ScO c s ∗ OutO c S s ∗ InO c S π I)
      ⊢ iprop((iprop(ScO c (f2 i h I s) ∗ OutO c S (f2 i h I s) ∗ InO c S π I) -∗ wp frame (wpE (defs₀ (F := F)) Variants.none c none) Set.univ k Q)
        -∗ wp frame (wpE (defs₀ (F := F)) Variants.none c none) Set.univ (sec2 i S k) Q) := by
  unfold ScO OutO InO sec2
  rw [dif_pos h]
  iintro ⟨⟨Hq, Hg, Hen, Hec, Hla, Hdca, Hdra, Hdsa⟩, ⟨Ho13, Ho14, Ho15, Ho16, Ho17, Ho18⟩, ⟨Hx2, Hx3, Hx4, Hx5, Hx6, Hx7, Hx8, Hx9, Hx10, Hx11, Hx12⟩⟩ Hk
  rw [k0_part1_eq_skeleton, k0_part1_named, wp_bind]
  iapply (ld c) $$ Hx10; iintro Hx10
  rw [wp_pure]; imodintro; dsimp only
  rw [k0_part2_eq_skeleton, wp_bind]; unfold k0_part2_skel
  iapply (ld c) $$ Hx9; iintro Hx9
  iapply (ld c) $$ Hx3; iintro Hx3
  iapply (ld c) $$ Hx4; iintro Hx4
  iapply (ld c) $$ Hx5; iintro Hx5
  iapply (ld c) $$ Hx3; iintro Hx3
  iapply (ld c) $$ Hx4; iintro Hx4
  iapply (ld c) $$ Hx5; iintro Hx5
  rw [wp_pure]; imodintro; dsimp only
  rw [k0_part3_eq_skeleton, wp_bind]; unfold k0_part3_skel
  iapply (ld c) $$ Hq; iintro Hq
  iapply (st c) $$ Hq; iintro Hq
  iapply (ld c) $$ Hx12; iintro Hx12
  iapply (ld c) $$ Ho18; iintro Ho18
  iapply (st c) $$ Ho18; iintro Ho18
  iapply (ld c) $$ Hg; iintro Hg
  iapply (st c) $$ Hg; iintro Hg
  rw [wp_pure]; imodintro; dsimp only
  iapply (ld c) $$ Hg; iintro Hg
  iapply (st c) $$ Hg; iintro Hg
  iapply Hk
  unfold f2; dsimp only
  isplitl [Hq Hg Hen Hec Hla Hdca Hdra Hdsa]
  · isplitl [Hq]; · iexact Hq
    isplitl [Hg]; · iexact Hg
    isplitl [Hen]; · iexact Hen
    isplitl [Hec]; · iexact Hec
    isplitl [Hla]; · iexact Hla
    isplitl [Hdca]; · iexact Hdca
    isplitl [Hdra]; · iexact Hdra
    iexact Hdsa
  isplitl [Ho13 Ho14 Ho15 Ho16 Ho17 Ho18]
  · isplitl [Ho13]; · iexact Ho13
    isplitl [Ho14]; · iexact Ho14
    isplitl [Ho15]; · iexact Ho15
    isplitl [Ho16]; · iexact Ho16
    isplitl [Ho17]; · iexact Ho17
    iexact Ho18
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hx8]; · iexact Hx8
  isplitl [Hx9]; · iexact Hx9
  isplitl [Hx10]; · iexact Hx10
  isplitl [Hx11]; · iexact Hx11
  iexact Hx12

/-- The rule of the section `sec7`. -/
theorem sec7_wp (i : grid0.Coords) (h : k0_cond7 i = 1#1) (I : Ins F) (s : St F) {k : Prog (TpuEff nD τ sig (Elt F) Λ₀ .tc) PUnit} {Q : PUnit → sProp 𝕄} :
    iprop(ScO c s ∗ OutO c S s ∗ InO c S π I)
      ⊢ iprop((iprop(ScO c (f7 i h I s) ∗ OutO c S (f7 i h I s) ∗ InO c S π I) -∗ wp frame (wpE (defs₀ (F := F)) Variants.none c none) Set.univ k Q)
        -∗ wp frame (wpE (defs₀ (F := F)) Variants.none c none) Set.univ (sec7 i S k) Q) := by
  unfold ScO OutO InO sec7
  rw [dif_pos h]
  iintro ⟨⟨Hq, Hg, Hen, Hec, Hla, Hdca, Hdra, Hdsa⟩, ⟨Ho13, Ho14, Ho15, Ho16, Ho17, Ho18⟩, ⟨Hx2, Hx3, Hx4, Hx5, Hx6, Hx7, Hx8, Hx9, Hx10, Hx11, Hx12⟩⟩ Hk
  rw [k0_part15_eq_skeleton, k0_part15_named, wp_bind]
  rw [wp_pure]; imodintro; dsimp only
  rw [k0_part16_eq_skeleton, k0_part16_named, wp_bind]
  iapply (ld c) $$ Hx10; iintro Hx10
  iapply (ld c) $$ Hx9; iintro Hx9
  iapply (ld c) $$ Hg; iintro Hg
  iapply (ld c) $$ Hg; iintro Hg
  iapply (st c) $$ Hg; iintro Hg
  iapply (ld c) $$ Hdra; iintro Hdra
  rw [wp_pure]; imodintro; dsimp only
  rw [k0_part17_eq_skeleton, wp_bind]; unfold k0_part17_skel
  iapply (ld c) $$ Hdsa; iintro Hdsa
  iapply (ld c) $$ Hx6; iintro Hx6
  iapply (ld c) $$ Hx7; iintro Hx7
  iapply (ld c) $$ Hx8; iintro Hx8
  iapply (ld c) $$ Ho14; iintro Ho14
  iapply (st c) $$ Ho14; iintro Ho14
  rw [wp_pure]; imodintro; dsimp only
  rw [k0_part18_eq_skeleton, wp_bind]; unfold k0_part18_skel
  iapply (ld c) $$ Hdca; iintro Hdca
  iapply (ld c) $$ Hdca; iintro Hdca
  iapply (st c) $$ Hdca; iintro Hdca
  iapply (ld c) $$ Hx6; iintro Hx6
  iapply (ld c) $$ Hx7; iintro Hx7
  iapply (ld c) $$ Hx8; iintro Hx8
  iapply (ld c) $$ Ho14; iintro Ho14
  iapply (st c) $$ Ho14; iintro Ho14
  rw [wp_pure]; imodintro; dsimp only
  iapply (ld c) $$ Hdca; iintro Hdca
  iapply (ld c) $$ Hdca; iintro Hdca
  iapply (st c) $$ Hdca; iintro Hdca
  iapply (ld c) $$ Hdra; iintro Hdra
  iapply (st c) $$ Hdra; iintro Hdra
  iapply (ld c) $$ Hdsa; iintro Hdsa
  iapply (st c) $$ Hdsa; iintro Hdsa
  by_cases hz : k0_cond8 i = 1#1
  · rw [dif_pos hz]
    iapply (ld c) $$ Hdra; iintro Hdra
    iapply (ld c) $$ Ho15; iintro Ho15
    iapply (st c) $$ Ho15; iintro Ho15
    iapply (ld c) $$ Hdsa; iintro Hdsa
    iapply (ld c) $$ Ho17; iintro Ho17
    iapply (st c) $$ Ho17; iintro Ho17
    have eo15 : (f7 i h I s).o15 = _ := dif_pos hz
    have eo17 : (f7 i h I s).o17 = _ := dif_pos hz
    rw [eo15, eo17]
    iapply Hk
    unfold f7; dsimp only
    isplitl [Hq Hg Hen Hec Hla Hdca Hdra Hdsa]
    · isplitl [Hq]; · iexact Hq
      isplitl [Hg]; · iexact Hg
      isplitl [Hen]; · iexact Hen
      isplitl [Hec]; · iexact Hec
      isplitl [Hla]; · iexact Hla
      isplitl [Hdca]; · iexact Hdca
      isplitl [Hdra]; · iexact Hdra
      iexact Hdsa
    isplitl [Ho13 Ho14 Ho15 Ho16 Ho17 Ho18]
    · isplitl [Ho13]; · iexact Ho13
      isplitl [Ho14]; · iexact Ho14
      isplitl [Ho15]; · iexact Ho15
      isplitl [Ho16]; · iexact Ho16
      isplitl [Ho17]; · iexact Ho17
      iexact Ho18
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    iexact Hx12
  · rw [dif_neg hz]
    have eo15 : (f7 i h I s).o15 = _ := dif_neg hz
    have eo17 : (f7 i h I s).o17 = _ := dif_neg hz
    rw [eo15, eo17]
    iapply Hk
    unfold f7; dsimp only
    isplitl [Hq Hg Hen Hec Hla Hdca Hdra Hdsa]
    · isplitl [Hq]; · iexact Hq
      isplitl [Hg]; · iexact Hg
      isplitl [Hen]; · iexact Hen
      isplitl [Hec]; · iexact Hec
      isplitl [Hla]; · iexact Hla
      isplitl [Hdca]; · iexact Hdca
      isplitl [Hdra]; · iexact Hdra
      iexact Hdsa
    isplitl [Ho13 Ho14 Ho15 Ho16 Ho17 Ho18]
    · isplitl [Ho13]; · iexact Ho13
      isplitl [Ho14]; · iexact Ho14
      isplitl [Ho15]; · iexact Ho15
      isplitl [Ho16]; · iexact Ho16
      isplitl [Ho17]; · iexact Ho17
      iexact Ho18
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    iexact Hx12

end Cert.KernelIdeal.Gen

end
-- ==== Proof.Triples5I.lean ====
/-
  The rule of the section 5 of the body (`f5`).
-/
module

public import proofs.«01_k».proof.Proof.OwnI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

set_option maxHeartbeats 4000000

local notation "𝕄" => MT nD τ sig Unit (Elt F) ℕ (UD sig nD τ) ℕ

variable (c : Dev nD) (S : Stg) (π : ℕ → PosShare TreeShare)

/-- The rule of the section `sec5`. -/
theorem sec5_wp (i : grid0.Coords) (h : k0_cond5 i = 1#1) (I : Ins F) (s : St F) {q1 q2 : PosShare TreeShare} {k : Prog (TpuEff nD τ sig (Elt F) Λ₀ .tc) PUnit} {Q : PUnit → sProp 𝕄} :
    iprop(ScO c s ∗ OutO c S s ∗ InO c S π I ∗ XaO c i h q1 I.xa ∗ XbO c i h q2 I.xb)
      ⊢ iprop((iprop(ScO c (f5 i h I s) ∗ OutO c S (f5 i h I s) ∗ InO c S π I ∗ XaO c i h q1 I.xa ∗ XbO c i h q2 I.xb) -∗ wp frame (wpE (defs₀ (F := F)) Variants.none c none) Set.univ k Q)
        -∗ wp frame (wpE (defs₀ (F := F)) Variants.none c none) Set.univ (sec5 i S k) Q) := by
  unfold ScO OutO InO XaO XbO sec5
  rw [dif_pos h]
  iintro ⟨⟨Hq, Hg, Hen, Hec, Hla, Hdca, Hdra, Hdsa⟩, ⟨Ho13, Ho14, Ho15, Ho16, Ho17, Ho18⟩, ⟨Hx2, Hx3, Hx4, Hx5, Hx6, Hx7, Hx8, Hx9, Hx10, Hx11, Hx12⟩, HXa, HXb⟩ Hk
  rw [k0_part4_eq_skeleton, k0_part4_named, wp_bind]
  rw [wp_pure]; imodintro; dsimp only
  rw [k0_part5_eq_skeleton, k0_part5_named, wp_bind]
  iapply (ld c) $$ Hen; iintro Hen
  iapply (ld c) $$ Hec; iintro Hec
  iapply (st c) $$ Hec; iintro Hec
  iapply (ld c) $$ Hq; iintro Hq
  iapply (ldAt c) $$ HXa; iintro HXa
  rw [wp_pure]; imodintro; dsimp only
  rw [k0_part6_eq_skeleton, wp_bind]; unfold k0_part6_skel
  iapply (ld c) $$ Hx9; iintro Hx9
  iapply (ld c) $$ Hx2; iintro Hx2
  iapply (ld c) $$ Hx11; iintro Hx11
  iapply (ld c) $$ Hla; iintro Hla
  iapply (ld c) $$ Hla; iintro Hla
  iapply (st c) $$ Hla; iintro Hla
  rw [wp_pure]; imodintro; dsimp only
  rw [k0_part7_eq_skeleton, k0_part7_named, wp_bind]
  iapply (ld c) $$ Hen; iintro Hen
  iapply (st c) $$ Hen; iintro Hen
  iapply (ld c) $$ Hg; iintro Hg
  iapply (ld c) $$ Hec; iintro Hec
  iapply (ldAt c) $$ HXb; iintro HXb
  iapply (ld c) $$ Hg; iintro Hg
  iapply (st c) $$ Hg; iintro Hg
  rw [wp_pure]; imodintro; dsimp only
  rw [k0_part8_eq_skeleton, k0_part8_named, wp_bind]
  iapply (ld c) $$ Hx10; iintro Hx10
  iapply (ld c) $$ Hx9; iintro Hx9
  iapply (ld c) $$ Hx3; iintro Hx3
  iapply (ld c) $$ Hx4; iintro Hx4
  iapply (ld c) $$ Hx5; iintro Hx5
  rw [wp_pure]; imodintro; dsimp only
  rw [k0_part9_eq_skeleton, wp_bind]; unfold k0_part9_skel
  iapply (ld c) $$ Hx3; iintro Hx3
  iapply (ld c) $$ Hx4; iintro Hx4
  iapply (ld c) $$ Hx5; iintro Hx5
  iapply (ld c) $$ Hq; iintro Hq
  iapply (st c) $$ Hq; iintro Hq
  rw [wp_pure]; imodintro; dsimp only
  rw [k0_part10_eq_skeleton, k0_part10_named, wp_bind]
  iapply (ld c) $$ Hx12; iintro Hx12
  iapply (ld c) $$ Ho18; iintro Ho18
  iapply (st c) $$ Ho18; iintro Ho18
  rw [wp_pure]; imodintro; dsimp only
  rw [k0_part11_eq_skeleton, wp_bind]; unfold k0_part11_skel
  iapply (ld c) $$ Hx10; iintro Hx10
  iapply (ld c) $$ Hx9; iintro Hx9
  iapply (ld c) $$ Hg; iintro Hg
  iapply (ld c) $$ Hg; iintro Hg
  rw [wp_pure]; imodintro; dsimp only
  rw [k0_part12_eq_skeleton, wp_bind]; unfold k0_part12_skel
  iapply (st c) $$ Hg; iintro Hg
  iapply (ld c) $$ Hdra; iintro Hdra
  iapply (ld c) $$ Hdsa; iintro Hdsa
  iapply (ld c) $$ Hx6; iintro Hx6
  iapply (ld c) $$ Hx7; iintro Hx7
  iapply (ld c) $$ Hx8; iintro Hx8
  iapply (ld c) $$ Ho14; iintro Ho14
  iapply (st c) $$ Ho14; iintro Ho14
  rw [wp_pure]; imodintro; dsimp only
  rw [k0_part13_eq_skeleton, wp_bind]; unfold k0_part13_skel
  iapply (ld c) $$ Hdca; iintro Hdca
  iapply (ld c) $$ Hdca; iintro Hdca
  iapply (st c) $$ Hdca; iintro Hdca
  iapply (ld c) $$ Hx6; iintro Hx6
  iapply (ld c) $$ Hx7; iintro Hx7
  iapply (ld c) $$ Hx8; iintro Hx8
  rw [wp_pure]; imodintro; dsimp only
  rw [k0_part14_eq_skeleton, wp_bind]; unfold k0_part14_skel
  iapply (ld c) $$ Ho14; iintro Ho14
  iapply (st c) $$ Ho14; iintro Ho14
  iapply (ld c) $$ Hdca; iintro Hdca
  iapply (ld c) $$ Hdca; iintro Hdca
  iapply (st c) $$ Hdca; iintro Hdca
  iapply (ld c) $$ Hdra; iintro Hdra
  iapply (st c) $$ Hdra; iintro Hdra
  iapply (ld c) $$ Hdsa; iintro Hdsa
  iapply (st c) $$ Hdsa; iintro Hdsa
  dsimp only
  by_cases hz : k0_cond6 i = 1#1
  · rw [dif_pos hz]
    iapply (ld c) $$ Hdra; iintro Hdra
    iapply (ld c) $$ Ho15; iintro Ho15
    iapply (st c) $$ Ho15; iintro Ho15
    iapply (ld c) $$ Hdsa; iintro Hdsa
    iapply (ld c) $$ Ho17; iintro Ho17
    iapply (st c) $$ Ho17; iintro Ho17
    repeat (first | (rw [wp_pure]; imodintro) | dsimp only)
    have eo15 : (f5 i h I s).o15 = _ := dif_pos hz
    have eo17 : (f5 i h I s).o17 = _ := dif_pos hz
    rw [eo15, eo17]
    iapply Hk
    unfold f5; dsimp only
    isplitl [Hq Hg Hen Hec Hla Hdca Hdra Hdsa]
    · isplitl [Hq]; · iexact Hq
      isplitl [Hg]; · iexact Hg
      isplitl [Hen]; · iexact Hen
      isplitl [Hec]; · iexact Hec
      isplitl [Hla]; · iexact Hla
      isplitl [Hdca]; · iexact Hdca
      isplitl [Hdra]; · iexact Hdra
      iexact Hdsa
    isplitl [Ho13 Ho14 Ho15 Ho16 Ho17 Ho18]
    · isplitl [Ho13]; · iexact Ho13
      isplitl [Ho14]; · iexact Ho14
      isplitl [Ho15]; · iexact Ho15
      isplitl [Ho16]; · iexact Ho16
      isplitl [Ho17]; · iexact Ho17
      iexact Ho18
    isplitl [Hx2 Hx3 Hx4 Hx5 Hx6 Hx7 Hx8 Hx9 Hx10 Hx11 Hx12]
    · isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hx10]; · iexact Hx10
      isplitl [Hx11]; · iexact Hx11
      iexact Hx12
    isplitl [HXa]; · iexact HXa
    iexact HXb
  · rw [dif_neg hz]
    repeat (first | (rw [wp_pure]; imodintro) | dsimp only)
    have eo15 : (f5 i h I s).o15 = _ := dif_neg hz
    have eo17 : (f5 i h I s).o17 = _ := dif_neg hz
    rw [eo15, eo17]
    iapply Hk
    unfold f5; dsimp only
    isplitl [Hq Hg Hen Hec Hla Hdca Hdra Hdsa]
    · isplitl [Hq]; · iexact Hq
      isplitl [Hg]; · iexact Hg
      isplitl [Hen]; · iexact Hen
      isplitl [Hec]; · iexact Hec
      isplitl [Hla]; · iexact Hla
      isplitl [Hdca]; · iexact Hdca
      isplitl [Hdra]; · iexact Hdra
      iexact Hdsa
    isplitl [Ho13 Ho14 Ho15 Ho16 Ho17 Ho18]
    · isplitl [Ho13]; · iexact Ho13
      isplitl [Ho14]; · iexact Ho14
      isplitl [Ho15]; · iexact Ho15
      isplitl [Ho16]; · iexact Ho16
      isplitl [Ho17]; · iexact Ho17
      iexact Ho18
    isplitl [Hx2 Hx3 Hx4 Hx5 Hx6 Hx7 Hx8 Hx9 Hx10 Hx11 Hx12]
    · isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hx10]; · iexact Hx10
      isplitl [Hx11]; · iexact Hx11
      iexact Hx12
    isplitl [HXa]; · iexact HXa
    iexact HXb

end Cert.KernelIdeal.Gen

end
-- ==== Proof.BodyI.lean ====
/-
  The body of one grid point: the sections together, run from the memory before the point to `stepSt` of it, with the ring
  moved on; and from it the pipeline's body obligation, for any invariant of the scratch buffers and any conditions on the
  blocks written that the step keeps.
-/
module

public import proofs.«01_k».proof.Proof.RingI
public import proofs.«01_k».proof.Proof.TriplesI
public import proofs.«01_k».proof.Proof.Triples5I
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

section Ring
variable (c : Dev nD)

theorem XS_congr {off off' : Fin 3 → Nat} (e : off = off') (h) (h') (q : PosShare TreeShare) (Y : S1x512x8192.Idx → Elt F .fp8e4m3) :
    XS c off h q Y = XS c off' h' q Y := by subst e; rfl

theorem XaO_eq (i : grid0.Coords) (h : k0_cond5 i = 1#1) (j : Fin 3) (e : k0_off14 i = ![j.val, 0, 0]) (q : PosShare TreeShare) (Y : S1x512x8192.Idx → Elt F .fp8e4m3) :
    XaO c i h q Y = Slot c j q Y :=
  (show XaO c i h q Y = XS c (k0_off14 i) (k0_off14_inb i h) q Y from by unfold XaO XS; rfl).trans (XS_congr c e _ _ q Y)
theorem XbO_eq (i : grid0.Coords) (h : k0_cond5 i = 1#1) (j : Fin 3) (e : k0_off17 i = ![j.val, 0, 0]) (q : PosShare TreeShare) (Y : S1x512x8192.Idx → Elt F .fp8e4m3) :
    XbO c i h q Y = Slot c j q Y :=
  (show XbO c i h q Y = XS c (k0_off17 i) (k0_off17_inb i h) q Y from by unfold XbO XS; rfl).trans (XS_congr c e _ _ q Y)

/-- A slot held whole is held by halves, and back. -/
theorem Slot_split (j : Fin 3) (Y : S1x512x8192.Idx → Elt F .fp8e4m3) : Slot c j fullShare Y ⊢ iprop(Slot c j fullShare.left Y ∗ Slot c j fullShare.right Y) := by
  unfold Slot XS
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2
theorem Slot_join (j : Fin 3) (Y : S1x512x8192.Idx → Elt F .fp8e4m3) : iprop(Slot c j fullShare.left Y ∗ Slot c j fullShare.right Y) ⊢ Slot c j fullShare Y := by
  unfold Slot XS
  iintro ⟨⟨%f, %hf, H1⟩, ⟨%g, %hg, H2⟩⟩
  have e : ∀ i ∈ (sAcc ![j.val, 0, 0] (sOff_inb j)).set, g i = f i := by
    intro i hi
    obtain ⟨x, -, rfl⟩ := Finset.mem_map.mp hi
    have := congrFun (hg.trans hf.symm) x
    simpa [View.read_apply] using this
  ihave H2 := (Entails.of_eq (pointsTo_congr e)) $$ H2
  iexists f
  isplitr; · ipureintro; exact hf
  iapply (pointsTo_share (PosShare.mem_left_op_right fullShare)).2
  isplitl [H1] <;> iassumption

end Ring

/-- The token blocks a point reads, put with its other inputs. -/
abbrev Ins.at_ (I : Ins F) (xa xb : S1x512x8192.Idx → Elt F .fp8e4m3) : Ins F := { I with xa := xa, xb := xb }

/-- What one grid point makes of the scratch buffers and the output blocks. -/
def stepSt (t : Fin grid0.N) (I : Ins F) (s : St F) : St F :=
  let s1 := if t.val = 0 then f1 s else s
  let s2 := if h : k0_cond2 (grid0.coords t) = 1#1 then f2 (grid0.coords t) h I s1 else s1
  let s5 := if h : k0_cond5 (grid0.coords t) = 1#1 then f5 (grid0.coords t) h I s2 else s2
  let s7 := if h : k0_cond7 (grid0.coords t) = 1#1 then f7 (grid0.coords t) h I s5 else s5
  if h : k0_cond9 (grid0.coords t) = 1#1 then f9 (grid0.coords t) h I s7 else s7

theorem stepSt_zero (t : Fin grid0.N) (I : Ins F) (s : St F) (h : t.val = 0) (h2 : k0_cond2 (grid0.coords t) = 1#1) :
    stepSt t I s = f2 (grid0.coords t) h2 I (f1 s) := by
  have n5 : ¬ k0_cond5 (grid0.coords t) = 1#1 := fun e => by have := (cond5_iff t).mp e; omega
  have n7 : ¬ k0_cond7 (grid0.coords t) = 1#1 := fun e => by have := (cond7_iff t).mp e; omega
  have n9 : ¬ k0_cond9 (grid0.coords t) = 1#1 := fun e => by have := (cond9_iff t).mp e; omega
  unfold stepSt
  simp only [if_pos h, dif_pos h2, dif_neg n5, dif_neg n7, dif_neg n9]
theorem stepSt_pre (t : Fin grid0.N) (I : Ins F) (s : St F) (h : t.val ≠ 0) (h' : t.val < 32) (h2 : k0_cond2 (grid0.coords t) = 1#1) :
    stepSt t I s = f2 (grid0.coords t) h2 I s := by
  have n5 : ¬ k0_cond5 (grid0.coords t) = 1#1 := fun e => by have := (cond5_iff t).mp e; omega
  have n7 : ¬ k0_cond7 (grid0.coords t) = 1#1 := fun e => by have := (cond7_iff t).mp e; omega
  have n9 : ¬ k0_cond9 (grid0.coords t) = 1#1 := fun e => by have := (cond9_iff t).mp e; omega
  unfold stepSt
  simp only [if_neg h, dif_pos h2, dif_neg n5, dif_neg n7, dif_neg n9]
theorem stepSt_main (t : Fin grid0.N) (I : Ins F) (s : St F) (h : 32 ≤ t.val) (h' : t.val ≤ 1056) (h5 : k0_cond5 (grid0.coords t) = 1#1) :
    stepSt t I s = f5 (grid0.coords t) h5 I s := by
  have n2 : ¬ k0_cond2 (grid0.coords t) = 1#1 := fun e => by have := (cond2_iff t).mp e; omega
  have n7 : ¬ k0_cond7 (grid0.coords t) = 1#1 := fun e => by have := (cond7_iff t).mp e; omega
  have n9 : ¬ k0_cond9 (grid0.coords t) = 1#1 := fun e => by have := (cond9_iff t).mp e; omega
  unfold stepSt
  simp only [if_neg (show ¬ t.val = 0 by omega), dif_pos h5, dif_neg n2, dif_neg n7, dif_neg n9]
theorem stepSt_post (t : Fin grid0.N) (I : Ins F) (s : St F) (h : 1056 < t.val) (h' : t.val ≠ 1088) (h7 : k0_cond7 (grid0.coords t) = 1#1) :
    stepSt t I s = f7 (grid0.coords t) h7 I s := by
  have n2 : ¬ k0_cond2 (grid0.coords t) = 1#1 := fun e => by have := (cond2_iff t).mp e; omega
  have n5 : ¬ k0_cond5 (grid0.coords t) = 1#1 := fun e => by have := (cond5_iff t).mp e; omega
  have n9 : ¬ k0_cond9 (grid0.coords t) = 1#1 := fun e => by have := (cond9_iff t).mp e; omega
  unfold stepSt
  simp only [if_neg (show ¬ t.val = 0 by omega), dif_pos h7, dif_neg n2, dif_neg n5, dif_neg n9]
theorem stepSt_last (t : Fin grid0.N) (I : Ins F) (s : St F) (h : t.val = 1088) (h7 : k0_cond7 (grid0.coords t) = 1#1) (h9 : k0_cond9 (grid0.coords t) = 1#1) :
    stepSt t I s = f9 (grid0.coords t) h9 I (f7 (grid0.coords t) h7 I s) := by
  have n2 : ¬ k0_cond2 (grid0.coords t) = 1#1 := fun e => by have := (cond2_iff t).mp e; omega
  have n5 : ¬ k0_cond5 (grid0.coords t) = 1#1 := fun e => by have := (cond5_iff t).mp e; omega
  unfold stepSt
  simp only [if_neg (show ¬ t.val = 0 by omega), dif_pos h7, dif_pos h9, dif_neg n2, dif_neg n5]

section Body
variable (c : Dev nD) (X : Buf (Elt F) ((c : Thread nD τ).loc main_v16)) (S : Stg) (π : ℕ → PosShare TreeShare)

/-- What is known of the token blocks a point reads. -/
def Toks (t : ℕ) (xa xb : S1x512x8192.Idx → Elt F .fp8e4m3) : Prop :=
  (32 ≤ t → t ≤ 1055 → xa = XB c X (t - 32)) ∧ (32 < t → t ≤ 1056 → xb = XB c X (t - 32 - 1)) ∧ (t = 32 → xb = XB c X 0)

/-- The memory after a point. -/
def After (t : Fin grid0.N) (I : Ins F) (s : St F) : sProp 𝕄 :=
  iprop(∃ xa xb, ∃ W : Waits sig Unit, ⌜Toks c X t.val xa xb⌝ ∗ ScO c (stepSt t (I.at_ xa xb) s) ∗ OutO c S (stepSt t (I.at_ xa xb) s) ∗ InO c S π I
    ∗ Ring c X (t.val + 1) ∗ owes (c : Thread nD τ) 0 W)

/-- A point outside the main range gives its memory back without reading a token block. -/
theorem After_intro (t : Fin grid0.N) (I : Ins F) (s s' : St F) (ht : t.val < 32 ∨ 1056 < t.val) (e : stepSt t (I.at_ I.xa I.xb) s = s') (W : Waits sig Unit) :
    iprop(ScO c s' ∗ OutO c S s' ∗ InO c S π I ∗ Ring c X (t.val + 1) ∗ owes (c : Thread nD τ) 0 W) ⊢ After c X S π t I s := by
  subst e
  unfold After
  iintro H
  iexists I.xa, I.xb, W
  isplitr
  · ipureintro; exact ⟨fun _ _ => by omega, fun _ _ => by omega, fun _ => by omega⟩
  iexact H

/-- Section 5 between sections 3, 4 and the end. -/
theorem main_wp (t : Fin grid0.N) (h1 : 32 ≤ t.val) (h2 : t.val ≤ 1056) (I : Ins F) (s : St F) {k : Prog (TpuEff nD τ sig (Elt F) Λ₀ .tc) PUnit} {Q : PUnit → sProp 𝕄} :
    iprop(ScO c s ∗ OutO c S s ∗ InO c S π I ∗ Mid c X t.val)
      ⊢ iprop((After c X S π t I s -∗ wp frame (wpE (defs₀ (F := F)) Variants.none c none) Set.univ k Q)
        -∗ wp frame (wpE (defs₀ (F := F)) Variants.none c none) Set.univ (sec5 (grid0.coords t) S k) Q) := by
  have h5 := (cond5_iff t).mpr ⟨h1, h2⟩
  unfold Mid After
  iintro ⟨Hs, Ho, Hi, ⟨%Ya, %Yb, %W, %hY, Ha, Hb, HO, HR⟩⟩ Hk
  by_cases h3 : t.val = 32
  · ihave Ha := (Slot_split c (sl3 (t.val - 32)) Ya) $$ Ha
    icases Ha with ⟨Ha1, Ha2⟩
    iapply (sec5_wp c S π (grid0.coords t) h5 (I.at_ Ya Ya) s (q1 := fullShare.left) (q2 := fullShare.right)) $$ [Hs Ho Hi Ha1 Ha2]
    · irw [XaO_eq c (grid0.coords t) h5 (sl3 (t.val - 32)) (off14_eq t ⟨h1, h2⟩), XbO_eq c (grid0.coords t) h5 (sl3 (t.val - 32)) (off17_eq0 t h3)]
      isplitl [Hs]; · iexact Hs
      isplitl [Ho]; · iexact Ho
      isplitl [Hi]; · iexact Hi
      isplitl [Ha1]; · iexact Ha1
      iexact Ha2
    rw [XaO_eq c (grid0.coords t) h5 (sl3 (t.val - 32)) (off14_eq t ⟨h1, h2⟩), XbO_eq c (grid0.coords t) h5 (sl3 (t.val - 32)) (off17_eq0 t h3)]
    iintro ⟨Hs, Ho, Hi, Ha1, Ha2⟩
    ihave Ha := (Slot_join c (sl3 (t.val - 32)) Ya) $$ [Ha1 Ha2]
    · isplitl [Ha1] <;> iassumption
    iapply Hk
    iexists Ya, Ya, W
    isplitr
    · ipureintro
      exact ⟨fun _ h => hY.1 h, fun h _ => by omega, fun h => by rw [hY.1 (by omega), h]⟩
    rw [stepSt_main t _ s h1 h2 h5]
    isplitl [Hs]; · iexact Hs
    isplitl [Ho]; · iexact Ho
    isplitl [Hi]; · iexact Hi
    isplitl [HR Ha Hb]
    · iapply HR; isplitl [Ha] <;> iassumption
    iexact HO
  · iapply (sec5_wp c S π (grid0.coords t) h5 (I.at_ Ya Yb) s (q1 := fullShare) (q2 := fullShare)) $$ [Hs Ho Hi Ha Hb]
    · irw [XaO_eq c (grid0.coords t) h5 (sl3 (t.val - 32)) (off14_eq t ⟨h1, h2⟩), XbO_eq c (grid0.coords t) h5 (sl3 (t.val - 32 + 2)) (off17_eq t ⟨by omega, h2⟩)]
      isplitl [Hs]; · iexact Hs
      isplitl [Ho]; · iexact Ho
      isplitl [Hi]; · iexact Hi
      isplitl [Ha]; · iexact Ha
      iexact Hb
    rw [XaO_eq c (grid0.coords t) h5 (sl3 (t.val - 32)) (off14_eq t ⟨h1, h2⟩), XbO_eq c (grid0.coords t) h5 (sl3 (t.val - 32 + 2)) (off17_eq t ⟨by omega, h2⟩)]
    iintro ⟨Hs, Ho, Hi, Ha, Hb⟩
    iapply Hk
    iexists Ya, Yb, W
    isplitr
    · ipureintro
      exact ⟨fun _ h => hY.1 h, fun h _ => hY.2 h, fun h => absurd h h3⟩
    rw [stepSt_main t _ s h1 h2 h5]
    isplitl [Hs]; · iexact Hs
    isplitl [Ho]; · iexact Ho
    isplitl [Hi]; · iexact Hi
    isplitl [HR Ha Hb]
    · iapply HR; isplitl [Ha] <;> iassumption
    iexact HO

/-- The body of one grid point. -/
theorem body_wp (t : Fin grid0.N) (I : Ins F) (s : St F) {W : Waits sig Unit} :
    iprop(ScO c s ∗ OutO c S s ∗ InO c S π I ∗ Ring c X t.val ∗ owes (c : Thread nD τ) 0 W)
      ⊢ wp frame (wpE (defs₀ (F := F)) Variants.none c none) Set.univ
          (sec1 (grid0.coords t) S (sec2 (grid0.coords t) S (sec3 (grid0.coords t) S (sec4 (grid0.coords t) S (sec5 (grid0.coords t) S (sec7 (grid0.coords t) S (sec9 (grid0.coords t) S (pure ⟨⟩))))))))
          fun _ => After c X S π t I s := by
  have s1 : ∀ k, t.val ≠ 0 → sec1 (F := F) (grid0.coords t) S k = k := fun k h => by
    unfold sec1; rw [dif_neg (fun e => h ((cond1_iff t).mp e))]
  have s2 : ∀ k, ¬ t.val < 32 → sec2 (F := F) (grid0.coords t) S k = k := fun k h => by
    unfold sec2; rw [dif_neg (fun e => h ((cond2_iff t).mp e))]
  have s3 : ∀ k, ¬ (32 ≤ t.val ∧ t.val ≤ 1056) → sec3 (F := F) (grid0.coords t) S k = k := fun k h => by
    unfold sec3; rw [dif_neg (fun e => h (by have := (cond3_iff t).mp e; omega))]
  have s4 : ∀ k, ¬ (32 ≤ t.val ∧ t.val ≤ 1056) → sec4 (F := F) (grid0.coords t) S k = k := fun k h => by
    unfold sec4; rw [dif_neg (fun e => h (by have := (cond4_iff t).mp e; omega))]
  have s5 : ∀ k, ¬ (32 ≤ t.val ∧ t.val ≤ 1056) → sec5 (F := F) (grid0.coords t) S k = k := fun k h => by
    unfold sec5; rw [dif_neg (fun e => h ((cond5_iff t).mp e))]
  have s7 : ∀ k, ¬ 1056 < t.val → sec7 (F := F) (grid0.coords t) S k = k := fun k h => by
    unfold sec7; rw [dif_neg (fun e => h ((cond7_iff t).mp e))]
  have s9 : ∀ k, t.val ≠ 1088 → sec9 (F := F) (grid0.coords t) S k = k := fun k h => by
    unfold sec9; rw [dif_neg (fun e => h ((cond9_iff t).mp e))]
  by_cases h32 : t.val < 32
  · have h2 := (cond2_iff t).mpr h32
    rw [s3 _ (by omega), s4 _ (by omega), s5 _ (by omega), s7 _ (by omega), s9 _ (by omega)]
    by_cases h0 : t.val = 0
    · have h1 := (cond1_iff t).mpr h0
      iintro ⟨Hs, Ho, Hi, HR, HO⟩
      iapply (sec1_wp c X S (grid0.coords t) h1 s) $$ [Hs HR]
      · isplitl [Hs]; · iexact Hs
        irw [← h0]
        iexact HR
      iintro ⟨Hs, HR⟩
      iapply (sec2_wp c S π (grid0.coords t) h2 I (f1 s)) $$ [Hs Ho Hi]
      · isplitl [Hs]; · iexact Hs
        isplitl [Ho]; · iexact Ho
        iexact Hi
      iintro ⟨Hs, Ho, Hi⟩
      rw [wp_pure]
      imodintro
      iapply (After_intro c X S π t I s _ (Or.inl h32) (stepSt_zero t _ s h0 h2) W)
      isplitl [Hs]; · iexact Hs
      isplitl [Ho]; · iexact Ho
      isplitl [Hi]; · iexact Hi
      isplitl [HR]
      · irw [h0]; iexact HR
      iexact HO
    · rw [s1 _ h0]
      iintro ⟨Hs, Ho, Hi, HR, HO⟩
      ihave HR := (Ring_wait c X h0 h32) $$ HR
      iapply (sec2_wp c S π (grid0.coords t) h2 I s) $$ [Hs Ho Hi]
      · isplitl [Hs]; · iexact Hs
        isplitl [Ho]; · iexact Ho
        iexact Hi
      iintro ⟨Hs, Ho, Hi⟩
      rw [wp_pure]
      imodintro
      iapply (After_intro c X S π t I s _ (Or.inl h32) (stepSt_pre t _ s h0 h32 h2) W)
      isplitl [Hs]; · iexact Hs
      isplitl [Ho]; · iexact Ho
      isplitl [Hi]; · iexact Hi
      isplitl [HR]; · iexact HR
      iexact HO
  · rw [s1 _ (by omega), s2 _ h32]
    by_cases h56 : t.val ≤ 1056
    · rw [s7 _ (by omega), s9 _ (by omega)]
      iintro ⟨Hs, Ho, Hi, HR, HO⟩
      iapply (sec34_wp c X S t (by omega) h56 (W := W)) $$ [HR HO]
      · isplitl [HR] <;> iassumption
      iintro HM
      iapply (main_wp c X S π t (by omega) h56 I s) $$ [Hs Ho Hi HM]
      · isplitl [Hs]; · iexact Hs
        isplitl [Ho]; · iexact Ho
        isplitl [Hi]; · iexact Hi
        iexact HM
      iintro H
      rw [wp_pure]
      imodintro
      iexact H
    · have h7 := (cond7_iff t).mpr (by omega)
      rw [s3 _ (by omega), s4 _ (by omega), s5 _ (by omega)]
      have er : Ring c X (t.val + 1) = Ring c X t.val := by rw [Ring_end c X (by omega), Ring_end c X (by omega)]
      by_cases h88 : t.val = 1088
      · have h9 := (cond9_iff t).mpr h88
        iintro ⟨Hs, Ho, Hi, HR, HO⟩
        iapply (sec7_wp c S π (grid0.coords t) h7 I s) $$ [Hs Ho Hi]
        · isplitl [Hs]; · iexact Hs
          isplitl [Ho]; · iexact Ho
          iexact Hi
        iintro ⟨Hs, Ho, Hi⟩
        iapply (sec9_wp c S π (grid0.coords t) h9 I _) $$ [Hs Ho Hi]
        · isplitl [Hs]; · iexact Hs
          isplitl [Ho]; · iexact Ho
          iexact Hi
        iintro ⟨Hs, Ho, Hi⟩
        rw [wp_pure]
        imodintro
        iapply (After_intro c X S π t I s _ (Or.inr (by omega)) (stepSt_last t _ s h88 h7 h9) W)
        rw [er]
        isplitl [Hs]; · iexact Hs
        isplitl [Ho]; · iexact Ho
        isplitl [Hi]; · iexact Hi
        isplitl [HR]; · iexact HR
        iexact HO
      · rw [s9 _ h88]
        iintro ⟨Hs, Ho, Hi, HR, HO⟩
        iapply (sec7_wp c S π (grid0.coords t) h7 I s) $$ [Hs Ho Hi]
        · isplitl [Hs]; · iexact Hs
          isplitl [Ho]; · iexact Ho
          iexact Hi
        iintro ⟨Hs, Ho, Hi⟩
        rw [wp_pure]
        imodintro
        iapply (After_intro c X S π t I s _ (Or.inr (by omega)) (stepSt_post t _ s (by omega) h88 h7) W)
        rw [er]
        isplitl [Hs]; · iexact Hs
        isplitl [Ho]; · iexact Ho
        isplitl [Hi]; · iexact Hi
        isplitl [HR]; · iexact HR
        iexact HO

end Body

/-! ## The proof data of the pipeline -/

/-- The staging buffers at a grid point. -/
abbrev stg (t : Fin cfg0.N) : Stg where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := win0_12.stage (cfg0.slots t 12)
  h14 := hstage0_12 ((cfg0.slots t 12).cast nbuf0_12)
  a15 := win0_13.stage (cfg0.slots t 13)
  h15 := hstage0_13 ((cfg0.slots t 13).cast nbuf0_13)
  a16 := win0_14.stage (cfg0.slots t 14)
  h16 := hstage0_14 ((cfg0.slots t 14).cast nbuf0_14)
  a17 := win0_15.stage (cfg0.slots t 15)
  h17 := hstage0_15 ((cfg0.slots t 15).cast nbuf0_15)
  a18 := win0_16.stage (cfg0.slots t 16)
  h18 := hstage0_16 ((cfg0.slots t 16).cast nbuf0_16)

theorem row (t : Fin cfg0.N) : defs₀ (F := F) .tc cfg0.body (cfg0.bodyArgs t (cfg0.slots t))
    = sec1 (grid0.coords t) (stg t) (sec2 (grid0.coords t) (stg t) (sec3 (grid0.coords t) (stg t) (sec4 (grid0.coords t) (stg t) (sec5 (grid0.coords t) (stg t) (sec7 (grid0.coords t) (stg t) (sec9 (grid0.coords t) (stg t) (pure ⟨⟩))))))) := by
  rw [← body_secs]; unfold defs₀; rw [Defs.onTc_tc]

/-- Conditions on the blocks the points leave in the output windows. -/
structure Outs (F : FTy → Type) [FloatOps F] where
  p13 : Fin cfg0.N → (S32x512.Idx → Elt F .f32) → Prop
  p14 : Fin cfg0.N → (S512x256.Idx → Elt F .f32) → Prop
  p15 : Fin cfg0.N → (S1x1x512.Idx → Elt F .f32) → Prop
  p16 : Fin cfg0.N → (S32x256.Idx → Elt F .f32) → Prop
  p17 : Fin cfg0.N → (S1x1x512.Idx → Elt F .f32) → Prop
  p18 : Fin cfg0.N → (S512x128.Idx → Elt F .i8) → Prop

/-- What a point leaves in a window's buffer: an input's as found, an output's in its condition. -/
def aftW (A : Outs F) : (w : Fin 17) → Fin cfg0.N → (Y X : (win0 w).block.Idx → Elt F (win0 w).elt) → Prop := fun
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun _ Y X => X = Y
  | 10 => fun _ Y X => X = Y
  | 11 => fun t _ X => A.p13 t X
  | 12 => fun t _ X => A.p14 t X
  | 13 => fun t _ X => A.p15 t X
  | 14 => fun t _ X => A.p16 t X
  | 15 => fun t _ X => A.p17 t X
  | 16 => fun t _ X => A.p18 t X
  | ⟨_ + 17, h⟩ => absurd h (Nat.not_lt.2 (Nat.le_add_left _ _))

variable (m : (ℓ : Loc nD τ sig) → Buf (Elt F) ℓ)

/-- The array of the tokens at the call. -/
abbrev xArr (c : Dev nD) : Buf (Elt F) ((c : Thread nD τ).loc main_v16) := V m c main_v16

/-- The memory between points: the scratch buffers at contents in the invariant, the ring, the generator register. -/
def PhiT (Inv : (c : Dev nD) → ℕ → St F → Prop) (c : Dev nD) (t : ℕ) : sProp 𝕄 :=
  iprop(∃ s, ⌜Inv c t s⌝ ∗ ScO c s ∗ Ring c (xArr m c) t ∗ ∃ r, prngReg c r)

/-- The pipeline's proof data over an invariant and the output conditions. -/
def rd (Inv : (c : Dev nD) → ℕ → St F → Prop) (A : Dev nD → Outs F) (c : Dev nD) : RDat τ (Elt F) Unit ℕ (UD sig nD τ) ℕ cfg0 c where
  A w := V m c (Pipeline.arrRef spec0 w)
  after := aftW (A c)
  Φ k := PhiT m Inv c k.val
  q w := Pipeline.shareOf spec0 w
  owed _ := 0

/-- The inputs of a point in what the windows' buffers are found at. -/
abbrev insOf (Y : (w : Fin cfg0.W) → (cfg0.win w).block.Idx → Elt F (cfg0.win w).elt) (xa xb : S1x512x8192.Idx → Elt F .fp8e4m3) : Ins F where
  x2 := Y 0
  x3 := Y 1
  x4 := Y 2
  x5 := Y 3
  x6 := Y 4
  x7 := Y 5
  x8 := Y 6
  x9 := Y 7
  x10 := Y 8
  x11 := Y 9
  x12 := Y 10
  xa := xa
  xb := xb
/-- The scratch buffers with the output blocks the windows' buffers are found at. -/
abbrev stOf (s : St F) (Y : (w : Fin cfg0.W) → (cfg0.win w).block.Idx → Elt F (cfg0.win w).elt) : St F :=
  { s with o13 := Y 11, o14 := Y 12, o15 := Y 13, o16 := Y 14, o17 := Y 15, o18 := Y 16 }

/-- Some contents of a slot. -/
def Y0 (s : St F) : S1x512x8192.Idx → Elt F .fp8e4m3 := fun _ => s.q (fun a => ⟨0, by revert a; decide⟩)

/-- One grid point keeps the invariant and meets the output conditions. -/
def Keeps (Inv : (c : Dev nD) → ℕ → St F → Prop) (A : Dev nD → Outs F) (c : Dev nD) : Prop :=
  ∀ (t : Fin cfg0.N) (Y : (w : Fin cfg0.W) → (cfg0.win w).block.Idx → Elt F (cfg0.win w).elt) (s : St F) (xa xb : S1x512x8192.Idx → Elt F .fp8e4m3),
    (∀ w, (rd m Inv A c).Finds w t (Y w)) → Inv c t.val s → Toks c (xArr m c) t.val xa xb →
    Inv c (t.val + 1) (stepSt t (insOf Y xa xb) (stOf s Y))
      ∧ (A c).p13 t (stepSt t (insOf Y xa xb) (stOf s Y)).o13
      ∧ (A c).p14 t (stepSt t (insOf Y xa xb) (stOf s Y)).o14
      ∧ (A c).p15 t (stepSt t (insOf Y xa xb) (stOf s Y)).o15
      ∧ (A c).p16 t (stepSt t (insOf Y xa xb) (stOf s Y)).o16
      ∧ (A c).p17 t (stepSt t (insOf Y xa xb) (stOf s Y)).o17
      ∧ (A c).p18 t (stepSt t (insOf Y xa xb) (stOf s Y)).o18

theorem body_ob (Inv : (c : Dev nD) → ℕ → St F → Prop) (A : Dev nD → Outs F) (c : Dev nD) (hK : Keeps m Inv A c) :
    (rd m Inv A c).BodyObligation defs₀ Variants.none () Set.univ := by
  intro t Y hY
  rw [bigSep_W0, row t]
  rw [show (rd m Inv A c).Φ t.castSucc = PhiT m Inv c t.val from rfl, show (rd m Inv A c).Φ t.succ = PhiT m Inv c (t.val + 1) from rfl]
  unfold PhiT
  iintro ⟨⟨%s, %hs, Hs, HR, Hp⟩, ⟨%W, %hW, HO⟩, Hx2, Hx3, Hx4, Hx5, Hx6, Hx7, Hx8, Hx9, Hx10, Hx11, Hx12, Ho13, Ho14, Ho15, Ho16, Ho17, Ho18⟩
  iapply (wp_wand_r _ _ _)
  isplitl [Hs HR HO Hx2 Hx3 Hx4 Hx5 Hx6 Hx7 Hx8 Hx9 Hx10 Hx11 Hx12 Ho13 Ho14 Ho15 Ho16 Ho17 Ho18]
  · iapply (body_wp c (xArr m c) (stg t) (fun _ => fullShare) t (insOf Y (Y0 s) (Y0 s)) (stOf s Y) (W := W))
    isplitl [Hs]; · iexact Hs
    unfold OutO InO
    dsimp only
    isplitl [Ho13 Ho14 Ho15 Ho16 Ho17 Ho18]
    · isplitl [Ho13]; · iexact Ho13
      isplitl [Ho14]; · iexact Ho14
      isplitl [Ho15]; · iexact Ho15
      isplitl [Ho16]; · iexact Ho16
      isplitl [Ho17]; · iexact Ho17
      iexact Ho18
    isplitl [Hx2 Hx3 Hx4 Hx5 Hx6 Hx7 Hx8 Hx9 Hx10 Hx11 Hx12]
    · isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hx10]; · iexact Hx10
      isplitl [Hx11]; · iexact Hx11
      iexact Hx12
    isplitl [HR]; · iexact HR
    iexact HO
  iintro %_ H
  unfold After
  icases H with ⟨%xa, %xb, %W', %hT, Hs, Ho, Hi, HR, HO⟩
  have hk := hK t Y s xa xb hY hs hT
  isplitl [Hs HR Hp]
  · iexists (stepSt t (insOf Y xa xb) (stOf s Y))
    isplitr; · ipureintro; exact hk.1
    isplitl [Hs]; · iexact Hs
    isplitl [HR]; · iexact HR
    iexact Hp
  isplitl [HO]
  · iexists W'
    isplitr; · ipureintro; exact fun _ _ => Or.inl trivial
    iexact HO
  irw [bigSep_W0]
  unfold OutO InO
  icases Ho with ⟨Ho13, Ho14, Ho15, Ho16, Ho17, Ho18⟩
  icases Hi with ⟨Hx2, Hx3, Hx4, Hx5, Hx6, Hx7, Hx8, Hx9, Hx10, Hx11, Hx12⟩
  isplitl [Hx2]
  · iexists (Y 0); isplitr; · ipureintro; exact rfl
    iexact Hx2
  isplitl [Hx3]
  · iexists (Y 1); isplitr; · ipureintro; exact rfl
    iexact Hx3
  isplitl [Hx4]
  · iexists (Y 2); isplitr; · ipureintro; exact rfl
    iexact Hx4
  isplitl [Hx5]
  · iexists (Y 3); isplitr; · ipureintro; exact rfl
    iexact Hx5
  isplitl [Hx6]
  · iexists (Y 4); isplitr; · ipureintro; exact rfl
    iexact Hx6
  isplitl [Hx7]
  · iexists (Y 5); isplitr; · ipureintro; exact rfl
    iexact Hx7
  isplitl [Hx8]
  · iexists (Y 6); isplitr; · ipureintro; exact rfl
    iexact Hx8
  isplitl [Hx9]
  · iexists (Y 7); isplitr; · ipureintro; exact rfl
    iexact Hx9
  isplitl [Hx10]
  · iexists (Y 8); isplitr; · ipureintro; exact rfl
    iexact Hx10
  isplitl [Hx11]
  · iexists (Y 9); isplitr; · ipureintro; exact rfl
    iexact Hx11
  isplitl [Hx12]
  · iexists (Y 10); isplitr; · ipureintro; exact rfl
    iexact Hx12
  isplitl [Ho13]
  · iexists ((stepSt t (insOf Y xa xb) (stOf s Y)).o13); isplitr; · ipureintro; exact hk.2.1
    iexact Ho13
  isplitl [Ho14]
  · iexists ((stepSt t (insOf Y xa xb) (stOf s Y)).o14); isplitr; · ipureintro; exact hk.2.2.1
    iexact Ho14
  isplitl [Ho15]
  · iexists ((stepSt t (insOf Y xa xb) (stOf s Y)).o15); isplitr; · ipureintro; exact hk.2.2.2.1
    iexact Ho15
  isplitl [Ho16]
  · iexists ((stepSt t (insOf Y xa xb) (stOf s Y)).o16); isplitr; · ipureintro; exact hk.2.2.2.2.1
    iexact Ho16
  isplitl [Ho17]
  · iexists ((stepSt t (insOf Y xa xb) (stOf s Y)).o17); isplitr; · ipureintro; exact hk.2.2.2.2.2.1
    iexact Ho17
  iexists ((stepSt t (insOf Y xa xb) (stOf s Y)).o18); isplitr; · ipureintro; exact hk.2.2.2.2.2.2
  iexact Ho18

end Cert.KernelIdeal.Gen

end
-- ==== Proof.RunI.lean ====
/-
  The launch: what the region is entered with is the memory before the first point, what it is left with is the memory after
  the last, and from the body's obligation the run of the whole program.
-/
module

public import proofs.«01_k».proof.Proof.BodyI

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat UD Cfg Window cellOf)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The kernel's own semaphores: the three of the ring. -/
abbrev osem0 : Fin 3 → SemLoc sig := fun j => .dma (xsem j)
theorem ownSemFacts0 : Pipeline.OwnSemFacts spec0 osem0 := by decide
theorem ownSems00_eq (c : Dev nD) :
    (Pipeline.ownSems0 (Ix := Unit) (Name := ℕ) (U := UD sig nD τ) (Lvl := ℕ) (Val := Elt F) (τ := τ) osem0 c : sProp 𝕄)
      = iprop(semVal ((c : Thread nD τ), .dma (xsem 0)) 0 ∗ semVal ((c : Thread nD τ), .dma (xsem 1)) 0 ∗ semVal ((c : Thread nD τ), .dma (xsem 2)) 0) := by
  rw [Pipeline.ownSems0_eq_of_list c osem0 [0, 1, 2] (by decide) (by decide)]; rfl

/-- The array the kernel copies from, left in HBM. -/
def H0 : Finset (Ref sig .tc) := {main_v16}
theorem H0_sub : H0 ⊆ Pipeline.restRefs sig spec0 := by decide
theorem hbmPts0_eq (c : Dev nD) :
    (bigSep H0 (fun b => ((c : Thread nD τ).loc b) ↦{fullShare} V m c b) : sProp 𝕄) = HA c (xArr m c) fullShare := by
  rw [BI.bigSep_eq_bigSepL_of_eq [main_v16] (by decide) (by decide)]; rfl

/-- Different slots share no element. -/
theorem sSet_disjoint (j j' : Fin 3) (h : j ≠ j') :
    Disjoint (Rect.unit (s := S3x512x8192) ![j.val, 0, 0] S1x512x8192.size (sOff_inb j)).set (Rect.unit (s := S3x512x8192) ![j'.val, 0, 0] S1x512x8192.size (sOff_inb j')).set :=
  Idealize.ShloMosaic.Ring.lead_disjoint (s := S3x512x8192) (NB := 3) (0 : Fin 3) 1 (fun j : Fin 3 => ![j.val, 0, 0]) S1x512x8192.size sOff_inb (by decide) (by decide) j j' h

/-- The slots cover the buffer. -/
theorem sSet_cover : Finset.univ.biUnion (fun j : Fin 3 => (Rect.unit (s := S3x512x8192) ![j.val, 0, 0] S1x512x8192.size (sOff_inb j)).set) = Finset.univ :=
  Idealize.ShloMosaic.Ring.lead_cover (s := S3x512x8192) (NB := 3) (0 : Fin 3) 1 (fun j : Fin 3 => ![j.val, 0, 0]) S1x512x8192.size sOff_inb (by decide) (by decide) (by decide) (by decide) (by decide)

/-- Slot `j` held at the buffer's contents `f`. -/
def SP (c : Dev nD) (j : Fin 3) (f : Buf (Elt F) ((c : Thread nD τ).loc cc0_scratch0)) : sProp 𝕄 :=
  ((sAcc ![j.val, 0, 0] (sOff_inb j)).loc (c : Thread nD τ) ↦[(sAcc ![j.val, 0, 0] (sOff_inb j)).set]{fullShare} f)
theorem SP_eq (c : Dev nD) (j : Fin 3) (f : Buf (Elt F) ((c : Thread nD τ).loc cc0_scratch0)) :
    SP c j f = (((c : Thread nD τ).loc cc0_scratch0) ↦[(Rect.unit (s := S3x512x8192) ![j.val, 0, 0] S1x512x8192.size (sOff_inb j)).set]{fullShare} f : sProp 𝕄) := by
  unfold SP
  rw [show (sAcc ![j.val, 0, 0] (sOff_inb j)).set = (Rect.unit (s := S3x512x8192) ![j.val, 0, 0] S1x512x8192.size (sOff_inb j)).set from View.set_slice_whole _ _]

/-- A slot at some contents of the buffer is the slot at some contents. -/
theorem Any_of_SP (c : Dev nD) (n : ℕ) (j : Fin 3) (e : sl3 n = j) : iprop(∃ f, SP (F := F) c j f) ⊢ Any (F := F) c n := by
  subst e; unfold SP Any Slot XS
  iintro ⟨%f, H⟩
  iexists _; iexists f; isplitr; · ipureintro; rfl
  iexact H
theorem SP_of_Any (c : Dev nD) (n : ℕ) (j : Fin 3) (e : sl3 n = j) : Any (F := F) c n ⊢ iprop(∃ f, SP (F := F) c j f) := by
  subst e; unfold SP Any Slot XS
  iintro ⟨%y, %f, -, H⟩
  iexists f; iexact H

/-- The ring buffer whole is its three slots. -/
theorem slots_split (c : Dev nD) :
    iprop(∃ f : Buf (Elt F) ((c : Thread nD τ).loc cc0_scratch0), ((c : Thread nD τ).loc cc0_scratch0) ↦{fullShare} f)
      ⊢ (iprop(Any (F := F) c 0 ∗ Any (F := F) c 1 ∗ Any (F := F) c 2) : sProp 𝕄) := by
  refine (Idealize.ShloMosaic.Ring.slots3_split (ℓ := (c : Thread nD τ).loc cc0_scratch0) (q := fullShare) (fun j : Fin 3 => (Rect.unit (s := S3x512x8192) ![j.val, 0, 0] S1x512x8192.size (sOff_inb j)).set) sSet_disjoint sSet_cover
    (fun f => SP c 0 f) (fun f => SP c 1 f) (fun f => SP c 2 f) (fun f => SP_eq c 0 f) (fun f => SP_eq c 1 f) (fun f => SP_eq c 2 f)).trans ?_
  iintro ⟨H0, H1, H2⟩
  isplitl [H0]; · iapply (Any_of_SP c 0 0 rfl); iexact H0
  isplitl [H1]; · iapply (Any_of_SP c 1 1 rfl); iexact H1
  iapply (Any_of_SP c 2 2 rfl); iexact H2
/-- Its three slots are the ring buffer whole. -/
theorem slots_join (c : Dev nD) :
    (iprop(Any (F := F) c 0 ∗ Any (F := F) c 1 ∗ Any (F := F) c 2) : sProp 𝕄)
      ⊢ iprop(∃ f : Buf (Elt F) ((c : Thread nD τ).loc cc0_scratch0), ((c : Thread nD τ).loc cc0_scratch0) ↦{fullShare} f) := by
  refine BIBase.Entails.trans ?_ (Idealize.ShloMosaic.Ring.slots3_join (ℓ := (c : Thread nD τ).loc cc0_scratch0) (q := fullShare) (fun j : Fin 3 => (Rect.unit (s := S3x512x8192) ![j.val, 0, 0] S1x512x8192.size (sOff_inb j)).set) sSet_disjoint sSet_cover
    (fun f => SP c 0 f) (fun f => SP c 1 f) (fun f => SP c 2 f) (fun f => SP_eq c 0 f) (fun f => SP_eq c 1 f) (fun f => SP_eq c 2 f))
  iintro ⟨H0, H1, H2⟩
  isplitl [H0]; · iapply (SP_of_Any c 0 0 rfl); iexact H0
  isplitl [H1]; · iapply (SP_of_Any c 1 1 rfl); iexact H1
  iapply (SP_of_Any c 2 2 rfl); iexact H2

/-- An index. -/
def z0 : S32x8x512.Idx := fun a => ⟨0, by revert a; decide⟩

/-- What the region is entered with is the memory before the first point. -/
theorem Phi_in (Inv : (c : Dev nD) → ℕ → St F → Prop) (h0 : ∀ c s, Inv c 0 s) (c : Dev nD) :
    (Pipeline.ΦD osem0 spec0 H0 (V m) c : sProp 𝕄) ⊢ PhiT m Inv c 0 := by
  rw [Pipeline.ΦD_eq, scopedRest0_eq, ownSems00_eq, hbmPts0_eq]
  unfold PhiT ScO
  rw [Ring_zero]; unfold Idle
  simp only [owns_whole]
  iintro ⟨⟨H0, ⟨%q, Hq⟩, ⟨%g, Hg⟩, ⟨%en, Hen⟩, ⟨%ec, Hec⟩, ⟨%la, Hla⟩, ⟨%dca, Hdca⟩, ⟨%dra, Hdra⟩, ⟨%dsa, Hdsa⟩⟩, Hp, ⟨Hs0, Hs1, Hs2⟩, HX⟩
  ihave HS := (slots_split c) $$ H0
  icases HS with ⟨HS0, HS1, HS2⟩
  iexists (⟨q, g, en, ec, la, dca, dra, dsa, fun _ => la z0, fun _ => la z0, fun _ => la z0, fun _ => la z0, fun _ => la z0, fun _ => (0 : BitVec 8)⟩ : St F)
  isplitr; · ipureintro; exact h0 c _
  isplitl [Hq Hg Hen Hec Hla Hdca Hdra Hdsa]
  · isplitl [Hq]; · iexact Hq
    isplitl [Hg]; · iexact Hg
    isplitl [Hen]; · iexact Hen
    isplitl [Hec]; · iexact Hec
    isplitl [Hla]; · iexact Hla
    isplitl [Hdca]; · iexact Hdca
    isplitl [Hdra]; · iexact Hdra
    iexact Hdsa
  isplitr [Hp]
  · isplitl [HX]; · iexact HX
    isplitl [HS0]; · iexact HS0
    isplitl [HS1]; · iexact HS1
    isplitl [HS2]; · iexact HS2
    isplitl [Hs0]; · iexact Hs0
    isplitl [Hs1]; · iexact Hs1
    iexact Hs2
  iexact Hp

/-- The memory after the last point is what the region is left with. -/
theorem Phi_out (Inv : (c : Dev nD) → ℕ → St F → Prop) (c : Dev nD) :
    PhiT m Inv c 1089 ⊢ (Pipeline.ΦD osem0 spec0 H0 (V m) c : sProp 𝕄) := by
  rw [Pipeline.ΦD_eq, scopedRest0_eq, ownSems00_eq, hbmPts0_eq]
  unfold PhiT ScO
  rw [Ring_end _ _ (by decide)]; unfold Idle
  simp only [owns_whole]
  iintro ⟨%s, -, ⟨Hq, Hg, Hen, Hec, Hla, Hdca, Hdra, Hdsa⟩, ⟨HX, HS0, HS1, HS2, Hs0, Hs1, Hs2⟩, Hp⟩
  isplitl [HS0 HS1 HS2 Hq Hg Hen Hec Hla Hdca Hdra Hdsa]
  · isplitl [HS0 HS1 HS2]
    · iapply (slots_join c)
      isplitl [HS0]; · iexact HS0
      isplitl [HS1]; · iexact HS1
      iexact HS2
    isplitl [Hq]; · iexists s.q; iexact Hq
    isplitl [Hg]; · iexists s.g; iexact Hg
    isplitl [Hen]; · iexists s.en; iexact Hen
    isplitl [Hec]; · iexists s.ec; iexact Hec
    isplitl [Hla]; · iexists s.la; iexact Hla
    isplitl [Hdca]; · iexists s.dca; iexact Hdca
    isplitl [Hdra]; · iexists s.dra; iexact Hdra
    iexists s.dsa; iexact Hdsa
  isplitl [Hp]; · iexact Hp
  isplitl [Hs0 Hs1 Hs2]
  · isplitl [Hs0]; · iexact Hs0
    isplitl [Hs1]; · iexact Hs1
    iexact Hs2
  iexact HX

set_option maxHeartbeats 800000 in
/-- @main up to the region, stated at the algebra the transfers run in. -/
theorem hmainD (𝒱₀ : Variants) : Pipeline.HMain (Ix := Unit) (Name := ℕ) (U := UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

set_option backward.isDefEq.respectTransparency.types false in
/-- The run: from any memory with zero counters the program terminates without fault; every array of a window ends at contents
    the output conditions allow, every other array as the call found it, every counter at zero. -/
theorem run_main (Inv : (c : Dev nD) → ℕ → St F → Prop) (A : Dev nD → Outs F) (h0 : ∀ c s, Inv c 0 s) (hK : ∀ c, Keeps m Inv A c) :
    θ_run defs (onTc (τ := τ) (main (F := F))) (s₀ m ρ)
      (fun r => RDat.FramePost (cfgs 0) (rd m Inv A) (V m) r ∧ r.2.sem = fun _ => 0) :=
  Pipeline.RDat.θ_run_frame_dma_shared (Q' := _) cfgs (0 : Fin 1) launch₀0 osem0 defs₀ Variants.none (rd m Inv A) ownSemFacts0 H0 H0_sub m ρ main
    (hbody := fun c => body_ob m Inv A c (hK c)) (hq := fun _ _ _ => rfl)
    (howed := fun _ _ => rfl) (V := V m) (hmain := hmainD m Variants.none) (hA := fun _ _ => rfl)
    (hin := fun c => Phi_in m Inv h0 c) (hout := fun c => Phi_out m Inv c) (hQ' := fun _ h => h)

/-- The argument arrays end as launched. -/
theorem args_kept (Inv : (c : Dev nD) → ℕ → St F → Prop) (A : Dev nD → Outs F) (r : PUnit × MemSt nD τ sig (Elt F))
    (h : RDat.FramePost (cfgs 0) (rd m Inv A) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have e4 := (h c).1 4
  have e5 := (h c).1 5
  rw [RDat.ArrAt_in _ 4 rfl] at e4
  rw [RDat.ArrAt_in _ 5 rfl] at e5
  exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      e4.trans (V_main_arg2 m c),
      ((h c).2 main_arg3 (Pipeline.mem_restRefs_of main_arg3 (by decide) (by decide))).trans (V_main_arg3 m c),
      e5.trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

/-- The frame: the program terminates without fault, its argument arrays end as launched, every counter at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_kept m _ _ r h.1 c, h.2⟩)
    (run_main m ρ (fun _ _ _ => True) (fun _ => ⟨fun _ _ => True, fun _ _ => True, fun _ _ => True, fun _ _ => True, fun _ _ => True, fun _ _ => True⟩)
      (fun _ _ => trivial) (fun _ _ _ _ _ _ _ _ _ => ⟨trivial, trivial, trivial, trivial, trivial, trivial, trivial⟩))

end Cert.KernelIdeal.Gen

end
-- ==== Proof.Spec.lean ====
/-
  What the step computes, in plain formulas over the extended reals, for arrays given as functions of their indices: the
  quantiser, the forward product, the scaled error, the weight gradient, the gradient of `s2`.
-/
module

public import proofs.«01_k».proof.Proof.StepI
public import Idealize.ShloMosaic.Lib.Pointwise

@[expose] public section

set_option maxRecDepth 16384

noncomputable section

namespace Cert.Flex

open Idealize.ShloMosaic

/-- The scaled weight. -/
def zF (w s c r s1 : EReal) : EReal := Ideal.div w (s1 * Ideal.exp (s + r + c))
/-- Its code: rounded half to even and clipped to the signed four-bit range. -/
def qF (z : EReal) : EReal :=
  min (((7#32).toInt : ℝ) : EReal) (max (((4294967288#32).toInt : ℝ) : EReal) (Ideal.liftRound Ideal.roundHalfEven z))
/-- Whether the code is inside the range. -/
def mF (z : EReal) : BitVec 1 :=
  IntOp.andi (BitVec.ofBool (decide (Ideal.ofBits FTy.f32 3238526976#32 ≤ z))) (BitVec.ofBool (decide (z < Ideal.ofBits FTy.f32 1089470464#32)))
/-- The residual. -/
def resF (acc xs s1 y : EReal) : EReal := acc * xs * s1 - y
/-- The error that the weight gradient takes. -/
def eF (res xs : EReal) : EReal := res * xs * Ideal.ofBits FTy.f32 838860800#32
/-- An element of the gradient of `s2`. -/
def dF (s1 z g : EReal) : EReal := Scalar.select (mF z) ((0 - s1) * z * g) 0

/-- The arrays of the step. -/
structure Arrs where
  w : ℕ → ℕ → EReal
  s2 : ℕ → ℕ → EReal
  s1 : ℕ → EReal
  r : ℕ → EReal
  c : ℕ → EReal
  xs : ℕ → EReal
  y : ℕ → ℕ → EReal
  x : ℕ → ℕ → EReal

namespace Arrs
variable (A : Arrs)

def Z (o i : ℕ) : EReal := zF (A.w o i) (A.s2 o i) (A.c i) (A.r o) (A.s1 o)
def Q (o i : ℕ) : EReal := qF (A.Z o i)
/-- The forward product. -/
def Acc (n o : ℕ) : EReal := ∑ k : Fin 8192, A.Q o k * A.x n k
def Res (n o : ℕ) : EReal := resF (A.Acc n o) (A.xs n) (A.s1 o) (A.y n o)
def E (n o : ℕ) : EReal := eF (A.Res n o) (A.xs n)
/-- What one block of 512 tokens adds to the weight gradient of one row tile. -/
def con (τ b o i : ℕ) : EReal := ∑ k : Fin 512, A.E (512 * b + k) (512 * τ + o) * A.x (512 * b + k) i
/-- The weight gradient over the first `n` blocks. -/
def Gp (τ n o i : ℕ) : EReal := ∑ b ∈ Finset.range n, A.con τ b o i
def G (o i : ℕ) : EReal := A.Gp (o / 512) 32 (o % 512) i
def D (o i : ℕ) : EReal := dF (A.s1 o) (A.Z o i) (A.G o i)
end Arrs

end Cert.Flex
end
-- ==== Proof.Pay.lean ====
/-
  The values that the body of a grid point computes, over the extended reals, read at one element.
-/
module

public import proofs.«01_k».proof.Proof.Spec

@[expose] public section

set_option maxRecDepth 16384

noncomputable section

namespace Cert.KernelIdeal.Gen

open Idealize.ShloMosaic Idealize.ShloMosaic.TcCoe Cert.Flex

/-- The column of the row tables that a tile's number picks. -/
theorem colsel : ∀ T : Fin 32, (Scalar.select (IntOp.cmpi CmpIPredicate.slt (BitVec.ofNat 32 T.val) 0#32) (IntOp.addi (BitVec.ofNat 32 T.val) 128#32) (BitVec.ofNat 32 T.val)).toNat % 128 = T.val := by decide

/-- The column `T` of a table of 128 columns. -/
abbrev col (x : Vec Ideal S512x128 .f32) (T : Fin 32) (r : Fin 512) : EReal := x (ix2 r ⟨T.val, by omega⟩)

theorem pay16_apply (T : Fin 32) (x : Vec Ideal S512x128 .f32) (r : Fin 512) (l : Fin 128) :
    k0_pay16 (F := Ideal) (BitVec.ofNat 32 T.val) x (ix2 r l) = col x T r := by
  pointwise [k0_pay16]
  exact congrArg (fun k => x (ix2 r k)) (Fin.ext (colsel T))
theorem pay34_apply (T : Fin 32) (x : Vec Ideal S512x128 .f32) (r : Fin 512) (l : Fin 128) :
    k0_pay34 (F := Ideal) (BitVec.ofNat 32 T.val) x (ix2 r l) = col x T r := by
  pointwise [k0_pay34]
  exact congrArg (fun k => x (ix2 r k)) (Fin.ext (colsel T))
theorem pay35_apply (T : Fin 32) (x : Vec Ideal S512x128 .f32) (r : Fin 512) (l : Fin 128) :
    k0_pay35 (F := Ideal) (BitVec.ofNat 32 T.val) x (ix2 r l) = col x T r := by
  pointwise [k0_pay35]
  exact congrArg (fun k => x (ix2 r k)) (Fin.ext (colsel T))
theorem pay41_apply (T : Fin 32) (x : Vec Ideal S512x128 .f32) (r : Fin 512) (l : Fin 128) :
    k0_pay41 (F := Ideal) (BitVec.ofNat 32 T.val) x (ix2 r l) = col x T r := by
  pointwise [k0_pay41]
  exact congrArg (fun k => x (ix2 r k)) (Fin.ext (colsel T))
theorem pay42_apply (T : Fin 32) (x : Vec Ideal S512x128 .f32) (r : Fin 512) (l : Fin 128) :
    k0_pay42 (F := Ideal) (BitVec.ofNat 32 T.val) x (ix2 r l) = col x T r := by
  pointwise [k0_pay42]
  exact congrArg (fun k => x (ix2 r k)) (Fin.ext (colsel T))
theorem pay65_apply (T : Fin 32) (x : Vec Ideal S512x128 .f32) (r : Fin 512) (l : Fin 128) :
    k0_pay65 (F := Ideal) (BitVec.ofNat 32 T.val) x (ix2 r l) = col x T r := by
  pointwise [k0_pay65]
  exact congrArg (fun k => x (ix2 r k)) (Fin.ext (colsel T))
theorem pay66_apply (T : Fin 32) (x : Vec Ideal S512x128 .f32) (r : Fin 512) (l : Fin 128) :
    k0_pay66 (F := Ideal) (BitVec.ofNat 32 T.val) x (ix2 r l) = col x T r := by
  pointwise [k0_pay66]
  exact congrArg (fun k => x (ix2 r k)) (Fin.ext (colsel T))
/-- The same for the column that the first section reads in two parts. -/
theorem pay15_apply (t : BitVec 32) (T : Fin 32) (h : k0_pay12 t = broadcast S512x128 (BitVec.ofNat 32 T.val)) (x : Vec Ideal S512x128 .f32) (r : Fin 512) (l : Fin 128) :
    k0_pay15 (F := Ideal) (k0_pay12 t) (k0_pay13 x) (k0_pay14 t) (ix2 r l) = col x T r := by
  have h' : k0_pay14 t = cmpi .slt (k0_pay12 t) (broadcast S512x128 0#32) := rfl
  rw [h', h]
  pointwise [k0_pay15, k0_pay13]
  exact congrArg (fun k => x (ix2 r k)) (Fin.ext (colsel T))

/-- The code of an element of the block of columns that section 5 quantises. -/
theorem pay38_apply (a b : Vec Ideal S512x128 .f32) (w0 s0 w1 s1 : Vec Ideal S512x128 .f32) (c0 : FVec Ideal S1x128 .f32) (c1 : Vec Ideal S1x1x128 .f32) (r : Fin 512) (l : Fin 256) :
    k0_pay38 (F := Ideal) a b w0 s0 c0 w1 s1 c1 (ix3 0 r l) = if h : l.val < 128 then
        qF (zF (w0 (ix2 r ⟨l, h⟩)) (s0 (ix2 r ⟨l, h⟩)) (c0 (ix2 0 ⟨l, h⟩)) (a (ix2 r ⟨l, h⟩)) (b (ix2 r ⟨l, h⟩)))
      else qF (zF (w1 (ix2 r ⟨l - 128, by omega⟩)) (s1 (ix2 r ⟨l - 128, by omega⟩)) (c1 (ix3 0 0 ⟨l - 128, by omega⟩)) (a (ix2 r ⟨l - 128, by omega⟩)) (b (ix2 r ⟨l - 128, by omega⟩))) := by
  pointwise [k0_pay38, k0_pay37]
  rfl
/-- The same for the first section. -/
theorem pay21_apply (b v104 w1 : Vec Ideal S512x128 .f32) (c1 : FVec Ideal S1x128 .f32) (e : FVec Ideal S512x128 .f32) (r : Fin 512) (l : Fin 256) :
    k0_pay21 (F := Ideal) b v104 w1 c1 e (ix3 0 r l) = if h : l.val < 128 then v104 (ix2 r ⟨l, h⟩)
      else qF (Ideal.div (w1 (ix2 r ⟨l - 128, by omega⟩)) (b (ix2 r ⟨l - 128, by omega⟩) * Ideal.exp (e (ix2 r ⟨l - 128, by omega⟩) + c1 (ix2 0 ⟨l - 128, by omega⟩)))) := by
  pointwise [k0_pay21, k0_pay20]
  rfl
theorem pay17_apply (v47 : BitVec 32) (v66 : IVec S512x128 32) (v68 : FVec Ideal S512x128 .f32) (v70 : IVec S512x128 1) (v78 w0 s0 : Vec Ideal S512x128 .f32) (c0 : Vec Ideal S1x1x128 .f32) (r : Fin 512) (l : Fin 128) :
    k0_pay17 (F := Ideal) v47 v66 v68 v70 v78 w0 s0 c0 (ix2 r l)
      = qF (zF (w0 (ix2 r l)) (s0 (ix2 r l)) (c0 (ix3 0 0 l)) (k0_pay15 v66 v68 v70 (ix2 r l)) (k0_pay16 v47 v78 (ix2 r l))) := by
  pointwise [k0_pay17]
  rfl
theorem pay19_apply (v66 : IVec S512x128 32) (v68 : FVec Ideal S512x128 .f32) (v70 : IVec S512x128 1) (s : Vec Ideal S512x128 .f32) (j : S512x128.Idx) :
    k0_pay19 (F := Ideal) v66 v68 v70 s j = s j + k0_pay15 v66 v68 v70 j := rfl
theorem pay18_apply (x : Vec Ideal S1x1x128 .f32) (l : Fin 128) : k0_pay18 (F := Ideal) x (ix2 0 l) = x (ix3 0 0 l) := by
  pointwise [k0_pay18]
theorem pay36_apply (x : Vec Ideal S1x1x128 .f32) (l : Fin 128) : k0_pay36 (F := Ideal) x (ix2 0 l) = x (ix3 0 0 l) := by
  pointwise [k0_pay36]

theorem pay29_apply (m : FVec Ideal S512x512 .f32) (T : Fin 32) (x : Vec Ideal S512x128 .f32) (xs : Vec Ideal S1x1x512 .f32) (y : Vec Ideal S512x512 .bf16) (r : Fin 512) (l : Fin 512) :
    k0_pay29 (F := Ideal) m (k0_pay27 (BitVec.ofNat 32 T.val)) x xs y (ix2 r l) = resF (m (ix2 r l)) (xs (ix3 0 0 l)) (col x T r) (y (ix2 l r)) := by
  pointwise [k0_pay29, k0_pay27, k0_pay28]
  have e : x (ix2 r ⟨(Scalar.select (IntOp.cmpi CmpIPredicate.slt (BitVec.ofNat 32 T.val) 0#32) (IntOp.addi (BitVec.ofNat 32 T.val) 128#32) (BitVec.ofNat 32 T.val)).toNat % 128, Nat.mod_lt _ (by decide)⟩) = col x T r :=
    congrArg (fun k => x (ix2 r k)) (Fin.ext (colsel T))
  unfold resF
  split_ifs <;> rw [e]
theorem pay31_apply (m : FVec Ideal S512x512 .f32) (v : IVec S512x128 32) (x : Vec Ideal S512x128 .f32) (xs : Vec Ideal S1x1x512 .f32) (y : Vec Ideal S512x512 .bf16) (r : Fin 512) (l : Fin 512) :
    k0_pay32 (F := Ideal) (k0_pay31 (F := Ideal) m v x xs y) (ix2 r l) = eF (k0_pay29 m v x xs y (ix2 r l)) (xs (ix3 0 0 l)) := by
  pointwise [k0_pay31, k0_pay32, k0_pay28]
  rfl

theorem pay26_apply (a b : Vec Ideal S1x512x8192 .fp8e4m3) (r : Fin 512) (l : Fin 512) :
    k0_pay26 (F := Ideal) a b (ix2 r l) = ∑ k : Fin 8192, a (ix3 0 r k) * b (ix3 0 l k) := by
  pointwise [k0_pay26]

theorem pay33_apply (a : Vec Ideal S1x512x8192 .f32) (e : Vec Ideal S512x512 .bf16) (b : Vec Ideal S1x512x8192 .fp8e4m3) (r : Fin 512) (l : Fin 8192) :
    k0_pay33 (F := Ideal) a e b (ix3 0 r l) = a (ix3 0 r l) + ∑ k : Fin 512, e (ix2 r k) * b (ix3 0 k l) := by
  pointwise [k0_pay33]

/-- An element of the gradient of `s2`: the left half of a block of columns in section 5, the right half, and both in section 6. -/
theorem pay50_apply (a b : Vec Ideal S512x128 .f32) (w0 s0 : Vec Ideal S512x128 .f32) (g : Vec Ideal S1x512x256 .f32) (c1 : Vec Ideal S1x1x128 .f32) (r : Fin 512) (l : Fin 128) :
    k0_pay50 (F := Ideal) a b (k0_pay43 g) w0 s0 c1 (ix2 r l)
      = dF (b (ix2 r l)) (zF (w0 (ix2 r l)) (s0 (ix2 r l)) (c1 (ix3 0 0 l)) (a (ix2 r l)) (b (ix2 r l))) (g (ix3 0 r ⟨l, by omega⟩)) := by
  pointwise [k0_pay50, k0_pay49, k0_pay48, k0_pay47, k0_pay43]
  rfl
theorem pay59_apply (a b : Vec Ideal S512x128 .f32) (w0 s0 : Vec Ideal S512x128 .f32) (g : Vec Ideal S1x512x256 .f32) (c1 : Vec Ideal S1x1x128 .f32) (r : Fin 512) (l : Fin 128) :
    k0_pay59 (F := Ideal) b (k0_pay55 (k0_pay43 g)) (k0_pay56 a b w0 s0 c1) (k0_pay57 a b w0 s0 c1) (ix2 r l)
      = dF (b (ix2 r l)) (zF (w0 (ix2 r l)) (s0 (ix2 r l)) (c1 (ix3 0 0 l)) (a (ix2 r l)) (b (ix2 r l))) (g (ix3 0 r ⟨128 + l, by omega⟩)) := by
  pointwise [k0_pay59, k0_pay58, k0_pay57, k0_pay56, k0_pay55, k0_pay43]
  rfl
theorem pay73_apply (a b : Vec Ideal S512x128 .f32) (w0 s0 : Vec Ideal S512x128 .f32) (g : Vec Ideal S1x512x256 .f32) (c1 : Vec Ideal S1x1x128 .f32) (r : Fin 512) (l : Fin 128) :
    k0_pay73 (F := Ideal) a b (k0_pay67 g) w0 s0 c1 (ix2 r l)
      = dF (b (ix2 r l)) (zF (w0 (ix2 r l)) (s0 (ix2 r l)) (c1 (ix3 0 0 l)) (a (ix2 r l)) (b (ix2 r l))) (g (ix3 0 r ⟨l, by omega⟩)) := by
  pointwise [k0_pay73, k0_pay72, k0_pay71, k0_pay70, k0_pay67]
  rfl
theorem pay80_apply (a b : Vec Ideal S512x128 .f32) (w0 s0 : Vec Ideal S512x128 .f32) (g : Vec Ideal S1x512x256 .f32) (c1 : Vec Ideal S1x1x128 .f32) (r : Fin 512) (l : Fin 128) :
    k0_pay80 (F := Ideal) a b (k0_pay67 g) w0 s0 c1 (ix2 r l)
      = dF (b (ix2 r l)) (zF (w0 (ix2 r l)) (s0 (ix2 r l)) (c1 (ix3 0 0 l)) (a (ix2 r l)) (b (ix2 r l))) (g (ix3 0 r ⟨128 + l, by omega⟩)) := by
  pointwise [k0_pay80, k0_pay79, k0_pay78, k0_pay77, k0_pay67]
  rfl
theorem pay45_apply (j : S1x512x256.Idx) : k0_pay45 (F := Ideal) (k0_pay44 (F := Ideal)) j = 0 := by
  pointwise [k0_pay45, k0_pay44]
theorem pay68_apply (j : S1x512x256.Idx) : k0_pay68 (F := Ideal) j = 0 := by
  pointwise [k0_pay68]
theorem pay23_apply (j : S1x512x256.Idx) : k0_pay23 (F := Ideal) j = 0 := by
  pointwise [k0_pay23]
theorem pay4_apply (j : S1x512x256.Idx) : k0_pay4 (F := Ideal) (k0_pay24 (F := Ideal)) j = 0 := by
  pointwise [k0_pay4, k0_pay24]
theorem pay25_eq (x : Vec Ideal S512x512 .bf16) : k0_pay25 (F := Ideal) x = x := by
  funext j; pointwise [k0_pay25]
theorem pay1_apply (j : S512x512.Idx) : k0_pay1 (F := Ideal) j = 0 := by
  pointwise [k0_pay1]

end Cert.KernelIdeal.Gen
end
-- ==== Proof.Sched.lean ====
/-
  The schedule in closed form: which slots, blocks of columns and tiles a grid point's number selects.
-/
module

public import proofs.«01_k».proof.Proof.StepI
public import proofs.«01_k».proof.Proof.GridI

@[expose] public section

set_option maxRecDepth 16384

noncomputable section

namespace Cert.KernelIdeal.Gen

open Idealize.ShloMosaic Idealize.ShloMosaic.TcCoe Idealize.ShloMosaic.Tactic

theorem off4_eq : ∀ t : Fin grid0.N, t.val < 32 → k0_off4 (grid0.coords t) = ![0, 0, t.val * 256] := by decide +kernel
theorem off5_eq : ∀ t : Fin grid0.N, t.val < 32 → k0_off5 (grid0.coords t) = ![0, 0, t.val * 256] := by decide +kernel
theorem off6_eq : ∀ t : Fin grid0.N, t.val < 32 → k0_off6 (grid0.coords t) = ![1, 0, t.val * 256] := by decide +kernel
theorem off13_eq : ∀ t : Fin grid0.N, 32 ≤ t.val ∧ t.val ≤ 1056 → k0_off13 (grid0.coords t) = ![(t.val / 32 + 1) % 2, 0, 0] := by decide +kernel
theorem off15_eq : ∀ t : Fin grid0.N, 32 ≤ t.val ∧ t.val ≤ 1056 → k0_off15 (grid0.coords t) = ![t.val % 32, 0, 0] := by decide +kernel
theorem off16_eq : ∀ t : Fin grid0.N, 32 ≤ t.val ∧ t.val ≤ 1056 → k0_off16 (grid0.coords t) = ![((t.val - 1) / 32 + 1) % 2, 0, 0] := by decide +kernel
theorem off18_eq : ∀ t : Fin grid0.N, 32 ≤ t.val ∧ t.val ≤ 1056 → k0_off18 (grid0.coords t) = ![t.val / 32 % 2, 0, t.val % 32 * 256] := by decide +kernel
/-- The block of columns the epilogue of a point takes. -/
def ech (t : ℕ) : ℕ := min 1023 (t - 65) % 32
/-- The row tile it takes. -/
def eti (t : ℕ) : ℕ := min 1023 (t - 65) / 32
theorem off19_eq : ∀ t : Fin grid0.N, 32 ≤ t.val ∧ t.val ≤ 1056 → k0_off19 (grid0.coords t) = ![(t.val - 1) / 32 % 2, 0, ech t.val * 256] := by decide +kernel
theorem off22_eq : ∀ t : Fin grid0.N, 1056 < t.val → k0_off22 (grid0.coords t) = ![(t.val - 1) / 32 % 2, 0, ech t.val * 256] := by decide +kernel
theorem b1_v47_eq : ∀ t : Fin grid0.N, t.val < 32 → b1_v47 (tW (grid0.coords t)) = BitVec.ofNat 32 0 := by decide +kernel
theorem b4_v48_eq : ∀ t : Fin grid0.N, 32 ≤ t.val ∧ t.val ≤ 1055 → b4_v48 (tW (grid0.coords t)) = BitVec.ofNat 32 ((t.val - 32) / 32) := by decide +kernel
theorem b10_v295_eq : ∀ t : Fin grid0.N, 32 ≤ t.val ∧ t.val ≤ 1056 → b10_v295 (tW (grid0.coords t)) = BitVec.ofNat 32 (eti t.val) := by decide +kernel
theorem b15_v50_eq : ∀ t : Fin grid0.N, 1056 < t.val → b15_v50 (tW (grid0.coords t)) = BitVec.ofNat 32 (eti t.val) := by decide +kernel
theorem b7_v179_eq : ∀ t : Fin grid0.N, 32 ≤ t.val ∧ t.val ≤ 1056 →
    b7_v179 (tW (grid0.coords t)) (b5_v87 (Scalar.subi (tW (grid0.coords t)) 32#32) (b4_v48 (tW (grid0.coords t))) (b4_v67 (tW (grid0.coords t))) (b4_v68 (tW (grid0.coords t))) 32#32 (b4_v69 (tW (grid0.coords t))))
      (b5_v93 (Scalar.subi (tW (grid0.coords t)) 32#32) (b4_v48 (tW (grid0.coords t))) (b4_v67 (tW (grid0.coords t))) (b4_v68 (tW (grid0.coords t))) 32#32 (b4_v69 (tW (grid0.coords t))))
      = BitVec.ofNat 32 (min (t.val / 32) 31) := by decide +kernel

end Cert.KernelIdeal.Gen
end
-- ==== Proof.StepV.lean ====
/-
  What a grid point leaves in the code tiles, the error tile, the gradient tiles and the block of the gradient of `s2`, element by
  element, when its input blocks are those of the arrays.
-/
module

public import proofs.«01_k».proof.Proof.Pay
public import proofs.«01_k».proof.Proof.Sched

@[expose] public section

set_option maxRecDepth 16384

noncomputable section

namespace Cert.KernelIdeal.Gen

open Idealize.ShloMosaic Idealize.ShloMosaic.TcCoe Cert.Flex

/-- A stored rectangle read inside. -/
theorem ov_in {s : Shape} {α : Type} {off size : Fin s.rank → ℕ} (h) (X : s.Idx → α) (w : (Rect.unit (s := s) off size h).shape.Idx → α) (j : s.Idx)
    (k : (Rect.unit (s := s) off size h).shape.Idx) (e : ∀ a, off a + (k a).val = (j a).val) : (Rect.unit (s := s) off size h).overlay X w j = w k := by
  have : (Rect.unit (s := s) off size h).emb k = j := by
    funext a; apply Fin.ext; change off a + 1 * (k a).val = (j a).val; rw [← e]; omega
  rw [← this, Rect.overlay_emb]
/-- and outside. -/
theorem ov_out {s : Shape} {α : Type} {off size : Fin s.rank → ℕ} (h) (X : s.Idx → α) (w : (Rect.unit (s := s) off size h).shape.Idx → α) (j : s.Idx)
    (a : Fin s.rank) (e : (j a).val < off a ∨ off a + size a ≤ (j a).val) : (Rect.unit (s := s) off size h).overlay X w j = X j := by
  apply Rect.overlay_of_not_mem
  intro hm
  have := (Rect.mem_set_unit (inb := h)).mp hm a
  omega
/-- A load read at an element. -/
theorem rd_at {s : Shape} {α : Type} {off size : Fin s.rank → ℕ} (h) (X : s.Idx → α) (j : s.Idx)
    (k : (Rect.unit (s := s) off size h).shape.Idx) (e : ∀ a, off a + (k a).val = (j a).val) : rdR (Rect.unit (s := s) off size h) X k = X j := by
  have : (Rect.unit (s := s) off size h).emb k = j := by
    funext a; apply Fin.ext; change off a + 1 * (k a).val = (j a).val; rw [← e]; omega
  exact congrArg X this

theorem all3 {p : Fin 3 → Prop} (h0 : p 0) (h1 : p 1) (h2 : p 2) : ∀ a, p a := by
  intro a; fin_cases a <;> assumption
theorem all2 {p : Fin 2 → Prop} (h0 : p 0) (h1 : p 1) : ∀ a, p a := by
  intro a; fin_cases a <;> assumption

/-- A block of 256 columns stored in a slot of two, read. -/
theorem ov256 {α : Type} {off : Fin 3 → ℕ} {a0 c0 : ℕ} (e : off = ![a0, 0, c0]) (h) (X : S2x512x8192.Idx → α) (w : S1x512x256.Idx → α) (a : Fin 2) (o : Fin 512) (i : Fin 8192) :
    (a.val = a0 → ∀ hi : c0 ≤ i.val ∧ i.val < c0 + 256, (Rect.unit (s := S2x512x8192) off S1x512x256.size h).overlay X w (ix3 a o i) = w (ix3 0 o ⟨i.val - c0, by omega⟩))
    ∧ (¬ (a.val = a0 ∧ c0 ≤ i.val ∧ i.val < c0 + 256) → (Rect.unit (s := S2x512x8192) off S1x512x256.size h).overlay X w (ix3 a o i) = X (ix3 a o i)) := by
  subst e
  constructor
  · intro ha hi
    refine ov_in h X w (ix3 a o i) (ix3 0 o ⟨i.val - c0, by omega⟩) (all3 ?_ ?_ ?_)
    · show a0 + 0 = a.val; omega
    · show 0 + o.val = o.val; omega
    · show c0 + (i.val - c0) = i.val; omega
  · intro hn
    by_cases ha : a.val = a0
    · refine ov_out h X w (ix3 a o i) 2 ?_
      show i.val < c0 ∨ c0 + 256 ≤ i.val
      omega
    · refine ov_out h X w (ix3 a o i) 0 ?_
      show a.val < a0 ∨ a0 + 1 ≤ a.val
      omega
/-- A whole slot stored, read. -/
theorem ovAll {α : Type} {off : Fin 3 → ℕ} {a0 : ℕ} (e : off = ![a0, 0, 0]) (h) (X : S2x512x8192.Idx → α) (w : S1x512x8192.Idx → α) (a : Fin 2) (o : Fin 512) (i : Fin 8192) :
    (a.val = a0 → (Rect.unit (s := S2x512x8192) off S1x512x8192.size h).overlay X w (ix3 a o i) = w (ix3 0 o i))
    ∧ (¬ a.val = a0 → (Rect.unit (s := S2x512x8192) off S1x512x8192.size h).overlay X w (ix3 a o i) = X (ix3 a o i)) := by
  subst e
  constructor
  · intro ha
    refine ov_in h X w (ix3 a o i) (ix3 0 o i) (all3 ?_ ?_ ?_)
    · show a0 + 0 = a.val; omega
    · show 0 + o.val = o.val; omega
    · show 0 + i.val = i.val; omega
  · intro hn
    refine ov_out h X w (ix3 a o i) 0 ?_
    show a.val < a0 ∨ a0 + 1 ≤ a.val
    omega
/-- A whole slot loaded. -/
theorem rdAll {α : Type} {off : Fin 3 → ℕ} {a0 : Fin 2} (e : off = ![a0.val, 0, 0]) (h) (X : S2x512x8192.Idx → α) (o : Fin 512) (i : Fin 8192) :
    rdR (Rect.unit (s := S2x512x8192) off S1x512x8192.size h) X (ix3 0 o i) = X (ix3 a0 o i) := by
  subst e
  refine rd_at h X (ix3 a0 o i) (ix3 0 o i) (all3 ?_ ?_ ?_)
  · show a0.val + 0 = a0.val; omega
  · show 0 + o.val = o.val; omega
  · show 0 + i.val = i.val; omega
/-- A block of 256 columns of a slot loaded. -/
theorem rd256 {α : Type} {off : Fin 3 → ℕ} {a0 : Fin 2} {c0 : ℕ} (e : off = ![a0.val, 0, c0]) (h) (X : S2x512x8192.Idx → α) (o : Fin 512) (l : Fin 256) (hl : c0 + l.val < 8192) :
    rdR (Rect.unit (s := S2x512x8192) off S1x512x256.size h) X (ix3 0 o l) = X (ix3 a0 o ⟨c0 + l.val, hl⟩) := by
  subst e
  refine rd_at h X (ix3 a0 o ⟨c0 + l.val, hl⟩) (ix3 0 o l) (all3 ?_ ?_ ?_)
  · show a0.val + 0 = a0.val; omega
  · show 0 + o.val = o.val; omega
  · show c0 + l.val = c0 + l.val; omega
/-- The halves of a block of 256 columns loaded. -/
theorem rdL {α : Type} (h) (X : S512x256.Idx → α) (r : Fin 512) (l : Fin 128) :
    rdR (Rect.unit (s := S512x256) ![0, 0] S512x128.size h) X (ix2 r l) = X (ix2 r ⟨l.val, by omega⟩) := by
  refine rd_at h X (ix2 r ⟨l.val, by omega⟩) (ix2 r l) (all2 ?_ ?_)
  · show 0 + r.val = r.val; omega
  · show 0 + l.val = l.val; omega
theorem rdH {α : Type} (h) (X : S512x256.Idx → α) (r : Fin 512) (l : Fin 128) :
    rdR (Rect.unit (s := S512x256) ![0, 128] S512x128.size h) X (ix2 r l) = X (ix2 r ⟨128 + l.val, by omega⟩) := by
  refine rd_at h X (ix2 r ⟨128 + l.val, by omega⟩) (ix2 r l) (all2 ?_ ?_)
  · show 0 + r.val = r.val; omega
  · show 128 + l.val = 128 + l.val; omega
theorem rdcL {α : Type} (h) (X : S1x1x256.Idx → α) (l : Fin 128) :
    rdR (Rect.unit (s := S1x1x256) ![0, 0, 0] S1x1x128.size h) X (ix3 0 0 l) = X (ix3 0 0 ⟨l.val, by omega⟩) := by
  refine rd_at h X (ix3 0 0 ⟨l.val, by omega⟩) (ix3 0 0 l) (all3 ?_ ?_ ?_)
  · show 0 + 0 = 0; omega
  · show 0 + 0 = 0; omega
  · show 0 + l.val = l.val; omega
theorem rdcH {α : Type} (h) (X : S1x1x256.Idx → α) (l : Fin 128) :
    rdR (Rect.unit (s := S1x1x256) ![0, 0, 128] S1x1x128.size h) X (ix3 0 0 l) = X (ix3 0 0 ⟨128 + l.val, by omega⟩) := by
  refine rd_at h X (ix3 0 0 ⟨128 + l.val, by omega⟩) (ix3 0 0 l) (all3 ?_ ?_ ?_)
  · show 0 + 0 = 0; omega
  · show 0 + 0 = 0; omega
  · show 128 + l.val = 128 + l.val; omega
/-- The halves of a block of 256 columns stored one after the other, read. -/
theorem ovLH {α : Type} (h h') (X : S512x256.Idx → α) (wl wh : S512x128.Idx → α) (r : Fin 512) (l : Fin 256) :
    (Rect.unit (s := S512x256) ![0, 128] S512x128.size h').overlay ((Rect.unit (s := S512x256) ![0, 0] S512x128.size h).overlay X wl) wh (ix2 r l)
      = if hl : l.val < 128 then wl (ix2 r ⟨l, hl⟩) else wh (ix2 r ⟨l - 128, by omega⟩) := by
  split
  · rename_i hl
    rw [ov_out h' _ _ _ 1 (Or.inl (show l.val < 128 from hl))]
    refine ov_in h _ _ _ (ix2 r ⟨l, hl⟩) (all2 ?_ ?_)
    · show 0 + r.val = r.val; omega
    · show 0 + l.val = l.val; omega
  · rename_i hl
    refine ov_in h' _ _ _ (ix2 r ⟨l - 128, by omega⟩) (all2 ?_ ?_)
    · show 0 + r.val = r.val; omega
    · show 128 + (l.val - 128) = l.val; omega

/-- The input blocks of point `t` are those of the arrays. -/
structure InsAt (A : Arrs) (t : ℕ) (I : Ins Ideal) : Prop where
  x3 : ∀ (r : Fin 512) (l : Fin 256), I.x3 (ix2 r l) = A.w (512 * (min t 1023 / 32) + r) (256 * (min t 1023 % 32) + l)
  x4 : ∀ (r : Fin 512) (l : Fin 256), I.x4 (ix2 r l) = A.s2 (512 * (min t 1023 / 32) + r) (256 * (min t 1023 % 32) + l)
  x5 : ∀ l : Fin 256, I.x5 (ix3 0 0 l) = A.c (256 * (min t 1023 % 32) + l)
  x6 : ∀ (r : Fin 512) (l : Fin 256), I.x6 (ix2 r l) = A.w (512 * eti t + r) (256 * ech t + l)
  x7 : ∀ (r : Fin 512) (l : Fin 256), I.x7 (ix2 r l) = A.s2 (512 * eti t + r) (256 * ech t + l)
  x8 : ∀ l : Fin 256, I.x8 (ix3 0 0 l) = A.c (256 * ech t + l)
  x9 : ∀ (T : Fin 32) (r : Fin 512), col I.x9 T r = A.s1 (512 * T + r)
  x10 : ∀ (T : Fin 32) (r : Fin 512), col I.x10 T r = A.r (512 * T + r)
  x2 : 32 ≤ t → t ≤ 1055 → ∀ k : Fin 512, I.x2 (ix3 0 0 k) = A.xs (512 * (t % 32) + k)
  x11 : 32 ≤ t → t ≤ 1055 → ∀ k o : Fin 512, I.x11 (ix2 k o) = A.y (512 * (t % 32) + k) (512 * ((t - 32) / 32) + o)
  xa : 32 ≤ t → t ≤ 1055 → ∀ (k : Fin 512) (i : Fin 8192), I.xa (ix3 0 k i) = A.x (512 * (t % 32) + k) i
  xb : 33 ≤ t → t ≤ 1056 → ∀ (k : Fin 512) (i : Fin 8192), I.xb (ix3 0 k i) = A.x (512 * ((t - 33) % 32) + k) i

theorem f512 (I : S512x128.Idx → Elt Ideal .f32) : rdR (Rect.unit (s := S512x128) ![0, 0] S512x128.size inb_S512x128_S512x128_0_0) I = I :=
  rdR_all (by decide) _ I

variable {A : Arrs} {I : Ins Ideal} (s : St Ideal)

section
variable {i : grid0.Coords} (I : Ins Ideal) (s : St Ideal)
theorem f2_q (h : k0_cond2 i = 1#1) : (f2 i h I s).q = (Rect.unit (s := S2x512x8192) (k0_off4 i) S1x512x256.size (k0_off4_inb i h)).overlay s.q
    (k0_pay21 (k0_pay16 (b1_v47 (tW i)) I.x9)
      (k0_pay17 (b1_v47 (tW i)) (k0_pay12 (tW i)) (k0_pay13 I.x10) (k0_pay14 (tW i))
        I.x9
        (rdR (Rect.unit (s := S512x256) ![0, 0] S512x128.size inb_S512x256_S512x128_0_0) I.x3)
        (rdR (Rect.unit (s := S512x256) ![0, 0] S512x128.size inb_S512x256_S512x128_0_0) I.x4)
        (rdR (Rect.unit (s := S1x1x256) ![0, 0, 0] S1x1x128.size inb_S1x1x256_S1x1x128_0_0_0) I.x5))
      (rdR (Rect.unit (s := S512x256) ![0, 128] S512x128.size inb_S512x256_S512x128_0_128) I.x3)
      (k0_pay18 (rdR (Rect.unit (s := S1x1x256) ![0, 0, 128] S1x1x128.size inb_S1x1x256_S1x1x128_0_0_128) I.x5))
      (k0_pay19 (k0_pay12 (tW i)) (k0_pay13 I.x10) (k0_pay14 (tW i))
        (rdR (Rect.unit (s := S512x256) ![0, 128] S512x128.size inb_S512x256_S512x128_0_128) I.x4))) := by
  have e9 : rdR (Rect.unit (s := S512x128) ![0, 0] S512x128.size inb_S512x128_S512x128_0_0) I.x9 = I.x9 := f512 I.x9
  have e10 : rdR (Rect.unit (s := S512x128) ![0, 0] S512x128.size inb_S512x128_S512x128_0_0) I.x10 = I.x10 := f512 I.x10
  conv_rhs => rw [← e9, ← e10]
  unfold f2; rfl
theorem f2_g (h : k0_cond2 i = 1#1) : (f2 i h I s).g = (Rect.unit (s := S2x512x8192) (k0_off6 i) S1x512x256.size (k0_off6_inb i h)).overlay
    ((Rect.unit (s := S2x512x8192) (k0_off5 i) S1x512x256.size (k0_off5_inb i h)).overlay s.g (k0_pay23 (F := Ideal))) (k0_pay4 (k0_pay24 (F := Ideal))) := by
  unfold f2; rfl
theorem f2_en (h : k0_cond2 i = 1#1) : (f2 i h I s).en = s.en := by unfold f2; rfl
/-- The error tile that section 5 leaves. -/
theorem f5_en (h : k0_cond5 i = 1#1) : (f5 i h I s).en = k0_pay32 (k0_pay31
    (k0_pay26 (rdR (Rect.unit (s := S2x512x8192) (k0_off13 i) S1x512x8192.size (k0_off13_inb i h)) s.q) I.xa) (k0_pay27 (b4_v48 (tW i))) I.x9 I.x2 I.x11) := by
  have e : (f5 i h I s).en = (Rect.unit (s := S512x512) ![0, 0] S512x512.size inb_S512x512_S512x512_0_0).overlay s.en (k0_pay32 (k0_pay31
    (k0_pay26 (rdR (Rect.unit (s := S2x512x8192) (k0_off13 i) S1x512x8192.size (k0_off13_inb i h)) s.q) I.xa) (k0_pay27 (b4_v48 (tW i)))
      (rdR (Rect.unit (s := S512x128) ![0, 0] S512x128.size inb_S512x128_S512x128_0_0) I.x9)
      (rdR (Rect.unit (s := S1x1x512) ![0, 0, 0] S1x1x512.size inb_S1x1x512_S1x1x512_0_0_0) I.x2)
      (rdR (Rect.unit (s := S512x512) ![0, 0] S512x512.size inb_S512x512_S512x512_0_0) I.x11))) := by
    unfold f5; rfl
  rw [e, overlay_all (by decide), rdR_all (by decide), rdR_all (by decide), rdR_all (by decide)]
/-- The gradient tiles after the product of section 5. -/
def g5 (i : grid0.Coords) (h : k0_cond5 i = 1#1) (I : Ins Ideal) (s : St Ideal) : S2x512x8192.Idx → Elt Ideal .f32 :=
  (Rect.unit (s := S2x512x8192) (k0_off16 i) S1x512x8192.size (k0_off16_inb i h)).overlay s.g
    (k0_pay33 (rdR (Rect.unit (s := S2x512x8192) (k0_off16 i) S1x512x8192.size (k0_off16_inb i h)) s.g) s.en I.xb)
theorem f5_g (h : k0_cond5 i = 1#1) : (f5 i h I s).g
    = (Rect.unit (s := S2x512x8192) (k0_off19 i) S1x512x256.size (k0_off19_inb i h)).overlay (g5 i h I s) (k0_pay45 (k0_pay44 (F := Ideal))) := by
  have e : (f5 i h I s).g = (Rect.unit (s := S2x512x8192) (k0_off19 i) S1x512x256.size (k0_off19_inb i h)).overlay
    ((Rect.unit (s := S2x512x8192) (k0_off16 i) S1x512x8192.size (k0_off16_inb i h)).overlay s.g
      (k0_pay33 (rdR (Rect.unit (s := S2x512x8192) (k0_off16 i) S1x512x8192.size (k0_off16_inb i h)) s.g)
        (rdR (Rect.unit (s := S512x512) ![0, 0] S512x512.size inb_S512x512_S512x512_0_0)
          ((Rect.unit (s := S512x512) ![0, 0] S512x512.size inb_S512x512_S512x512_0_0).overlay s.ec
            (k0_pay25 (rdR (Rect.unit (s := S512x512) ![0, 0] S512x512.size inb_S512x512_S512x512_0_0) s.en)))) I.xb)) (k0_pay45 (k0_pay44 (F := Ideal))) := by
    unfold f5; rfl
  rw [e, rdR_all (by decide), overlay_all (by decide), rdR_all (by decide), pay25_eq]; rfl
theorem f5_q (h : k0_cond5 i = 1#1) : (f5 i h I s).q = (Rect.unit (s := S2x512x8192) (k0_off18 i) S1x512x256.size (k0_off18_inb i h)).overlay s.q
    (k0_pay38 (k0_pay34 (b7_v179 (tW i) (b5_v87 (Scalar.subi (tW i) 32#32) (b4_v48 (tW i)) (b4_v67 (tW i)) (b4_v68 (tW i)) 32#32 (b4_v69 (tW i))) (b5_v93 (Scalar.subi (tW i) 32#32) (b4_v48 (tW i)) (b4_v67 (tW i)) (b4_v68 (tW i)) 32#32 (b4_v69 (tW i))))
        I.x10)
      (k0_pay35 (b7_v179 (tW i) (b5_v87 (Scalar.subi (tW i) 32#32) (b4_v48 (tW i)) (b4_v67 (tW i)) (b4_v68 (tW i)) 32#32 (b4_v69 (tW i))) (b5_v93 (Scalar.subi (tW i) 32#32) (b4_v48 (tW i)) (b4_v67 (tW i)) (b4_v68 (tW i)) 32#32 (b4_v69 (tW i))))
        I.x9)
      (rdR (Rect.unit (s := S512x256) ![0, 0] S512x128.size inb_S512x256_S512x128_0_0) I.x3)
      (rdR (Rect.unit (s := S512x256) ![0, 0] S512x128.size inb_S512x256_S512x128_0_0) I.x4)
      (k0_pay36 (rdR (Rect.unit (s := S1x1x256) ![0, 0, 0] S1x1x128.size inb_S1x1x256_S1x1x128_0_0_0) I.x5))
      (rdR (Rect.unit (s := S512x256) ![0, 128] S512x128.size inb_S512x256_S512x128_0_128) I.x3)
      (rdR (Rect.unit (s := S512x256) ![0, 128] S512x128.size inb_S512x256_S512x128_0_128) I.x4)
      (rdR (Rect.unit (s := S1x1x256) ![0, 0, 128] S1x1x128.size inb_S1x1x256_S1x1x128_0_0_128) I.x5)) := by
  have e9 : rdR (Rect.unit (s := S512x128) ![0, 0] S512x128.size inb_S512x128_S512x128_0_0) I.x9 = I.x9 := f512 I.x9
  have e10 : rdR (Rect.unit (s := S512x128) ![0, 0] S512x128.size inb_S512x128_S512x128_0_0) I.x10 = I.x10 := f512 I.x10
  conv_rhs => rw [← e9, ← e10]
  unfold f5; rfl
/-- The block of the gradient of `s2` that sections 5 and 6 leave. -/
theorem f5_o14 (h : k0_cond5 i = 1#1) : (f5 i h I s).o14 = (Rect.unit (s := S512x256) ![0, 128] S512x128.size inb_S512x256_S512x128_0_128).overlay
    ((Rect.unit (s := S512x256) ![0, 0] S512x128.size inb_S512x256_S512x128_0_0).overlay s.o14
      (k0_pay50 (k0_pay41 (b10_v295 (tW i)) I.x10) (k0_pay42 (b10_v295 (tW i)) I.x9)
        (k0_pay43 (rdR (Rect.unit (s := S2x512x8192) (k0_off19 i) S1x512x256.size (k0_off19_inb i h)) (g5 i h I s)))
        (rdR (Rect.unit (s := S512x256) ![0, 0] S512x128.size inb_S512x256_S512x128_0_0) I.x6)
        (rdR (Rect.unit (s := S512x256) ![0, 0] S512x128.size inb_S512x256_S512x128_0_0) I.x7)
        (rdR (Rect.unit (s := S1x1x256) ![0, 0, 0] S1x1x128.size inb_S1x1x256_S1x1x128_0_0_0) I.x8)))
    (k0_pay59 (k0_pay42 (b10_v295 (tW i)) I.x9)
      (k0_pay55 (k0_pay43 (rdR (Rect.unit (s := S2x512x8192) (k0_off19 i) S1x512x256.size (k0_off19_inb i h)) (g5 i h I s))))
      (k0_pay56 (k0_pay41 (b10_v295 (tW i)) I.x10) (k0_pay42 (b10_v295 (tW i)) I.x9) (rdR (Rect.unit (s := S512x256) ![0, 128] S512x128.size inb_S512x256_S512x128_0_128) I.x6)
        (rdR (Rect.unit (s := S512x256) ![0, 128] S512x128.size inb_S512x256_S512x128_0_128) I.x7) (rdR (Rect.unit (s := S1x1x256) ![0, 0, 128] S1x1x128.size inb_S1x1x256_S1x1x128_0_0_128) I.x8))
      (k0_pay57 (k0_pay41 (b10_v295 (tW i)) I.x10) (k0_pay42 (b10_v295 (tW i)) I.x9) (rdR (Rect.unit (s := S512x256) ![0, 128] S512x128.size inb_S512x256_S512x128_0_128) I.x6)
        (rdR (Rect.unit (s := S512x256) ![0, 128] S512x128.size inb_S512x256_S512x128_0_128) I.x7) (rdR (Rect.unit (s := S1x1x256) ![0, 0, 128] S1x1x128.size inb_S1x1x256_S1x1x128_0_0_128) I.x8))) := by
  have e9 : rdR (Rect.unit (s := S512x128) ![0, 0] S512x128.size inb_S512x128_S512x128_0_0) I.x9 = I.x9 := f512 I.x9
  have e10 : rdR (Rect.unit (s := S512x128) ![0, 0] S512x128.size inb_S512x128_S512x128_0_0) I.x10 = I.x10 := f512 I.x10
  have eg : (Rect.unit (s := S2x512x8192) (k0_off16 i) S1x512x8192.size (k0_off16_inb i h)).overlay s.g
      (k0_pay33 (rdR (Rect.unit (s := S2x512x8192) (k0_off16 i) S1x512x8192.size (k0_off16_inb i h)) s.g)
        (rdR (Rect.unit (s := S512x512) ![0, 0] S512x512.size inb_S512x512_S512x512_0_0)
          ((Rect.unit (s := S512x512) ![0, 0] S512x512.size inb_S512x512_S512x512_0_0).overlay s.ec
            (k0_pay25 (rdR (Rect.unit (s := S512x512) ![0, 0] S512x512.size inb_S512x512_S512x512_0_0) s.en)))) I.xb) = g5 i h I s := by
    rw [rdR_all (by decide), overlay_all (by decide), rdR_all (by decide), pay25_eq]; rfl
  rw [← eg]
  conv_rhs => rw [← e9, ← e10]
  unfold f5; rfl
theorem f7_g (h : k0_cond7 i = 1#1) : (f7 i h I s).g = (Rect.unit (s := S2x512x8192) (k0_off22 i) S1x512x256.size (k0_off22_inb i h)).overlay s.g (k0_pay68 (F := Ideal)) := by
  unfold f7; rfl
theorem f7_o14 (h : k0_cond7 i = 1#1) : (f7 i h I s).o14 = (Rect.unit (s := S512x256) ![0, 128] S512x128.size inb_S512x256_S512x128_0_128).overlay
    ((Rect.unit (s := S512x256) ![0, 0] S512x128.size inb_S512x256_S512x128_0_0).overlay s.o14
      (k0_pay73 (k0_pay65 (b15_v50 (tW i)) I.x10) (k0_pay66 (b15_v50 (tW i)) I.x9)
        (k0_pay67 (rdR (Rect.unit (s := S2x512x8192) (k0_off22 i) S1x512x256.size (k0_off22_inb i h)) s.g))
        (rdR (Rect.unit (s := S512x256) ![0, 0] S512x128.size inb_S512x256_S512x128_0_0) I.x6)
        (rdR (Rect.unit (s := S512x256) ![0, 0] S512x128.size inb_S512x256_S512x128_0_0) I.x7)
        (rdR (Rect.unit (s := S1x1x256) ![0, 0, 0] S1x1x128.size inb_S1x1x256_S1x1x128_0_0_0) I.x8)))
    (k0_pay80 (k0_pay65 (b15_v50 (tW i)) I.x10) (k0_pay66 (b15_v50 (tW i)) I.x9)
      (k0_pay67 (rdR (Rect.unit (s := S2x512x8192) (k0_off22 i) S1x512x256.size (k0_off22_inb i h)) s.g))
      (rdR (Rect.unit (s := S512x256) ![0, 128] S512x128.size inb_S512x256_S512x128_0_128) I.x6)
      (rdR (Rect.unit (s := S512x256) ![0, 128] S512x128.size inb_S512x256_S512x128_0_128) I.x7)
      (rdR (Rect.unit (s := S1x1x256) ![0, 0, 128] S1x1x128.size inb_S1x1x256_S1x1x128_0_0_128) I.x8)) := by
  have e9 : rdR (Rect.unit (s := S512x128) ![0, 0] S512x128.size inb_S512x128_S512x128_0_0) I.x9 = I.x9 := f512 I.x9
  have e10 : rdR (Rect.unit (s := S512x128) ![0, 0] S512x128.size inb_S512x128_S512x128_0_0) I.x10 = I.x10 := f512 I.x10
  conv_rhs => rw [← e9, ← e10]
  unfold f7; rfl
end

theorem Q_of {t : ℕ} (hI : InsAt A t I) (T : Fin 32) (r : Fin 512) (l : Fin 256) (o i : ℕ) (hT : T.val = min t 1023 / 32) (ho : 512 * T.val + r.val = o)
    (hi : 256 * (min t 1023 % 32) + l.val = i) :
    qF (zF (I.x3 (ix2 r l)) (I.x4 (ix2 r l)) (I.x5 (ix3 0 0 l)) (col I.x10 T r) (col I.x9 T r)) = A.Q o i := by
  rw [hI.x3, hI.x4, hI.x5, hI.x9, hI.x10, ← hT, ho, hi]; rfl
theorem D_of {t : ℕ} (hI : InsAt A t I) (T : Fin 32) (r : Fin 512) (l : Fin 256) (o i : ℕ) (hT : T.val = eti t) (ho : 512 * T.val + r.val = o)
    (hi : 256 * ech t + l.val = i) (g : EReal) :
    dF (col I.x9 T r) (zF (I.x6 (ix2 r l)) (I.x7 (ix2 r l)) (I.x8 (ix3 0 0 l)) (col I.x10 T r) (col I.x9 T r)) g = dF (A.s1 o) (A.Z o i) g := by
  rw [hI.x6, hI.x7, hI.x8, hI.x9, hI.x10, ← hT, ho, hi]; rfl

/-- The codes after a point of the first section. -/
theorem q2 (t : Fin grid0.N) (h : k0_cond2 (grid0.coords t) = 1#1) (ht : t.val < 32) (hI : InsAt A t.val I) (a : Fin 2) (o : Fin 512) (i : Fin 8192) :
    (a.val = 0 → t.val * 256 ≤ i.val ∧ i.val < t.val * 256 + 256 → (f2 (grid0.coords t) h I s).q (ix3 a o i) = A.Q o i)
    ∧ (¬ (a.val = 0 ∧ t.val * 256 ≤ i.val ∧ i.val < t.val * 256 + 256) → (f2 (grid0.coords t) h I s).q (ix3 a o i) = s.q (ix3 a o i)) := by
  have e12 : k0_pay12 (tW (grid0.coords t)) = broadcast S512x128 (BitVec.ofNat 32 (0 : Fin 32).val) :=
    congrArg (broadcast S512x128) (b1_v47_eq t ht)
  have e47 : b1_v47 (tW (grid0.coords t)) = BitVec.ofNat 32 (0 : Fin 32).val := b1_v47_eq t ht
  rw [f2_q I s h]
  refine ⟨fun ha hi => ((ov256 (off4_eq t ht) _ _ _ a o i).1 ha hi).trans ?_, fun hn => (ov256 (off4_eq t ht) _ _ _ a o i).2 hn⟩
  rw [pay21_apply, e47]
  split
  · rename_i hl
    rw [pay17_apply, pay15_apply _ 0 e12, pay16_apply 0, rdL, rdL, rdcL]
    exact Q_of hI 0 o _ _ _ (by simp; omega) (by simp) (by dsimp only at hl ⊢; omega)
  · rename_i hl
    rw [pay19_apply, pay15_apply _ 0 e12, pay16_apply 0, pay18_apply, rdH, rdH, rdcH]
    exact Q_of hI 0 o _ _ _ (by simp; omega) (by simp) (by dsimp only at hl ⊢; omega)
/-- The codes after a point of the main range. -/
theorem q5 (t : Fin grid0.N) (h : k0_cond5 (grid0.coords t) = 1#1) (ht : 32 ≤ t.val ∧ t.val ≤ 1056) (hI : InsAt A t.val I) (a : Fin 2) (o : Fin 512) (i : Fin 8192) :
    (t.val < 1024 → a.val = t.val / 32 % 2 → t.val % 32 * 256 ≤ i.val ∧ i.val < t.val % 32 * 256 + 256 → (f5 (grid0.coords t) h I s).q (ix3 a o i) = A.Q (512 * (t.val / 32) + o) i)
    ∧ (¬ (a.val = t.val / 32 % 2 ∧ t.val % 32 * 256 ≤ i.val ∧ i.val < t.val % 32 * 256 + 256) → (f5 (grid0.coords t) h I s).q (ix3 a o i) = s.q (ix3 a o i)) := by
  rw [f5_q I s h, b7_v179_eq t ht]
  refine ⟨fun ht' ha hi => ((ov256 (off18_eq t ht) _ _ _ a o i).1 ha hi).trans ?_, fun hn => (ov256 (off18_eq t ht) _ _ _ a o i).2 hn⟩
  obtain ⟨T, hT⟩ : ∃ T : Fin 32, T.val = min (t.val / 32) 31 := ⟨⟨min (t.val / 32) 31, by omega⟩, rfl⟩
  rw [← hT, pay38_apply]
  split
  · rename_i hl
    rw [pay34_apply T, pay35_apply T, pay36_apply, rdL, rdL, rdcL]
    exact Q_of hI T o _ _ _ (by omega) (by omega) (by dsimp only at hl ⊢; omega)
  · rename_i hl
    rw [pay34_apply T, pay35_apply T, rdH, rdH, rdcH]
    exact Q_of hI T o _ _ _ (by omega) (by omega) (by dsimp only at hl ⊢; omega)
/-- The error tile after a point of the main range, when the code tile it reads is the quantised one. -/
theorem en5 (t : Fin grid0.N) (h : k0_cond5 (grid0.coords t) = 1#1) (ht : 32 ≤ t.val ∧ t.val ≤ 1055) (hI : InsAt A t.val I)
    (hq : ∀ (a : Fin 2) (o : Fin 512) (i : Fin 8192), a.val = (t.val / 32 + 1) % 2 → s.q (ix3 a o i) = A.Q (512 * (t.val / 32 - 1) + o) i) (o k : Fin 512) :
    (f5 (grid0.coords t) h I s).en (ix2 o k) = A.E (512 * (t.val % 32) + k) (512 * ((t.val - 32) / 32) + o) := by
  obtain ⟨T, hT⟩ : ∃ T : Fin 32, T.val = (t.val - 32) / 32 := ⟨⟨(t.val - 32) / 32, by omega⟩, rfl⟩
  have e1 : t.val / 32 - 1 = T.val := by omega
  rw [f5_en I s h, pay31_apply, b4_v48_eq t ht, ← hT, pay29_apply, pay26_apply, hI.x2 ht.1 ht.2, hI.x11 ht.1 ht.2, hI.x9, ← hT]
  unfold Arrs.E Arrs.Res Arrs.Acc
  congr 2
  refine Finset.sum_congr rfl fun i _ => ?_
  rw [rdAll (a0 := ⟨(t.val / 32 + 1) % 2, by omega⟩) (off13_eq t ⟨ht.1, by omega⟩), hq _ _ _ rfl, hI.xa ht.1 ht.2, e1]
/-- The gradient tiles after the product. -/
theorem g5_at (t : Fin grid0.N) (h : k0_cond5 (grid0.coords t) = 1#1) (ht : 32 ≤ t.val ∧ t.val ≤ 1056) (a : Fin 2) (o : Fin 512) (i : Fin 8192) :
    (a.val = ((t.val - 1) / 32 + 1) % 2 → g5 (grid0.coords t) h I s (ix3 a o i) = s.g (ix3 a o i) + ∑ k : Fin 512, s.en (ix2 o k) * I.xb (ix3 0 k i))
    ∧ (¬ a.val = ((t.val - 1) / 32 + 1) % 2 → g5 (grid0.coords t) h I s (ix3 a o i) = s.g (ix3 a o i)) := by
  unfold g5
  refine ⟨fun ha => ((ovAll (off16_eq t ht) _ _ _ a o i).1 ha).trans ?_, fun hn => (ovAll (off16_eq t ht) _ _ _ a o i).2 hn⟩
  have ea : (⟨((t.val - 1) / 32 + 1) % 2, by omega⟩ : Fin 2) = a := Fin.ext ha.symm
  rw [pay33_apply, rdAll (a0 := ⟨((t.val - 1) / 32 + 1) % 2, by omega⟩) (off16_eq t ht), ea]
/-- The block of the gradient of `s2` from the gradient tile. -/
theorem o5 (t : Fin grid0.N) (h : k0_cond5 (grid0.coords t) = 1#1) (ht : 32 ≤ t.val ∧ t.val ≤ 1056) (hI : InsAt A t.val I)
    (hg : ∀ (a : Fin 2) (o : Fin 512) (i : Fin 8192), a.val = (t.val - 1) / 32 % 2 → i.val / 256 = ech t.val → g5 (grid0.coords t) h I s (ix3 a o i) = A.G (512 * eti t.val + o) i)
    (o : Fin 512) (l : Fin 256) : (f5 (grid0.coords t) h I s).o14 (ix2 o l) = A.D (512 * eti t.val + o) (256 * ech t.val + l) := by
  obtain ⟨T, hT⟩ : ∃ T : Fin 32, T.val = eti t.val := ⟨⟨eti t.val, by unfold eti; omega⟩, rfl⟩
  have hc : ech t.val < 32 := by unfold ech; omega
  have gg : ∀ l : Fin 256, rdR (Rect.unit (s := S2x512x8192) (k0_off19 (grid0.coords t)) S1x512x256.size (k0_off19_inb (grid0.coords t) h)) (g5 (grid0.coords t) h I s) (ix3 0 o l)
      = A.G (512 * eti t.val + o) (256 * ech t.val + l) := by
    intro l
    rw [rd256 (a0 := ⟨(t.val - 1) / 32 % 2, by omega⟩) (off19_eq t ht) _ _ _ _ (by omega), hg _ _ _ rfl (by dsimp only; omega)]
    congr 1; dsimp only; omega
  rw [f5_o14 I s h, ovLH, b10_v295_eq t ht, ← hT]
  unfold Arrs.D
  rw [← hT] at gg
  split
  · rename_i hl
    rw [pay50_apply, pay41_apply T, pay42_apply T, rdL, rdL, rdcL, D_of hI T o _ _ _ hT rfl rfl, gg]
  · rename_i hl
    rw [pay59_apply, pay41_apply T, pay42_apply T, rdH, rdH, rdcH, D_of hI T o _ _ _ hT rfl rfl, gg]
    have e : 128 + (l.val - 128) = l.val := by omega
    simp only [e]
theorem o7 (t : Fin grid0.N) (h : k0_cond7 (grid0.coords t) = 1#1) (ht : 1056 < t.val) (hI : InsAt A t.val I)
    (hg : ∀ (a : Fin 2) (o : Fin 512) (i : Fin 8192), a.val = (t.val - 1) / 32 % 2 → i.val / 256 = ech t.val → s.g (ix3 a o i) = A.G (512 * eti t.val + o) i)
    (o : Fin 512) (l : Fin 256) : (f7 (grid0.coords t) h I s).o14 (ix2 o l) = A.D (512 * eti t.val + o) (256 * ech t.val + l) := by
  obtain ⟨T, hT⟩ : ∃ T : Fin 32, T.val = eti t.val := ⟨⟨eti t.val, by unfold eti; omega⟩, rfl⟩
  have hc : ech t.val < 32 := by unfold ech; omega
  have gg : ∀ l : Fin 256, rdR (Rect.unit (s := S2x512x8192) (k0_off22 (grid0.coords t)) S1x512x256.size (k0_off22_inb (grid0.coords t) h)) s.g (ix3 0 o l)
      = A.G (512 * eti t.val + o) (256 * ech t.val + l) := by
    intro l
    rw [rd256 (a0 := ⟨(t.val - 1) / 32 % 2, by omega⟩) (off22_eq t ht) _ _ _ _ (by omega), hg _ _ _ rfl (by dsimp only; omega)]
    congr 1; dsimp only; omega
  rw [f7_o14 I s h, ovLH, b15_v50_eq t ht, ← hT]
  unfold Arrs.D
  rw [← hT] at gg
  split
  · rename_i hl
    rw [pay73_apply, pay65_apply T, pay66_apply T, rdL, rdL, rdcL, D_of hI T o _ _ _ hT rfl rfl, gg]
  · rename_i hl
    rw [pay80_apply, pay65_apply T, pay66_apply T, rdH, rdH, rdcH, D_of hI T o _ _ _ hT rfl rfl, gg]
    have e : 128 + (l.val - 128) = l.val := by omega
    simp only [e]

end Cert.KernelIdeal.Gen
end
-- ==== Proof.Args.lean ====
/-
  The arrays of the step as functions of the arguments, indices counted from zero; tokens are counted through the batch.
-/
module

public import proofs.«01_k».proof.Proof.Spec
public import Idealize.ShloMosaic.Lib.ValueIdx

@[expose] public section

noncomputable section

namespace Cert.Flex

open Idealize.ShloMosaic

/-- An array of rank one outside its bound is zero. -/
def nat1 {n : ℕ} (f : (⟨1, ![n]⟩ : Shape).Idx → EReal) (a : ℕ) : EReal := if h : a < n then f (ix1 ⟨a, h⟩) else 0
/-- An array of rank two outside its bounds is zero. -/
def nat2 {n k : ℕ} (f : (⟨2, ![n, k]⟩ : Shape).Idx → EReal) (a b : ℕ) : EReal := if h : a < n ∧ b < k then f (ix2 ⟨a, h.1⟩ ⟨b, h.2⟩) else 0
/-- An array of rank three outside its bounds is zero. -/
def nat3 {n k l : ℕ} (f : (⟨3, ![n, k, l]⟩ : Shape).Idx → EReal) (a b d : ℕ) : EReal :=
  if h : a < n ∧ b < k ∧ d < l then f (ix3 ⟨a, h.1⟩ ⟨b, h.2.1⟩ ⟨d, h.2.2⟩) else 0

theorem nat1_at {n : ℕ} (f : (⟨1, ![n]⟩ : Shape).Idx → EReal) {a : ℕ} (h : a < n) : nat1 f a = f (ix1 ⟨a, h⟩) := dif_pos h
theorem nat2_at {n k : ℕ} (f : (⟨2, ![n, k]⟩ : Shape).Idx → EReal) {a b : ℕ} (h : a < n) (h' : b < k) : nat2 f a b = f (ix2 ⟨a, h⟩ ⟨b, h'⟩) := dif_pos ⟨h, h'⟩
theorem nat3_at {n k l : ℕ} (f : (⟨3, ![n, k, l]⟩ : Shape).Idx → EReal) {a b d : ℕ} (h : a < n) (h' : b < k) (h'' : d < l) :
    nat3 f a b d = f (ix3 ⟨a, h⟩ ⟨b, h'⟩ ⟨d, h''⟩) := dif_pos ⟨h, h', h''⟩

/-- The arrays of the step from the arguments. -/
def Arrs.of (x : (⟨3, ![8, 2048, 8192]⟩ : Shape).Idx → EReal) (xs : (⟨2, ![8, 2048]⟩ : Shape).Idx → EReal) (w : (⟨2, ![16384, 8192]⟩ : Shape).Idx → EReal)
    (s1 : (⟨1, ![16384]⟩ : Shape).Idx → EReal) (s2 : (⟨2, ![16384, 8192]⟩ : Shape).Idx → EReal) (r : (⟨1, ![16384]⟩ : Shape).Idx → EReal)
    (c : (⟨1, ![8192]⟩ : Shape).Idx → EReal) (y : (⟨3, ![8, 2048, 16384]⟩ : Shape).Idx → EReal) : Arrs where
  w := nat2 w
  s2 := nat2 s2
  s1 := nat1 s1
  r := nat1 r
  c := nat1 c
  xs n := nat2 xs (n / 2048) (n % 2048)
  y n o := nat3 y (n / 2048) (n % 2048) o
  x n i := nat3 x (n / 2048) (n % 2048) i

end Cert.Flex
end
-- ==== Proof.HostV.lean ====
/-
  What the arrays that the call reads hold, element by element, in terms of the arguments.
-/
module

public import proofs.«01_k».proof.Proof.StepV
public import proofs.«01_k».proof.Proof.Args
public import proofs.«01_k».proof.Proof.BodyI
public import Idealize.ShloMosaic.Lib.StableHlo.ReadAt

@[expose] public section

set_option maxRecDepth 16384

noncomputable section

namespace Cert.KernelIdeal.Gen

open Idealize.ShloMosaic Idealize.ShloMosaic.TcCoe Cert.Flex

variable (m : (ℓ : Loc nD τ sig) → Buf (Elt Ideal) ℓ) (c : Dev nD)

/-- The arrays of the step on a device. -/
def arrs : Arrs := Arrs.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7))

theorem V16_arg (n : Fin 16384) (i : Fin 8192) : V m c main_v16 (ix2 n i)
    = m ((c : Thread nD τ).loc main_arg0) (ix3 (⟨n.val / 2048, by omega⟩ : Fin 8) (⟨n.val % 2048, by omega⟩ : Fin 2048) i) := by
  unfold V
  after_reads_at
/-- The token codes. -/
theorem V16_at (n : Fin 16384) (i : Fin 8192) : V m c main_v16 (ix2 n i) = (arrs m c).x n i :=
  (V16_arg m c n i).trans (nat3_at (n := 8) (k := 2048) (l := 8192) (m ((c : Thread nD τ).loc main_arg0)) (a := n.val / 2048) (b := n.val % 2048) (by omega) (by omega) i.isLt).symm
theorem V24_arg (n : Fin 16384) (i : Fin 16384) : V m c main_v24 (ix2 n i)
    = m ((c : Thread nD τ).loc main_arg7) (ix3 (⟨n.val / 2048, by omega⟩ : Fin 8) (⟨n.val % 2048, by omega⟩ : Fin 2048) i) := by
  unfold V
  after_reads_at
/-- The targets. -/
theorem V24_at (n : Fin 16384) (i : Fin 16384) : V m c main_v24 (ix2 n i) = (arrs m c).y n i :=
  (V24_arg m c n i).trans (nat3_at (n := 8) (k := 2048) (l := 16384) (m ((c : Thread nD τ).loc main_arg7)) (a := n.val / 2048) (b := n.val % 2048) (by omega) (by omega) i.isLt).symm
theorem V17_arg (b : Fin 32) (k : Fin 512) : V m c main_v17 (ix3 b (0 : Fin 1) k)
    = m ((c : Thread nD τ).loc main_arg1) (ix2 (⟨(512 * b.val + k.val) / 2048, by omega⟩ : Fin 8) (⟨(512 * b.val + k.val) % 2048, by omega⟩ : Fin 2048)) := by
  unfold V
  after_reads_at
  exact congrArg (m ((c : Thread nD τ).loc main_arg1)) (congrArg₂ ix2 (Fin.ext (by show b.val / 4 = (512 * b.val + k.val) / 2048; omega))
    (Fin.ext (by show b.val % 4 * 512 + k.val = (512 * b.val + k.val) % 2048; omega)))
/-- The token scales. -/
theorem V17_at (b : Fin 32) (k : Fin 512) : V m c main_v17 (ix3 b (0 : Fin 1) k) = (arrs m c).xs (512 * b + k) :=
  (V17_arg m c b k).trans (nat2_at (n := 8) (k := 2048) (m ((c : Thread nD τ).loc main_arg1)) (a := (512 * b.val + k.val) / 2048) (b := (512 * b.val + k.val) % 2048) (by omega) (by omega)).symm
theorem V15_arg (b : Fin 32) (k : Fin 256) : V m c main_v15 (ix3 b (0 : Fin 1) k)
    = m ((c : Thread nD τ).loc main_arg6) (ix1 (⟨256 * b.val + k.val, by omega⟩ : Fin 8192)) := by
  have e : V m c main_v15 (ix3 b (0 : Fin 1) k) = m ((c : Thread nD τ).loc main_arg6) (ix1 (⟨b.val * 256 + k.val, by omega⟩ : Fin 8192)) := by
    unfold V
    after_reads_at
  simp only [e, Nat.mul_comm]
/-- The scales of the columns. -/
theorem V15_at (b : Fin 32) (k : Fin 256) : V m c main_v15 (ix3 b (0 : Fin 1) k) = (arrs m c).c (256 * b + k) :=
  (V15_arg m c b k).trans (nat1_at (n := 8192) (m ((c : Thread nD τ).loc main_arg6)) (a := 256 * b.val + k.val) (by omega)).symm
theorem V20_arg (T : Fin 32) (r : Fin 512) : V m c main_v20 (ix2 r (⟨T.val, by omega⟩ : Fin 128))
    = m ((c : Thread nD τ).loc main_arg3) (ix1 (⟨512 * T.val + r.val, by omega⟩ : Fin 16384)) := by
  have e : V m c main_v20 (ix2 r (⟨T.val, by omega⟩ : Fin 128)) = m ((c : Thread nD τ).loc main_arg3) (ix1 (⟨T.val * 512 + r.val, by omega⟩ : Fin 16384)) := by
    unfold V
    after_reads_at
  simp only [e, Nat.mul_comm]
/-- The scales of the rows, a column to a tile. -/
theorem V20_at (T : Fin 32) (r : Fin 512) : V m c main_v20 (ix2 r (⟨T.val, by omega⟩ : Fin 128)) = (arrs m c).s1 (512 * T + r) :=
  (V20_arg m c T r).trans (nat1_at (n := 16384) (m ((c : Thread nD τ).loc main_arg3)) (a := 512 * T.val + r.val) (by omega)).symm
theorem V23_arg (T : Fin 32) (r : Fin 512) : V m c main_v23 (ix2 r (⟨T.val, by omega⟩ : Fin 128))
    = m ((c : Thread nD τ).loc main_arg5) (ix1 (⟨512 * T.val + r.val, by omega⟩ : Fin 16384)) := by
  have e : V m c main_v23 (ix2 r (⟨T.val, by omega⟩ : Fin 128)) = m ((c : Thread nD τ).loc main_arg5) (ix1 (⟨T.val * 512 + r.val, by omega⟩ : Fin 16384)) := by
    unfold V
    after_reads_at
  simp only [e, Nat.mul_comm]
/-- The logarithmic scales of the rows, a column to a tile. -/
theorem V23_at (T : Fin 32) (r : Fin 512) : V m c main_v23 (ix2 r (⟨T.val, by omega⟩ : Fin 128)) = (arrs m c).r (512 * T + r) :=
  (V23_arg m c T r).trans (nat1_at (n := 16384) (m ((c : Thread nD τ).loc main_arg5)) (a := 512 * T.val + r.val) (by omega)).symm
/-- The weights. -/
theorem V2_at (o : Fin 16384) (i : Fin 8192) : V m c main_arg2 (ix2 o i) = (arrs m c).w o i :=
  (congrFun (V_main_arg2 m c) _).trans (nat2_at (n := 16384) (k := 8192) (m ((c : Thread nD τ).loc main_arg2)) (a := o.val) (b := i.val) o.isLt i.isLt).symm
/-- The logarithmic scales of the elements. -/
theorem V4_at (o : Fin 16384) (i : Fin 8192) : V m c main_arg4 (ix2 o i) = (arrs m c).s2 o i :=
  (congrFun (V_main_arg4 m c) _).trans (nat2_at (n := 16384) (k := 8192) (m ((c : Thread nD τ).loc main_arg4)) (a := o.val) (b := i.val) o.isLt i.isLt).symm

end Cert.KernelIdeal.Gen
end
-- ==== Proof.MapV.lean ====
/-
  Which block each window takes at a point, as a function of the point's number.
-/
module

public import proofs.«01_k».proof.Proof.Sched
public import proofs.«01_k».proof.Proof.Gen.KernelIdeal.Launch

@[expose] public section

set_option maxRecDepth 16384

noncomputable section

namespace Cert.KernelIdeal.Gen

open Idealize.ShloMosaic Idealize.ShloMosaic.TcCoe
open Idealize.ShloMosaic.Pipeline (RDat UD Cfg Window cellOf)

theorem map1 : ∀ t : Fin grid0.N, 32 ≤ t.val → t.val ≤ 1055 → cc0_transform_1 (grid0.coords t) = ![t.val % 32, 0, 0] := by decide +kernel
theorem map2 : ∀ t : Fin grid0.N, cc0_transform_2 (grid0.coords t) = ![min t.val 1023 / 32, min t.val 1023 % 32] := by decide +kernel
theorem map3 : ∀ t : Fin grid0.N, cc0_transform_3 (grid0.coords t) = ![min t.val 1023 / 32, min t.val 1023 % 32] := by decide +kernel
theorem map4 : ∀ t : Fin grid0.N, cc0_transform_4 (grid0.coords t) = ![min t.val 1023 % 32, 0, 0] := by decide +kernel
theorem map5 : ∀ t : Fin grid0.N, cc0_transform_5 (grid0.coords t) = ![eti t.val, ech t.val] := by decide +kernel
theorem map6 : ∀ t : Fin grid0.N, cc0_transform_6 (grid0.coords t) = ![eti t.val, ech t.val] := by decide +kernel
theorem map7 : ∀ t : Fin grid0.N, cc0_transform_7 (grid0.coords t) = ![ech t.val, 0, 0] := by decide +kernel
theorem map8 : ∀ t : Fin grid0.N, cc0_transform_8 (grid0.coords t) = ![0, 0] := by decide +kernel
theorem map9 : ∀ t : Fin grid0.N, cc0_transform_9 (grid0.coords t) = ![0, 0] := by decide +kernel
theorem map10 : ∀ t : Fin grid0.N, 32 ≤ t.val → t.val ≤ 1055 → cc0_transform_10 (grid0.coords t) = ![t.val % 32, (t.val - 32) / 32] := by decide +kernel
theorem map13 : ∀ t : Fin grid0.N, cc0_transform_13 (grid0.coords t) = ![eti t.val, ech t.val] := by decide +kernel

/-- The block of window 12 changes after its last point. -/
theorem flush12 : ∀ t : Fin grid0.N, (t.val = 1088 ∨ 65 ≤ t.val) → win0_12.flush t = true := by decide +kernel
theorem flush12_only : ∀ t : Fin grid0.N, win0_12.flush t = true → 65 ≤ t.val := by decide +kernel

end Cert.KernelIdeal.Gen
end
-- ==== Proof.InV.lean ====
/-
  The inputs of a grid point: what the staging buffers are found at, and the token blocks, in terms of the arrays.
-/
module

public import proofs.«01_k».proof.Proof.HostV
public import proofs.«01_k».proof.Proof.MapV
public import Idealize.ShloMosaic.Lib.ValueLayout

@[expose] public section

set_option maxRecDepth 16384

noncomputable section

namespace Cert.KernelIdeal.Gen

open Idealize.ShloMosaic Idealize.ShloMosaic.TcCoe Cert.Flex
open Idealize.ShloMosaic.Pipeline (RDat UD Cfg Window cellOf)

/-- A block that its array holds whole fills the buffer. -/
theorem fill_at (w : Fin cfg0.W) (i : grid0.Coords) (h : ∀ a, (cfg0.win w).clip i a = none) {α : Type} (d : (cfg0.win w).block.Idx → α)
    (g : ((cfg0.win w).xblock i).Idx → α) (j : (cfg0.win w).block.Idx) :
    (cfg0.win w).fill i d g j = g (fun a => ⟨(j a).val, by have := (j a).isLt; unfold Window.xblock Window.xsize; dsimp only; rw [h a]; exact this⟩) := by
  have hm : (cfg0.win w).moved i j = true :=
    ((cfg0.win w).moved_iff _ j).mpr fun a => by have := (j a).isLt; unfold Window.xsize; rw [h a]; exact this
  unfold Window.fill; rw [dif_pos hm]

variable (m : (ℓ : Loc nD τ sig) → Buf (Elt Ideal) ℓ) (c : Dev nD)
variable (Inv : (c : Dev nD) → ℕ → St Ideal → Prop) (A : Dev nD → Outs Ideal)

/-- The token scales a point reads. -/
theorem found0 (t : Fin cfg0.N) (h1 : 32 ≤ t.val) (h2 : t.val ≤ 1055) (Y) (hY : (rd m Inv A c).Finds 0 t Y) (l : Fin 512) :
    Y (ix3 (0 : Fin 1) (0 : Fin 1) l) = (arrs m c).xs (512 * (t.val % 32) + l) := by
  have hB : t.val % 32 < 32 := by omega
  obtain ⟨d, rfl⟩ := (rd m Inv A c).finds_in_eq_fetched 0 rfl (fun _ _ _ => rfl) (fun _ _ _ h => h) t Y hY
  unfold RDat.fetched RDat.blockOf
  rw [fill_at 0 _ (fun _ => rfl), View.read_apply]
  refine Eq.trans ?_ (V17_at m c ⟨t.val % 32, hB⟩ l)
  show V m c main_v17 _ = _
  congr 1; funext a; apply Fin.ext
  match a with
  | ⟨0, _⟩ => show cc0_transform_1 (grid0.coords t) 0 * 1 + 1 * 0 = t.val % 32; rw [map1 t h1 h2]; show t.val % 32 * 1 + 1 * 0 = _; omega
  | ⟨1, _⟩ => show cc0_transform_1 (grid0.coords t) 1 * 1 + 1 * 0 = 0; rw [map1 t h1 h2]; rfl
  | ⟨2, _⟩ => show cc0_transform_1 (grid0.coords t) 2 * 512 + 1 * l.val = l; rw [map1 t h1 h2]; show 0 * 512 + 1 * l.val = _; omega

/-- The weights of the tile a point quantises. -/
theorem found1 (t : Fin cfg0.N) (Y) (hY : (rd m Inv A c).Finds 1 t Y) (r : Fin 512) (l : Fin 256) :
    Y (ix2 r l) = (arrs m c).w (512 * (min t.val 1023 / 32) + r) (256 * (min t.val 1023 % 32) + l) := by
  have hR : min t.val 1023 / 32 < 32 := by omega
  have hC : min t.val 1023 % 32 < 32 := by omega
  obtain ⟨d, rfl⟩ := (rd m Inv A c).finds_in_eq_fetched 1 rfl (fun _ _ _ => rfl) (fun _ _ _ h => h) t Y hY
  unfold RDat.fetched RDat.blockOf
  rw [fill_at 1 _ (fun _ => rfl), View.read_apply]
  refine Eq.trans ?_ (V2_at m c ⟨512 * (min t.val 1023 / 32) + r, by omega⟩ ⟨256 * (min t.val 1023 % 32) + l, by omega⟩)
  show V m c main_arg2 _ = _
  congr 1; funext a; apply Fin.ext
  match a with
  | ⟨0, _⟩ => show cc0_transform_2 (grid0.coords t) 0 * 512 + 1 * r.val = 512 * (min t.val 1023 / 32) + r; rw [map2 t]; show min t.val 1023 / 32 * 512 + 1 * r.val = _; omega
  | ⟨1, _⟩ => show cc0_transform_2 (grid0.coords t) 1 * 256 + 1 * l.val = 256 * (min t.val 1023 % 32) + l; rw [map2 t]; show min t.val 1023 % 32 * 256 + 1 * l.val = _; omega

/-- The elements' scales of the tile a point quantises. -/
theorem found2 (t : Fin cfg0.N) (Y) (hY : (rd m Inv A c).Finds 2 t Y) (r : Fin 512) (l : Fin 256) :
    Y (ix2 r l) = (arrs m c).s2 (512 * (min t.val 1023 / 32) + r) (256 * (min t.val 1023 % 32) + l) := by
  have hR : min t.val 1023 / 32 < 32 := by omega
  have hC : min t.val 1023 % 32 < 32 := by omega
  obtain ⟨d, rfl⟩ := (rd m Inv A c).finds_in_eq_fetched 2 rfl (fun _ _ _ => rfl) (fun _ _ _ h => h) t Y hY
  unfold RDat.fetched RDat.blockOf
  rw [fill_at 2 _ (fun _ => rfl), View.read_apply]
  refine Eq.trans ?_ (V4_at m c ⟨512 * (min t.val 1023 / 32) + r, by omega⟩ ⟨256 * (min t.val 1023 % 32) + l, by omega⟩)
  show V m c main_arg4 _ = _
  congr 1; funext a; apply Fin.ext
  match a with
  | ⟨0, _⟩ => show cc0_transform_3 (grid0.coords t) 0 * 512 + 1 * r.val = 512 * (min t.val 1023 / 32) + r; rw [map3 t]; show min t.val 1023 / 32 * 512 + 1 * r.val = _; omega
  | ⟨1, _⟩ => show cc0_transform_3 (grid0.coords t) 1 * 256 + 1 * l.val = 256 * (min t.val 1023 % 32) + l; rw [map3 t]; show min t.val 1023 % 32 * 256 + 1 * l.val = _; omega

/-- The columns' scales of the tile a point quantises. -/
theorem found3 (t : Fin cfg0.N) (Y) (hY : (rd m Inv A c).Finds 3 t Y) (l : Fin 256) :
    Y (ix3 (0 : Fin 1) (0 : Fin 1) l) = (arrs m c).c (256 * (min t.val 1023 % 32) + l) := by
  have hB : min t.val 1023 % 32 < 32 := by omega
  obtain ⟨d, rfl⟩ := (rd m Inv A c).finds_in_eq_fetched 3 rfl (fun _ _ _ => rfl) (fun _ _ _ h => h) t Y hY
  unfold RDat.fetched RDat.blockOf
  rw [fill_at 3 _ (fun _ => rfl), View.read_apply]
  refine Eq.trans ?_ (V15_at m c ⟨min t.val 1023 % 32, hB⟩ l)
  show V m c main_v15 _ = _
  congr 1; funext a; apply Fin.ext
  match a with
  | ⟨0, _⟩ => show cc0_transform_4 (grid0.coords t) 0 * 1 + 1 * 0 = min t.val 1023 % 32; rw [map4 t]; show min t.val 1023 % 32 * 1 + 1 * 0 = _; omega
  | ⟨1, _⟩ => show cc0_transform_4 (grid0.coords t) 1 * 1 + 1 * 0 = 0; rw [map4 t]; rfl
  | ⟨2, _⟩ => show cc0_transform_4 (grid0.coords t) 2 * 256 + 1 * l.val = l; rw [map4 t]; show 0 * 256 + 1 * l.val = _; omega

/-- The weights of the tile a point writes. -/
theorem found4 (t : Fin cfg0.N) (Y) (hY : (rd m Inv A c).Finds 4 t Y) (r : Fin 512) (l : Fin 256) :
    Y (ix2 r l) = (arrs m c).w (512 * (eti t.val) + r) (256 * (ech t.val) + l) := by
  have hR : eti t.val < 32 := by unfold eti; omega
  have hC : ech t.val < 32 := by unfold ech; omega
  obtain ⟨d, rfl⟩ := (rd m Inv A c).finds_in_eq_fetched 4 rfl (fun _ _ _ => rfl) (fun _ _ _ h => h) t Y hY
  unfold RDat.fetched RDat.blockOf
  rw [fill_at 4 _ (fun _ => rfl), View.read_apply]
  refine Eq.trans ?_ (V2_at m c ⟨512 * (eti t.val) + r, by omega⟩ ⟨256 * (ech t.val) + l, by omega⟩)
  show V m c main_arg2 _ = _
  congr 1; funext a; apply Fin.ext
  match a with
  | ⟨0, _⟩ => show cc0_transform_5 (grid0.coords t) 0 * 512 + 1 * r.val = 512 * (eti t.val) + r; rw [map5 t]; show eti t.val * 512 + 1 * r.val = _; omega
  | ⟨1, _⟩ => show cc0_transform_5 (grid0.coords t) 1 * 256 + 1 * l.val = 256 * (ech t.val) + l; rw [map5 t]; show ech t.val * 256 + 1 * l.val = _; omega

/-- The elements' scales of the tile a point writes. -/
theorem found5 (t : Fin cfg0.N) (Y) (hY : (rd m Inv A c).Finds 5 t Y) (r : Fin 512) (l : Fin 256) :
    Y (ix2 r l) = (arrs m c).s2 (512 * (eti t.val) + r) (256 * (ech t.val) + l) := by
  have hR : eti t.val < 32 := by unfold eti; omega
  have hC : ech t.val < 32 := by unfold ech; omega
  obtain ⟨d, rfl⟩ := (rd m Inv A c).finds_in_eq_fetched 5 rfl (fun _ _ _ => rfl) (fun _ _ _ h => h) t Y hY
  unfold RDat.fetched RDat.blockOf
  rw [fill_at 5 _ (fun _ => rfl), View.read_apply]
  refine Eq.trans ?_ (V4_at m c ⟨512 * (eti t.val) + r, by omega⟩ ⟨256 * (ech t.val) + l, by omega⟩)
  show V m c main_arg4 _ = _
  congr 1; funext a; apply Fin.ext
  match a with
  | ⟨0, _⟩ => show cc0_transform_6 (grid0.coords t) 0 * 512 + 1 * r.val = 512 * (eti t.val) + r; rw [map6 t]; show eti t.val * 512 + 1 * r.val = _; omega
  | ⟨1, _⟩ => show cc0_transform_6 (grid0.coords t) 1 * 256 + 1 * l.val = 256 * (ech t.val) + l; rw [map6 t]; show ech t.val * 256 + 1 * l.val = _; omega

/-- The columns' scales of the tile a point writes. -/
theorem found6 (t : Fin cfg0.N) (Y) (hY : (rd m Inv A c).Finds 6 t Y) (l : Fin 256) :
    Y (ix3 (0 : Fin 1) (0 : Fin 1) l) = (arrs m c).c (256 * (ech t.val) + l) := by
  have hB : ech t.val < 32 := by unfold ech; omega
  obtain ⟨d, rfl⟩ := (rd m Inv A c).finds_in_eq_fetched 6 rfl (fun _ _ _ => rfl) (fun _ _ _ h => h) t Y hY
  unfold RDat.fetched RDat.blockOf
  rw [fill_at 6 _ (fun _ => rfl), View.read_apply]
  refine Eq.trans ?_ (V15_at m c ⟨ech t.val, hB⟩ l)
  show V m c main_v15 _ = _
  congr 1; funext a; apply Fin.ext
  match a with
  | ⟨0, _⟩ => show cc0_transform_7 (grid0.coords t) 0 * 1 + 1 * 0 = ech t.val; rw [map7 t]; show ech t.val * 1 + 1 * 0 = _; omega
  | ⟨1, _⟩ => show cc0_transform_7 (grid0.coords t) 1 * 1 + 1 * 0 = 0; rw [map7 t]; rfl
  | ⟨2, _⟩ => show cc0_transform_7 (grid0.coords t) 2 * 256 + 1 * l.val = l; rw [map7 t]; show 0 * 256 + 1 * l.val = _; omega

/-- The scales of the rows. -/
theorem found7 (t : Fin cfg0.N) (Y : S512x128.Idx → Elt Ideal .f32) (hY : (rd m Inv A c).Finds 7 t Y) (T : Fin 32) (r : Fin 512) :
    col Y T r = (arrs m c).s1 (512 * T + r) := by
  obtain ⟨d, rfl⟩ := (rd m Inv A c).finds_in_eq_fetched 7 rfl (fun _ _ _ => rfl) (fun _ _ _ h => h) t Y hY
  unfold col RDat.fetched RDat.blockOf
  refine (fill_at 7 _ (fun _ => rfl) _ _ _).trans ?_
  rw [View.read_apply]
  refine Eq.trans ?_ (V20_at m c T r)
  show V m c main_v20 _ = _
  congr 1; funext a; apply Fin.ext
  match a with
  | ⟨0, _⟩ => show cc0_transform_8 (grid0.coords t) 0 * 512 + 1 * r.val = r; rw [map8]; show 0 * 512 + 1 * r.val = _; omega
  | ⟨1, _⟩ => show cc0_transform_8 (grid0.coords t) 1 * 128 + 1 * T.val = T; rw [map8]; show 0 * 128 + 1 * T.val = _; omega

/-- The logarithmic scales of the rows. -/
theorem found8 (t : Fin cfg0.N) (Y : S512x128.Idx → Elt Ideal .f32) (hY : (rd m Inv A c).Finds 8 t Y) (T : Fin 32) (r : Fin 512) :
    col Y T r = (arrs m c).r (512 * T + r) := by
  obtain ⟨d, rfl⟩ := (rd m Inv A c).finds_in_eq_fetched 8 rfl (fun _ _ _ => rfl) (fun _ _ _ h => h) t Y hY
  unfold col RDat.fetched RDat.blockOf
  refine (fill_at 8 _ (fun _ => rfl) _ _ _).trans ?_
  rw [View.read_apply]
  refine Eq.trans ?_ (V23_at m c T r)
  show V m c main_v23 _ = _
  congr 1; funext a; apply Fin.ext
  match a with
  | ⟨0, _⟩ => show cc0_transform_9 (grid0.coords t) 0 * 512 + 1 * r.val = r; rw [map9]; show 0 * 512 + 1 * r.val = _; omega
  | ⟨1, _⟩ => show cc0_transform_9 (grid0.coords t) 1 * 128 + 1 * T.val = T; rw [map9]; show 0 * 128 + 1 * T.val = _; omega

/-- The targets a point reads. -/
theorem found9 (t : Fin cfg0.N) (h1 : 32 ≤ t.val) (h2 : t.val ≤ 1055) (Y) (hY : (rd m Inv A c).Finds 9 t Y) (r : Fin 512) (l : Fin 512) :
    Y (ix2 r l) = (arrs m c).y (512 * (t.val % 32) + r) (512 * ((t.val - 32) / 32) + l) := by
  have hR : t.val % 32 < 32 := by omega
  have hC : (t.val - 32) / 32 < 32 := by omega
  obtain ⟨d, rfl⟩ := (rd m Inv A c).finds_in_eq_fetched 9 rfl (fun _ _ _ => rfl) (fun _ _ _ h => h) t Y hY
  unfold RDat.fetched RDat.blockOf
  rw [fill_at 9 _ (fun _ => rfl), View.read_apply]
  refine Eq.trans ?_ (V24_at m c ⟨512 * (t.val % 32) + r, by omega⟩ ⟨512 * ((t.val - 32) / 32) + l, by omega⟩)
  show V m c main_v24 _ = _
  congr 1; funext a; apply Fin.ext
  match a with
  | ⟨0, _⟩ => show cc0_transform_10 (grid0.coords t) 0 * 512 + 1 * r.val = 512 * (t.val % 32) + r; rw [map10 t h1 h2]; show t.val % 32 * 512 + 1 * r.val = _; omega
  | ⟨1, _⟩ => show cc0_transform_10 (grid0.coords t) 1 * 512 + 1 * l.val = 512 * ((t.val - 32) / 32) + l; rw [map10 t h1 h2]; show (t.val - 32) / 32 * 512 + 1 * l.val = _; omega

/-- A token block of the array. -/
theorem xblk_at (b : ℕ) (hb : b < 32) (n : ℕ) (hn : bl32 n = ⟨b, hb⟩) (k : Fin 512) (i : Fin 8192) :
    XB c (xArr m c) n (ix3 (0 : Fin 1) k i) = (arrs m c).x (512 * b + k) i := by
  have hv : (bl32 n).val = b := by rw [hn]
  unfold XB xblk
  rw [View.read_apply]
  refine Eq.trans ?_ (V16_at m c ⟨512 * b + k, by omega⟩ i)
  have e : (Shape.reshapeEquiv (squeezes_S1x512x8192_S512x8192).numel_eq).symm (ix3 (0 : Fin 1) k i) = (ix2 k i : S512x8192.Idx) := by
    rw [Equiv.symm_apply_eq]
    exact (Idealize.ShloMosaic.ValueIdx.reshapeEquiv_ix2_1ab _ k i).symm
  rw [e]
  show V m c main_v16 _ = _
  congr 1; funext a; apply Fin.ext
  match a with
  | ⟨0, _⟩ => show (bl32 n).val * 512 + 1 * k.val = 512 * b + k; rw [hv]; omega
  | ⟨1, _⟩ => show 0 + 1 * i.val = i; omega

/-- The inputs of a point. -/
theorem insAt (t : Fin cfg0.N) (Y : (w : Fin cfg0.W) → (cfg0.win w).block.Idx → Elt Ideal (cfg0.win w).elt) (hY : ∀ w, (rd m Inv A c).Finds w t (Y w))
    (xa xb : S1x512x8192.Idx → Elt Ideal .fp8e4m3) (hx : Toks c (xArr m c) t.val xa xb) : InsAt (arrs m c) t.val (insOf Y xa xb) where
  x3 := found1 m c Inv A t _ (hY 1)
  x4 := found2 m c Inv A t _ (hY 2)
  x5 := found3 m c Inv A t _ (hY 3)
  x6 := found4 m c Inv A t _ (hY 4)
  x7 := found5 m c Inv A t _ (hY 5)
  x8 := found6 m c Inv A t _ (hY 6)
  x9 := found7 m c Inv A t _ (hY 7)
  x10 := found8 m c Inv A t _ (hY 8)
  x2 h1 h2 := found0 m c Inv A t h1 h2 _ (hY 0)
  x11 h1 h2 := found9 m c Inv A t h1 h2 _ (hY 9)
  xa h1 h2 k i := (congrFun (hx.1 h1 h2) _).trans (xblk_at m c (t.val % 32) (by omega) _ (Fin.ext (by show (t.val - 32) % 32 = t.val % 32; omega)) k i)
  xb h1 h2 k i := (congrFun (hx.2.1 (by omega) h2) _).trans (xblk_at m c ((t.val - 33) % 32) (by omega) _ (Fin.ext (by show (t.val - 32 - 1) % 32 = (t.val - 33) % 32; omega)) k i)

end Cert.KernelIdeal.Gen
end
-- ==== Proof.Keep.lean ====
/-
  What holds of the scratch buffers between grid points, and that every point keeps it: which code tiles are quantised, which error
  the error tile holds, which blocks of tokens are already in the gradient tiles; and the block of the gradient of `s2` a point writes.
-/
module

public import proofs.«01_k».proof.Proof.StepV
public import proofs.«01_k».proof.Proof.BodyI

@[expose] public section

set_option maxRecDepth 16384

noncomputable section

namespace Cert.KernelIdeal.Gen

open Idealize.ShloMosaic Idealize.ShloMosaic.TcCoe Cert.Flex

/-- The block of columns `ch` of the gradient of tile `τ` is in its slot, partly summed, before point `t`. -/
def Live (τ ch t : ℕ) : Prop := ((τ ≤ 1 ∧ ch < t) ∨ 1 + 32 * τ + ch < t) ∧ t ≤ 65 + 32 * τ + ch

/-- What holds before point `t`. -/
structure InvV (A : Arrs) (t : ℕ) (s : St Ideal) : Prop where
  q1 : ∀ (a : Fin 2) (o : Fin 512) (i : Fin 8192), t / 32 ≤ 31 → a.val = t / 32 % 2 → i.val < 256 * (t % 32) → s.q (ix3 a o i) = A.Q (512 * (t / 32) + o) i
  q2 : ∀ (a : Fin 2) (o : Fin 512) (i : Fin 8192), 1 ≤ t / 32 → t / 32 ≤ 32 → a.val = (t / 32 + 1) % 2 → s.q (ix3 a o i) = A.Q (512 * (t / 32 - 1) + o) i
  en0 : 1 ≤ t → t ≤ 32 → ∀ o k : Fin 512, s.en (ix2 o k) = 0
  en1 : 33 ≤ t → t ≤ 1056 → ∀ o k : Fin 512, s.en (ix2 o k) = A.E (512 * ((t - 33) % 32) + k) (512 * ((t - 33) / 32) + o)
  g : ∀ τ, τ < 32 → ∀ (a : Fin 2) (o : Fin 512) (i : Fin 8192), a.val = τ % 2 → Live τ (i.val / 256) t → s.g (ix3 a o i) = A.Gp τ (min 32 (t - 33 - 32 * τ)) o i

variable {A : Arrs} {I : Ins Ideal}

theorem G_tile (τ : ℕ) (o : Fin 512) (i : ℕ) : A.G (512 * τ + o) i = A.Gp τ 32 o i := by
  unfold Arrs.G
  have e1 : (512 * τ + o.val) / 512 = τ := by omega
  have e2 : (512 * τ + o.val) % 512 = o.val := by omega
  rw [e1, e2]

/-- Before the first point nothing is asked. -/
theorem inv_zero (s : St Ideal) : InvV A 0 s where
  q1 a o i _ _ h := by omega
  q2 a o i h := by omega
  en0 h := by omega
  en1 h := by omega
  g τ hτ a o i ha h := by unfold Live at h; omega

/-- A point of the first section keeps it. -/
theorem inv_pre (t : Fin grid0.N) (h : k0_cond2 (grid0.coords t) = 1#1) (ht : t.val < 32) (hI : InsAt A t.val I) (s : St Ideal) (H : InvV A t.val s)
    (s0 : St Ideal) (hq : s0.q = s.q) (hg : s0.g = s.g) (hen : ∀ o k : Fin 512, s0.en (ix2 o k) = 0) : InvV A (t.val + 1) (f2 (grid0.coords t) h I s0) where
  q1 a o i h1 h2 h3 := by
    have e : (t.val + 1) / 32 = 0 ∨ (t.val + 1) % 32 = 0 := by omega
    rcases e with e | e
    · rw [e] at h2 ⊢
      by_cases hi : t.val * 256 ≤ i.val
      · rw [(q2 s0 t h ht hI a o i).1 (by omega) (by omega)]; congr 1; omega
      · rw [(q2 s0 t h ht hI a o i).2 (by omega), hq, H.q1 a o i (by omega) (by omega) (by omega)]; congr 1; omega
    · omega
  q2 a o i h1 h2 h3 := by
    have e : t.val = 31 := by omega
    by_cases hi : t.val * 256 ≤ i.val
    · rw [(q2 s0 t h ht hI a o i).1 (by omega) (by omega)]; congr 1; omega
    · rw [(q2 s0 t h ht hI a o i).2 (by omega), hq, H.q1 a o i (by omega) (by omega) (by omega)]; congr 1; omega
  en0 _ _ o k := by rw [f2_en]; exact hen o k
  en1 h := by omega
  g τ hτ a o i ha hl := by
    have hi : i.val / 256 < 32 := by omega
    have en : min 32 (t.val + 1 - 33 - 32 * τ) = 0 := by omega
    have en' : min 32 (t.val - 33 - 32 * τ) = 0 := by omega
    have z1 : ∀ j : S1x512x256.Idx, k0_pay23 (F := Ideal) j = 0 := fun j => by pointwise [k0_pay23]
    have z2 : ∀ j : S1x512x256.Idx, k0_pay4 (k0_pay24 (F := Ideal)) j = 0 := fun j => by pointwise [k0_pay4, k0_pay24]
    rw [f2_g, en]
    have hr : A.Gp τ 0 o i = 0 := Finset.sum_range_zero _
    rw [hr]
    by_cases hz1 : a.val = 1 ∧ t.val * 256 ≤ i.val ∧ i.val < t.val * 256 + 256
    · rw [(ov256 (off6_eq t ht) _ _ _ a o i).1 hz1.1 hz1.2, z2]
    · rw [(ov256 (off6_eq t ht) _ _ _ a o i).2 hz1]
      by_cases hz0 : a.val = 0 ∧ t.val * 256 ≤ i.val ∧ i.val < t.val * 256 + 256
      · rw [(ov256 (off5_eq t ht) _ _ _ a o i).1 hz0.1 hz0.2, z1]
      · rw [(ov256 (off5_eq t ht) _ _ _ a o i).2 hz0, hg, H.g τ hτ a o i ha (by unfold Live at *; omega), en', hr]

theorem prod_eq (t : ℕ) (ht : 32 ≤ t ∧ t ≤ 1056) (hI : InsAt A t I) (s : St Ideal) (H : InvV A t s) (o : Fin 512) (i : Fin 8192) :
    ∑ k : Fin 512, s.en (ix2 o k) * I.xb (ix3 0 k i) = if t = 32 then 0 else A.con ((t - 33) / 32) ((t - 33) % 32) o i := by
  split
  · exact Finset.sum_eq_zero fun k _ => by rw [H.en0 (by omega) (by omega)]; exact zero_mul _
  · unfold Arrs.con
    exact Finset.sum_congr rfl fun k _ => by rw [H.en1 (by omega) (by omega), hI.xb (by omega) (by omega)]

/-- The gradient tiles after the product of a point of the main range. -/
theorem g5_live (t : Fin grid0.N) (h : k0_cond5 (grid0.coords t) = 1#1) (ht : 32 ≤ t.val ∧ t.val ≤ 1056) (hI : InsAt A t.val I) (s : St Ideal) (H : InvV A t.val s)
    (τ : ℕ) (hτ : τ < 32) (a : Fin 2) (o : Fin 512) (i : Fin 8192) (ha : a.val = τ % 2) (hl : Live τ (i.val / 256) t.val) :
    g5 (grid0.coords t) h I s (ix3 a o i) = A.Gp τ (min 32 (t.val + 1 - 33 - 32 * τ)) o i := by
  have hg := H.g τ hτ a o i ha hl
  unfold Live at hl
  have hi : i.val / 256 < 32 := by omega
  by_cases hm : a.val = ((t.val - 1) / 32 + 1) % 2
  · rw [(g5_at s t h ht a o i).1 hm, prod_eq t.val ht hI s H o i, hg]
    split
    · rename_i e
      have e1 : min 32 (t.val + 1 - 33 - 32 * τ) = min 32 (t.val - 33 - 32 * τ) := by omega
      rw [e1, add_zero]
    · rename_i e
      have e0 : (t.val - 33) / 32 = τ := by omega
      have e1 : min 32 (t.val + 1 - 33 - 32 * τ) = min 32 (t.val - 33 - 32 * τ) + 1 := by omega
      have e2 : (t.val - 33) % 32 = min 32 (t.val - 33 - 32 * τ) := by omega
      rw [e0, e1, e2]
      unfold Arrs.Gp
      rw [Finset.sum_range_succ]
  · rw [(g5_at s t h ht a o i).2 hm, hg]
    have e1 : min 32 (t.val + 1 - 33 - 32 * τ) = min 32 (t.val - 33 - 32 * τ) := by omega
    rw [e1]

/-- A point of the main range keeps it. -/
theorem inv_main (t : Fin grid0.N) (h : k0_cond5 (grid0.coords t) = 1#1) (ht : 32 ≤ t.val ∧ t.val ≤ 1056) (hI : InsAt A t.val I) (s : St Ideal) (H : InvV A t.val s) :
    InvV A (t.val + 1) (f5 (grid0.coords t) h I s) where
  q1 a o i h1 h2 h3 := by
    have e : (t.val + 1) / 32 = t.val / 32 := by omega
    rw [e] at h2 ⊢
    by_cases hi : t.val % 32 * 256 ≤ i.val
    · exact (q5 s t h ht hI a o i).1 (by omega) (by omega) (by omega)
    · rw [(q5 s t h ht hI a o i).2 (by omega), H.q1 a o i (by omega) (by omega) (by omega)]
  q2 a o i h1 h2 h3 := by
    by_cases e : t.val % 32 = 31
    · have e' : (t.val + 1) / 32 - 1 = t.val / 32 := by omega
      rw [e']
      by_cases hi : t.val % 32 * 256 ≤ i.val
      · exact (q5 s t h ht hI a o i).1 (by omega) (by omega) (by omega)
      · rw [(q5 s t h ht hI a o i).2 (by omega), H.q1 a o i (by omega) (by omega) (by omega)]
    · have e' : (t.val + 1) / 32 = t.val / 32 := by omega
      rw [e'] at h1 h2 h3 ⊢
      rw [(q5 s t h ht hI a o i).2 (by omega), H.q2 a o i h1 h2 h3]
  en0 _ h := by omega
  en1 h1 h2 o k := by
    have e1 : (t.val + 1 - 33) % 32 = t.val % 32 := by omega
    have e2 : (t.val + 1 - 33) / 32 = (t.val - 32) / 32 := by omega
    rw [e1, e2]
    exact en5 s t h (by omega) hI (fun a o i ha => H.q2 a o i (by omega) (by omega) ha) o k
  g τ hτ a o i ha hl := by
    have hi : i.val / 256 < 32 := by omega
    rw [f5_g]
    by_cases hz : a.val = (t.val - 1) / 32 % 2 ∧ ech t.val * 256 ≤ i.val ∧ i.val < ech t.val * 256 + 256
    · have en : min 32 (t.val + 1 - 33 - 32 * τ) = 0 := by unfold Live ech at *; omega
      rw [(ov256 (off19_eq t ht) _ _ _ a o i).1 hz.1 hz.2, en, pay45_apply]
      exact (Finset.sum_range_zero _).symm
    · rw [(ov256 (off19_eq t ht) _ _ _ a o i).2 hz]
      exact g5_live t h ht hI s H τ hτ a o i ha (by unfold Live ech at *; omega)

/-- and writes this block of the gradient of `s2`. -/
theorem o14_main (t : Fin grid0.N) (h : k0_cond5 (grid0.coords t) = 1#1) (ht : 32 ≤ t.val ∧ t.val ≤ 1056) (h65 : 65 ≤ t.val) (hI : InsAt A t.val I) (s : St Ideal) (H : InvV A t.val s)
    (o : Fin 512) (l : Fin 256) : (f5 (grid0.coords t) h I s).o14 (ix2 o l) = A.D (512 * eti t.val + o) (256 * ech t.val + l) := by
  refine o5 s t h ht hI (fun a o i ha hi => ?_) o l
  have e : min 32 (t.val + 1 - 33 - 32 * eti t.val) = 32 := by unfold eti; omega
  rw [g5_live t h ht hI s H (eti t.val) (by unfold eti; omega) a o i (by unfold eti; omega) (by unfold Live; rw [hi]; unfold eti ech; omega), e, G_tile]

/-- A point after the main range keeps it. -/
theorem inv_post (t : Fin grid0.N) (h : k0_cond7 (grid0.coords t) = 1#1) (ht : 1056 < t.val) (s : St Ideal) (H : InvV A t.val s) :
    InvV A (t.val + 1) (f7 (grid0.coords t) h I s) where
  q1 a o i h1 := by omega
  q2 a o i _ h1 := by omega
  en0 _ h := by omega
  en1 _ h := by omega
  g τ hτ a o i ha hl := by
    have hi : i.val / 256 < 32 := by omega
    have e0 : min 32 (t.val + 1 - 33 - 32 * τ) = min 32 (t.val - 33 - 32 * τ) := by omega
    have ht' : t.val < 1089 := lt_of_lt_of_eq t.isLt N_0
    rw [f7_g]
    have hz : ¬ (a.val = (t.val - 1) / 32 % 2 ∧ ech t.val * 256 ≤ i.val ∧ i.val < ech t.val * 256 + 256) := by unfold Live ech at *; omega
    rw [(ov256 (off22_eq t ht) _ _ _ a o i).2 hz, e0]
    exact H.g τ hτ a o i ha (by unfold Live ech at *; omega)
theorem o14_post (t : Fin grid0.N) (h : k0_cond7 (grid0.coords t) = 1#1) (ht : 1056 < t.val) (hI : InsAt A t.val I) (s : St Ideal) (H : InvV A t.val s)
    (o : Fin 512) (l : Fin 256) : (f7 (grid0.coords t) h I s).o14 (ix2 o l) = A.D (512 * eti t.val + o) (256 * ech t.val + l) := by
  have ht' : t.val < 1089 := lt_of_lt_of_eq t.isLt N_0
  refine o7 s t h ht hI (fun a o i ha hi => ?_) o l
  have e : min 32 (t.val - 33 - 32 * eti t.val) = 32 := by unfold eti; omega
  rw [H.g (eti t.val) (by unfold eti; omega) a o i (by unfold eti; omega) (by unfold Live; rw [hi]; unfold eti ech; omega), e, G_tile]

end Cert.KernelIdeal.Gen
end
-- ==== Proof.FinV.lean ====
/-
  What the kernel leaves in its results: the conditions that a point keeps, and the array of the elements' gradients at the end.
-/
module

public import proofs.«01_k».proof.Proof.InV
public import proofs.«01_k».proof.Proof.Keep
public import proofs.«01_k».proof.Proof.RunI
public import Idealize.ShloMosaic.Lib.Pipeline.ArrRel

@[expose] public section

set_option maxRecDepth 16384

noncomputable section

namespace Cert.KernelIdeal.Gen

open Idealize.ShloMosaic Idealize.ShloMosaic.TcCoe Cert.Flex
open Idealize.ShloMosaic.Pipeline (RDat Dat UD Cfg Window cellOf)

variable (m : (ℓ : Loc nD τ sig) → Buf (Elt Ideal) ℓ)

/-- What holds of the scratch buffers before a point. -/
abbrev invF (c : Dev nD) (t : ℕ) (s : St Ideal) : Prop := InvV (arrs m c) t s
/-- What a point leaves in the output windows: from point 65 on the tile of the elements' gradients. -/
abbrev outF (c : Dev nD) : Outs Ideal where
  p13 _ _ := True
  p14 t X := 65 ≤ t.val → ∀ (o : Fin 512) (l : Fin 256), X (ix2 o l) = (arrs m c).D (512 * eti t.val + o) (256 * ech t.val + l)
  p15 _ _ := True
  p16 _ _ := True
  p17 _ _ := True
  p18 _ _ := True

/-- The error tile zeroed. -/
theorem f1_en (s : St Ideal) (o k : Fin 512) : (f1 s).en (ix2 o k) = 0 := by
  have e : (f1 s).en = (Rect.unit (s := S512x512) ![0, 0] S512x512.size inb_S512x512_S512x512_0_0).overlay s.en (k0_pay1 (F := Ideal)) := rfl
  rw [e, overlay_all (by decide)]
  pointwise [k0_pay1]

/-- The last section leaves what is kept as it was. -/
theorem inv_last (A : Arrs) (n : ℕ) (i : grid0.Coords) (h : k0_cond9 i = 1#1) (I : Ins Ideal) (s : St Ideal) (K : InvV A n s) : InvV A n (f9 i h I s) :=
  ⟨K.q1, K.q2, K.en0, K.en1, K.g⟩
/-- The last section leaves the tile of the elements' gradients. -/
theorem f9_o14 (i : grid0.Coords) (h : k0_cond9 i = 1#1) (I : Ins Ideal) (s : St Ideal) : (f9 i h I s).o14 = s.o14 := rfl

/-- What one point does. -/
theorem step_keeps (A : Arrs) (t : Fin cfg0.N) (I : Ins Ideal) (hI : InsAt A t.val I) (s : St Ideal) (H : InvV A t.val s) :
    InvV A (t.val + 1) (stepSt t I s)
    ∧ (65 ≤ t.val → ∀ (o : Fin 512) (l : Fin 256), (stepSt t I s).o14 (ix2 o l) = A.D (512 * eti t.val + o) (256 * ech t.val + l)) := by
  have ht : t.val < 1089 := lt_of_lt_of_eq t.isLt N_0
  by_cases h0 : t.val = 0
  · have h2 := (cond2_iff t).mpr (by omega)
    rw [stepSt_zero t I s h0 h2]
    exact ⟨inv_pre t h2 (by omega) hI s H (f1 s) rfl rfl (f1_en s), fun h => by omega⟩
  by_cases h1 : t.val < 32
  · have h2 := (cond2_iff t).mpr (by omega)
    rw [stepSt_pre t I s h0 h1 h2]
    exact ⟨inv_pre t h2 h1 hI s H s rfl rfl (H.en0 (by omega) (by omega)), fun h => by omega⟩
  by_cases h3 : t.val ≤ 1056
  · have h5 := (cond5_iff t).mpr (by omega)
    rw [stepSt_main t I s (by omega) h3 h5]
    exact ⟨inv_main t h5 (by omega) hI s H, fun h => o14_main t h5 (by omega) h hI s H⟩
  have h7 := (cond7_iff t).mpr (by omega)
  by_cases h4 : t.val = 1088
  · have h9 := (cond9_iff t).mpr h4
    rw [stepSt_last t I s h4 h7 h9]
    refine ⟨inv_last A _ _ h9 I _ (inv_post (I := I) t h7 (by omega) s H), fun _ o l => ?_⟩
    rw [f9_o14]
    exact o14_post t h7 (by omega) hI s H o l
  · rw [stepSt_post t I s (by omega) h4 h7]
    exact ⟨inv_post t h7 (by omega) s H, fun _ => o14_post t h7 (by omega) hI s H⟩

/-- Every point keeps what holds of the scratch buffers and leaves what is asked of the results. -/
theorem keepsF (c : Dev nD) : Keeps m (invF m) (outF m) c := by
  intro t Y s xa xb hY hI hx
  have K := step_keeps (arrs m c) t (insOf Y xa xb) (insAt m c _ _ t Y hY xa xb hx) (stOf s Y) ⟨hI.q1, hI.q2, hI.en0, hI.en1, hI.g⟩
  exact ⟨K.1, trivial, K.2, trivial, trivial, trivial, trivial⟩

/-- The elements' gradients, whole. -/
abbrev resD (A : Arrs) : S16384x8192.Idx → EReal := fun x => A.D (x 0).val (x 1).val

/-- The array of the elements' gradients at the end. -/
theorem final14 (r : PUnit × MemSt nD τ sig (Elt Ideal)) (h : RDat.FramePost (cfgs 0) (rd m (invF m) (outF m)) (V m) r) (c : Dev nD) :
    r.2.mem ((c : Thread nD τ).loc main_v25_1) = resD (arrs m c) := by
  obtain ⟨after, hL, hA⟩ := h.exists_exact c
  refine (hA 12).trans (Dat.arrAt_eq_of_cover _ 12 _ (fun t hf => ?_) (fun (i : S16384x8192.Idx) => ?_))
  · have h65 : 65 ≤ t.val := flush12_only t hf
    obtain ⟨Y, -, hp⟩ := hL 12 t hf
    have hp : ∀ (o : Fin 512) (l : Fin 256), after 12 t (ix2 o l) = (arrs m c).D (512 * eti t.val + o) (256 * ech t.val + l) := hp h65
    show (cfg0.win 12).cut (grid0.coords t) (after 12 t) = _
    funext j
    rw [View.read_apply]
    have h0 : (j 0).val < 512 := (j 0).isLt
    have h1 : (j 1).val < 256 := (j 1).isLt
    refine Eq.trans ?_ ((hp ⟨(j 0).val, h0⟩ ⟨(j 1).val, h1⟩).trans ?_)
    · show after 12 t _ = _
      congr 1; funext a
      match a with
      | ⟨0, _⟩ => rfl
      | ⟨1, _⟩ => rfl
    · show (arrs m c).D _ _ = (arrs m c).D (cc0_transform_13 (grid0.coords t) 0 * 512 + 1 * (j 0).val) (cc0_transform_13 (grid0.coords t) 1 * 256 + 1 * (j 1).val)
      rw [map13]
      show (arrs m c).D (512 * eti t.val + (j 0).val) (256 * ech t.val + (j 1).val) = (arrs m c).D (eti t.val * 512 + 1 * (j 0).val) (ech t.val * 256 + 1 * (j 1).val)
      rw [Nat.one_mul, Nat.one_mul, Nat.mul_comm 512, Nat.mul_comm 256]
  · have hi0 : (i 0).val < 16384 := (i 0).isLt
    have hi1 : (i 1).val < 8192 := (i 1).isLt
    have hN : 65 + (32 * ((i 0).val / 512) + (i 1).val / 256) < cfg0.N := lt_of_lt_of_eq (by omega) N_0.symm
    refine ⟨⟨65 + (32 * ((i 0).val / 512) + (i 1).val / 256), hN⟩, flush12 _ (Or.inr (by show 65 ≤ 65 + (32 * ((i 0).val / 512) + (i 1).val / 256); omega)), ?_⟩
    show i ∈ ((View.whole main_v25_1).slice (win0_12.rect (⟨65 + (32 * ((i 0).val / 512) + (i 1).val / 256), hN⟩ : Fin grid0.N))).set
    rw [View.set_slice_whole, Rect.mem_set_unit]
    intro a
    have e1 : eti (65 + (32 * ((i 0).val / 512) + (i 1).val / 256)) = (i 0).val / 512 := by unfold eti; omega
    have e2 : ech (65 + (32 * ((i 0).val / 512) + (i 1).val / 256)) = (i 1).val / 256 := by unfold ech; omega
    match a with
    | ⟨0, _⟩ =>
      show cc0_transform_13 (grid0.coords _) 0 * 512 ≤ (i 0).val ∧ (i 0).val < cc0_transform_13 (grid0.coords _) 0 * 512 + 512
      rw [map13]
      show eti (65 + (32 * ((i 0).val / 512) + (i 1).val / 256)) * 512 ≤ (i 0).val ∧ (i 0).val < eti (65 + (32 * ((i 0).val / 512) + (i 1).val / 256)) * 512 + 512
      rw [e1]; omega
    | ⟨1, _⟩ =>
      show cc0_transform_13 (grid0.coords _) 1 * 256 ≤ (i 1).val ∧ (i 1).val < cc0_transform_13 (grid0.coords _) 1 * 256 + 256
      rw [map13]
      show ech (65 + (32 * ((i 0).val / 512) + (i 1).val / 256)) * 256 ≤ (i 1).val ∧ (i 1).val < ech (65 + (32 * ((i 0).val / 512) + (i 1).val / 256)) * 256 + 256
      rw [e2]; omega

end Cert.KernelIdeal.Gen
end
-- ==== Proof.RefA.lean ====
/-
  The reference's arrays, element by element: its quantised weights, its products and its gradient of the elements' scales
  are the step's formulas.
-/
module

public import proofs.«01_k».proof.Proof.Args
public import proofs.«01_k».proof.Proof.Gen.ReferenceIdeal.Read
public import Idealize.ShloMosaic.Lib.Pipeline.ValueKit.Acc

@[expose] public section

set_option maxRecDepth 16384

noncomputable section

namespace Cert.Flex

open Idealize.ShloMosaic

theorem nat1_of {n : ℕ} (f : (⟨1, ![n]⟩ : Shape).Idx → EReal) (j : (⟨1, ![n]⟩ : Shape).Idx) {a : ℕ} (h : (j 0).val = a) : f j = nat1 f a := by
  subst h
  unfold nat1
  rw [dif_pos (show (j 0).val < n from (j 0).isLt)]
  congr 1; funext a
  match a with
  | ⟨0, _⟩ => rfl
theorem nat2_of {n k : ℕ} (f : (⟨2, ![n, k]⟩ : Shape).Idx → EReal) (j : (⟨2, ![n, k]⟩ : Shape).Idx) {a b : ℕ} (h : (j 0).val = a) (h' : (j 1).val = b) :
    f j = nat2 f a b := by
  subst h h'
  unfold nat2
  rw [dif_pos ⟨(j 0).isLt, (j 1).isLt⟩]
  congr 1; funext a
  match a with
  | ⟨0, _⟩ => rfl
  | ⟨1, _⟩ => rfl
theorem nat3_of {n k l : ℕ} (f : (⟨3, ![n, k, l]⟩ : Shape).Idx → EReal) (j : (⟨3, ![n, k, l]⟩ : Shape).Idx) {a b d : ℕ} (h : (j 0).val = a) (h' : (j 1).val = b)
    (h'' : (j 2).val = d) : f j = nat3 f a b d := by
  subst h h' h''
  unfold nat3
  rw [dif_pos ⟨(j 0).isLt, (j 1).isLt, (j 2).isLt⟩]
  congr 1; funext a
  match a with
  | ⟨0, _⟩ => rfl
  | ⟨1, _⟩ => rfl
  | ⟨2, _⟩ => rfl

/-- A code is an integer of the signed four-bit range. -/
theorem qF_int (z : EReal) : ∃ n : ℤ, -8 ≤ n ∧ n ≤ 7 ∧ qF z = ((n : ℝ) : EReal) := by
  have e7 : (7#32).toInt = 7 := by decide
  have e8 : (4294967288#32).toInt = -8 := by decide
  unfold qF
  rw [e7, e8]
  induction z with
  | bot => exact ⟨-8, by norm_num, by norm_num, by
      show min (((7 : ℤ) : ℝ) : EReal) (max (((-8 : ℤ) : ℝ) : EReal) ⊥) = _
      rw [max_eq_left bot_le, min_eq_right]; exact EReal.coe_le_coe_iff.mpr (by norm_num)⟩
  | top => exact ⟨7, by norm_num, by norm_num, by
      show min (((7 : ℤ) : ℝ) : EReal) (max (((-8 : ℤ) : ℝ) : EReal) ⊤) = _
      rw [max_eq_right le_top, min_eq_left le_top]⟩
  | coe r =>
    refine ⟨min 7 (max (-8) (Ideal.roundHalfEven r)), by omega, by omega, ?_⟩
    show min (((7 : ℤ) : ℝ) : EReal) (max (((-8 : ℤ) : ℝ) : EReal) (((Ideal.roundHalfEven r : ℤ) : ℝ) : EReal)) = _
    rw [← EReal.coe_strictMono.monotone.map_max, ← EReal.coe_strictMono.monotone.map_min]
    push_cast
    rfl

/-- An integer of that range converted to a word. -/
theorem fptosi_int (n : ℤ) (h : -8 ≤ n) (h' : n ≤ 7) : Ideal.fptosi 32 ((n : ℝ) : EReal) = BitVec.ofInt 32 n := by
  have e : Ideal.toIntClamped (-(2 ^ (32 - 1) : Nat)) ((2 ^ (32 - 1) : Nat) - 1) ((n : ℝ) : EReal)
      = max (-((2 ^ (32 - 1) : ℕ) : ℤ)) (min (((2 ^ (32 - 1) : ℕ) : ℤ) - 1) (if (0 : ℝ) ≤ (n : ℝ) then ⌊(n : ℝ)⌋ else ⌈(n : ℝ)⌉)) := rfl
  unfold Ideal.fptosi
  rw [e, Int.floor_intCast, Int.ceil_intCast, ite_self]
  congr 1
  omega

/-- The word that two codes are packed into. -/
def packW (a b : BitVec 32) : BitVec 32 :=
  ((IntOp.ori (IntOp.andi a 15#32) (IntOp.shli .host (IntOp.andi b 15#32) 4#32)).setWidth 8).setWidth 32
/-- Unpacking the lower code. -/
def loW (p : BitVec 32) : BitVec 32 := IntOp.subi (IntOp.xori (IntOp.andi p 15#32) 8#32) 8#32
/-- Unpacking the upper code. -/
def hiW (p : BitVec 32) : BitVec 32 := IntOp.subi (IntOp.xori (IntOp.andi (IntOp.shrsi .host p 4#32) 15#32) 8#32) 8#32

theorem unpack_fin : ∀ a b : Fin 16, loW (packW (BitVec.ofInt 32 (a.val - 8)) (BitVec.ofInt 32 (b.val - 8))) = BitVec.ofInt 32 (a.val - 8)
    ∧ hiW (packW (BitVec.ofInt 32 (a.val - 8)) (BitVec.ofInt 32 (b.val - 8))) = BitVec.ofInt 32 (b.val - 8) := by decide +kernel
/-- Packing and unpacking give the codes back. -/
theorem unpack (n k : ℤ) (hn : -8 ≤ n) (hn' : n ≤ 7) (hk : -8 ≤ k) (hk' : k ≤ 7) :
    loW (packW (BitVec.ofInt 32 n) (BitVec.ofInt 32 k)) = BitVec.ofInt 32 n ∧ hiW (packW (BitVec.ofInt 32 n) (BitVec.ofInt 32 k)) = BitVec.ofInt 32 k := by
  have h := unpack_fin ⟨(n + 8).toNat, by omega⟩ ⟨(k + 8).toNat, by omega⟩
  have e1 : (((n + 8).toNat : ℕ) : ℤ) - 8 = n := by omega
  have e2 : (((k + 8).toNat : ℕ) : ℤ) - 8 = k := by omega
  rwa [e1, e2] at h
theorem toInt_code (n : ℤ) (h : -8 ≤ n) (h' : n ≤ 7) : (BitVec.ofInt 32 n).toInt = n := by
  rw [BitVec.toInt_ofInt]; exact Int.bmod_eq_of_le (by norm_num; omega) (by norm_num; omega)

end Cert.Flex

namespace Cert.ReferenceIdeal.Read

open Idealize.ShloMosaic Cert.Flex

variable (x0 : (⟨S8x2048x8192, .fp8e4m3⟩ : BufTy).Contents (Elt Ideal)) (x1 : (⟨S8x2048, .f32⟩ : BufTy).Contents (Elt Ideal))
  (x2 : (⟨S16384x8192, .f32⟩ : BufTy).Contents (Elt Ideal)) (x3 : (⟨S16384, .f32⟩ : BufTy).Contents (Elt Ideal))
  (x4 : (⟨S16384x8192, .f32⟩ : BufTy).Contents (Elt Ideal)) (x5 : (⟨S16384, .f32⟩ : BufTy).Contents (Elt Ideal))
  (x6 : (⟨S8192, .f32⟩ : BufTy).Contents (Elt Ideal)) (x7 : (⟨S8x2048x16384, .bf16⟩ : BufTy).Contents (Elt Ideal))
  (r0 : (⟨S16384x8192, .bf16⟩ : BufTy).Contents (Elt Ideal))

/-- The step's arrays from the reference's arguments. -/
abbrev AA : Arrs := Arrs.of x0 x1 x2 x3 x4 x5 x6 x7

/-- The scaled weights. -/
theorem z_at (j : S16384x8192.Idx) : val_main_v12 x2 x3 x4 x5 x6 j = (AA x0 x1 x2 x3 x4 x5 x6 x7).Z (j 0).val (j 1).val := by
  rw [val_main_v12_apply, val_main_v11_apply, val_main_v10_apply, val_main_v8_apply, val_main_v9_apply, val_main_v7_apply, val_main_v4_apply, val_main_v3_apply,
    val_main_v2_apply, val_main_v6_apply, val_main_v5_apply]
  rw [nat2_of x2 j rfl rfl, nat2_of x4 j rfl rfl, nat1_of x3 _ (a := (j 0).val) rfl, nat1_of x5 _ (a := (j 0).val) rfl, nat1_of x6 _ (a := (j 1).val) rfl]
  rfl

/-- The codes. -/
theorem q_at (j : S16384x8192.Idx) : val_main_v14 x2 x3 x4 x5 x6 j = (AA x0 x1 x2 x3 x4 x5 x6 x7).Q (j 0).val (j 1).val := by
  rw [val_main_v14_apply, val_main_call1_v2_apply, val_main_v13_apply, val_main_call1_v1_apply, val_main_call1_v0_apply, val_main_c_apply, val_main_call1_v4_apply,
    val_main_call1_v3_apply, val_main_c_0_apply, z_at x0 x1 x2 x3 x4 x5 x6 x7 j]
  rfl

/-- The codes as words. -/
theorem word_at (j : S16384x8192.Idx) (n : ℤ) (h : -8 ≤ n) (h' : n ≤ 7) (e : (AA x0 x1 x2 x3 x4 x5 x6 x7).Q (j 0).val (j 1).val = ((n : ℝ) : EReal)) :
    val_main_v15 x2 x3 x4 x5 x6 j = BitVec.ofInt 32 n := by
  rw [val_main_v15_apply, q_at x0 x1 x2 x3 x4 x5 x6 x7 j, e]
  exact fptosi_int n h h'

theorem v16_at (o : Fin 16384) (k : Fin 4096) : val_main_v16 x2 x3 x4 x5 x6 (ix2 o k) = val_main_v15 x2 x3 x4 x5 x6 (ix2 o (⟨2 * k.val, by omega⟩ : Fin 8192)) := by
  unfold val_main_v16
  rw [Host.slice_apply]
  congr 1; funext a; apply Fin.ext
  match a with
  | ⟨0, _⟩ => show 0 + 1 * o.val = o.val; omega
  | ⟨1, _⟩ => show 0 + 2 * k.val = 2 * k.val; omega
theorem v19_at (o : Fin 16384) (k : Fin 4096) : val_main_v19 x2 x3 x4 x5 x6 (ix2 o k) = val_main_v15 x2 x3 x4 x5 x6 (ix2 o (⟨2 * k.val + 1, by omega⟩ : Fin 8192)) := by
  unfold val_main_v19
  rw [Host.slice_apply]
  congr 1; funext a; apply Fin.ext
  match a with
  | ⟨0, _⟩ => show 0 + 1 * o.val = o.val; omega
  | ⟨1, _⟩ => show 1 + 2 * k.val = 2 * k.val + 1; omega
/-- The packed words. -/
theorem v26_at (o : Fin 16384) (k : Fin 4096) : val_main_v26 x2 x3 x4 x5 x6 (ix2 o k)
    = packW (val_main_v15 x2 x3 x4 x5 x6 (ix2 o (⟨2 * k.val, by omega⟩ : Fin 8192))) (val_main_v15 x2 x3 x4 x5 x6 (ix2 o (⟨2 * k.val + 1, by omega⟩ : Fin 8192))) := by
  rw [val_main_v26_apply, val_main_v25_apply, val_main_v24_apply, val_main_v18_apply, val_main_v23_apply, val_main_v21_apply, v16_at, v19_at, val_main_v17_apply,
    val_main_v20_apply, val_main_v22_apply]
  rfl
theorem v32_at (o : Fin 16384) (k : Fin 4096) : val_main_v32 x2 x3 x4 x5 x6 (ix2 o k) = loW (val_main_v26 x2 x3 x4 x5 x6 (ix2 o k)) := by
  rw [val_main_v32_apply, val_main_v30_apply, val_main_v28_apply, val_main_v27_apply, val_main_v29_apply, val_main_v31_apply]
  rfl
theorem v40_at (o : Fin 16384) (k : Fin 4096) : val_main_v40 x2 x3 x4 x5 x6 (ix2 o k) = hiW (val_main_v26 x2 x3 x4 x5 x6 (ix2 o k)) := by
  rw [val_main_v40_apply, val_main_v38_apply, val_main_v36_apply, val_main_v34_apply, val_main_v33_apply, val_main_v35_apply, val_main_v37_apply, val_main_v39_apply]
  rfl
theorem v43_lo (o : Fin 16384) (k : Fin 4096) : val_main_v43 x2 x3 x4 x5 x6 (ix3 o k (0 : Fin 2)) = val_main_v32 x2 x3 x4 x5 x6 (ix2 o k) := by
  unfold val_main_v43
  refine (concatenate_pair_apply_left (t := S16384x4096x2) (s₁ := S16384x4096x1) (s₂ := S16384x4096x1) 2 _ _ _ (ix3 o k (0 : Fin 2)) rfl (ix3 o k (0 : Fin 1)) (fun b => match b with
    | ⟨0, _⟩ => rfl
    | ⟨1, _⟩ => rfl
    | ⟨2, _⟩ => rfl)).trans ?_
  rw [val_main_v41_apply]
  congr 1; funext a
  match a with
  | ⟨0, _⟩ => rfl
  | ⟨1, _⟩ => rfl
theorem v43_hi (o : Fin 16384) (k : Fin 4096) : val_main_v43 x2 x3 x4 x5 x6 (ix3 o k (1 : Fin 2)) = val_main_v40 x2 x3 x4 x5 x6 (ix2 o k) := by
  unfold val_main_v43
  refine (concatenate_pair_apply_right (t := S16384x4096x2) (s₁ := S16384x4096x1) (s₂ := S16384x4096x1) 2 _ _ _ (ix3 o k (1 : Fin 2)) rfl rfl (ix3 o k (0 : Fin 1)) (fun b hb => match b with
    | ⟨0, _⟩ => rfl
    | ⟨1, _⟩ => rfl
    | ⟨2, _⟩ => absurd rfl hb) rfl).trans ?_
  rw [val_main_v42_apply]
  congr 1; funext a
  match a with
  | ⟨0, _⟩ => rfl
  | ⟨1, _⟩ => rfl

/-- The unpacked codes. -/
theorem code_at (j : S16384x8192.Idx) : val_main_v46 x2 x3 x4 x5 x6 j = (AA x0 x1 x2 x3 x4 x5 x6 x7).Q (j 0).val (j 1).val := by
  have h0 : (j 0).val < 16384 := (j 0).isLt
  have h1 : (j 1).val < 8192 := (j 1).isLt
  obtain ⟨o, ho⟩ : ∃ o : Fin 16384, o.val = (j 0).val := ⟨⟨_, h0⟩, rfl⟩
  obtain ⟨k, hk⟩ : ∃ k : Fin 4096, k.val = (j 1).val / 2 := ⟨⟨(j 1).val / 2, by omega⟩, rfl⟩
  obtain ⟨n, hn, hn', en⟩ := qF_int ((AA x0 x1 x2 x3 x4 x5 x6 x7).Z o.val (2 * k.val))
  obtain ⟨n', hm, hm', en'⟩ := qF_int ((AA x0 x1 x2 x3 x4 x5 x6 x7).Z o.val (2 * k.val + 1))
  have w0 := word_at x0 x1 x2 x3 x4 x5 x6 x7 (ix2 o (⟨2 * k.val, by omega⟩ : Fin 8192)) n hn hn' en
  have w1 := word_at x0 x1 x2 x3 x4 x5 x6 x7 (ix2 o (⟨2 * k.val + 1, by omega⟩ : Fin 8192)) n' hm hm' en'
  have U := unpack n n' hn hn' hm hm'
  have key : ∃ p : ℤ, -8 ≤ p ∧ p ≤ 7 ∧ val_main_v44 x2 x3 x4 x5 x6 j = BitVec.ofInt 32 p ∧ (AA x0 x1 x2 x3 x4 x5 x6 x7).Q (j 0).val (j 1).val = ((p : ℝ) : EReal) := by
    rw [val_main_v44_apply]
    rcases Nat.mod_two_eq_zero_or_one (j 1).val with e | e
    · refine ⟨n, hn, hn', ?_, ?_⟩
      · have ei : idx_main_v44 j = ix3 o k (0 : Fin 2) := by
          funext a; apply Fin.ext
          match a with
          | ⟨0, _⟩ => show ((j 0).val * 8192 + (j 1).val) / 8192 = o.val; omega
          | ⟨1, _⟩ => show ((j 0).val * 8192 + (j 1).val) / 2 % 4096 = k.val; omega
          | ⟨2, _⟩ => show ((j 0).val * 8192 + (j 1).val) % 2 = 0; omega
        rw [ei, v43_lo, v32_at, v26_at, w0, w1, U.1]
      · rw [← ho, show (j 1).val = 2 * k.val by omega]; exact en
    · refine ⟨n', hm, hm', ?_, ?_⟩
      · have ei : idx_main_v44 j = ix3 o k (1 : Fin 2) := by
          funext a; apply Fin.ext
          match a with
          | ⟨0, _⟩ => show ((j 0).val * 8192 + (j 1).val) / 8192 = o.val; omega
          | ⟨1, _⟩ => show ((j 0).val * 8192 + (j 1).val) / 2 % 4096 = k.val; omega
          | ⟨2, _⟩ => show ((j 0).val * 8192 + (j 1).val) % 2 = 1; omega
        rw [ei, v43_hi, v40_at, v26_at, w0, w1, U.2]
      · rw [← ho, show (j 1).val = 2 * k.val + 1 by omega]; exact en'
  obtain ⟨p, hp, hp', e1, e2⟩ := key
  rw [val_main_v46_apply, val_main_v45_apply, e1, e2]
  show (((BitVec.ofInt 32 p).toInt : ℝ) : EReal) = _
  rw [toInt_code p hp hp']

variable (hr : ∀ j : S16384x8192.Idx, r0 j = (AA x0 x1 x2 x3 x4 x5 x6 x7).x (j 0).val (j 1).val)
include hr

/-- The forward product. -/
theorem acc_at (j : S16384x16384.Idx) : val_main_v53 x2 x3 x4 x5 x6 r0 j = (AA x0 x1 x2 x3 x4 x5 x6 x7).Acc (j 0).val (j 1).val := by
  rw [val_main_v53_apply]
  unfold Arrs.Acc
  refine Finset.sum_congr rfl fun k _ => ?_
  rw [hr, code_at x0 x1 x2 x3 x4 x5 x6 x7, mul_comm]

/-- The scaled error. -/
theorem e_at (j : S16384x16384.Idx) : val_main_v69 x1 x2 x3 x4 x5 x6 x7 r0 j = (AA x0 x1 x2 x3 x4 x5 x6 x7).E (j 0).val (j 1).val := by
  have h0 : (j 0).val < 16384 := (j 0).isLt
  have h1 : (j 1).val < 16384 := (j 1).isLt
  rw [val_main_v69_apply, val_main_v68_apply, val_main_v67_apply, val_main_cst_14_apply, val_main_v66_apply, val_main_v65_apply, val_main_v64_apply,
    val_main_v63_apply, val_main_v62_apply, val_main_v61_apply, val_main_v60_apply, val_main_v59_apply, val_main_v58_apply, val_main_v57_apply, val_main_v56_apply,
    val_main_v55_apply, val_main_v54_apply, acc_at x0 x1 x2 x3 x4 x5 x6 x7 r0 hr j]
  rw [nat2_of x1 (idx_main_v54 (idx_main_v55 (idx_main_v56 j))) (a := (j 0).val / 2048) (b := (j 0).val % 2048) rfl rfl,
    nat1_of x3 _ (a := (j 1).val) rfl,
    nat3_of x7 (idx_main_v61 j) (a := (j 0).val / 2048) (b := (j 0).val % 2048) (d := (j 1).val)
      (by show ((j 0).val * 16384 + (j 1).val) / 33554432 = _; omega) (by show ((j 0).val * 16384 + (j 1).val) / 16384 % 2048 = _; omega)
      (by show ((j 0).val * 16384 + (j 1).val) % 16384 = _; omega)]
  rfl

/-- The weight gradient. -/
theorem g_at (j : S16384x8192.Idx) : val_main_v70 x1 x2 x3 x4 x5 x6 x7 r0 j = (AA x0 x1 x2 x3 x4 x5 x6 x7).G (j 0).val (j 1).val := by
  rw [val_main_v70_apply]
  have e : ∀ k : Fin 16384, val_main_v69 x1 x2 x3 x4 x5 x6 x7 r0 (lidx_main_v70 j k) * r0 (ridx_main_v70 j k)
      = (fun n : ℕ => (AA x0 x1 x2 x3 x4 x5 x6 x7).E n (j 0).val * (AA x0 x1 x2 x3 x4 x5 x6 x7).x n (j 1).val) k.val := by
    intro k
    rw [hr, e_at x0 x1 x2 x3 x4 x5 x6 x7 r0 hr]
  rw [Finset.sum_congr rfl fun k _ => e k, Fin.sum_univ_eq_sum_range (fun n : ℕ => (AA x0 x1 x2 x3 x4 x5 x6 x7).E n (j 0).val * (AA x0 x1 x2 x3 x4 x5 x6 x7).x n (j 1).val) 16384]
  unfold Arrs.G Arrs.Gp Arrs.con
  have e2 : 512 * ((j 0).val / 512) + (j 0).val % 512 = (j 0).val := by omega
  rw [e2]
  refine (Finset.sum_range_mul_split 32 512 _).trans (Finset.sum_congr rfl fun b _ => ?_)
  rw [Nat.mul_comm b 512]
  exact (Fin.sum_univ_eq_sum_range (fun k : ℕ => (AA x0 x1 x2 x3 x4 x5 x6 x7).E (512 * b + k) (j 0).val * (AA x0 x1 x2 x3 x4 x5 x6 x7).x (512 * b + k) (j 1).val) 512).symm

/-- The gradient of the elements' scales. -/
theorem d_at (j : S16384x8192.Idx) : val_main_v76 x1 x2 x3 x4 x5 x6 x7 r0 j = (AA x0 x1 x2 x3 x4 x5 x6 x7).D (j 0).val (j 1).val := by
  rw [val_main_v76_apply, val_main_v75_apply, val_main_v74_apply, val_main_v73_apply, val_main_v72_apply, val_main_v71_apply, val_main_v52_apply, val_main_v51_apply,
    val_main_v48_apply, val_main_v50_apply, g_at x0 x1 x2 x3 x4 x5 x6 x7 r0 hr j, z_at x0 x1 x2 x3 x4 x5 x6 x7 j, nat1_of x3 _ (a := (j 0).val) rfl]
  unfold Arrs.D dF
  generalize (AA x0 x1 x2 x3 x4 x5 x6 x7).Z (j 0).val (j 1).val = z
  generalize (AA x0 x1 x2 x3 x4 x5 x6 x7).G (j 0).val (j 1).val = g
  show (-(nat1 x3 (j 0).val)) * Scalar.select (mF z) (Ideal.ofBits .f32 0x3F800000#32) (Ideal.ofBits .f32 0x00000000#32) * z * g
    = Scalar.select (mF z) ((0 - nat1 x3 (j 0).val) * z * g) 0
  generalize nat1 x3 (j 0).val = s
  generalize mF z = b
  have h1 : Ideal.ofBits .f32 0x3F800000#32 = 1 := Ideal.ofBits_one_f32
  have h0 : Ideal.ofBits .f32 0x00000000#32 = 0 := Ideal.ofBits_zero_f32
  rw [h1, h0, zero_sub]
  unfold Scalar.select
  split
  · rw [mul_one]
  · rw [mul_zero, zero_mul, zero_mul]

end Cert.ReferenceIdeal.Read
end
-- ==== Proof.RefV.lean ====
/-
  The reference's run, read: the gradient of the elements' scales is the step's formula of the arguments.
-/
module

public import proofs.«01_k».proof.Proof.RefA
public import Idealize.ShloMosaic.Lib.Pointwise
public import Idealize.ShloMosaic.Lib.ValueLayout
public import Idealize.ShloMosaic.Lib.Tactic
public import Idealize.ShloMosaic.Lib.StableHlo.ReadAt

@[expose] public section

set_option maxRecDepth 16384

noncomputable section

namespace Cert.ReferenceIdeal.Value

open Idealize.ShloMosaic Idealize.ShloMosaic.TcCoe Idealize.SL.Sem Cert.Flex
open Idealize.ShloMosaic.Pipeline (Dat)
open Cert.ReferenceIdeal.Gen Cert.ReferenceIdeal.Read

variable (m : (ℓ : Loc nD τ sig) → Buf (Elt Ideal) ℓ) (c : Dev nD)

/-- The token array that the cast reads. -/
abbrev xin : S16384x8192.Idx → EReal := V m c main_v0

theorem iblk_eq : (iblk m c 0 t0_0 : S16384x8192.Idx → EReal) = xin m c := by
  have hz' : (fun a => win0_0.index t0_0 a * main_v0.ty.shape.size a) = fun _ => 0 := funext fun a => by fin_cases a <;> decide
  exact Memref.read_access_unit_zero (Elt Ideal) main_v0 hz' (fun a => by rw [congrFun hz' a]; simp) (V m c main_v0)

theorem out_eq (X : S16384x8192.Idx → EReal) : (out0_1 (F := Ideal) X : S16384x8192.Idx → EReal) = X := by
  have hz : (![0, 0] : Fin 2 → Nat) = fun _ => 0 := funext fun a => by fin_cases a <;> rfl
  unfold out0_1
  rw [View.canon_unit_zero hz, View.ld_unit_zero hz]
  unfold k0_pay1
  rw [shapeCast_self]
  rfl

/-- The cast array. -/
theorem reg_eq : (reg_main_v1 m c : S16384x8192.Idx → EReal) = xin m c :=
  (dats m 0 c).arrAt_eq_of_cover 1 (xin m c) (fun t hf => by
      obtain rfl : t = t0_0 := fin_N0 t
      show (cfg0.win 1).cut (grid0.coords t0_0) ((dats m 0 c).after 1 t0_0) = _
      rw [after0_1]
      have hz' : (fun a => win0_1.index t0_0 a * main_v1.ty.shape.size a) = fun _ => 0 := funext fun a => by fin_cases a <;> decide
      exact ((out_eq _).trans (iblk_eq m c)).trans
        (Memref.read_access_unit_zero (Elt Ideal) main_v1 hz' (fun a => by rw [congrFun hz' a]; simp) (xin m c)).symm) fun i =>
    ⟨t0_0, flush0_1 t0_0, by
      show i ∈ ((View.whole main_v1).slice (win0_1.rect t0_0)).set
      rw [View.set_slice_whole, Rect.mem_set_unit]
      intro a
      have h0 : (i 0 : Nat) < 16384 := (i 0).isLt
      have h1 : (i 1 : Nat) < 8192 := (i 1).isLt
      match a with
      | ⟨0, _⟩ => show 0 * 16384 ≤ (i 0 : Nat) ∧ (i 0 : Nat) < 0 * 16384 + 16384; omega
      | ⟨1, _⟩ => show 0 * 8192 ≤ (i 1 : Nat) ∧ (i 1 : Nat) < 0 * 8192 + 8192; omega⟩

/-- The step's arrays from the reference's arguments. -/
abbrev arrs : Arrs := Arrs.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7))

theorem xin_arg (n : Fin 16384) (i : Fin 8192) : xin m c (ix2 n i)
    = m ((c : Thread nD τ).loc main_arg0) (ix3 (⟨n.val / 2048, by omega⟩ : Fin 8) (⟨n.val % 2048, by omega⟩ : Fin 2048) i) := by
  unfold xin V
  after_reads_at

theorem reg_at (j : S16384x8192.Idx) : (reg_main_v1 m c : S16384x8192.Idx → EReal) j = (arrs m c).x (j 0).val (j 1).val := by
  have h0 : (j 0).val < 16384 := (j 0).isLt
  have h1 : (j 1).val < 8192 := (j 1).isLt
  have ej : j = ix2 (⟨(j 0).val, h0⟩ : Fin 16384) (⟨(j 1).val, h1⟩ : Fin 8192) := by
    funext a
    match a with
    | ⟨0, _⟩ => rfl
    | ⟨1, _⟩ => rfl
  rw [reg_eq]
  refine (congrArg (xin m c) ej).trans ((xin_arg m c _ _).trans ?_)
  exact (nat3_at (n := 8) (k := 2048) (l := 8192) (m ((c : Thread nD τ).loc main_arg0)) (a := (j 0).val / 2048) (b := (j 0).val % 2048) (by omega) (by omega) h1).symm

/-- The gradient of the elements' scales as the run's formula. -/
theorem res_eq : val_main_v76 (F := Ideal) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (reg_main_v1 m c) = fun j => (arrs m c).D (j 0).val (j 1).val :=
  funext fun j => d_at _ _ _ _ _ _ _ _ _ (reg_at m c) j

/-- The reference's run. -/
theorem run_D (ρ : Dev nD → PrngReg) :
    θ_run defs (onTc (τ := τ) (main (F := Ideal))) ⟨m, fun _ => 0, ρ⟩ fun r => ∀ c : Dev nD,
      r.2.mem ((c.tc : Thread nD τ).loc main_v76) = (fun j => (arrs m c).D (j 0).val (j 1).val : S16384x8192.Idx → EReal)
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans ((val_main_v76_eq (exitV m c)).trans (by
      rw [exit_main_arg1, exit_main_arg2, exit_main_arg3, exit_main_arg4, exit_main_arg5, exit_main_arg6, exit_main_arg7, exit_main_v1]
      exact res_eq m c)), (h c).2⟩) (run m ρ)

end Cert.ReferenceIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Run
public import proofs.«01_k».proof.Proof.RunI
public import proofs.«01_k».proof.Proof.FinV
public import proofs.«01_k».proof.Proof.RefV
public import Idealize.ShloMosaic.Adequacy
public import Idealize.ShloMosaic.Init

@[expose] public section

noncomputable section

namespace Cert.Proof

open Idealize.ShloMosaic Idealize.SL.Sem Cert.Kernel

theorem of_congr {x0 y0 x1 y1 x2 y2 x3 y3 x4 y4 x5 y5 x6 y6 x7 y7} (h0 : x0 = y0) (h1 : x1 = y1) (h2 : x2 = y2) (h3 : x3 = y3) (h4 : x4 = y4) (h5 : x5 = y5)
    (h6 : x6 = y6) (h7 : x7 = y7) : Cert.Flex.Arrs.of x0 x1 x2 x3 x4 x5 x6 x7 = Cert.Flex.Arrs.of y0 y1 y2 y3 y4 y5 y6 y7 := by
  rw [h0, h1, h2, h3, h4, h5, h6, h7]

/-- The reference's arrays are the kernel's, from equal arguments. -/
theorem arrs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.arrs m' c = Cert.KernelIdeal.Gen.arrs m c := by
  exact of_congr h0 h1 h2 h3 h4 h5 h6 h7

/-- Over the extended reals the kernel's gradient of the elements' scales is the reference's. -/
theorem alg : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Gen.resD (Cert.KernelIdeal.Gen.arrs m c),
    fun c => m ((c.tc : Thread Cert.KernelIdeal.nD Cert.KernelIdeal.τ).loc Cert.KernelIdeal.main_arg3), ?_, ?_⟩
  · refine (θ_run _ _ _).mono (fun r h c => ?_) (Cert.KernelIdeal.Gen.run_main m g (Cert.KernelIdeal.Gen.invF m) (Cert.KernelIdeal.Gen.outF m)
      (fun c s => Cert.KernelIdeal.Gen.inv_zero s) (Cert.KernelIdeal.Gen.keepsF m))
    have K := Cert.KernelIdeal.Gen.args_kept m _ _ r h.1 c
    exact ⟨Cert.KernelIdeal.Gen.final14 m r h.1 c, K.2.2.2.1, K⟩
  · refine (θ_run _ _ _).mono (fun r h c => ?_) (Cert.ReferenceIdeal.Value.run_D m' g')
    obtain ⟨e0, e1, e2, e3, e4, e5, e6, e7⟩ := hm c
    refine ⟨(h c).1.trans ?_, (h c).2.1.trans e3, (h c).2.2⟩
    rw [arrs_eq m m' c e0 e1 e2 e3 e4 e5 e6 e7]

/-- The three frames; the ideal program is the kernel's own text, no operation rewritten; the value claim. -/
theorem claim : Cert.Claim := ⟨Cert.Kernel.Gen.facts, Cert.KernelIdeal.Gen.facts, Cert.ReferenceIdeal.Gen.facts,
  fun m g _ => Cert.Kernel.Gen.frame_main m g, fun m g _ => Cert.KernelIdeal.Gen.frame_main m g, fun m g _ => Cert.ReferenceIdeal.Gen.frame m g, trivial, alg⟩

end Cert.Proof

end
